-- ==== Defs.lean ====
def Pre_Kernel [hPre_in_table : Cert.Pre_in_table.Facts] (m : (ℓ : Loc Cert.Kernel.nD Cert.Kernel.τ Cert.Kernel.sig) → Buf (Elt Bits) ℓ) : Prop :=
  ∀ c : Dev Cert.Kernel.nD,
    (Cert.Pre_in_table.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_table : Cert.Pre_in_table.Facts] (m : (ℓ : Loc Cert.KernelIdeal.nD Cert.KernelIdeal.τ Cert.KernelIdeal.sig) → Buf (Elt Ideal) ℓ) : Prop :=
  ∀ c : Dev Cert.KernelIdeal.nD,
    (Cert.Pre_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_table [hPre_in_table : Cert.Pre_in_table.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_table : Cert.Pre_in_table.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_table : Cert.Pre_in_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_table [hReferenceIdeal : Cert.ReferenceIdeal.Facts] [hPre_in_table : Cert.Pre_in_table.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_table m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_table : Cert.Pre_in_table.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_table : Cert.Pre_in_table.Facts),
    quiescent_Kernel (hKernel := hKernel) (hPre_in_table := hPre_in_table)
    ∧ quiescent_KernelIdeal (hKernelIdeal := hKernelIdeal) (hPre_in_table := hPre_in_table)
    ∧ quiescent_ReferenceIdeal (hReferenceIdeal := hReferenceIdeal)
    ∧ quiescent_ReferenceIdeal_pre_in_table (hReferenceIdeal := hReferenceIdeal) (hPre_in_table := hPre_in_table)
    ∧ preserves_Kernel_KernelIdeal
    ∧ algebraic_KernelIdeal_ReferenceIdeal (hKernelIdeal := hKernelIdeal) (hReferenceIdeal := hReferenceIdeal) (hPre_in_table := hPre_in_table)
-- ==== Pre_in_table.lean ====
abbrev S100000 : Shape := ⟨1, ![100000]⟩
abbrev S1000000x16 : Shape := ⟨2, ![1000000, 16]⟩
abbrev S_ : Shape := ⟨0, ![]⟩

class Facts : Prop where
  bcast_S_S100000 : S_.BroadcastsInDim S100000 (![] : Fin 0 → Fin S100000.rank)
  reducesTo_S100000_S_d0 : S100000.ReducesTo [0] S_
  h_S_ : 0 < S_.numel

variable [Facts]

def fn {F : FTy → Type} [FloatOps F] (main_arg0 : IVec S100000 32) (main_arg1 : FVec F S1000000x16 .f32) : IVec S_ 1 :=
  let main_c : IVec S_ 32 := constantI S_ 32 0#32
  let main_v0 : IVec S100000 32 := broadcastInDim S100000 ![] bcast_S_S100000 main_c
  let main_v1 : IVec S100000 1 := cmpi .sge main_arg0 main_v0
  let main_c_0 : IVec S_ 32 := constantI S_ 32 1000000#32
  let main_v2 : IVec S100000 32 := broadcastInDim S100000 ![] bcast_S_S100000 main_c_0
  let main_v3 : IVec S100000 1 := cmpi .slt main_arg0 main_v2
  let main_v4 : IVec S100000 1 := andi main_v1 main_v3
  let main_c_1 : IVec S_ 1 := constantI S_ 1 1#1
  let main_v5 : IVec S_ 1 := (fun x v => Host.reduce IntOp.andi x v reducesTo_S100000_S_d0 h_S_) main_v4 main_c_1
  main_v5
-- ==== Kernel.lean ====
abbrev S100000 : Shape := ⟨1, ![100000]⟩
abbrev S1000000x16 : Shape := ⟨2, ![1000000, 16]⟩
abbrev S352 : Shape := ⟨1, ![352]⟩
abbrev S_ : Shape := ⟨0, ![]⟩
abbrev S100352 : Shape := ⟨1, ![100352]⟩
abbrev S64x16 : Shape := ⟨2, ![64, 16]⟩
abbrev S1024 : Shape := ⟨1, ![1024]⟩
abbrev S16x1000000 : Shape := ⟨2, ![16, 1000000]⟩
abbrev S16000000 : Shape := ⟨1, ![16000000]⟩
abbrev S16x1041 : Shape := ⟨2, ![16, 1041]⟩
abbrev S16384 : Shape := ⟨1, ![16384]⟩
abbrev S16x1024 : Shape := ⟨2, ![16, 1024]⟩
abbrev S16 : Shape := ⟨1, ![16]⟩
abbrev S16x512 : Shape := ⟨2, ![16, 512]⟩
abbrev S8192 : Shape := ⟨1, ![8192]⟩
abbrev S100000x16 : Shape := ⟨2, ![100000, 16]⟩
abbrev S3136 : Shape := ⟨1, ![3136]⟩
abbrev S3136x16 : Shape := ⟨2, ![3136, 16]⟩
abbrev S2784x16 : Shape := ⟨2, ![2784, 16]⟩

abbrev nBuf : Table → Nat
  | .hbm => 35
  | .local .scVector .vmem => 6
  | _ => 0

abbrev bufTy : (tb : Table) → Fin (nBuf tb) → BufTy
  | .hbm, ⟨0, _⟩ => ⟨S100000, .i32⟩
  | .hbm, ⟨1, _⟩ => ⟨S1000000x16, .f32⟩
  | .hbm, ⟨2, _⟩ => ⟨S352, .i32⟩
  | .hbm, ⟨3, _⟩ => ⟨S_, .i32⟩
  | .hbm, ⟨4, _⟩ => ⟨S352, .i32⟩
  | .hbm, ⟨5, _⟩ => ⟨S352, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S_, .i32⟩
  | .hbm, ⟨11, _⟩ => ⟨S_, .i32⟩
  | .hbm, ⟨12, _⟩ => ⟨S352, .i32⟩
  | .hbm, ⟨13, _⟩ => ⟨S352, .i32⟩
  | .hbm, ⟨14, _⟩ => ⟨S_, .i32⟩
  | .hbm, ⟨15, _⟩ => ⟨S352, .i32⟩
  | .hbm, ⟨16, _⟩ => ⟨S352, .i1⟩
  | .hbm, ⟨17, _⟩ => ⟨S_, .i32⟩
  | .hbm, ⟨18, _⟩ => ⟨S352, .i32⟩
  | .hbm, ⟨19, _⟩ => ⟨S352, .i1⟩
  | .hbm, ⟨20, _⟩ => ⟨S_, .i32⟩
  | .hbm, ⟨21, _⟩ => ⟨S_, .i1⟩
  | .hbm, ⟨22, _⟩ => ⟨S352, .i1⟩
  | .hbm, ⟨23, _⟩ => ⟨S352, .i1⟩
  | .hbm, ⟨24, _⟩ => ⟨S352, .i1⟩
  | .hbm, ⟨25, _⟩ => ⟨S352, .i32⟩
  | .hbm, ⟨26, _⟩ => ⟨S352, .i32⟩
  | .hbm, ⟨27, _⟩ => ⟨S352, .i32⟩
  | .hbm, ⟨28, _⟩ => ⟨S100352, .i32⟩
  | .hbm, ⟨29, _⟩ => ⟨S64x16, .f32⟩
  | .hbm, ⟨30, _⟩ => ⟨S1024, .f32⟩
  | .hbm, ⟨31, _⟩ => ⟨S16x1000000, .f32⟩
  | .hbm, ⟨32, _⟩ => ⟨S16000000, .f32⟩
  | .hbm, ⟨33, _⟩ => ⟨S1000000x16, .f32⟩
  | .hbm, ⟨34, _⟩ => ⟨S100000x16, .f32⟩
  | .local .scVector .vmem, ⟨0, _⟩ => ⟨S16x1041, .f32⟩
  | .local .scVector .vmem, ⟨1, _⟩ => ⟨S16x1041, .f32⟩
  | .local .scVector .vmem, ⟨2, _⟩ => ⟨S16384, .f32⟩
  | .local .scVector .vmem, ⟨3, _⟩ => ⟨S16384, .f32⟩
  | .local .scVector .vmem, ⟨4, _⟩ => ⟨S3136, .i32⟩
  | .local .scVector .vmem, ⟨5, _⟩ => ⟨S3136x16, .f32⟩
  | _, _ => ⟨S100000, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 12 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | _ => false

abbrev sig : RefSig :=
  ofTables nBuf rfl bufTy 4 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_call0_v0 : Ref sig .tc := ⟨.hbm, 7, rfl⟩
abbrev main_call0_c : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_c_1 : Ref sig .tc := ⟨.hbm, 14, rfl⟩
abbrev main_call0_v5 : Ref sig .tc := ⟨.hbm, 15, rfl⟩
abbrev main_call0_v6 : Ref sig .tc := ⟨.hbm, 16, rfl⟩
abbrev main_call0_c_2 : Ref sig .tc := ⟨.hbm, 17, rfl⟩
abbrev main_call0_v7 : Ref sig .tc := ⟨.hbm, 18, rfl⟩
abbrev main_call0_v8 : Ref sig .tc := ⟨.hbm, 19, rfl⟩
abbrev main_call0_c_3 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v7_scv : Ref sig .scVector := ⟨.hbm, 31, rfl⟩
abbrev main_v6_scv : Ref sig .scVector := ⟨.hbm, 30, rfl⟩
abbrev main_v8_scv : Ref sig .scVector := ⟨.hbm, 32, rfl⟩
abbrev main_v4_scv : Ref sig .scVector := ⟨.hbm, 28, rfl⟩
abbrev main_v9_scv : Ref sig .scVector := ⟨.hbm, 33, rfl⟩
abbrev main_v10_scv : Ref sig .scVector := ⟨.hbm, 34, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_scratch0 : Ref sig .scVector := ⟨.vmem, 4, rfl⟩
abbrev cc1_scratch1 : Ref sig .scVector := ⟨.vmem, 5, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let c30_i32 : BitVec 32 := 30#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v4 : BitVec 32 := Scalar.addi c30_i32 v3
  let c0_i32_0 : BitVec 32 := 0#32
  let v5 : BitVec 1 := Scalar.cmpi .sgt v4 c0_i32_0
  let v6 : BitVec 32 := Scalar.extui v5
  let c0_i32_1 : BitVec 32 := 0#32
  let v7 : BitVec 1 := Scalar.cmpi .ne v6 c0_i32_1
  v7

def k0_mult1 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_14 : BitVec 32 := 0#32
  let v25 : BitVec 32 := Scalar.addi v1 c0_i32_14
  let c1024_i32 : BitVec 32 := 1024#32
  let v26 : BitVec 32 := Scalar.muli v25 c1024_i32
  v26
def k0_off1 (i : grid0.Coords) : Fin 2 → Nat :=
  let c0_i32_17 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_14 : BitVec 32 := 0#32
  let v25 : BitVec 32 := Scalar.addi v1 c0_i32_14
  let c1024_i32 : BitVec 32 := 1024#32
  let v26 : BitVec 32 := Scalar.muli v25 c1024_i32
  let v27 : BitVec 32 := v26
  ![0, v27.toNat]
@[reducible] def k0_t1_loop (i : grid0.Coords) : Scf.Loop 32 :=
  let c0_i32_3 : BitVec 32 := 0#32
  let c30_i32 : BitVec 32 := 30#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v4 : BitVec 32 := Scalar.addi c30_i32 v3
  let v8 : BitVec 32 := Scalar.subi v4 c0_i32_3
  let c1_i32_4 : BitVec 32 := 1#32
  let v10 : BitVec 32 := Scalar.divsi v8 c1_i32_4
  let v11 : BitVec 32 := Scalar.muli v10 c1_i32_4
  let v12 : BitVec 32 := Scalar.addi c0_i32_3 v11
  let c1_i32_5 : BitVec 32 := 1#32
  ⟨c0_i32_3, v12, c1_i32_5⟩
def k0_cond2 (i : grid0.Coords) (k0_t1 : Fin (k0_t1_loop i).trips) : BitVec 1 :=
  let c0_i32_3 : BitVec 32 := 0#32
  let c1_i32_5 : BitVec 32 := 1#32
  let arg13 : BitVec 32 := Scf.iv c0_i32_3 c1_i32_5 k0_t1
  let c2_i32_14 : BitVec 32 := 2#32
  let v25 : BitVec 32 := Scalar.remsi arg13 c2_i32_14
  let c0_i32_15 : BitVec 32 := 0#32
  let v26 : BitVec 1 := Scalar.cmpi .eq v25 c0_i32_15
  let v27 : BitVec 32 := Scalar.extui v26
  let c0_i32_16 : BitVec 32 := 0#32
  let v28 : BitVec 1 := Scalar.cmpi .ne v27 c0_i32_16
  v28

def k0_cond3 (i : grid0.Coords) (k0_t1 : Fin (k0_t1_loop i).trips) : BitVec 1 :=
  let c0_i32_3 : BitVec 32 := 0#32
  let c1_i32_5 : BitVec 32 := 1#32
  let arg13 : BitVec 32 := Scf.iv c0_i32_3 c1_i32_5 k0_t1
  let c1_i32_20 : BitVec 32 := 1#32
  let v33 : BitVec 32 := Scalar.addi arg13 c1_i32_20
  let c30_i32 : BitVec 32 := 30#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v4 : BitVec 32 := Scalar.addi c30_i32 v3
  let v34 : BitVec 1 := Scalar.cmpi .slt v33 v4
  let v35 : BitVec 32 := Scalar.extui v34
  let c0_i32_21 : BitVec 32 := 0#32
  let v36 : BitVec 1 := Scalar.cmpi .ne v35 c0_i32_21
  v36

def k0_mult2 (i : grid0.Coords) (k0_t1 : Fin (k0_t1_loop i).trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_3 : BitVec 32 := 0#32
  let c1_i32_5 : BitVec 32 := 1#32
  let arg13 : BitVec 32 := Scf.iv c0_i32_3 c1_i32_5 k0_t1
  let c1_i32_37 : BitVec 32 := 1#32
  let v57 : BitVec 32 := Scalar.addi arg13 c1_i32_37
  let c32_i32_38 : BitVec 32 := 32#32
  let v58 : BitVec 32 := Scalar.muli v57 c32_i32_38
  let v59 : BitVec 32 := Scalar.addi v1 v58
  let c1024_i32_39 : BitVec 32 := 1024#32
  let v60 : BitVec 32 := Scalar.muli v59 c1024_i32_39
  v60
def k0_off2 (i : grid0.Coords) (k0_t1 : Fin (k0_t1_loop i).trips) : Fin 2 → Nat :=
  let c0_i32_42 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_3 : BitVec 32 := 0#32
  let c1_i32_5 : BitVec 32 := 1#32
  let arg13 : BitVec 32 := Scf.iv c0_i32_3 c1_i32_5 k0_t1
  let c1_i32_37 : BitVec 32 := 1#32
  let v57 : BitVec 32 := Scalar.addi arg13 c1_i32_37
  let c32_i32_38 : BitVec 32 := 32#32
  let v58 : BitVec 32 := Scalar.muli v57 c32_i32_38
  let v59 : BitVec 32 := Scalar.addi v1 v58
  let c1024_i32_39 : BitVec 32 := 1024#32
  let v60 : BitVec 32 := Scalar.muli v59 c1024_i32_39
  let v61 : BitVec 32 := v60
  ![0, v61.toNat]
def k0_cond4 (i : grid0.Coords) (k0_t1 : Fin (k0_t1_loop i).trips) : BitVec 1 :=
  let c0_i32_3 : BitVec 32 := 0#32
  let c1_i32_5 : BitVec 32 := 1#32
  let arg13 : BitVec 32 := Scf.iv c0_i32_3 c1_i32_5 k0_t1
  let c2_i32_22 : BitVec 32 := 2#32
  let v37 : BitVec 1 := Scalar.cmpi .sge arg13 c2_i32_22
  let v38 : BitVec 32 := Scalar.extui v37
  let c0_i32_23 : BitVec 32 := 0#32
  let v39 : BitVec 1 := Scalar.cmpi .ne v38 c0_i32_23
  v39

def k0_mult3 (i : grid0.Coords) (k0_t1 : Fin (k0_t1_loop i).trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_3 : BitVec 32 := 0#32
  let c1_i32_5 : BitVec 32 := 1#32
  let arg13 : BitVec 32 := Scf.iv c0_i32_3 c1_i32_5 k0_t1
  let c2_i32_37 : BitVec 32 := 2#32
  let v57 : BitVec 32 := Scalar.subi arg13 c2_i32_37
  let c32_i32_38 : BitVec 32 := 32#32
  let v58 : BitVec 32 := Scalar.muli v57 c32_i32_38
  let v59 : BitVec 32 := Scalar.addi v1 v58
  let c1024_i32_39 : BitVec 32 := 1024#32
  let v60 : BitVec 32 := Scalar.muli v59 c1024_i32_39
  v60
def k0_mult4 (i : grid0.Coords) (k0_t1 : Fin (k0_t1_loop i).trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_3 : BitVec 32 := 0#32
  let c1_i32_5 : BitVec 32 := 1#32
  let arg13 : BitVec 32 := Scf.iv c0_i32_3 c1_i32_5 k0_t1
  let c2_i32_37 : BitVec 32 := 2#32
  let v57 : BitVec 32 := Scalar.subi arg13 c2_i32_37
  let c32_i32_38 : BitVec 32 := 32#32
  let v58 : BitVec 32 := Scalar.muli v57 c32_i32_38
  let v59 : BitVec 32 := Scalar.addi v1 v58
  let c1024_i32_39 : BitVec 32 := 1024#32
  let v60 : BitVec 32 := Scalar.muli v59 c1024_i32_39
  let v61 : BitVec 32 := v60
  let c16_i32_40 : BitVec 32 := 16#32
  let v62 : BitVec 32 := Scalar.muli v61 c16_i32_40
  v62
def k0_off3 (i : grid0.Coords) (k0_t1 : Fin (k0_t1_loop i).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_3 : BitVec 32 := 0#32
  let c1_i32_5 : BitVec 32 := 1#32
  let arg13 : BitVec 32 := Scf.iv c0_i32_3 c1_i32_5 k0_t1
  let c2_i32_37 : BitVec 32 := 2#32
  let v57 : BitVec 32 := Scalar.subi arg13 c2_i32_37
  let c32_i32_38 : BitVec 32 := 32#32
  let v58 : BitVec 32 := Scalar.muli v57 c32_i32_38
  let v59 : BitVec 32 := Scalar.addi v1 v58
  let c1024_i32_39 : BitVec 32 := 1024#32
  let v60 : BitVec 32 := Scalar.muli v59 c1024_i32_39
  let v61 : BitVec 32 := v60
  let c16_i32_40 : BitVec 32 := 16#32
  let v62 : BitVec 32 := Scalar.muli v61 c16_i32_40
  let v63 : BitVec 32 := v62
  ![v63.toNat]
def k0_mult5 (i : grid0.Coords) (k0_t1 : Fin (k0_t1_loop i).trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_3 : BitVec 32 := 0#32
  let c1_i32_5 : BitVec 32 := 1#32
  let arg13 : BitVec 32 := Scf.iv c0_i32_3 c1_i32_5 k0_t1
  let c32_i32 : BitVec 32 := 32#32
  let v40 : BitVec 32 := Scalar.muli arg13 c32_i32
  let v41 : BitVec 32 := Scalar.addi v1 v40
  let c1024_i32 : BitVec 32 := 1024#32
  let v42 : BitVec 32 := Scalar.muli v41 c1024_i32
  v42
def k0_off4 (i : grid0.Coords) (k0_t1 : Fin (k0_t1_loop i).trips) : Fin 2 → Nat :=
  let c0_i32_26 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_3 : BitVec 32 := 0#32
  let c1_i32_5 : BitVec 32 := 1#32
  let arg13 : BitVec 32 := Scf.iv c0_i32_3 c1_i32_5 k0_t1
  let c32_i32 : BitVec 32 := 32#32
  let v40 : BitVec 32 := Scalar.muli arg13 c32_i32
  let v41 : BitVec 32 := Scalar.addi v1 v40
  let c1024_i32 : BitVec 32 := 1024#32
  let v42 : BitVec 32 := Scalar.muli v41 c1024_i32
  let v43 : BitVec 32 := v42
  ![0, v43.toNat]
@[reducible] def k0_t2_loop : Scf.Loop 32 :=
  let c0_i32_31 : BitVec 32 := 0#32
  let c8_i32 : BitVec 32 := 8#32
  let v48 : BitVec 32 := Scalar.addi c0_i32_31 c8_i32
  let c1_i32_32 : BitVec 32 := 1#32
  ⟨c0_i32_31, v48, c1_i32_32⟩

def k0_chk1 (i : grid0.Coords) (k0_t1 : Fin (k0_t1_loop i).trips) (v58 : IVec S16 32) (v63 : IVec S16 32) : Prop :=
  (∀ (k0_h2 : k0_cond2 i k0_t1 = 1#1), ∀ a x, ((![v58, v63] : Fin 2 → IVec S16 32) a x).toNat < S16x1041.size a)
theorem k0_idx1_inb : ∀ (i : grid0.Coords) (k0_t1 : Fin (k0_t1_loop i).trips) (v58 : IVec S16 32) (v63 : IVec S16 32) (k0_hw1 : k0_chk1 i k0_t1 v58 v63), ∀ (k0_h2 : k0_cond2 i k0_t1 = 1#1), ∀ a x, ((![v58, v63] : Fin 2 → IVec S16 32) a x).toNat < S16x1041.size a := fun i k0_t1 v58 v63 k0_hw1 k0_h2 => k0_hw1 k0_h2

def k0_chk2 (i : grid0.Coords) (k0_t1 : Fin (k0_t1_loop i).trips) (v58 : IVec S16 32) (v66 : IVec S16 32) : Prop :=
  (∀ (k0_h2 : k0_cond2 i k0_t1 = 1#1), ∀ a x, ((![v58, v66] : Fin 2 → IVec S16 32) a x).toNat < S16x1041.size a)
theorem k0_idx2_inb : ∀ (i : grid0.Coords) (k0_t1 : Fin (k0_t1_loop i).trips) (v58 : IVec S16 32) (v66 : IVec S16 32) (k0_hw2 : k0_chk2 i k0_t1 v58 v66), ∀ (k0_h2 : k0_cond2 i k0_t1 = 1#1), ∀ a x, ((![v58, v66] : Fin 2 → IVec S16 32) a x).toNat < S16x1041.size a := fun i k0_t1 v58 v66 k0_hw2 k0_h2 => k0_hw2 k0_h2

def k0_chk3 (i : grid0.Coords) (k0_t1 : Fin (k0_t1_loop i).trips) (v58 : IVec S16 32) (v69 : IVec S16 32) : Prop :=
  (∀ (k0_h2 : k0_cond2 i k0_t1 = 1#1), ∀ a x, ((![v58, v69] : Fin 2 → IVec S16 32) a x).toNat < S16x1041.size a)
theorem k0_idx3_inb : ∀ (i : grid0.Coords) (k0_t1 : Fin (k0_t1_loop i).trips) (v58 : IVec S16 32) (v69 : IVec S16 32) (k0_hw3 : k0_chk3 i k0_t1 v58 v69), ∀ (k0_h2 : k0_cond2 i k0_t1 = 1#1), ∀ a x, ((![v58, v69] : Fin 2 → IVec S16 32) a x).toNat < S16x1041.size a := fun i k0_t1 v58 v69 k0_hw3 k0_h2 => k0_hw3 k0_h2

def k0_chk4 (i : grid0.Coords) (k0_t1 : Fin (k0_t1_loop i).trips) (v58 : IVec S16 32) (v72 : IVec S16 32) : Prop :=
  (∀ (k0_h2 : k0_cond2 i k0_t1 = 1#1), ∀ a x, ((![v58, v72] : Fin 2 → IVec S16 32) a x).toNat < S16x1041.size a)
theorem k0_idx4_inb : ∀ (i : grid0.Coords) (k0_t1 : Fin (k0_t1_loop i).trips) (v58 : IVec S16 32) (v72 : IVec S16 32) (k0_hw4 : k0_chk4 i k0_t1 v58 v72), ∀ (k0_h2 : k0_cond2 i k0_t1 = 1#1), ∀ a x, ((![v58, v72] : Fin 2 → IVec S16 32) a x).toNat < S16x1041.size a := fun i k0_t1 v58 v72 k0_hw4 k0_h2 => k0_hw4 k0_h2

def k0_chk5 (i : grid0.Coords) (k0_t1 : Fin (k0_t1_loop i).trips) (v58 : IVec S16 32) (v75 : IVec S16 32) : Prop :=
  (∀ (k0_h2 : k0_cond2 i k0_t1 = 1#1), ∀ a x, ((![v58, v75] : Fin 2 → IVec S16 32) a x).toNat < S16x1041.size a)
theorem k0_idx5_inb : ∀ (i : grid0.Coords) (k0_t1 : Fin (k0_t1_loop i).trips) (v58 : IVec S16 32) (v75 : IVec S16 32) (k0_hw5 : k0_chk5 i k0_t1 v58 v75), ∀ (k0_h2 : k0_cond2 i k0_t1 = 1#1), ∀ a x, ((![v58, v75] : Fin 2 → IVec S16 32) a x).toNat < S16x1041.size a := fun i k0_t1 v58 v75 k0_hw5 k0_h2 => k0_hw5 k0_h2

def k0_chk6 (i : grid0.Coords) (k0_t1 : Fin (k0_t1_loop i).trips) (v58 : IVec S16 32) (v78 : IVec S16 32) : Prop :=
  (∀ (k0_h2 : k0_cond2 i k0_t1 = 1#1), ∀ a x, ((![v58, v78] : Fin 2 → IVec S16 32) a x).toNat < S16x1041.size a)
theorem k0_idx6_inb : ∀ (i : grid0.Coords) (k0_t1 : Fin (k0_t1_loop i).trips) (v58 : IVec S16 32) (v78 : IVec S16 32) (k0_hw6 : k0_chk6 i k0_t1 v58 v78), ∀ (k0_h2 : k0_cond2 i k0_t1 = 1#1), ∀ a x, ((![v58, v78] : Fin 2 → IVec S16 32) a x).toNat < S16x1041.size a := fun i k0_t1 v58 v78 k0_hw6 k0_h2 => k0_hw6 k0_h2

def k0_chk7 (i : grid0.Coords) (k0_t1 : Fin (k0_t1_loop i).trips) (v58 : IVec S16 32) (v81 : IVec S16 32) : Prop :=
  (∀ (k0_h2 : k0_cond2 i k0_t1 = 1#1), ∀ a x, ((![v58, v81] : Fin 2 → IVec S16 32) a x).toNat < S16x1041.size a)
theorem k0_idx7_inb : ∀ (i : grid0.Coords) (k0_t1 : Fin (k0_t1_loop i).trips) (v58 : IVec S16 32) (v81 : IVec S16 32) (k0_hw7 : k0_chk7 i k0_t1 v58 v81), ∀ (k0_h2 : k0_cond2 i k0_t1 = 1#1), ∀ a x, ((![v58, v81] : Fin 2 → IVec S16 32) a x).toNat < S16x1041.size a := fun i k0_t1 v58 v81 k0_hw7 k0_h2 => k0_hw7 k0_h2

def k0_chk8 (i : grid0.Coords) (k0_t1 : Fin (k0_t1_loop i).trips) (v58 : IVec S16 32) (v84 : IVec S16 32) : Prop :=
  (∀ (k0_h2 : k0_cond2 i k0_t1 = 1#1), ∀ a x, ((![v58, v84] : Fin 2 → IVec S16 32) a x).toNat < S16x1041.size a)
theorem k0_idx8_inb : ∀ (i : grid0.Coords) (k0_t1 : Fin (k0_t1_loop i).trips) (v58 : IVec S16 32) (v84 : IVec S16 32) (k0_hw8 : k0_chk8 i k0_t1 v58 v84), ∀ (k0_h2 : k0_cond2 i k0_t1 = 1#1), ∀ a x, ((![v58, v84] : Fin 2 → IVec S16 32) a x).toNat < S16x1041.size a := fun i k0_t1 v58 v84 k0_hw8 k0_h2 => k0_hw8 k0_h2

def k0_chk9 (i : grid0.Coords) (k0_t1 : Fin (k0_t1_loop i).trips) (v58 : IVec S16 32) (v87 : IVec S16 32) : Prop :=
  (∀ (k0_h2 : k0_cond2 i k0_t1 = 1#1), ∀ a x, ((![v58, v87] : Fin 2 → IVec S16 32) a x).toNat < S16x1041.size a)
theorem k0_idx9_inb : ∀ (i : grid0.Coords) (k0_t1 : Fin (k0_t1_loop i).trips) (v58 : IVec S16 32) (v87 : IVec S16 32) (k0_hw9 : k0_chk9 i k0_t1 v58 v87), ∀ (k0_h2 : k0_cond2 i k0_t1 = 1#1), ∀ a x, ((![v58, v87] : Fin 2 → IVec S16 32) a x).toNat < S16x1041.size a := fun i k0_t1 v58 v87 k0_hw9 k0_h2 => k0_hw9 k0_h2

def k0_chk10 (i : grid0.Coords) (k0_t1 : Fin (k0_t1_loop i).trips) (v58 : IVec S16 32) (v90 : IVec S16 32) : Prop :=
  (∀ (k0_h2 : k0_cond2 i k0_t1 = 1#1), ∀ a x, ((![v58, v90] : Fin 2 → IVec S16 32) a x).toNat < S16x1041.size a)
theorem k0_idx10_inb : ∀ (i : grid0.Coords) (k0_t1 : Fin (k0_t1_loop i).trips) (v58 : IVec S16 32) (v90 : IVec S16 32) (k0_hw10 : k0_chk10 i k0_t1 v58 v90), ∀ (k0_h2 : k0_cond2 i k0_t1 = 1#1), ∀ a x, ((![v58, v90] : Fin 2 → IVec S16 32) a x).toNat < S16x1041.size a := fun i k0_t1 v58 v90 k0_hw10 k0_h2 => k0_hw10 k0_h2

def k0_chk11 (i : grid0.Coords) (k0_t1 : Fin (k0_t1_loop i).trips) (v58 : IVec S16 32) (v93 : IVec S16 32) : Prop :=
  (∀ (k0_h2 : k0_cond2 i k0_t1 = 1#1), ∀ a x, ((![v58, v93] : Fin 2 → IVec S16 32) a x).toNat < S16x1041.size a)
theorem k0_idx11_inb : ∀ (i : grid0.Coords) (k0_t1 : Fin (k0_t1_loop i).trips) (v58 : IVec S16 32) (v93 : IVec S16 32) (k0_hw11 : k0_chk11 i k0_t1 v58 v93), ∀ (k0_h2 : k0_cond2 i k0_t1 = 1#1), ∀ a x, ((![v58, v93] : Fin 2 → IVec S16 32) a x).toNat < S16x1041.size a := fun i k0_t1 v58 v93 k0_hw11 k0_h2 => k0_hw11 k0_h2

def k0_chk12 (i : grid0.Coords) (k0_t1 : Fin (k0_t1_loop i).trips) (v58 : IVec S16 32) (v96 : IVec S16 32) : Prop :=
  (∀ (k0_h2 : k0_cond2 i k0_t1 = 1#1), ∀ a x, ((![v58, v96] : Fin 2 → IVec S16 32) a x).toNat < S16x1041.size a)
theorem k0_idx12_inb : ∀ (i : grid0.Coords) (k0_t1 : Fin (k0_t1_loop i).trips) (v58 : IVec S16 32) (v96 : IVec S16 32) (k0_hw12 : k0_chk12 i k0_t1 v58 v96), ∀ (k0_h2 : k0_cond2 i k0_t1 = 1#1), ∀ a x, ((![v58, v96] : Fin 2 → IVec S16 32) a x).toNat < S16x1041.size a := fun i k0_t1 v58 v96 k0_hw12 k0_h2 => k0_hw12 k0_h2

def k0_chk13 (i : grid0.Coords) (k0_t1 : Fin (k0_t1_loop i).trips) (v58 : IVec S16 32) (v99 : IVec S16 32) : Prop :=
  (∀ (k0_h2 : k0_cond2 i k0_t1 = 1#1), ∀ a x, ((![v58, v99] : Fin 2 → IVec S16 32) a x).toNat < S16x1041.size a)
theorem k0_idx13_inb : ∀ (i : grid0.Coords) (k0_t1 : Fin (k0_t1_loop i).trips) (v58 : IVec S16 32) (v99 : IVec S16 32) (k0_hw13 : k0_chk13 i k0_t1 v58 v99), ∀ (k0_h2 : k0_cond2 i k0_t1 = 1#1), ∀ a x, ((![v58, v99] : Fin 2 → IVec S16 32) a x).toNat < S16x1041.size a := fun i k0_t1 v58 v99 k0_hw13 k0_h2 => k0_hw13 k0_h2

def k0_chk14 (i : grid0.Coords) (k0_t1 : Fin (k0_t1_loop i).trips) (v58 : IVec S16 32) (v102 : IVec S16 32) : Prop :=
  (∀ (k0_h2 : k0_cond2 i k0_t1 = 1#1), ∀ a x, ((![v58, v102] : Fin 2 → IVec S16 32) a x).toNat < S16x1041.size a)
theorem k0_idx14_inb : ∀ (i : grid0.Coords) (k0_t1 : Fin (k0_t1_loop i).trips) (v58 : IVec S16 32) (v102 : IVec S16 32) (k0_hw14 : k0_chk14 i k0_t1 v58 v102), ∀ (k0_h2 : k0_cond2 i k0_t1 = 1#1), ∀ a x, ((![v58, v102] : Fin 2 → IVec S16 32) a x).toNat < S16x1041.size a := fun i k0_t1 v58 v102 k0_hw14 k0_h2 => k0_hw14 k0_h2

def k0_chk15 (i : grid0.Coords) (k0_t1 : Fin (k0_t1_loop i).trips) (v58 : IVec S16 32) (v105 : IVec S16 32) : Prop :=
  (∀ (k0_h2 : k0_cond2 i k0_t1 = 1#1), ∀ a x, ((![v58, v105] : Fin 2 → IVec S16 32) a x).toNat < S16x1041.size a)
theorem k0_idx15_inb : ∀ (i : grid0.Coords) (k0_t1 : Fin (k0_t1_loop i).trips) (v58 : IVec S16 32) (v105 : IVec S16 32) (k0_hw15 : k0_chk15 i k0_t1 v58 v105), ∀ (k0_h2 : k0_cond2 i k0_t1 = 1#1), ∀ a x, ((![v58, v105] : Fin 2 → IVec S16 32) a x).toNat < S16x1041.size a := fun i k0_t1 v58 v105 k0_hw15 k0_h2 => k0_hw15 k0_h2

def k0_chk16 (i : grid0.Coords) (k0_t1 : Fin (k0_t1_loop i).trips) (v58 : IVec S16 32) (v108 : IVec S16 32) : Prop :=
  (∀ (k0_h2 : k0_cond2 i k0_t1 = 1#1), ∀ a x, ((![v58, v108] : Fin 2 → IVec S16 32) a x).toNat < S16x1041.size a)
theorem k0_idx16_inb : ∀ (i : grid0.Coords) (k0_t1 : Fin (k0_t1_loop i).trips) (v58 : IVec S16 32) (v108 : IVec S16 32) (k0_hw16 : k0_chk16 i k0_t1 v58 v108), ∀ (k0_h2 : k0_cond2 i k0_t1 = 1#1), ∀ a x, ((![v58, v108] : Fin 2 → IVec S16 32) a x).toNat < S16x1041.size a := fun i k0_t1 v58 v108 k0_hw16 k0_h2 => k0_hw16 k0_h2
@[reducible] def k0_t3_loop : Scf.Loop 32 :=
  let c1_i32_42 : BitVec 32 := 1#32
  let c7_i32_43 : BitVec 32 := 7#32
  let v110 : BitVec 32 := Scalar.addi c1_i32_42 c7_i32_43
  let c1_i32_44 : BitVec 32 := 1#32
  ⟨c1_i32_42, v110, c1_i32_44⟩

def k0_chk17 (i : grid0.Coords) (k0_t1 : Fin (k0_t1_loop i).trips) (v58 : IVec S16 32) (v152 : IVec S16 32) : Prop :=
  (∀ (k0_h2 : k0_cond2 i k0_t1 = 1#1), ∀ a x, ((![v58, v152] : Fin 2 → IVec S16 32) a x).toNat < S16x1041.size a)
theorem k0_idx17_inb : ∀ (i : grid0.Coords) (k0_t1 : Fin (k0_t1_loop i).trips) (v58 : IVec S16 32) (v152 : IVec S16 32) (k0_hw17 : k0_chk17 i k0_t1 v58 v152), ∀ (k0_h2 : k0_cond2 i k0_t1 = 1#1), ∀ a x, ((![v58, v152] : Fin 2 → IVec S16 32) a x).toNat < S16x1041.size a := fun i k0_t1 v58 v152 k0_hw17 k0_h2 => k0_hw17 k0_h2

def k0_chk18 (i : grid0.Coords) (k0_t1 : Fin (k0_t1_loop i).trips) (v58 : IVec S16 32) (v155 : IVec S16 32) : Prop :=
  (∀ (k0_h2 : k0_cond2 i k0_t1 = 1#1), ∀ a x, ((![v58, v155] : Fin 2 → IVec S16 32) a x).toNat < S16x1041.size a)
theorem k0_idx18_inb : ∀ (i : grid0.Coords) (k0_t1 : Fin (k0_t1_loop i).trips) (v58 : IVec S16 32) (v155 : IVec S16 32) (k0_hw18 : k0_chk18 i k0_t1 v58 v155), ∀ (k0_h2 : k0_cond2 i k0_t1 = 1#1), ∀ a x, ((![v58, v155] : Fin 2 → IVec S16 32) a x).toNat < S16x1041.size a := fun i k0_t1 v58 v155 k0_hw18 k0_h2 => k0_hw18 k0_h2

def k0_chk19 (i : grid0.Coords) (k0_t1 : Fin (k0_t1_loop i).trips) (v58 : IVec S16 32) (v158 : IVec S16 32) : Prop :=
  (∀ (k0_h2 : k0_cond2 i k0_t1 = 1#1), ∀ a x, ((![v58, v158] : Fin 2 → IVec S16 32) a x).toNat < S16x1041.size a)
theorem k0_idx19_inb : ∀ (i : grid0.Coords) (k0_t1 : Fin (k0_t1_loop i).trips) (v58 : IVec S16 32) (v158 : IVec S16 32) (k0_hw19 : k0_chk19 i k0_t1 v58 v158), ∀ (k0_h2 : k0_cond2 i k0_t1 = 1#1), ∀ a x, ((![v58, v158] : Fin 2 → IVec S16 32) a x).toNat < S16x1041.size a := fun i k0_t1 v58 v158 k0_hw19 k0_h2 => k0_hw19 k0_h2

def k0_chk20 (i : grid0.Coords) (k0_t1 : Fin (k0_t1_loop i).trips) (v58 : IVec S16 32) (v161 : IVec S16 32) : Prop :=
  (∀ (k0_h2 : k0_cond2 i k0_t1 = 1#1), ∀ a x, ((![v58, v161] : Fin 2 → IVec S16 32) a x).toNat < S16x1041.size a)
theorem k0_idx20_inb : ∀ (i : grid0.Coords) (k0_t1 : Fin (k0_t1_loop i).trips) (v58 : IVec S16 32) (v161 : IVec S16 32) (k0_hw20 : k0_chk20 i k0_t1 v58 v161), ∀ (k0_h2 : k0_cond2 i k0_t1 = 1#1), ∀ a x, ((![v58, v161] : Fin 2 → IVec S16 32) a x).toNat < S16x1041.size a := fun i k0_t1 v58 v161 k0_hw20 k0_h2 => k0_hw20 k0_h2

def k0_chk21 (i : grid0.Coords) (k0_t1 : Fin (k0_t1_loop i).trips) (v58 : IVec S16 32) (v164 : IVec S16 32) : Prop :=
  (∀ (k0_h2 : k0_cond2 i k0_t1 = 1#1), ∀ a x, ((![v58, v164] : Fin 2 → IVec S16 32) a x).toNat < S16x1041.size a)
theorem k0_idx21_inb : ∀ (i : grid0.Coords) (k0_t1 : Fin (k0_t1_loop i).trips) (v58 : IVec S16 32) (v164 : IVec S16 32) (k0_hw21 : k0_chk21 i k0_t1 v58 v164), ∀ (k0_h2 : k0_cond2 i k0_t1 = 1#1), ∀ a x, ((![v58, v164] : Fin 2 → IVec S16 32) a x).toNat < S16x1041.size a := fun i k0_t1 v58 v164 k0_hw21 k0_h2 => k0_hw21 k0_h2

def k0_chk22 (i : grid0.Coords) (k0_t1 : Fin (k0_t1_loop i).trips) (v58 : IVec S16 32) (v167 : IVec S16 32) : Prop :=
  (∀ (k0_h2 : k0_cond2 i k0_t1 = 1#1), ∀ a x, ((![v58, v167] : Fin 2 → IVec S16 32) a x).toNat < S16x1041.size a)
theorem k0_idx22_inb : ∀ (i : grid0.Coords) (k0_t1 : Fin (k0_t1_loop i).trips) (v58 : IVec S16 32) (v167 : IVec S16 32) (k0_hw22 : k0_chk22 i k0_t1 v58 v167), ∀ (k0_h2 : k0_cond2 i k0_t1 = 1#1), ∀ a x, ((![v58, v167] : Fin 2 → IVec S16 32) a x).toNat < S16x1041.size a := fun i k0_t1 v58 v167 k0_hw22 k0_h2 => k0_hw22 k0_h2

def k0_chk23 (i : grid0.Coords) (k0_t1 : Fin (k0_t1_loop i).trips) (v58 : IVec S16 32) (v170 : IVec S16 32) : Prop :=
  (∀ (k0_h2 : k0_cond2 i k0_t1 = 1#1), ∀ a x, ((![v58, v170] : Fin 2 → IVec S16 32) a x).toNat < S16x1041.size a)
theorem k0_idx23_inb : ∀ (i : grid0.Coords) (k0_t1 : Fin (k0_t1_loop i).trips) (v58 : IVec S16 32) (v170 : IVec S16 32) (k0_hw23 : k0_chk23 i k0_t1 v58 v170), ∀ (k0_h2 : k0_cond2 i k0_t1 = 1#1), ∀ a x, ((![v58, v170] : Fin 2 → IVec S16 32) a x).toNat < S16x1041.size a := fun i k0_t1 v58 v170 k0_hw23 k0_h2 => k0_hw23 k0_h2

def k0_chk24 (i : grid0.Coords) (k0_t1 : Fin (k0_t1_loop i).trips) (v58 : IVec S16 32) (v173 : IVec S16 32) : Prop :=
  (∀ (k0_h2 : k0_cond2 i k0_t1 = 1#1), ∀ a x, ((![v58, v173] : Fin 2 → IVec S16 32) a x).toNat < S16x1041.size a)
theorem k0_idx24_inb : ∀ (i : grid0.Coords) (k0_t1 : Fin (k0_t1_loop i).trips) (v58 : IVec S16 32) (v173 : IVec S16 32) (k0_hw24 : k0_chk24 i k0_t1 v58 v173), ∀ (k0_h2 : k0_cond2 i k0_t1 = 1#1), ∀ a x, ((![v58, v173] : Fin 2 → IVec S16 32) a x).toNat < S16x1041.size a := fun i k0_t1 v58 v173 k0_hw24 k0_h2 => k0_hw24 k0_h2

def k0_chk25 (i : grid0.Coords) (k0_t1 : Fin (k0_t1_loop i).trips) (v58 : IVec S16 32) (v176 : IVec S16 32) : Prop :=
  (∀ (k0_h2 : k0_cond2 i k0_t1 = 1#1), ∀ a x, ((![v58, v176] : Fin 2 → IVec S16 32) a x).toNat < S16x1041.size a)
theorem k0_idx25_inb : ∀ (i : grid0.Coords) (k0_t1 : Fin (k0_t1_loop i).trips) (v58 : IVec S16 32) (v176 : IVec S16 32) (k0_hw25 : k0_chk25 i k0_t1 v58 v176), ∀ (k0_h2 : k0_cond2 i k0_t1 = 1#1), ∀ a x, ((![v58, v176] : Fin 2 → IVec S16 32) a x).toNat < S16x1041.size a := fun i k0_t1 v58 v176 k0_hw25 k0_h2 => k0_hw25 k0_h2

def k0_chk26 (i : grid0.Coords) (k0_t1 : Fin (k0_t1_loop i).trips) (v58 : IVec S16 32) (v179 : IVec S16 32) : Prop :=
  (∀ (k0_h2 : k0_cond2 i k0_t1 = 1#1), ∀ a x, ((![v58, v179] : Fin 2 → IVec S16 32) a x).toNat < S16x1041.size a)
theorem k0_idx26_inb : ∀ (i : grid0.Coords) (k0_t1 : Fin (k0_t1_loop i).trips) (v58 : IVec S16 32) (v179 : IVec S16 32) (k0_hw26 : k0_chk26 i k0_t1 v58 v179), ∀ (k0_h2 : k0_cond2 i k0_t1 = 1#1), ∀ a x, ((![v58, v179] : Fin 2 → IVec S16 32) a x).toNat < S16x1041.size a := fun i k0_t1 v58 v179 k0_hw26 k0_h2 => k0_hw26 k0_h2

def k0_chk27 (i : grid0.Coords) (k0_t1 : Fin (k0_t1_loop i).trips) (v58 : IVec S16 32) (v182 : IVec S16 32) : Prop :=
  (∀ (k0_h2 : k0_cond2 i k0_t1 = 1#1), ∀ a x, ((![v58, v182] : Fin 2 → IVec S16 32) a x).toNat < S16x1041.size a)
theorem k0_idx27_inb : ∀ (i : grid0.Coords) (k0_t1 : Fin (k0_t1_loop i).trips) (v58 : IVec S16 32) (v182 : IVec S16 32) (k0_hw27 : k0_chk27 i k0_t1 v58 v182), ∀ (k0_h2 : k0_cond2 i k0_t1 = 1#1), ∀ a x, ((![v58, v182] : Fin 2 → IVec S16 32) a x).toNat < S16x1041.size a := fun i k0_t1 v58 v182 k0_hw27 k0_h2 => k0_hw27 k0_h2

def k0_chk28 (i : grid0.Coords) (k0_t1 : Fin (k0_t1_loop i).trips) (v58 : IVec S16 32) (v185 : IVec S16 32) : Prop :=
  (∀ (k0_h2 : k0_cond2 i k0_t1 = 1#1), ∀ a x, ((![v58, v185] : Fin 2 → IVec S16 32) a x).toNat < S16x1041.size a)
theorem k0_idx28_inb : ∀ (i : grid0.Coords) (k0_t1 : Fin (k0_t1_loop i).trips) (v58 : IVec S16 32) (v185 : IVec S16 32) (k0_hw28 : k0_chk28 i k0_t1 v58 v185), ∀ (k0_h2 : k0_cond2 i k0_t1 = 1#1), ∀ a x, ((![v58, v185] : Fin 2 → IVec S16 32) a x).toNat < S16x1041.size a := fun i k0_t1 v58 v185 k0_hw28 k0_h2 => k0_hw28 k0_h2

def k0_chk29 (i : grid0.Coords) (k0_t1 : Fin (k0_t1_loop i).trips) (v58 : IVec S16 32) (v188 : IVec S16 32) : Prop :=
  (∀ (k0_h2 : k0_cond2 i k0_t1 = 1#1), ∀ a x, ((![v58, v188] : Fin 2 → IVec S16 32) a x).toNat < S16x1041.size a)
theorem k0_idx29_inb : ∀ (i : grid0.Coords) (k0_t1 : Fin (k0_t1_loop i).trips) (v58 : IVec S16 32) (v188 : IVec S16 32) (k0_hw29 : k0_chk29 i k0_t1 v58 v188), ∀ (k0_h2 : k0_cond2 i k0_t1 = 1#1), ∀ a x, ((![v58, v188] : Fin 2 → IVec S16 32) a x).toNat < S16x1041.size a := fun i k0_t1 v58 v188 k0_hw29 k0_h2 => k0_hw29 k0_h2

def k0_chk30 (i : grid0.Coords) (k0_t1 : Fin (k0_t1_loop i).trips) (v58 : IVec S16 32) (v191 : IVec S16 32) : Prop :=
  (∀ (k0_h2 : k0_cond2 i k0_t1 = 1#1), ∀ a x, ((![v58, v191] : Fin 2 → IVec S16 32) a x).toNat < S16x1041.size a)
theorem k0_idx30_inb : ∀ (i : grid0.Coords) (k0_t1 : Fin (k0_t1_loop i).trips) (v58 : IVec S16 32) (v191 : IVec S16 32) (k0_hw30 : k0_chk30 i k0_t1 v58 v191), ∀ (k0_h2 : k0_cond2 i k0_t1 = 1#1), ∀ a x, ((![v58, v191] : Fin 2 → IVec S16 32) a x).toNat < S16x1041.size a := fun i k0_t1 v58 v191 k0_hw30 k0_h2 => k0_hw30 k0_h2

def k0_chk31 (i : grid0.Coords) (k0_t1 : Fin (k0_t1_loop i).trips) (v58 : IVec S16 32) (v194 : IVec S16 32) : Prop :=
  (∀ (k0_h2 : k0_cond2 i k0_t1 = 1#1), ∀ a x, ((![v58, v194] : Fin 2 → IVec S16 32) a x).toNat < S16x1041.size a)
theorem k0_idx31_inb : ∀ (i : grid0.Coords) (k0_t1 : Fin (k0_t1_loop i).trips) (v58 : IVec S16 32) (v194 : IVec S16 32) (k0_hw31 : k0_chk31 i k0_t1 v58 v194), ∀ (k0_h2 : k0_cond2 i k0_t1 = 1#1), ∀ a x, ((![v58, v194] : Fin 2 → IVec S16 32) a x).toNat < S16x1041.size a := fun i k0_t1 v58 v194 k0_hw31 k0_h2 => k0_hw31 k0_h2

def k0_chk32 (i : grid0.Coords) (k0_t1 : Fin (k0_t1_loop i).trips) (v58 : IVec S16 32) (v197 : IVec S16 32) : Prop :=
  (∀ (k0_h2 : k0_cond2 i k0_t1 = 1#1), ∀ a x, ((![v58, v197] : Fin 2 → IVec S16 32) a x).toNat < S16x1041.size a)
theorem k0_idx32_inb : ∀ (i : grid0.Coords) (k0_t1 : Fin (k0_t1_loop i).trips) (v58 : IVec S16 32) (v197 : IVec S16 32) (k0_hw32 : k0_chk32 i k0_t1 v58 v197), ∀ (k0_h2 : k0_cond2 i k0_t1 = 1#1), ∀ a x, ((![v58, v197] : Fin 2 → IVec S16 32) a x).toNat < S16x1041.size a := fun i k0_t1 v58 v197 k0_hw32 k0_h2 => k0_hw32 k0_h2

def k0_chk33 (i : grid0.Coords) (k0_t1 : Fin (k0_t1_loop i).trips) (v206 : IVec S16 32) : Prop :=
  (∀ (k0_h2 : k0_cond2 i k0_t1 = 1#1), ∀ a x, ((![v206] : Fin 1 → IVec S16 32) a x).toNat < S16384.size a)
theorem k0_idx33_inb : ∀ (i : grid0.Coords) (k0_t1 : Fin (k0_t1_loop i).trips) (v206 : IVec S16 32) (k0_hw33 : k0_chk33 i k0_t1 v206), ∀ (k0_h2 : k0_cond2 i k0_t1 = 1#1), ∀ a x, ((![v206] : Fin 1 → IVec S16 32) a x).toNat < S16384.size a := fun i k0_t1 v206 k0_hw33 k0_h2 => k0_hw33 k0_h2

def k0_chk34 (i : grid0.Coords) (k0_t1 : Fin (k0_t1_loop i).trips) (v208 : IVec S16 32) : Prop :=
  (∀ (k0_h2 : k0_cond2 i k0_t1 = 1#1), ∀ a x, ((![v208] : Fin 1 → IVec S16 32) a x).toNat < S16384.size a)
theorem k0_idx34_inb : ∀ (i : grid0.Coords) (k0_t1 : Fin (k0_t1_loop i).trips) (v208 : IVec S16 32) (k0_hw34 : k0_chk34 i k0_t1 v208), ∀ (k0_h2 : k0_cond2 i k0_t1 = 1#1), ∀ a x, ((![v208] : Fin 1 → IVec S16 32) a x).toNat < S16384.size a := fun i k0_t1 v208 k0_hw34 k0_h2 => k0_hw34 k0_h2

def k0_chk35 (i : grid0.Coords) (k0_t1 : Fin (k0_t1_loop i).trips) (v210 : IVec S16 32) : Prop :=
  (∀ (k0_h2 : k0_cond2 i k0_t1 = 1#1), ∀ a x, ((![v210] : Fin 1 → IVec S16 32) a x).toNat < S16384.size a)
theorem k0_idx35_inb : ∀ (i : grid0.Coords) (k0_t1 : Fin (k0_t1_loop i).trips) (v210 : IVec S16 32) (k0_hw35 : k0_chk35 i k0_t1 v210), ∀ (k0_h2 : k0_cond2 i k0_t1 = 1#1), ∀ a x, ((![v210] : Fin 1 → IVec S16 32) a x).toNat < S16384.size a := fun i k0_t1 v210 k0_hw35 k0_h2 => k0_hw35 k0_h2

def k0_chk36 (i : grid0.Coords) (k0_t1 : Fin (k0_t1_loop i).trips) (v212 : IVec S16 32) : Prop :=
  (∀ (k0_h2 : k0_cond2 i k0_t1 = 1#1), ∀ a x, ((![v212] : Fin 1 → IVec S16 32) a x).toNat < S16384.size a)
theorem k0_idx36_inb : ∀ (i : grid0.Coords) (k0_t1 : Fin (k0_t1_loop i).trips) (v212 : IVec S16 32) (k0_hw36 : k0_chk36 i k0_t1 v212), ∀ (k0_h2 : k0_cond2 i k0_t1 = 1#1), ∀ a x, ((![v212] : Fin 1 → IVec S16 32) a x).toNat < S16384.size a := fun i k0_t1 v212 k0_hw36 k0_h2 => k0_hw36 k0_h2

def k0_chk37 (i : grid0.Coords) (k0_t1 : Fin (k0_t1_loop i).trips) (v214 : IVec S16 32) : Prop :=
  (∀ (k0_h2 : k0_cond2 i k0_t1 = 1#1), ∀ a x, ((![v214] : Fin 1 → IVec S16 32) a x).toNat < S16384.size a)
theorem k0_idx37_inb : ∀ (i : grid0.Coords) (k0_t1 : Fin (k0_t1_loop i).trips) (v214 : IVec S16 32) (k0_hw37 : k0_chk37 i k0_t1 v214), ∀ (k0_h2 : k0_cond2 i k0_t1 = 1#1), ∀ a x, ((![v214] : Fin 1 → IVec S16 32) a x).toNat < S16384.size a := fun i k0_t1 v214 k0_hw37 k0_h2 => k0_hw37 k0_h2

def k0_chk38 (i : grid0.Coords) (k0_t1 : Fin (k0_t1_loop i).trips) (v216 : IVec S16 32) : Prop :=
  (∀ (k0_h2 : k0_cond2 i k0_t1 = 1#1), ∀ a x, ((![v216] : Fin 1 → IVec S16 32) a x).toNat < S16384.size a)
theorem k0_idx38_inb : ∀ (i : grid0.Coords) (k0_t1 : Fin (k0_t1_loop i).trips) (v216 : IVec S16 32) (k0_hw38 : k0_chk38 i k0_t1 v216), ∀ (k0_h2 : k0_cond2 i k0_t1 = 1#1), ∀ a x, ((![v216] : Fin 1 → IVec S16 32) a x).toNat < S16384.size a := fun i k0_t1 v216 k0_hw38 k0_h2 => k0_hw38 k0_h2

def k0_chk39 (i : grid0.Coords) (k0_t1 : Fin (k0_t1_loop i).trips) (v218 : IVec S16 32) : Prop :=
  (∀ (k0_h2 : k0_cond2 i k0_t1 = 1#1), ∀ a x, ((![v218] : Fin 1 → IVec S16 32) a x).toNat < S16384.size a)
theorem k0_idx39_inb : ∀ (i : grid0.Coords) (k0_t1 : Fin (k0_t1_loop i).trips) (v218 : IVec S16 32) (k0_hw39 : k0_chk39 i k0_t1 v218), ∀ (k0_h2 : k0_cond2 i k0_t1 = 1#1), ∀ a x, ((![v218] : Fin 1 → IVec S16 32) a x).toNat < S16384.size a := fun i k0_t1 v218 k0_hw39 k0_h2 => k0_hw39 k0_h2

def k0_chk40 (i : grid0.Coords) (k0_t1 : Fin (k0_t1_loop i).trips) (v220 : IVec S16 32) : Prop :=
  (∀ (k0_h2 : k0_cond2 i k0_t1 = 1#1), ∀ a x, ((![v220] : Fin 1 → IVec S16 32) a x).toNat < S16384.size a)
theorem k0_idx40_inb : ∀ (i : grid0.Coords) (k0_t1 : Fin (k0_t1_loop i).trips) (v220 : IVec S16 32) (k0_hw40 : k0_chk40 i k0_t1 v220), ∀ (k0_h2 : k0_cond2 i k0_t1 = 1#1), ∀ a x, ((![v220] : Fin 1 → IVec S16 32) a x).toNat < S16384.size a := fun i k0_t1 v220 k0_hw40 k0_h2 => k0_hw40 k0_h2

def k0_chk41 (i : grid0.Coords) (k0_t1 : Fin (k0_t1_loop i).trips) (v222 : IVec S16 32) : Prop :=
  (∀ (k0_h2 : k0_cond2 i k0_t1 = 1#1), ∀ a x, ((![v222] : Fin 1 → IVec S16 32) a x).toNat < S16384.size a)
theorem k0_idx41_inb : ∀ (i : grid0.Coords) (k0_t1 : Fin (k0_t1_loop i).trips) (v222 : IVec S16 32) (k0_hw41 : k0_chk41 i k0_t1 v222), ∀ (k0_h2 : k0_cond2 i k0_t1 = 1#1), ∀ a x, ((![v222] : Fin 1 → IVec S16 32) a x).toNat < S16384.size a := fun i k0_t1 v222 k0_hw41 k0_h2 => k0_hw41 k0_h2

def k0_chk42 (i : grid0.Coords) (k0_t1 : Fin (k0_t1_loop i).trips) (v224 : IVec S16 32) : Prop :=
  (∀ (k0_h2 : k0_cond2 i k0_t1 = 1#1), ∀ a x, ((![v224] : Fin 1 → IVec S16 32) a x).toNat < S16384.size a)
theorem k0_idx42_inb : ∀ (i : grid0.Coords) (k0_t1 : Fin (k0_t1_loop i).trips) (v224 : IVec S16 32) (k0_hw42 : k0_chk42 i k0_t1 v224), ∀ (k0_h2 : k0_cond2 i k0_t1 = 1#1), ∀ a x, ((![v224] : Fin 1 → IVec S16 32) a x).toNat < S16384.size a := fun i k0_t1 v224 k0_hw42 k0_h2 => k0_hw42 k0_h2

def k0_chk43 (i : grid0.Coords) (k0_t1 : Fin (k0_t1_loop i).trips) (v226 : IVec S16 32) : Prop :=
  (∀ (k0_h2 : k0_cond2 i k0_t1 = 1#1), ∀ a x, ((![v226] : Fin 1 → IVec S16 32) a x).toNat < S16384.size a)
theorem k0_idx43_inb : ∀ (i : grid0.Coords) (k0_t1 : Fin (k0_t1_loop i).trips) (v226 : IVec S16 32) (k0_hw43 : k0_chk43 i k0_t1 v226), ∀ (k0_h2 : k0_cond2 i k0_t1 = 1#1), ∀ a x, ((![v226] : Fin 1 → IVec S16 32) a x).toNat < S16384.size a := fun i k0_t1 v226 k0_hw43 k0_h2 => k0_hw43 k0_h2

def k0_chk44 (i : grid0.Coords) (k0_t1 : Fin (k0_t1_loop i).trips) (v228 : IVec S16 32) : Prop :=
  (∀ (k0_h2 : k0_cond2 i k0_t1 = 1#1), ∀ a x, ((![v228] : Fin 1 → IVec S16 32) a x).toNat < S16384.size a)
theorem k0_idx44_inb : ∀ (i : grid0.Coords) (k0_t1 : Fin (k0_t1_loop i).trips) (v228 : IVec S16 32) (k0_hw44 : k0_chk44 i k0_t1 v228), ∀ (k0_h2 : k0_cond2 i k0_t1 = 1#1), ∀ a x, ((![v228] : Fin 1 → IVec S16 32) a x).toNat < S16384.size a := fun i k0_t1 v228 k0_hw44 k0_h2 => k0_hw44 k0_h2

def k0_chk45 (i : grid0.Coords) (k0_t1 : Fin (k0_t1_loop i).trips) (v230 : IVec S16 32) : Prop :=
  (∀ (k0_h2 : k0_cond2 i k0_t1 = 1#1), ∀ a x, ((![v230] : Fin 1 → IVec S16 32) a x).toNat < S16384.size a)
theorem k0_idx45_inb : ∀ (i : grid0.Coords) (k0_t1 : Fin (k0_t1_loop i).trips) (v230 : IVec S16 32) (k0_hw45 : k0_chk45 i k0_t1 v230), ∀ (k0_h2 : k0_cond2 i k0_t1 = 1#1), ∀ a x, ((![v230] : Fin 1 → IVec S16 32) a x).toNat < S16384.size a := fun i k0_t1 v230 k0_hw45 k0_h2 => k0_hw45 k0_h2

def k0_chk46 (i : grid0.Coords) (k0_t1 : Fin (k0_t1_loop i).trips) (v232 : IVec S16 32) : Prop :=
  (∀ (k0_h2 : k0_cond2 i k0_t1 = 1#1), ∀ a x, ((![v232] : Fin 1 → IVec S16 32) a x).toNat < S16384.size a)
theorem k0_idx46_inb : ∀ (i : grid0.Coords) (k0_t1 : Fin (k0_t1_loop i).trips) (v232 : IVec S16 32) (k0_hw46 : k0_chk46 i k0_t1 v232), ∀ (k0_h2 : k0_cond2 i k0_t1 = 1#1), ∀ a x, ((![v232] : Fin 1 → IVec S16 32) a x).toNat < S16384.size a := fun i k0_t1 v232 k0_hw46 k0_h2 => k0_hw46 k0_h2

def k0_chk47 (i : grid0.Coords) (k0_t1 : Fin (k0_t1_loop i).trips) (v234 : IVec S16 32) : Prop :=
  (∀ (k0_h2 : k0_cond2 i k0_t1 = 1#1), ∀ a x, ((![v234] : Fin 1 → IVec S16 32) a x).toNat < S16384.size a)
theorem k0_idx47_inb : ∀ (i : grid0.Coords) (k0_t1 : Fin (k0_t1_loop i).trips) (v234 : IVec S16 32) (k0_hw47 : k0_chk47 i k0_t1 v234), ∀ (k0_h2 : k0_cond2 i k0_t1 = 1#1), ∀ a x, ((![v234] : Fin 1 → IVec S16 32) a x).toNat < S16384.size a := fun i k0_t1 v234 k0_hw47 k0_h2 => k0_hw47 k0_h2

def k0_chk48 (i : grid0.Coords) (k0_t1 : Fin (k0_t1_loop i).trips) (v236 : IVec S16 32) : Prop :=
  (∀ (k0_h2 : k0_cond2 i k0_t1 = 1#1), ∀ a x, ((![v236] : Fin 1 → IVec S16 32) a x).toNat < S16384.size a)
theorem k0_idx48_inb : ∀ (i : grid0.Coords) (k0_t1 : Fin (k0_t1_loop i).trips) (v236 : IVec S16 32) (k0_hw48 : k0_chk48 i k0_t1 v236), ∀ (k0_h2 : k0_cond2 i k0_t1 = 1#1), ∀ a x, ((![v236] : Fin 1 → IVec S16 32) a x).toNat < S16384.size a := fun i k0_t1 v236 k0_hw48 k0_h2 => k0_hw48 k0_h2

def k0_chk49 (i : grid0.Coords) (k0_t1 : Fin (k0_t1_loop i).trips) (v117 : IVec S16 32) : Prop :=
  (∀ (k0_h2 : k0_cond2 i k0_t1 = 1#1), ∀ a x, ((![v117] : Fin 1 → IVec S16 32) a x).toNat < S16384.size a)
theorem k0_idx49_inb : ∀ (i : grid0.Coords) (k0_t1 : Fin (k0_t1_loop i).trips) (v117 : IVec S16 32) (k0_hw49 : k0_chk49 i k0_t1 v117), ∀ (k0_h2 : k0_cond2 i k0_t1 = 1#1), ∀ a x, ((![v117] : Fin 1 → IVec S16 32) a x).toNat < S16384.size a := fun i k0_t1 v117 k0_hw49 k0_h2 => k0_hw49 k0_h2

def k0_chk50 (i : grid0.Coords) (k0_t1 : Fin (k0_t1_loop i).trips) (v119 : IVec S16 32) : Prop :=
  (∀ (k0_h2 : k0_cond2 i k0_t1 = 1#1), ∀ a x, ((![v119] : Fin 1 → IVec S16 32) a x).toNat < S16384.size a)
theorem k0_idx50_inb : ∀ (i : grid0.Coords) (k0_t1 : Fin (k0_t1_loop i).trips) (v119 : IVec S16 32) (k0_hw50 : k0_chk50 i k0_t1 v119), ∀ (k0_h2 : k0_cond2 i k0_t1 = 1#1), ∀ a x, ((![v119] : Fin 1 → IVec S16 32) a x).toNat < S16384.size a := fun i k0_t1 v119 k0_hw50 k0_h2 => k0_hw50 k0_h2

def k0_chk51 (i : grid0.Coords) (k0_t1 : Fin (k0_t1_loop i).trips) (v121 : IVec S16 32) : Prop :=
  (∀ (k0_h2 : k0_cond2 i k0_t1 = 1#1), ∀ a x, ((![v121] : Fin 1 → IVec S16 32) a x).toNat < S16384.size a)
theorem k0_idx51_inb : ∀ (i : grid0.Coords) (k0_t1 : Fin (k0_t1_loop i).trips) (v121 : IVec S16 32) (k0_hw51 : k0_chk51 i k0_t1 v121), ∀ (k0_h2 : k0_cond2 i k0_t1 = 1#1), ∀ a x, ((![v121] : Fin 1 → IVec S16 32) a x).toNat < S16384.size a := fun i k0_t1 v121 k0_hw51 k0_h2 => k0_hw51 k0_h2

def k0_chk52 (i : grid0.Coords) (k0_t1 : Fin (k0_t1_loop i).trips) (v123 : IVec S16 32) : Prop :=
  (∀ (k0_h2 : k0_cond2 i k0_t1 = 1#1), ∀ a x, ((![v123] : Fin 1 → IVec S16 32) a x).toNat < S16384.size a)
theorem k0_idx52_inb : ∀ (i : grid0.Coords) (k0_t1 : Fin (k0_t1_loop i).trips) (v123 : IVec S16 32) (k0_hw52 : k0_chk52 i k0_t1 v123), ∀ (k0_h2 : k0_cond2 i k0_t1 = 1#1), ∀ a x, ((![v123] : Fin 1 → IVec S16 32) a x).toNat < S16384.size a := fun i k0_t1 v123 k0_hw52 k0_h2 => k0_hw52 k0_h2

def k0_chk53 (i : grid0.Coords) (k0_t1 : Fin (k0_t1_loop i).trips) (v125 : IVec S16 32) : Prop :=
  (∀ (k0_h2 : k0_cond2 i k0_t1 = 1#1), ∀ a x, ((![v125] : Fin 1 → IVec S16 32) a x).toNat < S16384.size a)
theorem k0_idx53_inb : ∀ (i : grid0.Coords) (k0_t1 : Fin (k0_t1_loop i).trips) (v125 : IVec S16 32) (k0_hw53 : k0_chk53 i k0_t1 v125), ∀ (k0_h2 : k0_cond2 i k0_t1 = 1#1), ∀ a x, ((![v125] : Fin 1 → IVec S16 32) a x).toNat < S16384.size a := fun i k0_t1 v125 k0_hw53 k0_h2 => k0_hw53 k0_h2

def k0_chk54 (i : grid0.Coords) (k0_t1 : Fin (k0_t1_loop i).trips) (v127 : IVec S16 32) : Prop :=
  (∀ (k0_h2 : k0_cond2 i k0_t1 = 1#1), ∀ a x, ((![v127] : Fin 1 → IVec S16 32) a x).toNat < S16384.size a)
theorem k0_idx54_inb : ∀ (i : grid0.Coords) (k0_t1 : Fin (k0_t1_loop i).trips) (v127 : IVec S16 32) (k0_hw54 : k0_chk54 i k0_t1 v127), ∀ (k0_h2 : k0_cond2 i k0_t1 = 1#1), ∀ a x, ((![v127] : Fin 1 → IVec S16 32) a x).toNat < S16384.size a := fun i k0_t1 v127 k0_hw54 k0_h2 => k0_hw54 k0_h2

def k0_chk55 (i : grid0.Coords) (k0_t1 : Fin (k0_t1_loop i).trips) (v129 : IVec S16 32) : Prop :=
  (∀ (k0_h2 : k0_cond2 i k0_t1 = 1#1), ∀ a x, ((![v129] : Fin 1 → IVec S16 32) a x).toNat < S16384.size a)
theorem k0_idx55_inb : ∀ (i : grid0.Coords) (k0_t1 : Fin (k0_t1_loop i).trips) (v129 : IVec S16 32) (k0_hw55 : k0_chk55 i k0_t1 v129), ∀ (k0_h2 : k0_cond2 i k0_t1 = 1#1), ∀ a x, ((![v129] : Fin 1 → IVec S16 32) a x).toNat < S16384.size a := fun i k0_t1 v129 k0_hw55 k0_h2 => k0_hw55 k0_h2

def k0_chk56 (i : grid0.Coords) (k0_t1 : Fin (k0_t1_loop i).trips) (v131 : IVec S16 32) : Prop :=
  (∀ (k0_h2 : k0_cond2 i k0_t1 = 1#1), ∀ a x, ((![v131] : Fin 1 → IVec S16 32) a x).toNat < S16384.size a)
theorem k0_idx56_inb : ∀ (i : grid0.Coords) (k0_t1 : Fin (k0_t1_loop i).trips) (v131 : IVec S16 32) (k0_hw56 : k0_chk56 i k0_t1 v131), ∀ (k0_h2 : k0_cond2 i k0_t1 = 1#1), ∀ a x, ((![v131] : Fin 1 → IVec S16 32) a x).toNat < S16384.size a := fun i k0_t1 v131 k0_hw56 k0_h2 => k0_hw56 k0_h2

def k0_chk57 (i : grid0.Coords) (k0_t1 : Fin (k0_t1_loop i).trips) (v133 : IVec S16 32) : Prop :=
  (∀ (k0_h2 : k0_cond2 i k0_t1 = 1#1), ∀ a x, ((![v133] : Fin 1 → IVec S16 32) a x).toNat < S16384.size a)
theorem k0_idx57_inb : ∀ (i : grid0.Coords) (k0_t1 : Fin (k0_t1_loop i).trips) (v133 : IVec S16 32) (k0_hw57 : k0_chk57 i k0_t1 v133), ∀ (k0_h2 : k0_cond2 i k0_t1 = 1#1), ∀ a x, ((![v133] : Fin 1 → IVec S16 32) a x).toNat < S16384.size a := fun i k0_t1 v133 k0_hw57 k0_h2 => k0_hw57 k0_h2

def k0_chk58 (i : grid0.Coords) (k0_t1 : Fin (k0_t1_loop i).trips) (v135 : IVec S16 32) : Prop :=
  (∀ (k0_h2 : k0_cond2 i k0_t1 = 1#1), ∀ a x, ((![v135] : Fin 1 → IVec S16 32) a x).toNat < S16384.size a)
theorem k0_idx58_inb : ∀ (i : grid0.Coords) (k0_t1 : Fin (k0_t1_loop i).trips) (v135 : IVec S16 32) (k0_hw58 : k0_chk58 i k0_t1 v135), ∀ (k0_h2 : k0_cond2 i k0_t1 = 1#1), ∀ a x, ((![v135] : Fin 1 → IVec S16 32) a x).toNat < S16384.size a := fun i k0_t1 v135 k0_hw58 k0_h2 => k0_hw58 k0_h2

def k0_chk59 (i : grid0.Coords) (k0_t1 : Fin (k0_t1_loop i).trips) (v137 : IVec S16 32) : Prop :=
  (∀ (k0_h2 : k0_cond2 i k0_t1 = 1#1), ∀ a x, ((![v137] : Fin 1 → IVec S16 32) a x).toNat < S16384.size a)
theorem k0_idx59_inb : ∀ (i : grid0.Coords) (k0_t1 : Fin (k0_t1_loop i).trips) (v137 : IVec S16 32) (k0_hw59 : k0_chk59 i k0_t1 v137), ∀ (k0_h2 : k0_cond2 i k0_t1 = 1#1), ∀ a x, ((![v137] : Fin 1 → IVec S16 32) a x).toNat < S16384.size a := fun i k0_t1 v137 k0_hw59 k0_h2 => k0_hw59 k0_h2

def k0_chk60 (i : grid0.Coords) (k0_t1 : Fin (k0_t1_loop i).trips) (v139 : IVec S16 32) : Prop :=
  (∀ (k0_h2 : k0_cond2 i k0_t1 = 1#1), ∀ a x, ((![v139] : Fin 1 → IVec S16 32) a x).toNat < S16384.size a)
theorem k0_idx60_inb : ∀ (i : grid0.Coords) (k0_t1 : Fin (k0_t1_loop i).trips) (v139 : IVec S16 32) (k0_hw60 : k0_chk60 i k0_t1 v139), ∀ (k0_h2 : k0_cond2 i k0_t1 = 1#1), ∀ a x, ((![v139] : Fin 1 → IVec S16 32) a x).toNat < S16384.size a := fun i k0_t1 v139 k0_hw60 k0_h2 => k0_hw60 k0_h2

def k0_chk61 (i : grid0.Coords) (k0_t1 : Fin (k0_t1_loop i).trips) (v141 : IVec S16 32) : Prop :=
  (∀ (k0_h2 : k0_cond2 i k0_t1 = 1#1), ∀ a x, ((![v141] : Fin 1 → IVec S16 32) a x).toNat < S16384.size a)
theorem k0_idx61_inb : ∀ (i : grid0.Coords) (k0_t1 : Fin (k0_t1_loop i).trips) (v141 : IVec S16 32) (k0_hw61 : k0_chk61 i k0_t1 v141), ∀ (k0_h2 : k0_cond2 i k0_t1 = 1#1), ∀ a x, ((![v141] : Fin 1 → IVec S16 32) a x).toNat < S16384.size a := fun i k0_t1 v141 k0_hw61 k0_h2 => k0_hw61 k0_h2

def k0_chk62 (i : grid0.Coords) (k0_t1 : Fin (k0_t1_loop i).trips) (v143 : IVec S16 32) : Prop :=
  (∀ (k0_h2 : k0_cond2 i k0_t1 = 1#1), ∀ a x, ((![v143] : Fin 1 → IVec S16 32) a x).toNat < S16384.size a)
theorem k0_idx62_inb : ∀ (i : grid0.Coords) (k0_t1 : Fin (k0_t1_loop i).trips) (v143 : IVec S16 32) (k0_hw62 : k0_chk62 i k0_t1 v143), ∀ (k0_h2 : k0_cond2 i k0_t1 = 1#1), ∀ a x, ((![v143] : Fin 1 → IVec S16 32) a x).toNat < S16384.size a := fun i k0_t1 v143 k0_hw62 k0_h2 => k0_hw62 k0_h2

def k0_chk63 (i : grid0.Coords) (k0_t1 : Fin (k0_t1_loop i).trips) (v145 : IVec S16 32) : Prop :=
  (∀ (k0_h2 : k0_cond2 i k0_t1 = 1#1), ∀ a x, ((![v145] : Fin 1 → IVec S16 32) a x).toNat < S16384.size a)
theorem k0_idx63_inb : ∀ (i : grid0.Coords) (k0_t1 : Fin (k0_t1_loop i).trips) (v145 : IVec S16 32) (k0_hw63 : k0_chk63 i k0_t1 v145), ∀ (k0_h2 : k0_cond2 i k0_t1 = 1#1), ∀ a x, ((![v145] : Fin 1 → IVec S16 32) a x).toNat < S16384.size a := fun i k0_t1 v145 k0_hw63 k0_h2 => k0_hw63 k0_h2

def k0_chk64 (i : grid0.Coords) (k0_t1 : Fin (k0_t1_loop i).trips) (v147 : IVec S16 32) : Prop :=
  (∀ (k0_h2 : k0_cond2 i k0_t1 = 1#1), ∀ a x, ((![v147] : Fin 1 → IVec S16 32) a x).toNat < S16384.size a)
theorem k0_idx64_inb : ∀ (i : grid0.Coords) (k0_t1 : Fin (k0_t1_loop i).trips) (v147 : IVec S16 32) (k0_hw64 : k0_chk64 i k0_t1 v147), ∀ (k0_h2 : k0_cond2 i k0_t1 = 1#1), ∀ a x, ((![v147] : Fin 1 → IVec S16 32) a x).toNat < S16384.size a := fun i k0_t1 v147 k0_hw64 k0_h2 => k0_hw64 k0_h2
def k0_mult6 (i : grid0.Coords) (k0_t1 : Fin (k0_t1_loop i).trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_3 : BitVec 32 := 0#32
  let c1_i32_5 : BitVec 32 := 1#32
  let arg13 : BitVec 32 := Scf.iv c0_i32_3 c1_i32_5 k0_t1
  let c32_i32_34 : BitVec 32 := 32#32
  let v49 : BitVec 32 := Scalar.muli arg13 c32_i32_34
  let v50 : BitVec 32 := Scalar.addi v1 v49
  let c1024_i32_35 : BitVec 32 := 1024#32
  let v51 : BitVec 32 := Scalar.muli v50 c1024_i32_35
  v51
def k0_mult7 (i : grid0.Coords) (k0_t1 : Fin (k0_t1_loop i).trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_3 : BitVec 32 := 0#32
  let c1_i32_5 : BitVec 32 := 1#32
  let arg13 : BitVec 32 := Scf.iv c0_i32_3 c1_i32_5 k0_t1
  let c32_i32_34 : BitVec 32 := 32#32
  let v49 : BitVec 32 := Scalar.muli arg13 c32_i32_34
  let v50 : BitVec 32 := Scalar.addi v1 v49
  let c1024_i32_35 : BitVec 32 := 1024#32
  let v51 : BitVec 32 := Scalar.muli v50 c1024_i32_35
  let v52 : BitVec 32 := v51
  let c16_i32_36 : BitVec 32 := 16#32
  let v53 : BitVec 32 := Scalar.muli v52 c16_i32_36
  v53
def k0_off5 (i : grid0.Coords) (k0_t1 : Fin (k0_t1_loop i).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_3 : BitVec 32 := 0#32
  let c1_i32_5 : BitVec 32 := 1#32
  let arg13 : BitVec 32 := Scf.iv c0_i32_3 c1_i32_5 k0_t1
  let c32_i32_34 : BitVec 32 := 32#32
  let v49 : BitVec 32 := Scalar.muli arg13 c32_i32_34
  let v50 : BitVec 32 := Scalar.addi v1 v49
  let c1024_i32_35 : BitVec 32 := 1024#32
  let v51 : BitVec 32 := Scalar.muli v50 c1024_i32_35
  let v52 : BitVec 32 := v51
  let c16_i32_36 : BitVec 32 := 16#32
  let v53 : BitVec 32 := Scalar.muli v52 c16_i32_36
  let v54 : BitVec 32 := v53
  ![v54.toNat]
def k0_cond5 (i : grid0.Coords) (k0_t1 : Fin (k0_t1_loop i).trips) : BitVec 1 :=
  let c0_i32_3 : BitVec 32 := 0#32
  let c1_i32_5 : BitVec 32 := 1#32
  let arg13 : BitVec 32 := Scf.iv c0_i32_3 c1_i32_5 k0_t1
  let c2_i32_17 : BitVec 32 := 2#32
  let v29 : BitVec 32 := Scalar.remsi arg13 c2_i32_17
  let c1_i32_18 : BitVec 32 := 1#32
  let v30 : BitVec 1 := Scalar.cmpi .eq v29 c1_i32_18
  let v31 : BitVec 32 := Scalar.extui v30
  let c0_i32_19 : BitVec 32 := 0#32
  let v32 : BitVec 1 := Scalar.cmpi .ne v31 c0_i32_19
  v32

def k0_cond6 (i : grid0.Coords) (k0_t1 : Fin (k0_t1_loop i).trips) : BitVec 1 :=
  let c0_i32_3 : BitVec 32 := 0#32
  let c1_i32_5 : BitVec 32 := 1#32
  let arg13 : BitVec 32 := Scf.iv c0_i32_3 c1_i32_5 k0_t1
  let c1_i32_20 : BitVec 32 := 1#32
  let v33 : BitVec 32 := Scalar.addi arg13 c1_i32_20
  let c30_i32 : BitVec 32 := 30#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v4 : BitVec 32 := Scalar.addi c30_i32 v3
  let v34 : BitVec 1 := Scalar.cmpi .slt v33 v4
  let v35 : BitVec 32 := Scalar.extui v34
  let c0_i32_21 : BitVec 32 := 0#32
  let v36 : BitVec 1 := Scalar.cmpi .ne v35 c0_i32_21
  v36

def k0_mult8 (i : grid0.Coords) (k0_t1 : Fin (k0_t1_loop i).trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_3 : BitVec 32 := 0#32
  let c1_i32_5 : BitVec 32 := 1#32
  let arg13 : BitVec 32 := Scf.iv c0_i32_3 c1_i32_5 k0_t1
  let c1_i32_37 : BitVec 32 := 1#32
  let v57 : BitVec 32 := Scalar.addi arg13 c1_i32_37
  let c32_i32_38 : BitVec 32 := 32#32
  let v58 : BitVec 32 := Scalar.muli v57 c32_i32_38
  let v59 : BitVec 32 := Scalar.addi v1 v58
  let c1024_i32_39 : BitVec 32 := 1024#32
  let v60 : BitVec 32 := Scalar.muli v59 c1024_i32_39
  v60
def k0_off6 (i : grid0.Coords) (k0_t1 : Fin (k0_t1_loop i).trips) : Fin 2 → Nat :=
  let c0_i32_42 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_3 : BitVec 32 := 0#32
  let c1_i32_5 : BitVec 32 := 1#32
  let arg13 : BitVec 32 := Scf.iv c0_i32_3 c1_i32_5 k0_t1
  let c1_i32_37 : BitVec 32 := 1#32
  let v57 : BitVec 32 := Scalar.addi arg13 c1_i32_37
  let c32_i32_38 : BitVec 32 := 32#32
  let v58 : BitVec 32 := Scalar.muli v57 c32_i32_38
  let v59 : BitVec 32 := Scalar.addi v1 v58
  let c1024_i32_39 : BitVec 32 := 1024#32
  let v60 : BitVec 32 := Scalar.muli v59 c1024_i32_39
  let v61 : BitVec 32 := v60
  ![0, v61.toNat]
def k0_cond7 (i : grid0.Coords) (k0_t1 : Fin (k0_t1_loop i).trips) : BitVec 1 :=
  let c0_i32_3 : BitVec 32 := 0#32
  let c1_i32_5 : BitVec 32 := 1#32
  let arg13 : BitVec 32 := Scf.iv c0_i32_3 c1_i32_5 k0_t1
  let c2_i32_22 : BitVec 32 := 2#32
  let v37 : BitVec 1 := Scalar.cmpi .sge arg13 c2_i32_22
  let v38 : BitVec 32 := Scalar.extui v37
  let c0_i32_23 : BitVec 32 := 0#32
  let v39 : BitVec 1 := Scalar.cmpi .ne v38 c0_i32_23
  v39

def k0_mult9 (i : grid0.Coords) (k0_t1 : Fin (k0_t1_loop i).trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_3 : BitVec 32 := 0#32
  let c1_i32_5 : BitVec 32 := 1#32
  let arg13 : BitVec 32 := Scf.iv c0_i32_3 c1_i32_5 k0_t1
  let c2_i32_37 : BitVec 32 := 2#32
  let v57 : BitVec 32 := Scalar.subi arg13 c2_i32_37
  let c32_i32_38 : BitVec 32 := 32#32
  let v58 : BitVec 32 := Scalar.muli v57 c32_i32_38
  let v59 : BitVec 32 := Scalar.addi v1 v58
  let c1024_i32_39 : BitVec 32 := 1024#32
  let v60 : BitVec 32 := Scalar.muli v59 c1024_i32_39
  v60
def k0_mult10 (i : grid0.Coords) (k0_t1 : Fin (k0_t1_loop i).trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_3 : BitVec 32 := 0#32
  let c1_i32_5 : BitVec 32 := 1#32
  let arg13 : BitVec 32 := Scf.iv c0_i32_3 c1_i32_5 k0_t1
  let c2_i32_37 : BitVec 32 := 2#32
  let v57 : BitVec 32 := Scalar.subi arg13 c2_i32_37
  let c32_i32_38 : BitVec 32 := 32#32
  let v58 : BitVec 32 := Scalar.muli v57 c32_i32_38
  let v59 : BitVec 32 := Scalar.addi v1 v58
  let c1024_i32_39 : BitVec 32 := 1024#32
  let v60 : BitVec 32 := Scalar.muli v59 c1024_i32_39
  let v61 : BitVec 32 := v60
  let c16_i32_40 : BitVec 32 := 16#32
  let v62 : BitVec 32 := Scalar.muli v61 c16_i32_40
  v62
def k0_off7 (i : grid0.Coords) (k0_t1 : Fin (k0_t1_loop i).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_3 : BitVec 32 := 0#32
  let c1_i32_5 : BitVec 32 := 1#32
  let arg13 : BitVec 32 := Scf.iv c0_i32_3 c1_i32_5 k0_t1
  let c2_i32_37 : BitVec 32 := 2#32
  let v57 : BitVec 32 := Scalar.subi arg13 c2_i32_37
  let c32_i32_38 : BitVec 32 := 32#32
  let v58 : BitVec 32 := Scalar.muli v57 c32_i32_38
  let v59 : BitVec 32 := Scalar.addi v1 v58
  let c1024_i32_39 : BitVec 32 := 1024#32
  let v60 : BitVec 32 := Scalar.muli v59 c1024_i32_39
  let v61 : BitVec 32 := v60
  let c16_i32_40 : BitVec 32 := 16#32
  let v62 : BitVec 32 := Scalar.muli v61 c16_i32_40
  let v63 : BitVec 32 := v62
  ![v63.toNat]
def k0_mult11 (i : grid0.Coords) (k0_t1 : Fin (k0_t1_loop i).trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_3 : BitVec 32 := 0#32
  let c1_i32_5 : BitVec 32 := 1#32
  let arg13 : BitVec 32 := Scf.iv c0_i32_3 c1_i32_5 k0_t1
  let c32_i32 : BitVec 32 := 32#32
  let v40 : BitVec 32 := Scalar.muli arg13 c32_i32
  let v41 : BitVec 32 := Scalar.addi v1 v40
  let c1024_i32 : BitVec 32 := 1024#32
  let v42 : BitVec 32 := Scalar.muli v41 c1024_i32
  v42
def k0_off8 (i : grid0.Coords) (k0_t1 : Fin (k0_t1_loop i).trips) : Fin 2 → Nat :=
  let c0_i32_26 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_3 : BitVec 32 := 0#32
  let c1_i32_5 : BitVec 32 := 1#32
  let arg13 : BitVec 32 := Scf.iv c0_i32_3 c1_i32_5 k0_t1
  let c32_i32 : BitVec 32 := 32#32
  let v40 : BitVec 32 := Scalar.muli arg13 c32_i32
  let v41 : BitVec 32 := Scalar.addi v1 v40
  let c1024_i32 : BitVec 32 := 1024#32
  let v42 : BitVec 32 := Scalar.muli v41 c1024_i32
  let v43 : BitVec 32 := v42
  ![0, v43.toNat]
@[reducible] def k0_t4_loop : Scf.Loop 32 :=
  let c0_i32_31 : BitVec 32 := 0#32
  let c8_i32 : BitVec 32 := 8#32
  let v48 : BitVec 32 := Scalar.addi c0_i32_31 c8_i32
  let c1_i32_32 : BitVec 32 := 1#32
  ⟨c0_i32_31, v48, c1_i32_32⟩

def k0_chk65 (i : grid0.Coords) (k0_t1 : Fin (k0_t1_loop i).trips) (v58 : IVec S16 32) (v63 : IVec S16 32) : Prop :=
  (∀ (k0_h5 : k0_cond5 i k0_t1 = 1#1), ∀ a x, ((![v58, v63] : Fin 2 → IVec S16 32) a x).toNat < S16x1041.size a)
theorem k0_idx65_inb : ∀ (i : grid0.Coords) (k0_t1 : Fin (k0_t1_loop i).trips) (v58 : IVec S16 32) (v63 : IVec S16 32) (k0_hw65 : k0_chk65 i k0_t1 v58 v63), ∀ (k0_h5 : k0_cond5 i k0_t1 = 1#1), ∀ a x, ((![v58, v63] : Fin 2 → IVec S16 32) a x).toNat < S16x1041.size a := fun i k0_t1 v58 v63 k0_hw65 k0_h5 => k0_hw65 k0_h5

def k0_chk66 (i : grid0.Coords) (k0_t1 : Fin (k0_t1_loop i).trips) (v58 : IVec S16 32) (v66 : IVec S16 32) : Prop :=
  (∀ (k0_h5 : k0_cond5 i k0_t1 = 1#1), ∀ a x, ((![v58, v66] : Fin 2 → IVec S16 32) a x).toNat < S16x1041.size a)
theorem k0_idx66_inb : ∀ (i : grid0.Coords) (k0_t1 : Fin (k0_t1_loop i).trips) (v58 : IVec S16 32) (v66 : IVec S16 32) (k0_hw66 : k0_chk66 i k0_t1 v58 v66), ∀ (k0_h5 : k0_cond5 i k0_t1 = 1#1), ∀ a x, ((![v58, v66] : Fin 2 → IVec S16 32) a x).toNat < S16x1041.size a := fun i k0_t1 v58 v66 k0_hw66 k0_h5 => k0_hw66 k0_h5

def k0_chk67 (i : grid0.Coords) (k0_t1 : Fin (k0_t1_loop i).trips) (v58 : IVec S16 32) (v69 : IVec S16 32) : Prop :=
  (∀ (k0_h5 : k0_cond5 i k0_t1 = 1#1), ∀ a x, ((![v58, v69] : Fin 2 → IVec S16 32) a x).toNat < S16x1041.size a)
theorem k0_idx67_inb : ∀ (i : grid0.Coords) (k0_t1 : Fin (k0_t1_loop i).trips) (v58 : IVec S16 32) (v69 : IVec S16 32) (k0_hw67 : k0_chk67 i k0_t1 v58 v69), ∀ (k0_h5 : k0_cond5 i k0_t1 = 1#1), ∀ a x, ((![v58, v69] : Fin 2 → IVec S16 32) a x).toNat < S16x1041.size a := fun i k0_t1 v58 v69 k0_hw67 k0_h5 => k0_hw67 k0_h5

def k0_chk68 (i : grid0.Coords) (k0_t1 : Fin (k0_t1_loop i).trips) (v58 : IVec S16 32) (v72 : IVec S16 32) : Prop :=
  (∀ (k0_h5 : k0_cond5 i k0_t1 = 1#1), ∀ a x, ((![v58, v72] : Fin 2 → IVec S16 32) a x).toNat < S16x1041.size a)
theorem k0_idx68_inb : ∀ (i : grid0.Coords) (k0_t1 : Fin (k0_t1_loop i).trips) (v58 : IVec S16 32) (v72 : IVec S16 32) (k0_hw68 : k0_chk68 i k0_t1 v58 v72), ∀ (k0_h5 : k0_cond5 i k0_t1 = 1#1), ∀ a x, ((![v58, v72] : Fin 2 → IVec S16 32) a x).toNat < S16x1041.size a := fun i k0_t1 v58 v72 k0_hw68 k0_h5 => k0_hw68 k0_h5

def k0_chk69 (i : grid0.Coords) (k0_t1 : Fin (k0_t1_loop i).trips) (v58 : IVec S16 32) (v75 : IVec S16 32) : Prop :=
  (∀ (k0_h5 : k0_cond5 i k0_t1 = 1#1), ∀ a x, ((![v58, v75] : Fin 2 → IVec S16 32) a x).toNat < S16x1041.size a)
theorem k0_idx69_inb : ∀ (i : grid0.Coords) (k0_t1 : Fin (k0_t1_loop i).trips) (v58 : IVec S16 32) (v75 : IVec S16 32) (k0_hw69 : k0_chk69 i k0_t1 v58 v75), ∀ (k0_h5 : k0_cond5 i k0_t1 = 1#1), ∀ a x, ((![v58, v75] : Fin 2 → IVec S16 32) a x).toNat < S16x1041.size a := fun i k0_t1 v58 v75 k0_hw69 k0_h5 => k0_hw69 k0_h5

def k0_chk70 (i : grid0.Coords) (k0_t1 : Fin (k0_t1_loop i).trips) (v58 : IVec S16 32) (v78 : IVec S16 32) : Prop :=
  (∀ (k0_h5 : k0_cond5 i k0_t1 = 1#1), ∀ a x, ((![v58, v78] : Fin 2 → IVec S16 32) a x).toNat < S16x1041.size a)
theorem k0_idx70_inb : ∀ (i : grid0.Coords) (k0_t1 : Fin (k0_t1_loop i).trips) (v58 : IVec S16 32) (v78 : IVec S16 32) (k0_hw70 : k0_chk70 i k0_t1 v58 v78), ∀ (k0_h5 : k0_cond5 i k0_t1 = 1#1), ∀ a x, ((![v58, v78] : Fin 2 → IVec S16 32) a x).toNat < S16x1041.size a := fun i k0_t1 v58 v78 k0_hw70 k0_h5 => k0_hw70 k0_h5

def k0_chk71 (i : grid0.Coords) (k0_t1 : Fin (k0_t1_loop i).trips) (v58 : IVec S16 32) (v81 : IVec S16 32) : Prop :=
  (∀ (k0_h5 : k0_cond5 i k0_t1 = 1#1), ∀ a x, ((![v58, v81] : Fin 2 → IVec S16 32) a x).toNat < S16x1041.size a)
theorem k0_idx71_inb : ∀ (i : grid0.Coords) (k0_t1 : Fin (k0_t1_loop i).trips) (v58 : IVec S16 32) (v81 : IVec S16 32) (k0_hw71 : k0_chk71 i k0_t1 v58 v81), ∀ (k0_h5 : k0_cond5 i k0_t1 = 1#1), ∀ a x, ((![v58, v81] : Fin 2 → IVec S16 32) a x).toNat < S16x1041.size a := fun i k0_t1 v58 v81 k0_hw71 k0_h5 => k0_hw71 k0_h5

def k0_chk72 (i : grid0.Coords) (k0_t1 : Fin (k0_t1_loop i).trips) (v58 : IVec S16 32) (v84 : IVec S16 32) : Prop :=
  (∀ (k0_h5 : k0_cond5 i k0_t1 = 1#1), ∀ a x, ((![v58, v84] : Fin 2 → IVec S16 32) a x).toNat < S16x1041.size a)
theorem k0_idx72_inb : ∀ (i : grid0.Coords) (k0_t1 : Fin (k0_t1_loop i).trips) (v58 : IVec S16 32) (v84 : IVec S16 32) (k0_hw72 : k0_chk72 i k0_t1 v58 v84), ∀ (k0_h5 : k0_cond5 i k0_t1 = 1#1), ∀ a x, ((![v58, v84] : Fin 2 → IVec S16 32) a x).toNat < S16x1041.size a := fun i k0_t1 v58 v84 k0_hw72 k0_h5 => k0_hw72 k0_h5

def k0_chk73 (i : grid0.Coords) (k0_t1 : Fin (k0_t1_loop i).trips) (v58 : IVec S16 32) (v87 : IVec S16 32) : Prop :=
  (∀ (k0_h5 : k0_cond5 i k0_t1 = 1#1), ∀ a x, ((![v58, v87] : Fin 2 → IVec S16 32) a x).toNat < S16x1041.size a)
theorem k0_idx73_inb : ∀ (i : grid0.Coords) (k0_t1 : Fin (k0_t1_loop i).trips) (v58 : IVec S16 32) (v87 : IVec S16 32) (k0_hw73 : k0_chk73 i k0_t1 v58 v87), ∀ (k0_h5 : k0_cond5 i k0_t1 = 1#1), ∀ a x, ((![v58, v87] : Fin 2 → IVec S16 32) a x).toNat < S16x1041.size a := fun i k0_t1 v58 v87 k0_hw73 k0_h5 => k0_hw73 k0_h5

def k0_chk74 (i : grid0.Coords) (k0_t1 : Fin (k0_t1_loop i).trips) (v58 : IVec S16 32) (v90 : IVec S16 32) : Prop :=
  (∀ (k0_h5 : k0_cond5 i k0_t1 = 1#1), ∀ a x, ((![v58, v90] : Fin 2 → IVec S16 32) a x).toNat < S16x1041.size a)
theorem k0_idx74_inb : ∀ (i : grid0.Coords) (k0_t1 : Fin (k0_t1_loop i).trips) (v58 : IVec S16 32) (v90 : IVec S16 32) (k0_hw74 : k0_chk74 i k0_t1 v58 v90), ∀ (k0_h5 : k0_cond5 i k0_t1 = 1#1), ∀ a x, ((![v58, v90] : Fin 2 → IVec S16 32) a x).toNat < S16x1041.size a := fun i k0_t1 v58 v90 k0_hw74 k0_h5 => k0_hw74 k0_h5

def k0_chk75 (i : grid0.Coords) (k0_t1 : Fin (k0_t1_loop i).trips) (v58 : IVec S16 32) (v93 : IVec S16 32) : Prop :=
  (∀ (k0_h5 : k0_cond5 i k0_t1 = 1#1), ∀ a x, ((![v58, v93] : Fin 2 → IVec S16 32) a x).toNat < S16x1041.size a)
theorem k0_idx75_inb : ∀ (i : grid0.Coords) (k0_t1 : Fin (k0_t1_loop i).trips) (v58 : IVec S16 32) (v93 : IVec S16 32) (k0_hw75 : k0_chk75 i k0_t1 v58 v93), ∀ (k0_h5 : k0_cond5 i k0_t1 = 1#1), ∀ a x, ((![v58, v93] : Fin 2 → IVec S16 32) a x).toNat < S16x1041.size a := fun i k0_t1 v58 v93 k0_hw75 k0_h5 => k0_hw75 k0_h5

def k0_chk76 (i : grid0.Coords) (k0_t1 : Fin (k0_t1_loop i).trips) (v58 : IVec S16 32) (v96 : IVec S16 32) : Prop :=
  (∀ (k0_h5 : k0_cond5 i k0_t1 = 1#1), ∀ a x, ((![v58, v96] : Fin 2 → IVec S16 32) a x).toNat < S16x1041.size a)
theorem k0_idx76_inb : ∀ (i : grid0.Coords) (k0_t1 : Fin (k0_t1_loop i).trips) (v58 : IVec S16 32) (v96 : IVec S16 32) (k0_hw76 : k0_chk76 i k0_t1 v58 v96), ∀ (k0_h5 : k0_cond5 i k0_t1 = 1#1), ∀ a x, ((![v58, v96] : Fin 2 → IVec S16 32) a x).toNat < S16x1041.size a := fun i k0_t1 v58 v96 k0_hw76 k0_h5 => k0_hw76 k0_h5

def k0_chk77 (i : grid0.Coords) (k0_t1 : Fin (k0_t1_loop i).trips) (v58 : IVec S16 32) (v99 : IVec S16 32) : Prop :=
  (∀ (k0_h5 : k0_cond5 i k0_t1 = 1#1), ∀ a x, ((![v58, v99] : Fin 2 → IVec S16 32) a x).toNat < S16x1041.size a)
theorem k0_idx77_inb : ∀ (i : grid0.Coords) (k0_t1 : Fin (k0_t1_loop i).trips) (v58 : IVec S16 32) (v99 : IVec S16 32) (k0_hw77 : k0_chk77 i k0_t1 v58 v99), ∀ (k0_h5 : k0_cond5 i k0_t1 = 1#1), ∀ a x, ((![v58, v99] : Fin 2 → IVec S16 32) a x).toNat < S16x1041.size a := fun i k0_t1 v58 v99 k0_hw77 k0_h5 => k0_hw77 k0_h5

def k0_chk78 (i : grid0.Coords) (k0_t1 : Fin (k0_t1_loop i).trips) (v58 : IVec S16 32) (v102 : IVec S16 32) : Prop :=
  (∀ (k0_h5 : k0_cond5 i k0_t1 = 1#1), ∀ a x, ((![v58, v102] : Fin 2 → IVec S16 32) a x).toNat < S16x1041.size a)
theorem k0_idx78_inb : ∀ (i : grid0.Coords) (k0_t1 : Fin (k0_t1_loop i).trips) (v58 : IVec S16 32) (v102 : IVec S16 32) (k0_hw78 : k0_chk78 i k0_t1 v58 v102), ∀ (k0_h5 : k0_cond5 i k0_t1 = 1#1), ∀ a x, ((![v58, v102] : Fin 2 → IVec S16 32) a x).toNat < S16x1041.size a := fun i k0_t1 v58 v102 k0_hw78 k0_h5 => k0_hw78 k0_h5

def k0_chk79 (i : grid0.Coords) (k0_t1 : Fin (k0_t1_loop i).trips) (v58 : IVec S16 32) (v105 : IVec S16 32) : Prop :=
  (∀ (k0_h5 : k0_cond5 i k0_t1 = 1#1), ∀ a x, ((![v58, v105] : Fin 2 → IVec S16 32) a x).toNat < S16x1041.size a)
theorem k0_idx79_inb : ∀ (i : grid0.Coords) (k0_t1 : Fin (k0_t1_loop i).trips) (v58 : IVec S16 32) (v105 : IVec S16 32) (k0_hw79 : k0_chk79 i k0_t1 v58 v105), ∀ (k0_h5 : k0_cond5 i k0_t1 = 1#1), ∀ a x, ((![v58, v105] : Fin 2 → IVec S16 32) a x).toNat < S16x1041.size a := fun i k0_t1 v58 v105 k0_hw79 k0_h5 => k0_hw79 k0_h5

def k0_chk80 (i : grid0.Coords) (k0_t1 : Fin (k0_t1_loop i).trips) (v58 : IVec S16 32) (v108 : IVec S16 32) : Prop :=
  (∀ (k0_h5 : k0_cond5 i k0_t1 = 1#1), ∀ a x, ((![v58, v108] : Fin 2 → IVec S16 32) a x).toNat < S16x1041.size a)
theorem k0_idx80_inb : ∀ (i : grid0.Coords) (k0_t1 : Fin (k0_t1_loop i).trips) (v58 : IVec S16 32) (v108 : IVec S16 32) (k0_hw80 : k0_chk80 i k0_t1 v58 v108), ∀ (k0_h5 : k0_cond5 i k0_t1 = 1#1), ∀ a x, ((![v58, v108] : Fin 2 → IVec S16 32) a x).toNat < S16x1041.size a := fun i k0_t1 v58 v108 k0_hw80 k0_h5 => k0_hw80 k0_h5
@[reducible] def k0_t5_loop : Scf.Loop 32 :=
  let c1_i32_42 : BitVec 32 := 1#32
  let c7_i32_43 : BitVec 32 := 7#32
  let v110 : BitVec 32 := Scalar.addi c1_i32_42 c7_i32_43
  let c1_i32_44 : BitVec 32 := 1#32
  ⟨c1_i32_42, v110, c1_i32_44⟩

def k0_chk81 (i : grid0.Coords) (k0_t1 : Fin (k0_t1_loop i).trips) (v58 : IVec S16 32) (v152 : IVec S16 32) : Prop :=
  (∀ (k0_h5 : k0_cond5 i k0_t1 = 1#1), ∀ a x, ((![v58, v152] : Fin 2 → IVec S16 32) a x).toNat < S16x1041.size a)
theorem k0_idx81_inb : ∀ (i : grid0.Coords) (k0_t1 : Fin (k0_t1_loop i).trips) (v58 : IVec S16 32) (v152 : IVec S16 32) (k0_hw81 : k0_chk81 i k0_t1 v58 v152), ∀ (k0_h5 : k0_cond5 i k0_t1 = 1#1), ∀ a x, ((![v58, v152] : Fin 2 → IVec S16 32) a x).toNat < S16x1041.size a := fun i k0_t1 v58 v152 k0_hw81 k0_h5 => k0_hw81 k0_h5

def k0_chk82 (i : grid0.Coords) (k0_t1 : Fin (k0_t1_loop i).trips) (v58 : IVec S16 32) (v155 : IVec S16 32) : Prop :=
  (∀ (k0_h5 : k0_cond5 i k0_t1 = 1#1), ∀ a x, ((![v58, v155] : Fin 2 → IVec S16 32) a x).toNat < S16x1041.size a)
theorem k0_idx82_inb : ∀ (i : grid0.Coords) (k0_t1 : Fin (k0_t1_loop i).trips) (v58 : IVec S16 32) (v155 : IVec S16 32) (k0_hw82 : k0_chk82 i k0_t1 v58 v155), ∀ (k0_h5 : k0_cond5 i k0_t1 = 1#1), ∀ a x, ((![v58, v155] : Fin 2 → IVec S16 32) a x).toNat < S16x1041.size a := fun i k0_t1 v58 v155 k0_hw82 k0_h5 => k0_hw82 k0_h5

def k0_chk83 (i : grid0.Coords) (k0_t1 : Fin (k0_t1_loop i).trips) (v58 : IVec S16 32) (v158 : IVec S16 32) : Prop :=
  (∀ (k0_h5 : k0_cond5 i k0_t1 = 1#1), ∀ a x, ((![v58, v158] : Fin 2 → IVec S16 32) a x).toNat < S16x1041.size a)
theorem k0_idx83_inb : ∀ (i : grid0.Coords) (k0_t1 : Fin (k0_t1_loop i).trips) (v58 : IVec S16 32) (v158 : IVec S16 32) (k0_hw83 : k0_chk83 i k0_t1 v58 v158), ∀ (k0_h5 : k0_cond5 i k0_t1 = 1#1), ∀ a x, ((![v58, v158] : Fin 2 → IVec S16 32) a x).toNat < S16x1041.size a := fun i k0_t1 v58 v158 k0_hw83 k0_h5 => k0_hw83 k0_h5

def k0_chk84 (i : grid0.Coords) (k0_t1 : Fin (k0_t1_loop i).trips) (v58 : IVec S16 32) (v161 : IVec S16 32) : Prop :=
  (∀ (k0_h5 : k0_cond5 i k0_t1 = 1#1), ∀ a x, ((![v58, v161] : Fin 2 → IVec S16 32) a x).toNat < S16x1041.size a)
theorem k0_idx84_inb : ∀ (i : grid0.Coords) (k0_t1 : Fin (k0_t1_loop i).trips) (v58 : IVec S16 32) (v161 : IVec S16 32) (k0_hw84 : k0_chk84 i k0_t1 v58 v161), ∀ (k0_h5 : k0_cond5 i k0_t1 = 1#1), ∀ a x, ((![v58, v161] : Fin 2 → IVec S16 32) a x).toNat < S16x1041.size a := fun i k0_t1 v58 v161 k0_hw84 k0_h5 => k0_hw84 k0_h5

def k0_chk85 (i : grid0.Coords) (k0_t1 : Fin (k0_t1_loop i).trips) (v58 : IVec S16 32) (v164 : IVec S16 32) : Prop :=
  (∀ (k0_h5 : k0_cond5 i k0_t1 = 1#1), ∀ a x, ((![v58, v164] : Fin 2 → IVec S16 32) a x).toNat < S16x1041.size a)
theorem k0_idx85_inb : ∀ (i : grid0.Coords) (k0_t1 : Fin (k0_t1_loop i).trips) (v58 : IVec S16 32) (v164 : IVec S16 32) (k0_hw85 : k0_chk85 i k0_t1 v58 v164), ∀ (k0_h5 : k0_cond5 i k0_t1 = 1#1), ∀ a x, ((![v58, v164] : Fin 2 → IVec S16 32) a x).toNat < S16x1041.size a := fun i k0_t1 v58 v164 k0_hw85 k0_h5 => k0_hw85 k0_h5

def k0_chk86 (i : grid0.Coords) (k0_t1 : Fin (k0_t1_loop i).trips) (v58 : IVec S16 32) (v167 : IVec S16 32) : Prop :=
  (∀ (k0_h5 : k0_cond5 i k0_t1 = 1#1), ∀ a x, ((![v58, v167] : Fin 2 → IVec S16 32) a x).toNat < S16x1041.size a)
theorem k0_idx86_inb : ∀ (i : grid0.Coords) (k0_t1 : Fin (k0_t1_loop i).trips) (v58 : IVec S16 32) (v167 : IVec S16 32) (k0_hw86 : k0_chk86 i k0_t1 v58 v167), ∀ (k0_h5 : k0_cond5 i k0_t1 = 1#1), ∀ a x, ((![v58, v167] : Fin 2 → IVec S16 32) a x).toNat < S16x1041.size a := fun i k0_t1 v58 v167 k0_hw86 k0_h5 => k0_hw86 k0_h5

def k0_chk87 (i : grid0.Coords) (k0_t1 : Fin (k0_t1_loop i).trips) (v58 : IVec S16 32) (v170 : IVec S16 32) : Prop :=
  (∀ (k0_h5 : k0_cond5 i k0_t1 = 1#1), ∀ a x, ((![v58, v170] : Fin 2 → IVec S16 32) a x).toNat < S16x1041.size a)
theorem k0_idx87_inb : ∀ (i : grid0.Coords) (k0_t1 : Fin (k0_t1_loop i).trips) (v58 : IVec S16 32) (v170 : IVec S16 32) (k0_hw87 : k0_chk87 i k0_t1 v58 v170), ∀ (k0_h5 : k0_cond5 i k0_t1 = 1#1), ∀ a x, ((![v58, v170] : Fin 2 → IVec S16 32) a x).toNat < S16x1041.size a := fun i k0_t1 v58 v170 k0_hw87 k0_h5 => k0_hw87 k0_h5

def k0_chk88 (i : grid0.Coords) (k0_t1 : Fin (k0_t1_loop i).trips) (v58 : IVec S16 32) (v173 : IVec S16 32) : Prop :=
  (∀ (k0_h5 : k0_cond5 i k0_t1 = 1#1), ∀ a x, ((![v58, v173] : Fin 2 → IVec S16 32) a x).toNat < S16x1041.size a)
theorem k0_idx88_inb : ∀ (i : grid0.Coords) (k0_t1 : Fin (k0_t1_loop i).trips) (v58 : IVec S16 32) (v173 : IVec S16 32) (k0_hw88 : k0_chk88 i k0_t1 v58 v173), ∀ (k0_h5 : k0_cond5 i k0_t1 = 1#1), ∀ a x, ((![v58, v173] : Fin 2 → IVec S16 32) a x).toNat < S16x1041.size a := fun i k0_t1 v58 v173 k0_hw88 k0_h5 => k0_hw88 k0_h5

def k0_chk89 (i : grid0.Coords) (k0_t1 : Fin (k0_t1_loop i).trips) (v58 : IVec S16 32) (v176 : IVec S16 32) : Prop :=
  (∀ (k0_h5 : k0_cond5 i k0_t1 = 1#1), ∀ a x, ((![v58, v176] : Fin 2 → IVec S16 32) a x).toNat < S16x1041.size a)
theorem k0_idx89_inb : ∀ (i : grid0.Coords) (k0_t1 : Fin (k0_t1_loop i).trips) (v58 : IVec S16 32) (v176 : IVec S16 32) (k0_hw89 : k0_chk89 i k0_t1 v58 v176), ∀ (k0_h5 : k0_cond5 i k0_t1 = 1#1), ∀ a x, ((![v58, v176] : Fin 2 → IVec S16 32) a x).toNat < S16x1041.size a := fun i k0_t1 v58 v176 k0_hw89 k0_h5 => k0_hw89 k0_h5

def k0_chk90 (i : grid0.Coords) (k0_t1 : Fin (k0_t1_loop i).trips) (v58 : IVec S16 32) (v179 : IVec S16 32) : Prop :=
  (∀ (k0_h5 : k0_cond5 i k0_t1 = 1#1), ∀ a x, ((![v58, v179] : Fin 2 → IVec S16 32) a x).toNat < S16x1041.size a)
theorem k0_idx90_inb : ∀ (i : grid0.Coords) (k0_t1 : Fin (k0_t1_loop i).trips) (v58 : IVec S16 32) (v179 : IVec S16 32) (k0_hw90 : k0_chk90 i k0_t1 v58 v179), ∀ (k0_h5 : k0_cond5 i k0_t1 = 1#1), ∀ a x, ((![v58, v179] : Fin 2 → IVec S16 32) a x).toNat < S16x1041.size a := fun i k0_t1 v58 v179 k0_hw90 k0_h5 => k0_hw90 k0_h5

def k0_chk91 (i : grid0.Coords) (k0_t1 : Fin (k0_t1_loop i).trips) (v58 : IVec S16 32) (v182 : IVec S16 32) : Prop :=
  (∀ (k0_h5 : k0_cond5 i k0_t1 = 1#1), ∀ a x, ((![v58, v182] : Fin 2 → IVec S16 32) a x).toNat < S16x1041.size a)
theorem k0_idx91_inb : ∀ (i : grid0.Coords) (k0_t1 : Fin (k0_t1_loop i).trips) (v58 : IVec S16 32) (v182 : IVec S16 32) (k0_hw91 : k0_chk91 i k0_t1 v58 v182), ∀ (k0_h5 : k0_cond5 i k0_t1 = 1#1), ∀ a x, ((![v58, v182] : Fin 2 → IVec S16 32) a x).toNat < S16x1041.size a := fun i k0_t1 v58 v182 k0_hw91 k0_h5 => k0_hw91 k0_h5

def k0_chk92 (i : grid0.Coords) (k0_t1 : Fin (k0_t1_loop i).trips) (v58 : IVec S16 32) (v185 : IVec S16 32) : Prop :=
  (∀ (k0_h5 : k0_cond5 i k0_t1 = 1#1), ∀ a x, ((![v58, v185] : Fin 2 → IVec S16 32) a x).toNat < S16x1041.size a)
theorem k0_idx92_inb : ∀ (i : grid0.Coords) (k0_t1 : Fin (k0_t1_loop i).trips) (v58 : IVec S16 32) (v185 : IVec S16 32) (k0_hw92 : k0_chk92 i k0_t1 v58 v185), ∀ (k0_h5 : k0_cond5 i k0_t1 = 1#1), ∀ a x, ((![v58, v185] : Fin 2 → IVec S16 32) a x).toNat < S16x1041.size a := fun i k0_t1 v58 v185 k0_hw92 k0_h5 => k0_hw92 k0_h5

def k0_chk93 (i : grid0.Coords) (k0_t1 : Fin (k0_t1_loop i).trips) (v58 : IVec S16 32) (v188 : IVec S16 32) : Prop :=
  (∀ (k0_h5 : k0_cond5 i k0_t1 = 1#1), ∀ a x, ((![v58, v188] : Fin 2 → IVec S16 32) a x).toNat < S16x1041.size a)
theorem k0_idx93_inb : ∀ (i : grid0.Coords) (k0_t1 : Fin (k0_t1_loop i).trips) (v58 : IVec S16 32) (v188 : IVec S16 32) (k0_hw93 : k0_chk93 i k0_t1 v58 v188), ∀ (k0_h5 : k0_cond5 i k0_t1 = 1#1), ∀ a x, ((![v58, v188] : Fin 2 → IVec S16 32) a x).toNat < S16x1041.size a := fun i k0_t1 v58 v188 k0_hw93 k0_h5 => k0_hw93 k0_h5

def k0_chk94 (i : grid0.Coords) (k0_t1 : Fin (k0_t1_loop i).trips) (v58 : IVec S16 32) (v191 : IVec S16 32) : Prop :=
  (∀ (k0_h5 : k0_cond5 i k0_t1 = 1#1), ∀ a x, ((![v58, v191] : Fin 2 → IVec S16 32) a x).toNat < S16x1041.size a)
theorem k0_idx94_inb : ∀ (i : grid0.Coords) (k0_t1 : Fin (k0_t1_loop i).trips) (v58 : IVec S16 32) (v191 : IVec S16 32) (k0_hw94 : k0_chk94 i k0_t1 v58 v191), ∀ (k0_h5 : k0_cond5 i k0_t1 = 1#1), ∀ a x, ((![v58, v191] : Fin 2 → IVec S16 32) a x).toNat < S16x1041.size a := fun i k0_t1 v58 v191 k0_hw94 k0_h5 => k0_hw94 k0_h5

def k0_chk95 (i : grid0.Coords) (k0_t1 : Fin (k0_t1_loop i).trips) (v58 : IVec S16 32) (v194 : IVec S16 32) : Prop :=
  (∀ (k0_h5 : k0_cond5 i k0_t1 = 1#1), ∀ a x, ((![v58, v194] : Fin 2 → IVec S16 32) a x).toNat < S16x1041.size a)
theorem k0_idx95_inb : ∀ (i : grid0.Coords) (k0_t1 : Fin (k0_t1_loop i).trips) (v58 : IVec S16 32) (v194 : IVec S16 32) (k0_hw95 : k0_chk95 i k0_t1 v58 v194), ∀ (k0_h5 : k0_cond5 i k0_t1 = 1#1), ∀ a x, ((![v58, v194] : Fin 2 → IVec S16 32) a x).toNat < S16x1041.size a := fun i k0_t1 v58 v194 k0_hw95 k0_h5 => k0_hw95 k0_h5

def k0_chk96 (i : grid0.Coords) (k0_t1 : Fin (k0_t1_loop i).trips) (v58 : IVec S16 32) (v197 : IVec S16 32) : Prop :=
  (∀ (k0_h5 : k0_cond5 i k0_t1 = 1#1), ∀ a x, ((![v58, v197] : Fin 2 → IVec S16 32) a x).toNat < S16x1041.size a)
theorem k0_idx96_inb : ∀ (i : grid0.Coords) (k0_t1 : Fin (k0_t1_loop i).trips) (v58 : IVec S16 32) (v197 : IVec S16 32) (k0_hw96 : k0_chk96 i k0_t1 v58 v197), ∀ (k0_h5 : k0_cond5 i k0_t1 = 1#1), ∀ a x, ((![v58, v197] : Fin 2 → IVec S16 32) a x).toNat < S16x1041.size a := fun i k0_t1 v58 v197 k0_hw96 k0_h5 => k0_hw96 k0_h5

def k0_chk97 (i : grid0.Coords) (k0_t1 : Fin (k0_t1_loop i).trips) (v206 : IVec S16 32) : Prop :=
  (∀ (k0_h5 : k0_cond5 i k0_t1 = 1#1), ∀ a x, ((![v206] : Fin 1 → IVec S16 32) a x).toNat < S16384.size a)
theorem k0_idx97_inb : ∀ (i : grid0.Coords) (k0_t1 : Fin (k0_t1_loop i).trips) (v206 : IVec S16 32) (k0_hw97 : k0_chk97 i k0_t1 v206), ∀ (k0_h5 : k0_cond5 i k0_t1 = 1#1), ∀ a x, ((![v206] : Fin 1 → IVec S16 32) a x).toNat < S16384.size a := fun i k0_t1 v206 k0_hw97 k0_h5 => k0_hw97 k0_h5

def k0_chk98 (i : grid0.Coords) (k0_t1 : Fin (k0_t1_loop i).trips) (v208 : IVec S16 32) : Prop :=
  (∀ (k0_h5 : k0_cond5 i k0_t1 = 1#1), ∀ a x, ((![v208] : Fin 1 → IVec S16 32) a x).toNat < S16384.size a)
theorem k0_idx98_inb : ∀ (i : grid0.Coords) (k0_t1 : Fin (k0_t1_loop i).trips) (v208 : IVec S16 32) (k0_hw98 : k0_chk98 i k0_t1 v208), ∀ (k0_h5 : k0_cond5 i k0_t1 = 1#1), ∀ a x, ((![v208] : Fin 1 → IVec S16 32) a x).toNat < S16384.size a := fun i k0_t1 v208 k0_hw98 k0_h5 => k0_hw98 k0_h5

def k0_chk99 (i : grid0.Coords) (k0_t1 : Fin (k0_t1_loop i).trips) (v210 : IVec S16 32) : Prop :=
  (∀ (k0_h5 : k0_cond5 i k0_t1 = 1#1), ∀ a x, ((![v210] : Fin 1 → IVec S16 32) a x).toNat < S16384.size a)
theorem k0_idx99_inb : ∀ (i : grid0.Coords) (k0_t1 : Fin (k0_t1_loop i).trips) (v210 : IVec S16 32) (k0_hw99 : k0_chk99 i k0_t1 v210), ∀ (k0_h5 : k0_cond5 i k0_t1 = 1#1), ∀ a x, ((![v210] : Fin 1 → IVec S16 32) a x).toNat < S16384.size a := fun i k0_t1 v210 k0_hw99 k0_h5 => k0_hw99 k0_h5

def k0_chk100 (i : grid0.Coords) (k0_t1 : Fin (k0_t1_loop i).trips) (v212 : IVec S16 32) : Prop :=
  (∀ (k0_h5 : k0_cond5 i k0_t1 = 1#1), ∀ a x, ((![v212] : Fin 1 → IVec S16 32) a x).toNat < S16384.size a)
theorem k0_idx100_inb : ∀ (i : grid0.Coords) (k0_t1 : Fin (k0_t1_loop i).trips) (v212 : IVec S16 32) (k0_hw100 : k0_chk100 i k0_t1 v212), ∀ (k0_h5 : k0_cond5 i k0_t1 = 1#1), ∀ a x, ((![v212] : Fin 1 → IVec S16 32) a x).toNat < S16384.size a := fun i k0_t1 v212 k0_hw100 k0_h5 => k0_hw100 k0_h5

def k0_chk101 (i : grid0.Coords) (k0_t1 : Fin (k0_t1_loop i).trips) (v214 : IVec S16 32) : Prop :=
  (∀ (k0_h5 : k0_cond5 i k0_t1 = 1#1), ∀ a x, ((![v214] : Fin 1 → IVec S16 32) a x).toNat < S16384.size a)
theorem k0_idx101_inb : ∀ (i : grid0.Coords) (k0_t1 : Fin (k0_t1_loop i).trips) (v214 : IVec S16 32) (k0_hw101 : k0_chk101 i k0_t1 v214), ∀ (k0_h5 : k0_cond5 i k0_t1 = 1#1), ∀ a x, ((![v214] : Fin 1 → IVec S16 32) a x).toNat < S16384.size a := fun i k0_t1 v214 k0_hw101 k0_h5 => k0_hw101 k0_h5

def k0_chk102 (i : grid0.Coords) (k0_t1 : Fin (k0_t1_loop i).trips) (v216 : IVec S16 32) : Prop :=
  (∀ (k0_h5 : k0_cond5 i k0_t1 = 1#1), ∀ a x, ((![v216] : Fin 1 → IVec S16 32) a x).toNat < S16384.size a)
theorem k0_idx102_inb : ∀ (i : grid0.Coords) (k0_t1 : Fin (k0_t1_loop i).trips) (v216 : IVec S16 32) (k0_hw102 : k0_chk102 i k0_t1 v216), ∀ (k0_h5 : k0_cond5 i k0_t1 = 1#1), ∀ a x, ((![v216] : Fin 1 → IVec S16 32) a x).toNat < S16384.size a := fun i k0_t1 v216 k0_hw102 k0_h5 => k0_hw102 k0_h5

def k0_chk103 (i : grid0.Coords) (k0_t1 : Fin (k0_t1_loop i).trips) (v218 : IVec S16 32) : Prop :=
  (∀ (k0_h5 : k0_cond5 i k0_t1 = 1#1), ∀ a x, ((![v218] : Fin 1 → IVec S16 32) a x).toNat < S16384.size a)
theorem k0_idx103_inb : ∀ (i : grid0.Coords) (k0_t1 : Fin (k0_t1_loop i).trips) (v218 : IVec S16 32) (k0_hw103 : k0_chk103 i k0_t1 v218), ∀ (k0_h5 : k0_cond5 i k0_t1 = 1#1), ∀ a x, ((![v218] : Fin 1 → IVec S16 32) a x).toNat < S16384.size a := fun i k0_t1 v218 k0_hw103 k0_h5 => k0_hw103 k0_h5

def k0_chk104 (i : grid0.Coords) (k0_t1 : Fin (k0_t1_loop i).trips) (v220 : IVec S16 32) : Prop :=
  (∀ (k0_h5 : k0_cond5 i k0_t1 = 1#1), ∀ a x, ((![v220] : Fin 1 → IVec S16 32) a x).toNat < S16384.size a)
theorem k0_idx104_inb : ∀ (i : grid0.Coords) (k0_t1 : Fin (k0_t1_loop i).trips) (v220 : IVec S16 32) (k0_hw104 : k0_chk104 i k0_t1 v220), ∀ (k0_h5 : k0_cond5 i k0_t1 = 1#1), ∀ a x, ((![v220] : Fin 1 → IVec S16 32) a x).toNat < S16384.size a := fun i k0_t1 v220 k0_hw104 k0_h5 => k0_hw104 k0_h5

def k0_chk105 (i : grid0.Coords) (k0_t1 : Fin (k0_t1_loop i).trips) (v222 : IVec S16 32) : Prop :=
  (∀ (k0_h5 : k0_cond5 i k0_t1 = 1#1), ∀ a x, ((![v222] : Fin 1 → IVec S16 32) a x).toNat < S16384.size a)
theorem k0_idx105_inb : ∀ (i : grid0.Coords) (k0_t1 : Fin (k0_t1_loop i).trips) (v222 : IVec S16 32) (k0_hw105 : k0_chk105 i k0_t1 v222), ∀ (k0_h5 : k0_cond5 i k0_t1 = 1#1), ∀ a x, ((![v222] : Fin 1 → IVec S16 32) a x).toNat < S16384.size a := fun i k0_t1 v222 k0_hw105 k0_h5 => k0_hw105 k0_h5

def k0_chk106 (i : grid0.Coords) (k0_t1 : Fin (k0_t1_loop i).trips) (v224 : IVec S16 32) : Prop :=
  (∀ (k0_h5 : k0_cond5 i k0_t1 = 1#1), ∀ a x, ((![v224] : Fin 1 → IVec S16 32) a x).toNat < S16384.size a)
theorem k0_idx106_inb : ∀ (i : grid0.Coords) (k0_t1 : Fin (k0_t1_loop i).trips) (v224 : IVec S16 32) (k0_hw106 : k0_chk106 i k0_t1 v224), ∀ (k0_h5 : k0_cond5 i k0_t1 = 1#1), ∀ a x, ((![v224] : Fin 1 → IVec S16 32) a x).toNat < S16384.size a := fun i k0_t1 v224 k0_hw106 k0_h5 => k0_hw106 k0_h5

def k0_chk107 (i : grid0.Coords) (k0_t1 : Fin (k0_t1_loop i).trips) (v226 : IVec S16 32) : Prop :=
  (∀ (k0_h5 : k0_cond5 i k0_t1 = 1#1), ∀ a x, ((![v226] : Fin 1 → IVec S16 32) a x).toNat < S16384.size a)
theorem k0_idx107_inb : ∀ (i : grid0.Coords) (k0_t1 : Fin (k0_t1_loop i).trips) (v226 : IVec S16 32) (k0_hw107 : k0_chk107 i k0_t1 v226), ∀ (k0_h5 : k0_cond5 i k0_t1 = 1#1), ∀ a x, ((![v226] : Fin 1 → IVec S16 32) a x).toNat < S16384.size a := fun i k0_t1 v226 k0_hw107 k0_h5 => k0_hw107 k0_h5

def k0_chk108 (i : grid0.Coords) (k0_t1 : Fin (k0_t1_loop i).trips) (v228 : IVec S16 32) : Prop :=
  (∀ (k0_h5 : k0_cond5 i k0_t1 = 1#1), ∀ a x, ((![v228] : Fin 1 → IVec S16 32) a x).toNat < S16384.size a)
theorem k0_idx108_inb : ∀ (i : grid0.Coords) (k0_t1 : Fin (k0_t1_loop i).trips) (v228 : IVec S16 32) (k0_hw108 : k0_chk108 i k0_t1 v228), ∀ (k0_h5 : k0_cond5 i k0_t1 = 1#1), ∀ a x, ((![v228] : Fin 1 → IVec S16 32) a x).toNat < S16384.size a := fun i k0_t1 v228 k0_hw108 k0_h5 => k0_hw108 k0_h5

def k0_chk109 (i : grid0.Coords) (k0_t1 : Fin (k0_t1_loop i).trips) (v230 : IVec S16 32) : Prop :=
  (∀ (k0_h5 : k0_cond5 i k0_t1 = 1#1), ∀ a x, ((![v230] : Fin 1 → IVec S16 32) a x).toNat < S16384.size a)
theorem k0_idx109_inb : ∀ (i : grid0.Coords) (k0_t1 : Fin (k0_t1_loop i).trips) (v230 : IVec S16 32) (k0_hw109 : k0_chk109 i k0_t1 v230), ∀ (k0_h5 : k0_cond5 i k0_t1 = 1#1), ∀ a x, ((![v230] : Fin 1 → IVec S16 32) a x).toNat < S16384.size a := fun i k0_t1 v230 k0_hw109 k0_h5 => k0_hw109 k0_h5

def k0_chk110 (i : grid0.Coords) (k0_t1 : Fin (k0_t1_loop i).trips) (v232 : IVec S16 32) : Prop :=
  (∀ (k0_h5 : k0_cond5 i k0_t1 = 1#1), ∀ a x, ((![v232] : Fin 1 → IVec S16 32) a x).toNat < S16384.size a)
theorem k0_idx110_inb : ∀ (i : grid0.Coords) (k0_t1 : Fin (k0_t1_loop i).trips) (v232 : IVec S16 32) (k0_hw110 : k0_chk110 i k0_t1 v232), ∀ (k0_h5 : k0_cond5 i k0_t1 = 1#1), ∀ a x, ((![v232] : Fin 1 → IVec S16 32) a x).toNat < S16384.size a := fun i k0_t1 v232 k0_hw110 k0_h5 => k0_hw110 k0_h5

def k0_chk111 (i : grid0.Coords) (k0_t1 : Fin (k0_t1_loop i).trips) (v234 : IVec S16 32) : Prop :=
  (∀ (k0_h5 : k0_cond5 i k0_t1 = 1#1), ∀ a x, ((![v234] : Fin 1 → IVec S16 32) a x).toNat < S16384.size a)
theorem k0_idx111_inb : ∀ (i : grid0.Coords) (k0_t1 : Fin (k0_t1_loop i).trips) (v234 : IVec S16 32) (k0_hw111 : k0_chk111 i k0_t1 v234), ∀ (k0_h5 : k0_cond5 i k0_t1 = 1#1), ∀ a x, ((![v234] : Fin 1 → IVec S16 32) a x).toNat < S16384.size a := fun i k0_t1 v234 k0_hw111 k0_h5 => k0_hw111 k0_h5

def k0_chk112 (i : grid0.Coords) (k0_t1 : Fin (k0_t1_loop i).trips) (v236 : IVec S16 32) : Prop :=
  (∀ (k0_h5 : k0_cond5 i k0_t1 = 1#1), ∀ a x, ((![v236] : Fin 1 → IVec S16 32) a x).toNat < S16384.size a)
theorem k0_idx112_inb : ∀ (i : grid0.Coords) (k0_t1 : Fin (k0_t1_loop i).trips) (v236 : IVec S16 32) (k0_hw112 : k0_chk112 i k0_t1 v236), ∀ (k0_h5 : k0_cond5 i k0_t1 = 1#1), ∀ a x, ((![v236] : Fin 1 → IVec S16 32) a x).toNat < S16384.size a := fun i k0_t1 v236 k0_hw112 k0_h5 => k0_hw112 k0_h5

def k0_chk113 (i : grid0.Coords) (k0_t1 : Fin (k0_t1_loop i).trips) (v117 : IVec S16 32) : Prop :=
  (∀ (k0_h5 : k0_cond5 i k0_t1 = 1#1), ∀ a x, ((![v117] : Fin 1 → IVec S16 32) a x).toNat < S16384.size a)
theorem k0_idx113_inb : ∀ (i : grid0.Coords) (k0_t1 : Fin (k0_t1_loop i).trips) (v117 : IVec S16 32) (k0_hw113 : k0_chk113 i k0_t1 v117), ∀ (k0_h5 : k0_cond5 i k0_t1 = 1#1), ∀ a x, ((![v117] : Fin 1 → IVec S16 32) a x).toNat < S16384.size a := fun i k0_t1 v117 k0_hw113 k0_h5 => k0_hw113 k0_h5

def k0_chk114 (i : grid0.Coords) (k0_t1 : Fin (k0_t1_loop i).trips) (v119 : IVec S16 32) : Prop :=
  (∀ (k0_h5 : k0_cond5 i k0_t1 = 1#1), ∀ a x, ((![v119] : Fin 1 → IVec S16 32) a x).toNat < S16384.size a)
theorem k0_idx114_inb : ∀ (i : grid0.Coords) (k0_t1 : Fin (k0_t1_loop i).trips) (v119 : IVec S16 32) (k0_hw114 : k0_chk114 i k0_t1 v119), ∀ (k0_h5 : k0_cond5 i k0_t1 = 1#1), ∀ a x, ((![v119] : Fin 1 → IVec S16 32) a x).toNat < S16384.size a := fun i k0_t1 v119 k0_hw114 k0_h5 => k0_hw114 k0_h5

def k0_chk115 (i : grid0.Coords) (k0_t1 : Fin (k0_t1_loop i).trips) (v121 : IVec S16 32) : Prop :=
  (∀ (k0_h5 : k0_cond5 i k0_t1 = 1#1), ∀ a x, ((![v121] : Fin 1 → IVec S16 32) a x).toNat < S16384.size a)
theorem k0_idx115_inb : ∀ (i : grid0.Coords) (k0_t1 : Fin (k0_t1_loop i).trips) (v121 : IVec S16 32) (k0_hw115 : k0_chk115 i k0_t1 v121), ∀ (k0_h5 : k0_cond5 i k0_t1 = 1#1), ∀ a x, ((![v121] : Fin 1 → IVec S16 32) a x).toNat < S16384.size a := fun i k0_t1 v121 k0_hw115 k0_h5 => k0_hw115 k0_h5

def k0_chk116 (i : grid0.Coords) (k0_t1 : Fin (k0_t1_loop i).trips) (v123 : IVec S16 32) : Prop :=
  (∀ (k0_h5 : k0_cond5 i k0_t1 = 1#1), ∀ a x, ((![v123] : Fin 1 → IVec S16 32) a x).toNat < S16384.size a)
theorem k0_idx116_inb : ∀ (i : grid0.Coords) (k0_t1 : Fin (k0_t1_loop i).trips) (v123 : IVec S16 32) (k0_hw116 : k0_chk116 i k0_t1 v123), ∀ (k0_h5 : k0_cond5 i k0_t1 = 1#1), ∀ a x, ((![v123] : Fin 1 → IVec S16 32) a x).toNat < S16384.size a := fun i k0_t1 v123 k0_hw116 k0_h5 => k0_hw116 k0_h5

def k0_chk117 (i : grid0.Coords) (k0_t1 : Fin (k0_t1_loop i).trips) (v125 : IVec S16 32) : Prop :=
  (∀ (k0_h5 : k0_cond5 i k0_t1 = 1#1), ∀ a x, ((![v125] : Fin 1 → IVec S16 32) a x).toNat < S16384.size a)
theorem k0_idx117_inb : ∀ (i : grid0.Coords) (k0_t1 : Fin (k0_t1_loop i).trips) (v125 : IVec S16 32) (k0_hw117 : k0_chk117 i k0_t1 v125), ∀ (k0_h5 : k0_cond5 i k0_t1 = 1#1), ∀ a x, ((![v125] : Fin 1 → IVec S16 32) a x).toNat < S16384.size a := fun i k0_t1 v125 k0_hw117 k0_h5 => k0_hw117 k0_h5

def k0_chk118 (i : grid0.Coords) (k0_t1 : Fin (k0_t1_loop i).trips) (v127 : IVec S16 32) : Prop :=
  (∀ (k0_h5 : k0_cond5 i k0_t1 = 1#1), ∀ a x, ((![v127] : Fin 1 → IVec S16 32) a x).toNat < S16384.size a)
theorem k0_idx118_inb : ∀ (i : grid0.Coords) (k0_t1 : Fin (k0_t1_loop i).trips) (v127 : IVec S16 32) (k0_hw118 : k0_chk118 i k0_t1 v127), ∀ (k0_h5 : k0_cond5 i k0_t1 = 1#1), ∀ a x, ((![v127] : Fin 1 → IVec S16 32) a x).toNat < S16384.size a := fun i k0_t1 v127 k0_hw118 k0_h5 => k0_hw118 k0_h5

def k0_chk119 (i : grid0.Coords) (k0_t1 : Fin (k0_t1_loop i).trips) (v129 : IVec S16 32) : Prop :=
  (∀ (k0_h5 : k0_cond5 i k0_t1 = 1#1), ∀ a x, ((![v129] : Fin 1 → IVec S16 32) a x).toNat < S16384.size a)
theorem k0_idx119_inb : ∀ (i : grid0.Coords) (k0_t1 : Fin (k0_t1_loop i).trips) (v129 : IVec S16 32) (k0_hw119 : k0_chk119 i k0_t1 v129), ∀ (k0_h5 : k0_cond5 i k0_t1 = 1#1), ∀ a x, ((![v129] : Fin 1 → IVec S16 32) a x).toNat < S16384.size a := fun i k0_t1 v129 k0_hw119 k0_h5 => k0_hw119 k0_h5

def k0_chk120 (i : grid0.Coords) (k0_t1 : Fin (k0_t1_loop i).trips) (v131 : IVec S16 32) : Prop :=
  (∀ (k0_h5 : k0_cond5 i k0_t1 = 1#1), ∀ a x, ((![v131] : Fin 1 → IVec S16 32) a x).toNat < S16384.size a)
theorem k0_idx120_inb : ∀ (i : grid0.Coords) (k0_t1 : Fin (k0_t1_loop i).trips) (v131 : IVec S16 32) (k0_hw120 : k0_chk120 i k0_t1 v131), ∀ (k0_h5 : k0_cond5 i k0_t1 = 1#1), ∀ a x, ((![v131] : Fin 1 → IVec S16 32) a x).toNat < S16384.size a := fun i k0_t1 v131 k0_hw120 k0_h5 => k0_hw120 k0_h5

def k0_chk121 (i : grid0.Coords) (k0_t1 : Fin (k0_t1_loop i).trips) (v133 : IVec S16 32) : Prop :=
  (∀ (k0_h5 : k0_cond5 i k0_t1 = 1#1), ∀ a x, ((![v133] : Fin 1 → IVec S16 32) a x).toNat < S16384.size a)
theorem k0_idx121_inb : ∀ (i : grid0.Coords) (k0_t1 : Fin (k0_t1_loop i).trips) (v133 : IVec S16 32) (k0_hw121 : k0_chk121 i k0_t1 v133), ∀ (k0_h5 : k0_cond5 i k0_t1 = 1#1), ∀ a x, ((![v133] : Fin 1 → IVec S16 32) a x).toNat < S16384.size a := fun i k0_t1 v133 k0_hw121 k0_h5 => k0_hw121 k0_h5

def k0_chk122 (i : grid0.Coords) (k0_t1 : Fin (k0_t1_loop i).trips) (v135 : IVec S16 32) : Prop :=
  (∀ (k0_h5 : k0_cond5 i k0_t1 = 1#1), ∀ a x, ((![v135] : Fin 1 → IVec S16 32) a x).toNat < S16384.size a)
theorem k0_idx122_inb : ∀ (i : grid0.Coords) (k0_t1 : Fin (k0_t1_loop i).trips) (v135 : IVec S16 32) (k0_hw122 : k0_chk122 i k0_t1 v135), ∀ (k0_h5 : k0_cond5 i k0_t1 = 1#1), ∀ a x, ((![v135] : Fin 1 → IVec S16 32) a x).toNat < S16384.size a := fun i k0_t1 v135 k0_hw122 k0_h5 => k0_hw122 k0_h5

def k0_chk123 (i : grid0.Coords) (k0_t1 : Fin (k0_t1_loop i).trips) (v137 : IVec S16 32) : Prop :=
  (∀ (k0_h5 : k0_cond5 i k0_t1 = 1#1), ∀ a x, ((![v137] : Fin 1 → IVec S16 32) a x).toNat < S16384.size a)
theorem k0_idx123_inb : ∀ (i : grid0.Coords) (k0_t1 : Fin (k0_t1_loop i).trips) (v137 : IVec S16 32) (k0_hw123 : k0_chk123 i k0_t1 v137), ∀ (k0_h5 : k0_cond5 i k0_t1 = 1#1), ∀ a x, ((![v137] : Fin 1 → IVec S16 32) a x).toNat < S16384.size a := fun i k0_t1 v137 k0_hw123 k0_h5 => k0_hw123 k0_h5

def k0_chk124 (i : grid0.Coords) (k0_t1 : Fin (k0_t1_loop i).trips) (v139 : IVec S16 32) : Prop :=
  (∀ (k0_h5 : k0_cond5 i k0_t1 = 1#1), ∀ a x, ((![v139] : Fin 1 → IVec S16 32) a x).toNat < S16384.size a)
theorem k0_idx124_inb : ∀ (i : grid0.Coords) (k0_t1 : Fin (k0_t1_loop i).trips) (v139 : IVec S16 32) (k0_hw124 : k0_chk124 i k0_t1 v139), ∀ (k0_h5 : k0_cond5 i k0_t1 = 1#1), ∀ a x, ((![v139] : Fin 1 → IVec S16 32) a x).toNat < S16384.size a := fun i k0_t1 v139 k0_hw124 k0_h5 => k0_hw124 k0_h5

def k0_chk125 (i : grid0.Coords) (k0_t1 : Fin (k0_t1_loop i).trips) (v141 : IVec S16 32) : Prop :=
  (∀ (k0_h5 : k0_cond5 i k0_t1 = 1#1), ∀ a x, ((![v141] : Fin 1 → IVec S16 32) a x).toNat < S16384.size a)
theorem k0_idx125_inb : ∀ (i : grid0.Coords) (k0_t1 : Fin (k0_t1_loop i).trips) (v141 : IVec S16 32) (k0_hw125 : k0_chk125 i k0_t1 v141), ∀ (k0_h5 : k0_cond5 i k0_t1 = 1#1), ∀ a x, ((![v141] : Fin 1 → IVec S16 32) a x).toNat < S16384.size a := fun i k0_t1 v141 k0_hw125 k0_h5 => k0_hw125 k0_h5

def k0_chk126 (i : grid0.Coords) (k0_t1 : Fin (k0_t1_loop i).trips) (v143 : IVec S16 32) : Prop :=
  (∀ (k0_h5 : k0_cond5 i k0_t1 = 1#1), ∀ a x, ((![v143] : Fin 1 → IVec S16 32) a x).toNat < S16384.size a)
theorem k0_idx126_inb : ∀ (i : grid0.Coords) (k0_t1 : Fin (k0_t1_loop i).trips) (v143 : IVec S16 32) (k0_hw126 : k0_chk126 i k0_t1 v143), ∀ (k0_h5 : k0_cond5 i k0_t1 = 1#1), ∀ a x, ((![v143] : Fin 1 → IVec S16 32) a x).toNat < S16384.size a := fun i k0_t1 v143 k0_hw126 k0_h5 => k0_hw126 k0_h5

def k0_chk127 (i : grid0.Coords) (k0_t1 : Fin (k0_t1_loop i).trips) (v145 : IVec S16 32) : Prop :=
  (∀ (k0_h5 : k0_cond5 i k0_t1 = 1#1), ∀ a x, ((![v145] : Fin 1 → IVec S16 32) a x).toNat < S16384.size a)
theorem k0_idx127_inb : ∀ (i : grid0.Coords) (k0_t1 : Fin (k0_t1_loop i).trips) (v145 : IVec S16 32) (k0_hw127 : k0_chk127 i k0_t1 v145), ∀ (k0_h5 : k0_cond5 i k0_t1 = 1#1), ∀ a x, ((![v145] : Fin 1 → IVec S16 32) a x).toNat < S16384.size a := fun i k0_t1 v145 k0_hw127 k0_h5 => k0_hw127 k0_h5

def k0_chk128 (i : grid0.Coords) (k0_t1 : Fin (k0_t1_loop i).trips) (v147 : IVec S16 32) : Prop :=
  (∀ (k0_h5 : k0_cond5 i k0_t1 = 1#1), ∀ a x, ((![v147] : Fin 1 → IVec S16 32) a x).toNat < S16384.size a)
theorem k0_idx128_inb : ∀ (i : grid0.Coords) (k0_t1 : Fin (k0_t1_loop i).trips) (v147 : IVec S16 32) (k0_hw128 : k0_chk128 i k0_t1 v147), ∀ (k0_h5 : k0_cond5 i k0_t1 = 1#1), ∀ a x, ((![v147] : Fin 1 → IVec S16 32) a x).toNat < S16384.size a := fun i k0_t1 v147 k0_hw128 k0_h5 => k0_hw128 k0_h5
def k0_mult12 (i : grid0.Coords) (k0_t1 : Fin (k0_t1_loop i).trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_3 : BitVec 32 := 0#32
  let c1_i32_5 : BitVec 32 := 1#32
  let arg13 : BitVec 32 := Scf.iv c0_i32_3 c1_i32_5 k0_t1
  let c32_i32_34 : BitVec 32 := 32#32
  let v49 : BitVec 32 := Scalar.muli arg13 c32_i32_34
  let v50 : BitVec 32 := Scalar.addi v1 v49
  let c1024_i32_35 : BitVec 32 := 1024#32
  let v51 : BitVec 32 := Scalar.muli v50 c1024_i32_35
  v51
def k0_mult13 (i : grid0.Coords) (k0_t1 : Fin (k0_t1_loop i).trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_3 : BitVec 32 := 0#32
  let c1_i32_5 : BitVec 32 := 1#32
  let arg13 : BitVec 32 := Scf.iv c0_i32_3 c1_i32_5 k0_t1
  let c32_i32_34 : BitVec 32 := 32#32
  let v49 : BitVec 32 := Scalar.muli arg13 c32_i32_34
  let v50 : BitVec 32 := Scalar.addi v1 v49
  let c1024_i32_35 : BitVec 32 := 1024#32
  let v51 : BitVec 32 := Scalar.muli v50 c1024_i32_35
  let v52 : BitVec 32 := v51
  let c16_i32_36 : BitVec 32 := 16#32
  let v53 : BitVec 32 := Scalar.muli v52 c16_i32_36
  v53
def k0_off9 (i : grid0.Coords) (k0_t1 : Fin (k0_t1_loop i).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_3 : BitVec 32 := 0#32
  let c1_i32_5 : BitVec 32 := 1#32
  let arg13 : BitVec 32 := Scf.iv c0_i32_3 c1_i32_5 k0_t1
  let c32_i32_34 : BitVec 32 := 32#32
  let v49 : BitVec 32 := Scalar.muli arg13 c32_i32_34
  let v50 : BitVec 32 := Scalar.addi v1 v49
  let c1024_i32_35 : BitVec 32 := 1024#32
  let v51 : BitVec 32 := Scalar.muli v50 c1024_i32_35
  let v52 : BitVec 32 := v51
  let c16_i32_36 : BitVec 32 := 16#32
  let v53 : BitVec 32 := Scalar.muli v52 c16_i32_36
  let v54 : BitVec 32 := v53
  ![v54.toNat]
@[reducible] def k0_t6_loop (i : grid0.Coords) : Scf.Loop 32 :=
  let c0_i32_3 : BitVec 32 := 0#32
  let c30_i32 : BitVec 32 := 30#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v4 : BitVec 32 := Scalar.addi c30_i32 v3
  let v8 : BitVec 32 := Scalar.subi v4 c0_i32_3
  let c1_i32_4 : BitVec 32 := 1#32
  let v10 : BitVec 32 := Scalar.divsi v8 c1_i32_4
  let v11 : BitVec 32 := Scalar.muli v10 c1_i32_4
  let v12 : BitVec 32 := Scalar.addi c0_i32_3 v11
  let v9 : BitVec 32 := Scalar.addi c0_i32_3 v8
  let c1_i32_6 : BitVec 32 := 1#32
  ⟨v12, v9, c1_i32_6⟩
def k0_cond8 (i : grid0.Coords) (k0_t6 : Fin (k0_t6_loop i).trips) : BitVec 1 :=
  let c0_i32_3 : BitVec 32 := 0#32
  let c30_i32 : BitVec 32 := 30#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v4 : BitVec 32 := Scalar.addi c30_i32 v3
  let v8 : BitVec 32 := Scalar.subi v4 c0_i32_3
  let c1_i32_4 : BitVec 32 := 1#32
  let v10 : BitVec 32 := Scalar.divsi v8 c1_i32_4
  let v11 : BitVec 32 := Scalar.muli v10 c1_i32_4
  let v12 : BitVec 32 := Scalar.addi c0_i32_3 v11
  let c1_i32_6 : BitVec 32 := 1#32
  let arg13 : BitVec 32 := Scf.iv v12 c1_i32_6 k0_t6
  let c2_i32_14 : BitVec 32 := 2#32
  let v25 : BitVec 32 := Scalar.remsi arg13 c2_i32_14
  let c0_i32_15 : BitVec 32 := 0#32
  let v26 : BitVec 1 := Scalar.cmpi .eq v25 c0_i32_15
  let v27 : BitVec 32 := Scalar.extui v26
  let c0_i32_16 : BitVec 32 := 0#32
  let v28 : BitVec 1 := Scalar.cmpi .ne v27 c0_i32_16
  v28

def k0_cond9 (i : grid0.Coords) (k0_t6 : Fin (k0_t6_loop i).trips) : BitVec 1 :=
  let c0_i32_3 : BitVec 32 := 0#32
  let c30_i32 : BitVec 32 := 30#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v4 : BitVec 32 := Scalar.addi c30_i32 v3
  let v8 : BitVec 32 := Scalar.subi v4 c0_i32_3
  let c1_i32_4 : BitVec 32 := 1#32
  let v10 : BitVec 32 := Scalar.divsi v8 c1_i32_4
  let v11 : BitVec 32 := Scalar.muli v10 c1_i32_4
  let v12 : BitVec 32 := Scalar.addi c0_i32_3 v11
  let c1_i32_6 : BitVec 32 := 1#32
  let arg13 : BitVec 32 := Scf.iv v12 c1_i32_6 k0_t6
  let c1_i32_20 : BitVec 32 := 1#32
  let v33 : BitVec 32 := Scalar.addi arg13 c1_i32_20
  let v34 : BitVec 1 := Scalar.cmpi .slt v33 v4
  let v35 : BitVec 32 := Scalar.extui v34
  let c0_i32_21 : BitVec 32 := 0#32
  let v36 : BitVec 1 := Scalar.cmpi .ne v35 c0_i32_21
  v36

def k0_mult14 (i : grid0.Coords) (k0_t6 : Fin (k0_t6_loop i).trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_3 : BitVec 32 := 0#32
  let c30_i32 : BitVec 32 := 30#32
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v4 : BitVec 32 := Scalar.addi c30_i32 v3
  let v8 : BitVec 32 := Scalar.subi v4 c0_i32_3
  let c1_i32_4 : BitVec 32 := 1#32
  let v10 : BitVec 32 := Scalar.divsi v8 c1_i32_4
  let v11 : BitVec 32 := Scalar.muli v10 c1_i32_4
  let v12 : BitVec 32 := Scalar.addi c0_i32_3 v11
  let c1_i32_6 : BitVec 32 := 1#32
  let arg13 : BitVec 32 := Scf.iv v12 c1_i32_6 k0_t6
  let c1_i32_37 : BitVec 32 := 1#32
  let v57 : BitVec 32 := Scalar.addi arg13 c1_i32_37
  let c32_i32_38 : BitVec 32 := 32#32
  let v58 : BitVec 32 := Scalar.muli v57 c32_i32_38
  let v59 : BitVec 32 := Scalar.addi v1 v58
  let c1024_i32_39 : BitVec 32 := 1024#32
  let v60 : BitVec 32 := Scalar.muli v59 c1024_i32_39
  v60
def k0_off10 (i : grid0.Coords) (k0_t6 : Fin (k0_t6_loop i).trips) : Fin 2 → Nat :=
  let c0_i32_42 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_3 : BitVec 32 := 0#32
  let c30_i32 : BitVec 32 := 30#32
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v4 : BitVec 32 := Scalar.addi c30_i32 v3
  let v8 : BitVec 32 := Scalar.subi v4 c0_i32_3
  let c1_i32_4 : BitVec 32 := 1#32
  let v10 : BitVec 32 := Scalar.divsi v8 c1_i32_4
  let v11 : BitVec 32 := Scalar.muli v10 c1_i32_4
  let v12 : BitVec 32 := Scalar.addi c0_i32_3 v11
  let c1_i32_6 : BitVec 32 := 1#32
  let arg13 : BitVec 32 := Scf.iv v12 c1_i32_6 k0_t6
  let c1_i32_37 : BitVec 32 := 1#32
  let v57 : BitVec 32 := Scalar.addi arg13 c1_i32_37
  let c32_i32_38 : BitVec 32 := 32#32
  let v58 : BitVec 32 := Scalar.muli v57 c32_i32_38
  let v59 : BitVec 32 := Scalar.addi v1 v58
  let c1024_i32_39 : BitVec 32 := 1024#32
  let v60 : BitVec 32 := Scalar.muli v59 c1024_i32_39
  let v61 : BitVec 32 := v60
  ![0, v61.toNat]
def k0_cond10 (i : grid0.Coords) (k0_t6 : Fin (k0_t6_loop i).trips) : BitVec 1 :=
  let c0_i32_3 : BitVec 32 := 0#32
  let c30_i32 : BitVec 32 := 30#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v4 : BitVec 32 := Scalar.addi c30_i32 v3
  let v8 : BitVec 32 := Scalar.subi v4 c0_i32_3
  let c1_i32_4 : BitVec 32 := 1#32
  let v10 : BitVec 32 := Scalar.divsi v8 c1_i32_4
  let v11 : BitVec 32 := Scalar.muli v10 c1_i32_4
  let v12 : BitVec 32 := Scalar.addi c0_i32_3 v11
  let c1_i32_6 : BitVec 32 := 1#32
  let arg13 : BitVec 32 := Scf.iv v12 c1_i32_6 k0_t6
  let c2_i32_22 : BitVec 32 := 2#32
  let v37 : BitVec 1 := Scalar.cmpi .sge arg13 c2_i32_22
  let v38 : BitVec 32 := Scalar.extui v37
  let c0_i32_23 : BitVec 32 := 0#32
  let v39 : BitVec 1 := Scalar.cmpi .ne v38 c0_i32_23
  v39

def k0_mult15 (i : grid0.Coords) (k0_t6 : Fin (k0_t6_loop i).trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_3 : BitVec 32 := 0#32
  let c30_i32 : BitVec 32 := 30#32
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v4 : BitVec 32 := Scalar.addi c30_i32 v3
  let v8 : BitVec 32 := Scalar.subi v4 c0_i32_3
  let c1_i32_4 : BitVec 32 := 1#32
  let v10 : BitVec 32 := Scalar.divsi v8 c1_i32_4
  let v11 : BitVec 32 := Scalar.muli v10 c1_i32_4
  let v12 : BitVec 32 := Scalar.addi c0_i32_3 v11
  let c1_i32_6 : BitVec 32 := 1#32
  let arg13 : BitVec 32 := Scf.iv v12 c1_i32_6 k0_t6
  let c2_i32_37 : BitVec 32 := 2#32
  let v57 : BitVec 32 := Scalar.subi arg13 c2_i32_37
  let c32_i32_38 : BitVec 32 := 32#32
  let v58 : BitVec 32 := Scalar.muli v57 c32_i32_38
  let v59 : BitVec 32 := Scalar.addi v1 v58
  let c1024_i32_39 : BitVec 32 := 1024#32
  let v60 : BitVec 32 := Scalar.muli v59 c1024_i32_39
  v60
def k0_mult16 (i : grid0.Coords) (k0_t6 : Fin (k0_t6_loop i).trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_3 : BitVec 32 := 0#32
  let c30_i32 : BitVec 32 := 30#32
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v4 : BitVec 32 := Scalar.addi c30_i32 v3
  let v8 : BitVec 32 := Scalar.subi v4 c0_i32_3
  let c1_i32_4 : BitVec 32 := 1#32
  let v10 : BitVec 32 := Scalar.divsi v8 c1_i32_4
  let v11 : BitVec 32 := Scalar.muli v10 c1_i32_4
  let v12 : BitVec 32 := Scalar.addi c0_i32_3 v11
  let c1_i32_6 : BitVec 32 := 1#32
  let arg13 : BitVec 32 := Scf.iv v12 c1_i32_6 k0_t6
  let c2_i32_37 : BitVec 32 := 2#32
  let v57 : BitVec 32 := Scalar.subi arg13 c2_i32_37
  let c32_i32_38 : BitVec 32 := 32#32
  let v58 : BitVec 32 := Scalar.muli v57 c32_i32_38
  let v59 : BitVec 32 := Scalar.addi v1 v58
  let c1024_i32_39 : BitVec 32 := 1024#32
  let v60 : BitVec 32 := Scalar.muli v59 c1024_i32_39
  let v61 : BitVec 32 := v60
  let c16_i32_40 : BitVec 32 := 16#32
  let v62 : BitVec 32 := Scalar.muli v61 c16_i32_40
  v62
def k0_off11 (i : grid0.Coords) (k0_t6 : Fin (k0_t6_loop i).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_3 : BitVec 32 := 0#32
  let c30_i32 : BitVec 32 := 30#32
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v4 : BitVec 32 := Scalar.addi c30_i32 v3
  let v8 : BitVec 32 := Scalar.subi v4 c0_i32_3
  let c1_i32_4 : BitVec 32 := 1#32
  let v10 : BitVec 32 := Scalar.divsi v8 c1_i32_4
  let v11 : BitVec 32 := Scalar.muli v10 c1_i32_4
  let v12 : BitVec 32 := Scalar.addi c0_i32_3 v11
  let c1_i32_6 : BitVec 32 := 1#32
  let arg13 : BitVec 32 := Scf.iv v12 c1_i32_6 k0_t6
  let c2_i32_37 : BitVec 32 := 2#32
  let v57 : BitVec 32 := Scalar.subi arg13 c2_i32_37
  let c32_i32_38 : BitVec 32 := 32#32
  let v58 : BitVec 32 := Scalar.muli v57 c32_i32_38
  let v59 : BitVec 32 := Scalar.addi v1 v58
  let c1024_i32_39 : BitVec 32 := 1024#32
  let v60 : BitVec 32 := Scalar.muli v59 c1024_i32_39
  let v61 : BitVec 32 := v60
  let c16_i32_40 : BitVec 32 := 16#32
  let v62 : BitVec 32 := Scalar.muli v61 c16_i32_40
  let v63 : BitVec 32 := v62
  ![v63.toNat]
def k0_mult17 (i : grid0.Coords) (k0_t6 : Fin (k0_t6_loop i).trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_3 : BitVec 32 := 0#32
  let c30_i32 : BitVec 32 := 30#32
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v4 : BitVec 32 := Scalar.addi c30_i32 v3
  let v8 : BitVec 32 := Scalar.subi v4 c0_i32_3
  let c1_i32_4 : BitVec 32 := 1#32
  let v10 : BitVec 32 := Scalar.divsi v8 c1_i32_4
  let v11 : BitVec 32 := Scalar.muli v10 c1_i32_4
  let v12 : BitVec 32 := Scalar.addi c0_i32_3 v11
  let c1_i32_6 : BitVec 32 := 1#32
  let arg13 : BitVec 32 := Scf.iv v12 c1_i32_6 k0_t6
  let c32_i32 : BitVec 32 := 32#32
  let v40 : BitVec 32 := Scalar.muli arg13 c32_i32
  let v41 : BitVec 32 := Scalar.addi v1 v40
  let c1024_i32 : BitVec 32 := 1024#32
  let v42 : BitVec 32 := Scalar.muli v41 c1024_i32
  v42
def k0_off12 (i : grid0.Coords) (k0_t6 : Fin (k0_t6_loop i).trips) : Fin 2 → Nat :=
  let c0_i32_26 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_3 : BitVec 32 := 0#32
  let c30_i32 : BitVec 32 := 30#32
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v4 : BitVec 32 := Scalar.addi c30_i32 v3
  let v8 : BitVec 32 := Scalar.subi v4 c0_i32_3
  let c1_i32_4 : BitVec 32 := 1#32
  let v10 : BitVec 32 := Scalar.divsi v8 c1_i32_4
  let v11 : BitVec 32 := Scalar.muli v10 c1_i32_4
  let v12 : BitVec 32 := Scalar.addi c0_i32_3 v11
  let c1_i32_6 : BitVec 32 := 1#32
  let arg13 : BitVec 32 := Scf.iv v12 c1_i32_6 k0_t6
  let c32_i32 : BitVec 32 := 32#32
  let v40 : BitVec 32 := Scalar.muli arg13 c32_i32
  let v41 : BitVec 32 := Scalar.addi v1 v40
  let c1024_i32 : BitVec 32 := 1024#32
  let v42 : BitVec 32 := Scalar.muli v41 c1024_i32
  let v43 : BitVec 32 := v42
  ![0, v43.toNat]
@[reducible] def k0_t7_loop : Scf.Loop 32 :=
  let c0_i32_31 : BitVec 32 := 0#32
  let c8_i32 : BitVec 32 := 8#32
  let v48 : BitVec 32 := Scalar.addi c0_i32_31 c8_i32
  let c1_i32_32 : BitVec 32 := 1#32
  ⟨c0_i32_31, v48, c1_i32_32⟩

def k0_chk129 (i : grid0.Coords) (k0_t6 : Fin (k0_t6_loop i).trips) (v58 : IVec S16 32) (v63 : IVec S16 32) : Prop :=
  (∀ (k0_h8 : k0_cond8 i k0_t6 = 1#1), ∀ a x, ((![v58, v63] : Fin 2 → IVec S16 32) a x).toNat < S16x1041.size a)
theorem k0_idx129_inb : ∀ (i : grid0.Coords) (k0_t6 : Fin (k0_t6_loop i).trips) (v58 : IVec S16 32) (v63 : IVec S16 32) (k0_hw129 : k0_chk129 i k0_t6 v58 v63), ∀ (k0_h8 : k0_cond8 i k0_t6 = 1#1), ∀ a x, ((![v58, v63] : Fin 2 → IVec S16 32) a x).toNat < S16x1041.size a := fun i k0_t6 v58 v63 k0_hw129 k0_h8 => k0_hw129 k0_h8

def k0_chk130 (i : grid0.Coords) (k0_t6 : Fin (k0_t6_loop i).trips) (v58 : IVec S16 32) (v66 : IVec S16 32) : Prop :=
  (∀ (k0_h8 : k0_cond8 i k0_t6 = 1#1), ∀ a x, ((![v58, v66] : Fin 2 → IVec S16 32) a x).toNat < S16x1041.size a)
theorem k0_idx130_inb : ∀ (i : grid0.Coords) (k0_t6 : Fin (k0_t6_loop i).trips) (v58 : IVec S16 32) (v66 : IVec S16 32) (k0_hw130 : k0_chk130 i k0_t6 v58 v66), ∀ (k0_h8 : k0_cond8 i k0_t6 = 1#1), ∀ a x, ((![v58, v66] : Fin 2 → IVec S16 32) a x).toNat < S16x1041.size a := fun i k0_t6 v58 v66 k0_hw130 k0_h8 => k0_hw130 k0_h8

def k0_chk131 (i : grid0.Coords) (k0_t6 : Fin (k0_t6_loop i).trips) (v58 : IVec S16 32) (v69 : IVec S16 32) : Prop :=
  (∀ (k0_h8 : k0_cond8 i k0_t6 = 1#1), ∀ a x, ((![v58, v69] : Fin 2 → IVec S16 32) a x).toNat < S16x1041.size a)
theorem k0_idx131_inb : ∀ (i : grid0.Coords) (k0_t6 : Fin (k0_t6_loop i).trips) (v58 : IVec S16 32) (v69 : IVec S16 32) (k0_hw131 : k0_chk131 i k0_t6 v58 v69), ∀ (k0_h8 : k0_cond8 i k0_t6 = 1#1), ∀ a x, ((![v58, v69] : Fin 2 → IVec S16 32) a x).toNat < S16x1041.size a := fun i k0_t6 v58 v69 k0_hw131 k0_h8 => k0_hw131 k0_h8

def k0_chk132 (i : grid0.Coords) (k0_t6 : Fin (k0_t6_loop i).trips) (v58 : IVec S16 32) (v72 : IVec S16 32) : Prop :=
  (∀ (k0_h8 : k0_cond8 i k0_t6 = 1#1), ∀ a x, ((![v58, v72] : Fin 2 → IVec S16 32) a x).toNat < S16x1041.size a)
theorem k0_idx132_inb : ∀ (i : grid0.Coords) (k0_t6 : Fin (k0_t6_loop i).trips) (v58 : IVec S16 32) (v72 : IVec S16 32) (k0_hw132 : k0_chk132 i k0_t6 v58 v72), ∀ (k0_h8 : k0_cond8 i k0_t6 = 1#1), ∀ a x, ((![v58, v72] : Fin 2 → IVec S16 32) a x).toNat < S16x1041.size a := fun i k0_t6 v58 v72 k0_hw132 k0_h8 => k0_hw132 k0_h8

def k0_chk133 (i : grid0.Coords) (k0_t6 : Fin (k0_t6_loop i).trips) (v58 : IVec S16 32) (v75 : IVec S16 32) : Prop :=
  (∀ (k0_h8 : k0_cond8 i k0_t6 = 1#1), ∀ a x, ((![v58, v75] : Fin 2 → IVec S16 32) a x).toNat < S16x1041.size a)
theorem k0_idx133_inb : ∀ (i : grid0.Coords) (k0_t6 : Fin (k0_t6_loop i).trips) (v58 : IVec S16 32) (v75 : IVec S16 32) (k0_hw133 : k0_chk133 i k0_t6 v58 v75), ∀ (k0_h8 : k0_cond8 i k0_t6 = 1#1), ∀ a x, ((![v58, v75] : Fin 2 → IVec S16 32) a x).toNat < S16x1041.size a := fun i k0_t6 v58 v75 k0_hw133 k0_h8 => k0_hw133 k0_h8

def k0_chk134 (i : grid0.Coords) (k0_t6 : Fin (k0_t6_loop i).trips) (v58 : IVec S16 32) (v78 : IVec S16 32) : Prop :=
  (∀ (k0_h8 : k0_cond8 i k0_t6 = 1#1), ∀ a x, ((![v58, v78] : Fin 2 → IVec S16 32) a x).toNat < S16x1041.size a)
theorem k0_idx134_inb : ∀ (i : grid0.Coords) (k0_t6 : Fin (k0_t6_loop i).trips) (v58 : IVec S16 32) (v78 : IVec S16 32) (k0_hw134 : k0_chk134 i k0_t6 v58 v78), ∀ (k0_h8 : k0_cond8 i k0_t6 = 1#1), ∀ a x, ((![v58, v78] : Fin 2 → IVec S16 32) a x).toNat < S16x1041.size a := fun i k0_t6 v58 v78 k0_hw134 k0_h8 => k0_hw134 k0_h8

def k0_chk135 (i : grid0.Coords) (k0_t6 : Fin (k0_t6_loop i).trips) (v58 : IVec S16 32) (v81 : IVec S16 32) : Prop :=
  (∀ (k0_h8 : k0_cond8 i k0_t6 = 1#1), ∀ a x, ((![v58, v81] : Fin 2 → IVec S16 32) a x).toNat < S16x1041.size a)
theorem k0_idx135_inb : ∀ (i : grid0.Coords) (k0_t6 : Fin (k0_t6_loop i).trips) (v58 : IVec S16 32) (v81 : IVec S16 32) (k0_hw135 : k0_chk135 i k0_t6 v58 v81), ∀ (k0_h8 : k0_cond8 i k0_t6 = 1#1), ∀ a x, ((![v58, v81] : Fin 2 → IVec S16 32) a x).toNat < S16x1041.size a := fun i k0_t6 v58 v81 k0_hw135 k0_h8 => k0_hw135 k0_h8

def k0_chk136 (i : grid0.Coords) (k0_t6 : Fin (k0_t6_loop i).trips) (v58 : IVec S16 32) (v84 : IVec S16 32) : Prop :=
  (∀ (k0_h8 : k0_cond8 i k0_t6 = 1#1), ∀ a x, ((![v58, v84] : Fin 2 → IVec S16 32) a x).toNat < S16x1041.size a)
theorem k0_idx136_inb : ∀ (i : grid0.Coords) (k0_t6 : Fin (k0_t6_loop i).trips) (v58 : IVec S16 32) (v84 : IVec S16 32) (k0_hw136 : k0_chk136 i k0_t6 v58 v84), ∀ (k0_h8 : k0_cond8 i k0_t6 = 1#1), ∀ a x, ((![v58, v84] : Fin 2 → IVec S16 32) a x).toNat < S16x1041.size a := fun i k0_t6 v58 v84 k0_hw136 k0_h8 => k0_hw136 k0_h8

def k0_chk137 (i : grid0.Coords) (k0_t6 : Fin (k0_t6_loop i).trips) (v58 : IVec S16 32) (v87 : IVec S16 32) : Prop :=
  (∀ (k0_h8 : k0_cond8 i k0_t6 = 1#1), ∀ a x, ((![v58, v87] : Fin 2 → IVec S16 32) a x).toNat < S16x1041.size a)
theorem k0_idx137_inb : ∀ (i : grid0.Coords) (k0_t6 : Fin (k0_t6_loop i).trips) (v58 : IVec S16 32) (v87 : IVec S16 32) (k0_hw137 : k0_chk137 i k0_t6 v58 v87), ∀ (k0_h8 : k0_cond8 i k0_t6 = 1#1), ∀ a x, ((![v58, v87] : Fin 2 → IVec S16 32) a x).toNat < S16x1041.size a := fun i k0_t6 v58 v87 k0_hw137 k0_h8 => k0_hw137 k0_h8

def k0_chk138 (i : grid0.Coords) (k0_t6 : Fin (k0_t6_loop i).trips) (v58 : IVec S16 32) (v90 : IVec S16 32) : Prop :=
  (∀ (k0_h8 : k0_cond8 i k0_t6 = 1#1), ∀ a x, ((![v58, v90] : Fin 2 → IVec S16 32) a x).toNat < S16x1041.size a)
theorem k0_idx138_inb : ∀ (i : grid0.Coords) (k0_t6 : Fin (k0_t6_loop i).trips) (v58 : IVec S16 32) (v90 : IVec S16 32) (k0_hw138 : k0_chk138 i k0_t6 v58 v90), ∀ (k0_h8 : k0_cond8 i k0_t6 = 1#1), ∀ a x, ((![v58, v90] : Fin 2 → IVec S16 32) a x).toNat < S16x1041.size a := fun i k0_t6 v58 v90 k0_hw138 k0_h8 => k0_hw138 k0_h8

def k0_chk139 (i : grid0.Coords) (k0_t6 : Fin (k0_t6_loop i).trips) (v58 : IVec S16 32) (v93 : IVec S16 32) : Prop :=
  (∀ (k0_h8 : k0_cond8 i k0_t6 = 1#1), ∀ a x, ((![v58, v93] : Fin 2 → IVec S16 32) a x).toNat < S16x1041.size a)
theorem k0_idx139_inb : ∀ (i : grid0.Coords) (k0_t6 : Fin (k0_t6_loop i).trips) (v58 : IVec S16 32) (v93 : IVec S16 32) (k0_hw139 : k0_chk139 i k0_t6 v58 v93), ∀ (k0_h8 : k0_cond8 i k0_t6 = 1#1), ∀ a x, ((![v58, v93] : Fin 2 → IVec S16 32) a x).toNat < S16x1041.size a := fun i k0_t6 v58 v93 k0_hw139 k0_h8 => k0_hw139 k0_h8

def k0_chk140 (i : grid0.Coords) (k0_t6 : Fin (k0_t6_loop i).trips) (v58 : IVec S16 32) (v96 : IVec S16 32) : Prop :=
  (∀ (k0_h8 : k0_cond8 i k0_t6 = 1#1), ∀ a x, ((![v58, v96] : Fin 2 → IVec S16 32) a x).toNat < S16x1041.size a)
theorem k0_idx140_inb : ∀ (i : grid0.Coords) (k0_t6 : Fin (k0_t6_loop i).trips) (v58 : IVec S16 32) (v96 : IVec S16 32) (k0_hw140 : k0_chk140 i k0_t6 v58 v96), ∀ (k0_h8 : k0_cond8 i k0_t6 = 1#1), ∀ a x, ((![v58, v96] : Fin 2 → IVec S16 32) a x).toNat < S16x1041.size a := fun i k0_t6 v58 v96 k0_hw140 k0_h8 => k0_hw140 k0_h8

def k0_chk141 (i : grid0.Coords) (k0_t6 : Fin (k0_t6_loop i).trips) (v58 : IVec S16 32) (v99 : IVec S16 32) : Prop :=
  (∀ (k0_h8 : k0_cond8 i k0_t6 = 1#1), ∀ a x, ((![v58, v99] : Fin 2 → IVec S16 32) a x).toNat < S16x1041.size a)
theorem k0_idx141_inb : ∀ (i : grid0.Coords) (k0_t6 : Fin (k0_t6_loop i).trips) (v58 : IVec S16 32) (v99 : IVec S16 32) (k0_hw141 : k0_chk141 i k0_t6 v58 v99), ∀ (k0_h8 : k0_cond8 i k0_t6 = 1#1), ∀ a x, ((![v58, v99] : Fin 2 → IVec S16 32) a x).toNat < S16x1041.size a := fun i k0_t6 v58 v99 k0_hw141 k0_h8 => k0_hw141 k0_h8

def k0_chk142 (i : grid0.Coords) (k0_t6 : Fin (k0_t6_loop i).trips) (v58 : IVec S16 32) (v102 : IVec S16 32) : Prop :=
  (∀ (k0_h8 : k0_cond8 i k0_t6 = 1#1), ∀ a x, ((![v58, v102] : Fin 2 → IVec S16 32) a x).toNat < S16x1041.size a)
theorem k0_idx142_inb : ∀ (i : grid0.Coords) (k0_t6 : Fin (k0_t6_loop i).trips) (v58 : IVec S16 32) (v102 : IVec S16 32) (k0_hw142 : k0_chk142 i k0_t6 v58 v102), ∀ (k0_h8 : k0_cond8 i k0_t6 = 1#1), ∀ a x, ((![v58, v102] : Fin 2 → IVec S16 32) a x).toNat < S16x1041.size a := fun i k0_t6 v58 v102 k0_hw142 k0_h8 => k0_hw142 k0_h8

def k0_chk143 (i : grid0.Coords) (k0_t6 : Fin (k0_t6_loop i).trips) (v58 : IVec S16 32) (v105 : IVec S16 32) : Prop :=
  (∀ (k0_h8 : k0_cond8 i k0_t6 = 1#1), ∀ a x, ((![v58, v105] : Fin 2 → IVec S16 32) a x).toNat < S16x1041.size a)
theorem k0_idx143_inb : ∀ (i : grid0.Coords) (k0_t6 : Fin (k0_t6_loop i).trips) (v58 : IVec S16 32) (v105 : IVec S16 32) (k0_hw143 : k0_chk143 i k0_t6 v58 v105), ∀ (k0_h8 : k0_cond8 i k0_t6 = 1#1), ∀ a x, ((![v58, v105] : Fin 2 → IVec S16 32) a x).toNat < S16x1041.size a := fun i k0_t6 v58 v105 k0_hw143 k0_h8 => k0_hw143 k0_h8

def k0_chk144 (i : grid0.Coords) (k0_t6 : Fin (k0_t6_loop i).trips) (v58 : IVec S16 32) (v108 : IVec S16 32) : Prop :=
  (∀ (k0_h8 : k0_cond8 i k0_t6 = 1#1), ∀ a x, ((![v58, v108] : Fin 2 → IVec S16 32) a x).toNat < S16x1041.size a)
theorem k0_idx144_inb : ∀ (i : grid0.Coords) (k0_t6 : Fin (k0_t6_loop i).trips) (v58 : IVec S16 32) (v108 : IVec S16 32) (k0_hw144 : k0_chk144 i k0_t6 v58 v108), ∀ (k0_h8 : k0_cond8 i k0_t6 = 1#1), ∀ a x, ((![v58, v108] : Fin 2 → IVec S16 32) a x).toNat < S16x1041.size a := fun i k0_t6 v58 v108 k0_hw144 k0_h8 => k0_hw144 k0_h8
@[reducible] def k0_t8_loop : Scf.Loop 32 :=
  let c1_i32_42 : BitVec 32 := 1#32
  let c7_i32_43 : BitVec 32 := 7#32
  let v110 : BitVec 32 := Scalar.addi c1_i32_42 c7_i32_43
  let c1_i32_44 : BitVec 32 := 1#32
  ⟨c1_i32_42, v110, c1_i32_44⟩

def k0_chk145 (i : grid0.Coords) (k0_t6 : Fin (k0_t6_loop i).trips) (v58 : IVec S16 32) (v152 : IVec S16 32) : Prop :=
  (∀ (k0_h8 : k0_cond8 i k0_t6 = 1#1), ∀ a x, ((![v58, v152] : Fin 2 → IVec S16 32) a x).toNat < S16x1041.size a)
theorem k0_idx145_inb : ∀ (i : grid0.Coords) (k0_t6 : Fin (k0_t6_loop i).trips) (v58 : IVec S16 32) (v152 : IVec S16 32) (k0_hw145 : k0_chk145 i k0_t6 v58 v152), ∀ (k0_h8 : k0_cond8 i k0_t6 = 1#1), ∀ a x, ((![v58, v152] : Fin 2 → IVec S16 32) a x).toNat < S16x1041.size a := fun i k0_t6 v58 v152 k0_hw145 k0_h8 => k0_hw145 k0_h8

def k0_chk146 (i : grid0.Coords) (k0_t6 : Fin (k0_t6_loop i).trips) (v58 : IVec S16 32) (v155 : IVec S16 32) : Prop :=
  (∀ (k0_h8 : k0_cond8 i k0_t6 = 1#1), ∀ a x, ((![v58, v155] : Fin 2 → IVec S16 32) a x).toNat < S16x1041.size a)
theorem k0_idx146_inb : ∀ (i : grid0.Coords) (k0_t6 : Fin (k0_t6_loop i).trips) (v58 : IVec S16 32) (v155 : IVec S16 32) (k0_hw146 : k0_chk146 i k0_t6 v58 v155), ∀ (k0_h8 : k0_cond8 i k0_t6 = 1#1), ∀ a x, ((![v58, v155] : Fin 2 → IVec S16 32) a x).toNat < S16x1041.size a := fun i k0_t6 v58 v155 k0_hw146 k0_h8 => k0_hw146 k0_h8

def k0_chk147 (i : grid0.Coords) (k0_t6 : Fin (k0_t6_loop i).trips) (v58 : IVec S16 32) (v158 : IVec S16 32) : Prop :=
  (∀ (k0_h8 : k0_cond8 i k0_t6 = 1#1), ∀ a x, ((![v58, v158] : Fin 2 → IVec S16 32) a x).toNat < S16x1041.size a)
theorem k0_idx147_inb : ∀ (i : grid0.Coords) (k0_t6 : Fin (k0_t6_loop i).trips) (v58 : IVec S16 32) (v158 : IVec S16 32) (k0_hw147 : k0_chk147 i k0_t6 v58 v158), ∀ (k0_h8 : k0_cond8 i k0_t6 = 1#1), ∀ a x, ((![v58, v158] : Fin 2 → IVec S16 32) a x).toNat < S16x1041.size a := fun i k0_t6 v58 v158 k0_hw147 k0_h8 => k0_hw147 k0_h8

def k0_chk148 (i : grid0.Coords) (k0_t6 : Fin (k0_t6_loop i).trips) (v58 : IVec S16 32) (v161 : IVec S16 32) : Prop :=
  (∀ (k0_h8 : k0_cond8 i k0_t6 = 1#1), ∀ a x, ((![v58, v161] : Fin 2 → IVec S16 32) a x).toNat < S16x1041.size a)
theorem k0_idx148_inb : ∀ (i : grid0.Coords) (k0_t6 : Fin (k0_t6_loop i).trips) (v58 : IVec S16 32) (v161 : IVec S16 32) (k0_hw148 : k0_chk148 i k0_t6 v58 v161), ∀ (k0_h8 : k0_cond8 i k0_t6 = 1#1), ∀ a x, ((![v58, v161] : Fin 2 → IVec S16 32) a x).toNat < S16x1041.size a := fun i k0_t6 v58 v161 k0_hw148 k0_h8 => k0_hw148 k0_h8

def k0_chk149 (i : grid0.Coords) (k0_t6 : Fin (k0_t6_loop i).trips) (v58 : IVec S16 32) (v164 : IVec S16 32) : Prop :=
  (∀ (k0_h8 : k0_cond8 i k0_t6 = 1#1), ∀ a x, ((![v58, v164] : Fin 2 → IVec S16 32) a x).toNat < S16x1041.size a)
theorem k0_idx149_inb : ∀ (i : grid0.Coords) (k0_t6 : Fin (k0_t6_loop i).trips) (v58 : IVec S16 32) (v164 : IVec S16 32) (k0_hw149 : k0_chk149 i k0_t6 v58 v164), ∀ (k0_h8 : k0_cond8 i k0_t6 = 1#1), ∀ a x, ((![v58, v164] : Fin 2 → IVec S16 32) a x).toNat < S16x1041.size a := fun i k0_t6 v58 v164 k0_hw149 k0_h8 => k0_hw149 k0_h8

def k0_chk150 (i : grid0.Coords) (k0_t6 : Fin (k0_t6_loop i).trips) (v58 : IVec S16 32) (v167 : IVec S16 32) : Prop :=
  (∀ (k0_h8 : k0_cond8 i k0_t6 = 1#1), ∀ a x, ((![v58, v167] : Fin 2 → IVec S16 32) a x).toNat < S16x1041.size a)
theorem k0_idx150_inb : ∀ (i : grid0.Coords) (k0_t6 : Fin (k0_t6_loop i).trips) (v58 : IVec S16 32) (v167 : IVec S16 32) (k0_hw150 : k0_chk150 i k0_t6 v58 v167), ∀ (k0_h8 : k0_cond8 i k0_t6 = 1#1), ∀ a x, ((![v58, v167] : Fin 2 → IVec S16 32) a x).toNat < S16x1041.size a := fun i k0_t6 v58 v167 k0_hw150 k0_h8 => k0_hw150 k0_h8

def k0_chk151 (i : grid0.Coords) (k0_t6 : Fin (k0_t6_loop i).trips) (v58 : IVec S16 32) (v170 : IVec S16 32) : Prop :=
  (∀ (k0_h8 : k0_cond8 i k0_t6 = 1#1), ∀ a x, ((![v58, v170] : Fin 2 → IVec S16 32) a x).toNat < S16x1041.size a)
theorem k0_idx151_inb : ∀ (i : grid0.Coords) (k0_t6 : Fin (k0_t6_loop i).trips) (v58 : IVec S16 32) (v170 : IVec S16 32) (k0_hw151 : k0_chk151 i k0_t6 v58 v170), ∀ (k0_h8 : k0_cond8 i k0_t6 = 1#1), ∀ a x, ((![v58, v170] : Fin 2 → IVec S16 32) a x).toNat < S16x1041.size a := fun i k0_t6 v58 v170 k0_hw151 k0_h8 => k0_hw151 k0_h8

def k0_chk152 (i : grid0.Coords) (k0_t6 : Fin (k0_t6_loop i).trips) (v58 : IVec S16 32) (v173 : IVec S16 32) : Prop :=
  (∀ (k0_h8 : k0_cond8 i k0_t6 = 1#1), ∀ a x, ((![v58, v173] : Fin 2 → IVec S16 32) a x).toNat < S16x1041.size a)
theorem k0_idx152_inb : ∀ (i : grid0.Coords) (k0_t6 : Fin (k0_t6_loop i).trips) (v58 : IVec S16 32) (v173 : IVec S16 32) (k0_hw152 : k0_chk152 i k0_t6 v58 v173), ∀ (k0_h8 : k0_cond8 i k0_t6 = 1#1), ∀ a x, ((![v58, v173] : Fin 2 → IVec S16 32) a x).toNat < S16x1041.size a := fun i k0_t6 v58 v173 k0_hw152 k0_h8 => k0_hw152 k0_h8

def k0_chk153 (i : grid0.Coords) (k0_t6 : Fin (k0_t6_loop i).trips) (v58 : IVec S16 32) (v176 : IVec S16 32) : Prop :=
  (∀ (k0_h8 : k0_cond8 i k0_t6 = 1#1), ∀ a x, ((![v58, v176] : Fin 2 → IVec S16 32) a x).toNat < S16x1041.size a)
theorem k0_idx153_inb : ∀ (i : grid0.Coords) (k0_t6 : Fin (k0_t6_loop i).trips) (v58 : IVec S16 32) (v176 : IVec S16 32) (k0_hw153 : k0_chk153 i k0_t6 v58 v176), ∀ (k0_h8 : k0_cond8 i k0_t6 = 1#1), ∀ a x, ((![v58, v176] : Fin 2 → IVec S16 32) a x).toNat < S16x1041.size a := fun i k0_t6 v58 v176 k0_hw153 k0_h8 => k0_hw153 k0_h8

def k0_chk154 (i : grid0.Coords) (k0_t6 : Fin (k0_t6_loop i).trips) (v58 : IVec S16 32) (v179 : IVec S16 32) : Prop :=
  (∀ (k0_h8 : k0_cond8 i k0_t6 = 1#1), ∀ a x, ((![v58, v179] : Fin 2 → IVec S16 32) a x).toNat < S16x1041.size a)
theorem k0_idx154_inb : ∀ (i : grid0.Coords) (k0_t6 : Fin (k0_t6_loop i).trips) (v58 : IVec S16 32) (v179 : IVec S16 32) (k0_hw154 : k0_chk154 i k0_t6 v58 v179), ∀ (k0_h8 : k0_cond8 i k0_t6 = 1#1), ∀ a x, ((![v58, v179] : Fin 2 → IVec S16 32) a x).toNat < S16x1041.size a := fun i k0_t6 v58 v179 k0_hw154 k0_h8 => k0_hw154 k0_h8

def k0_chk155 (i : grid0.Coords) (k0_t6 : Fin (k0_t6_loop i).trips) (v58 : IVec S16 32) (v182 : IVec S16 32) : Prop :=
  (∀ (k0_h8 : k0_cond8 i k0_t6 = 1#1), ∀ a x, ((![v58, v182] : Fin 2 → IVec S16 32) a x).toNat < S16x1041.size a)
theorem k0_idx155_inb : ∀ (i : grid0.Coords) (k0_t6 : Fin (k0_t6_loop i).trips) (v58 : IVec S16 32) (v182 : IVec S16 32) (k0_hw155 : k0_chk155 i k0_t6 v58 v182), ∀ (k0_h8 : k0_cond8 i k0_t6 = 1#1), ∀ a x, ((![v58, v182] : Fin 2 → IVec S16 32) a x).toNat < S16x1041.size a := fun i k0_t6 v58 v182 k0_hw155 k0_h8 => k0_hw155 k0_h8

def k0_chk156 (i : grid0.Coords) (k0_t6 : Fin (k0_t6_loop i).trips) (v58 : IVec S16 32) (v185 : IVec S16 32) : Prop :=
  (∀ (k0_h8 : k0_cond8 i k0_t6 = 1#1), ∀ a x, ((![v58, v185] : Fin 2 → IVec S16 32) a x).toNat < S16x1041.size a)
theorem k0_idx156_inb : ∀ (i : grid0.Coords) (k0_t6 : Fin (k0_t6_loop i).trips) (v58 : IVec S16 32) (v185 : IVec S16 32) (k0_hw156 : k0_chk156 i k0_t6 v58 v185), ∀ (k0_h8 : k0_cond8 i k0_t6 = 1#1), ∀ a x, ((![v58, v185] : Fin 2 → IVec S16 32) a x).toNat < S16x1041.size a := fun i k0_t6 v58 v185 k0_hw156 k0_h8 => k0_hw156 k0_h8

def k0_chk157 (i : grid0.Coords) (k0_t6 : Fin (k0_t6_loop i).trips) (v58 : IVec S16 32) (v188 : IVec S16 32) : Prop :=
  (∀ (k0_h8 : k0_cond8 i k0_t6 = 1#1), ∀ a x, ((![v58, v188] : Fin 2 → IVec S16 32) a x).toNat < S16x1041.size a)
theorem k0_idx157_inb : ∀ (i : grid0.Coords) (k0_t6 : Fin (k0_t6_loop i).trips) (v58 : IVec S16 32) (v188 : IVec S16 32) (k0_hw157 : k0_chk157 i k0_t6 v58 v188), ∀ (k0_h8 : k0_cond8 i k0_t6 = 1#1), ∀ a x, ((![v58, v188] : Fin 2 → IVec S16 32) a x).toNat < S16x1041.size a := fun i k0_t6 v58 v188 k0_hw157 k0_h8 => k0_hw157 k0_h8

def k0_chk158 (i : grid0.Coords) (k0_t6 : Fin (k0_t6_loop i).trips) (v58 : IVec S16 32) (v191 : IVec S16 32) : Prop :=
  (∀ (k0_h8 : k0_cond8 i k0_t6 = 1#1), ∀ a x, ((![v58, v191] : Fin 2 → IVec S16 32) a x).toNat < S16x1041.size a)
theorem k0_idx158_inb : ∀ (i : grid0.Coords) (k0_t6 : Fin (k0_t6_loop i).trips) (v58 : IVec S16 32) (v191 : IVec S16 32) (k0_hw158 : k0_chk158 i k0_t6 v58 v191), ∀ (k0_h8 : k0_cond8 i k0_t6 = 1#1), ∀ a x, ((![v58, v191] : Fin 2 → IVec S16 32) a x).toNat < S16x1041.size a := fun i k0_t6 v58 v191 k0_hw158 k0_h8 => k0_hw158 k0_h8

def k0_chk159 (i : grid0.Coords) (k0_t6 : Fin (k0_t6_loop i).trips) (v58 : IVec S16 32) (v194 : IVec S16 32) : Prop :=
  (∀ (k0_h8 : k0_cond8 i k0_t6 = 1#1), ∀ a x, ((![v58, v194] : Fin 2 → IVec S16 32) a x).toNat < S16x1041.size a)
theorem k0_idx159_inb : ∀ (i : grid0.Coords) (k0_t6 : Fin (k0_t6_loop i).trips) (v58 : IVec S16 32) (v194 : IVec S16 32) (k0_hw159 : k0_chk159 i k0_t6 v58 v194), ∀ (k0_h8 : k0_cond8 i k0_t6 = 1#1), ∀ a x, ((![v58, v194] : Fin 2 → IVec S16 32) a x).toNat < S16x1041.size a := fun i k0_t6 v58 v194 k0_hw159 k0_h8 => k0_hw159 k0_h8

def k0_chk160 (i : grid0.Coords) (k0_t6 : Fin (k0_t6_loop i).trips) (v58 : IVec S16 32) (v197 : IVec S16 32) : Prop :=
  (∀ (k0_h8 : k0_cond8 i k0_t6 = 1#1), ∀ a x, ((![v58, v197] : Fin 2 → IVec S16 32) a x).toNat < S16x1041.size a)
theorem k0_idx160_inb : ∀ (i : grid0.Coords) (k0_t6 : Fin (k0_t6_loop i).trips) (v58 : IVec S16 32) (v197 : IVec S16 32) (k0_hw160 : k0_chk160 i k0_t6 v58 v197), ∀ (k0_h8 : k0_cond8 i k0_t6 = 1#1), ∀ a x, ((![v58, v197] : Fin 2 → IVec S16 32) a x).toNat < S16x1041.size a := fun i k0_t6 v58 v197 k0_hw160 k0_h8 => k0_hw160 k0_h8

def k0_chk161 (i : grid0.Coords) (k0_t6 : Fin (k0_t6_loop i).trips) (v206 : IVec S16 32) : Prop :=
  (∀ (k0_h8 : k0_cond8 i k0_t6 = 1#1), ∀ a x, ((![v206] : Fin 1 → IVec S16 32) a x).toNat < S16384.size a)
theorem k0_idx161_inb : ∀ (i : grid0.Coords) (k0_t6 : Fin (k0_t6_loop i).trips) (v206 : IVec S16 32) (k0_hw161 : k0_chk161 i k0_t6 v206), ∀ (k0_h8 : k0_cond8 i k0_t6 = 1#1), ∀ a x, ((![v206] : Fin 1 → IVec S16 32) a x).toNat < S16384.size a := fun i k0_t6 v206 k0_hw161 k0_h8 => k0_hw161 k0_h8

def k0_chk162 (i : grid0.Coords) (k0_t6 : Fin (k0_t6_loop i).trips) (v208 : IVec S16 32) : Prop :=
  (∀ (k0_h8 : k0_cond8 i k0_t6 = 1#1), ∀ a x, ((![v208] : Fin 1 → IVec S16 32) a x).toNat < S16384.size a)
theorem k0_idx162_inb : ∀ (i : grid0.Coords) (k0_t6 : Fin (k0_t6_loop i).trips) (v208 : IVec S16 32) (k0_hw162 : k0_chk162 i k0_t6 v208), ∀ (k0_h8 : k0_cond8 i k0_t6 = 1#1), ∀ a x, ((![v208] : Fin 1 → IVec S16 32) a x).toNat < S16384.size a := fun i k0_t6 v208 k0_hw162 k0_h8 => k0_hw162 k0_h8

def k0_chk163 (i : grid0.Coords) (k0_t6 : Fin (k0_t6_loop i).trips) (v210 : IVec S16 32) : Prop :=
  (∀ (k0_h8 : k0_cond8 i k0_t6 = 1#1), ∀ a x, ((![v210] : Fin 1 → IVec S16 32) a x).toNat < S16384.size a)
theorem k0_idx163_inb : ∀ (i : grid0.Coords) (k0_t6 : Fin (k0_t6_loop i).trips) (v210 : IVec S16 32) (k0_hw163 : k0_chk163 i k0_t6 v210), ∀ (k0_h8 : k0_cond8 i k0_t6 = 1#1), ∀ a x, ((![v210] : Fin 1 → IVec S16 32) a x).toNat < S16384.size a := fun i k0_t6 v210 k0_hw163 k0_h8 => k0_hw163 k0_h8

def k0_chk164 (i : grid0.Coords) (k0_t6 : Fin (k0_t6_loop i).trips) (v212 : IVec S16 32) : Prop :=
  (∀ (k0_h8 : k0_cond8 i k0_t6 = 1#1), ∀ a x, ((![v212] : Fin 1 → IVec S16 32) a x).toNat < S16384.size a)
theorem k0_idx164_inb : ∀ (i : grid0.Coords) (k0_t6 : Fin (k0_t6_loop i).trips) (v212 : IVec S16 32) (k0_hw164 : k0_chk164 i k0_t6 v212), ∀ (k0_h8 : k0_cond8 i k0_t6 = 1#1), ∀ a x, ((![v212] : Fin 1 → IVec S16 32) a x).toNat < S16384.size a := fun i k0_t6 v212 k0_hw164 k0_h8 => k0_hw164 k0_h8

def k0_chk165 (i : grid0.Coords) (k0_t6 : Fin (k0_t6_loop i).trips) (v214 : IVec S16 32) : Prop :=
  (∀ (k0_h8 : k0_cond8 i k0_t6 = 1#1), ∀ a x, ((![v214] : Fin 1 → IVec S16 32) a x).toNat < S16384.size a)
theorem k0_idx165_inb : ∀ (i : grid0.Coords) (k0_t6 : Fin (k0_t6_loop i).trips) (v214 : IVec S16 32) (k0_hw165 : k0_chk165 i k0_t6 v214), ∀ (k0_h8 : k0_cond8 i k0_t6 = 1#1), ∀ a x, ((![v214] : Fin 1 → IVec S16 32) a x).toNat < S16384.size a := fun i k0_t6 v214 k0_hw165 k0_h8 => k0_hw165 k0_h8

def k0_chk166 (i : grid0.Coords) (k0_t6 : Fin (k0_t6_loop i).trips) (v216 : IVec S16 32) : Prop :=
  (∀ (k0_h8 : k0_cond8 i k0_t6 = 1#1), ∀ a x, ((![v216] : Fin 1 → IVec S16 32) a x).toNat < S16384.size a)
theorem k0_idx166_inb : ∀ (i : grid0.Coords) (k0_t6 : Fin (k0_t6_loop i).trips) (v216 : IVec S16 32) (k0_hw166 : k0_chk166 i k0_t6 v216), ∀ (k0_h8 : k0_cond8 i k0_t6 = 1#1), ∀ a x, ((![v216] : Fin 1 → IVec S16 32) a x).toNat < S16384.size a := fun i k0_t6 v216 k0_hw166 k0_h8 => k0_hw166 k0_h8

def k0_chk167 (i : grid0.Coords) (k0_t6 : Fin (k0_t6_loop i).trips) (v218 : IVec S16 32) : Prop :=
  (∀ (k0_h8 : k0_cond8 i k0_t6 = 1#1), ∀ a x, ((![v218] : Fin 1 → IVec S16 32) a x).toNat < S16384.size a)
theorem k0_idx167_inb : ∀ (i : grid0.Coords) (k0_t6 : Fin (k0_t6_loop i).trips) (v218 : IVec S16 32) (k0_hw167 : k0_chk167 i k0_t6 v218), ∀ (k0_h8 : k0_cond8 i k0_t6 = 1#1), ∀ a x, ((![v218] : Fin 1 → IVec S16 32) a x).toNat < S16384.size a := fun i k0_t6 v218 k0_hw167 k0_h8 => k0_hw167 k0_h8

def k0_chk168 (i : grid0.Coords) (k0_t6 : Fin (k0_t6_loop i).trips) (v220 : IVec S16 32) : Prop :=
  (∀ (k0_h8 : k0_cond8 i k0_t6 = 1#1), ∀ a x, ((![v220] : Fin 1 → IVec S16 32) a x).toNat < S16384.size a)
theorem k0_idx168_inb : ∀ (i : grid0.Coords) (k0_t6 : Fin (k0_t6_loop i).trips) (v220 : IVec S16 32) (k0_hw168 : k0_chk168 i k0_t6 v220), ∀ (k0_h8 : k0_cond8 i k0_t6 = 1#1), ∀ a x, ((![v220] : Fin 1 → IVec S16 32) a x).toNat < S16384.size a := fun i k0_t6 v220 k0_hw168 k0_h8 => k0_hw168 k0_h8

def k0_chk169 (i : grid0.Coords) (k0_t6 : Fin (k0_t6_loop i).trips) (v222 : IVec S16 32) : Prop :=
  (∀ (k0_h8 : k0_cond8 i k0_t6 = 1#1), ∀ a x, ((![v222] : Fin 1 → IVec S16 32) a x).toNat < S16384.size a)
theorem k0_idx169_inb : ∀ (i : grid0.Coords) (k0_t6 : Fin (k0_t6_loop i).trips) (v222 : IVec S16 32) (k0_hw169 : k0_chk169 i k0_t6 v222), ∀ (k0_h8 : k0_cond8 i k0_t6 = 1#1), ∀ a x, ((![v222] : Fin 1 → IVec S16 32) a x).toNat < S16384.size a := fun i k0_t6 v222 k0_hw169 k0_h8 => k0_hw169 k0_h8

def k0_chk170 (i : grid0.Coords) (k0_t6 : Fin (k0_t6_loop i).trips) (v224 : IVec S16 32) : Prop :=
  (∀ (k0_h8 : k0_cond8 i k0_t6 = 1#1), ∀ a x, ((![v224] : Fin 1 → IVec S16 32) a x).toNat < S16384.size a)
theorem k0_idx170_inb : ∀ (i : grid0.Coords) (k0_t6 : Fin (k0_t6_loop i).trips) (v224 : IVec S16 32) (k0_hw170 : k0_chk170 i k0_t6 v224), ∀ (k0_h8 : k0_cond8 i k0_t6 = 1#1), ∀ a x, ((![v224] : Fin 1 → IVec S16 32) a x).toNat < S16384.size a := fun i k0_t6 v224 k0_hw170 k0_h8 => k0_hw170 k0_h8

def k0_chk171 (i : grid0.Coords) (k0_t6 : Fin (k0_t6_loop i).trips) (v226 : IVec S16 32) : Prop :=
  (∀ (k0_h8 : k0_cond8 i k0_t6 = 1#1), ∀ a x, ((![v226] : Fin 1 → IVec S16 32) a x).toNat < S16384.size a)
theorem k0_idx171_inb : ∀ (i : grid0.Coords) (k0_t6 : Fin (k0_t6_loop i).trips) (v226 : IVec S16 32) (k0_hw171 : k0_chk171 i k0_t6 v226), ∀ (k0_h8 : k0_cond8 i k0_t6 = 1#1), ∀ a x, ((![v226] : Fin 1 → IVec S16 32) a x).toNat < S16384.size a := fun i k0_t6 v226 k0_hw171 k0_h8 => k0_hw171 k0_h8

def k0_chk172 (i : grid0.Coords) (k0_t6 : Fin (k0_t6_loop i).trips) (v228 : IVec S16 32) : Prop :=
  (∀ (k0_h8 : k0_cond8 i k0_t6 = 1#1), ∀ a x, ((![v228] : Fin 1 → IVec S16 32) a x).toNat < S16384.size a)
theorem k0_idx172_inb : ∀ (i : grid0.Coords) (k0_t6 : Fin (k0_t6_loop i).trips) (v228 : IVec S16 32) (k0_hw172 : k0_chk172 i k0_t6 v228), ∀ (k0_h8 : k0_cond8 i k0_t6 = 1#1), ∀ a x, ((![v228] : Fin 1 → IVec S16 32) a x).toNat < S16384.size a := fun i k0_t6 v228 k0_hw172 k0_h8 => k0_hw172 k0_h8

def k0_chk173 (i : grid0.Coords) (k0_t6 : Fin (k0_t6_loop i).trips) (v230 : IVec S16 32) : Prop :=
  (∀ (k0_h8 : k0_cond8 i k0_t6 = 1#1), ∀ a x, ((![v230] : Fin 1 → IVec S16 32) a x).toNat < S16384.size a)
theorem k0_idx173_inb : ∀ (i : grid0.Coords) (k0_t6 : Fin (k0_t6_loop i).trips) (v230 : IVec S16 32) (k0_hw173 : k0_chk173 i k0_t6 v230), ∀ (k0_h8 : k0_cond8 i k0_t6 = 1#1), ∀ a x, ((![v230] : Fin 1 → IVec S16 32) a x).toNat < S16384.size a := fun i k0_t6 v230 k0_hw173 k0_h8 => k0_hw173 k0_h8

def k0_chk174 (i : grid0.Coords) (k0_t6 : Fin (k0_t6_loop i).trips) (v232 : IVec S16 32) : Prop :=
  (∀ (k0_h8 : k0_cond8 i k0_t6 = 1#1), ∀ a x, ((![v232] : Fin 1 → IVec S16 32) a x).toNat < S16384.size a)
theorem k0_idx174_inb : ∀ (i : grid0.Coords) (k0_t6 : Fin (k0_t6_loop i).trips) (v232 : IVec S16 32) (k0_hw174 : k0_chk174 i k0_t6 v232), ∀ (k0_h8 : k0_cond8 i k0_t6 = 1#1), ∀ a x, ((![v232] : Fin 1 → IVec S16 32) a x).toNat < S16384.size a := fun i k0_t6 v232 k0_hw174 k0_h8 => k0_hw174 k0_h8

def k0_chk175 (i : grid0.Coords) (k0_t6 : Fin (k0_t6_loop i).trips) (v234 : IVec S16 32) : Prop :=
  (∀ (k0_h8 : k0_cond8 i k0_t6 = 1#1), ∀ a x, ((![v234] : Fin 1 → IVec S16 32) a x).toNat < S16384.size a)
theorem k0_idx175_inb : ∀ (i : grid0.Coords) (k0_t6 : Fin (k0_t6_loop i).trips) (v234 : IVec S16 32) (k0_hw175 : k0_chk175 i k0_t6 v234), ∀ (k0_h8 : k0_cond8 i k0_t6 = 1#1), ∀ a x, ((![v234] : Fin 1 → IVec S16 32) a x).toNat < S16384.size a := fun i k0_t6 v234 k0_hw175 k0_h8 => k0_hw175 k0_h8

def k0_chk176 (i : grid0.Coords) (k0_t6 : Fin (k0_t6_loop i).trips) (v236 : IVec S16 32) : Prop :=
  (∀ (k0_h8 : k0_cond8 i k0_t6 = 1#1), ∀ a x, ((![v236] : Fin 1 → IVec S16 32) a x).toNat < S16384.size a)
theorem k0_idx176_inb : ∀ (i : grid0.Coords) (k0_t6 : Fin (k0_t6_loop i).trips) (v236 : IVec S16 32) (k0_hw176 : k0_chk176 i k0_t6 v236), ∀ (k0_h8 : k0_cond8 i k0_t6 = 1#1), ∀ a x, ((![v236] : Fin 1 → IVec S16 32) a x).toNat < S16384.size a := fun i k0_t6 v236 k0_hw176 k0_h8 => k0_hw176 k0_h8

def k0_chk177 (i : grid0.Coords) (k0_t6 : Fin (k0_t6_loop i).trips) (v117 : IVec S16 32) : Prop :=
  (∀ (k0_h8 : k0_cond8 i k0_t6 = 1#1), ∀ a x, ((![v117] : Fin 1 → IVec S16 32) a x).toNat < S16384.size a)
theorem k0_idx177_inb : ∀ (i : grid0.Coords) (k0_t6 : Fin (k0_t6_loop i).trips) (v117 : IVec S16 32) (k0_hw177 : k0_chk177 i k0_t6 v117), ∀ (k0_h8 : k0_cond8 i k0_t6 = 1#1), ∀ a x, ((![v117] : Fin 1 → IVec S16 32) a x).toNat < S16384.size a := fun i k0_t6 v117 k0_hw177 k0_h8 => k0_hw177 k0_h8

def k0_chk178 (i : grid0.Coords) (k0_t6 : Fin (k0_t6_loop i).trips) (v119 : IVec S16 32) : Prop :=
  (∀ (k0_h8 : k0_cond8 i k0_t6 = 1#1), ∀ a x, ((![v119] : Fin 1 → IVec S16 32) a x).toNat < S16384.size a)
theorem k0_idx178_inb : ∀ (i : grid0.Coords) (k0_t6 : Fin (k0_t6_loop i).trips) (v119 : IVec S16 32) (k0_hw178 : k0_chk178 i k0_t6 v119), ∀ (k0_h8 : k0_cond8 i k0_t6 = 1#1), ∀ a x, ((![v119] : Fin 1 → IVec S16 32) a x).toNat < S16384.size a := fun i k0_t6 v119 k0_hw178 k0_h8 => k0_hw178 k0_h8

def k0_chk179 (i : grid0.Coords) (k0_t6 : Fin (k0_t6_loop i).trips) (v121 : IVec S16 32) : Prop :=
  (∀ (k0_h8 : k0_cond8 i k0_t6 = 1#1), ∀ a x, ((![v121] : Fin 1 → IVec S16 32) a x).toNat < S16384.size a)
theorem k0_idx179_inb : ∀ (i : grid0.Coords) (k0_t6 : Fin (k0_t6_loop i).trips) (v121 : IVec S16 32) (k0_hw179 : k0_chk179 i k0_t6 v121), ∀ (k0_h8 : k0_cond8 i k0_t6 = 1#1), ∀ a x, ((![v121] : Fin 1 → IVec S16 32) a x).toNat < S16384.size a := fun i k0_t6 v121 k0_hw179 k0_h8 => k0_hw179 k0_h8

def k0_chk180 (i : grid0.Coords) (k0_t6 : Fin (k0_t6_loop i).trips) (v123 : IVec S16 32) : Prop :=
  (∀ (k0_h8 : k0_cond8 i k0_t6 = 1#1), ∀ a x, ((![v123] : Fin 1 → IVec S16 32) a x).toNat < S16384.size a)
theorem k0_idx180_inb : ∀ (i : grid0.Coords) (k0_t6 : Fin (k0_t6_loop i).trips) (v123 : IVec S16 32) (k0_hw180 : k0_chk180 i k0_t6 v123), ∀ (k0_h8 : k0_cond8 i k0_t6 = 1#1), ∀ a x, ((![v123] : Fin 1 → IVec S16 32) a x).toNat < S16384.size a := fun i k0_t6 v123 k0_hw180 k0_h8 => k0_hw180 k0_h8

def k0_chk181 (i : grid0.Coords) (k0_t6 : Fin (k0_t6_loop i).trips) (v125 : IVec S16 32) : Prop :=
  (∀ (k0_h8 : k0_cond8 i k0_t6 = 1#1), ∀ a x, ((![v125] : Fin 1 → IVec S16 32) a x).toNat < S16384.size a)
theorem k0_idx181_inb : ∀ (i : grid0.Coords) (k0_t6 : Fin (k0_t6_loop i).trips) (v125 : IVec S16 32) (k0_hw181 : k0_chk181 i k0_t6 v125), ∀ (k0_h8 : k0_cond8 i k0_t6 = 1#1), ∀ a x, ((![v125] : Fin 1 → IVec S16 32) a x).toNat < S16384.size a := fun i k0_t6 v125 k0_hw181 k0_h8 => k0_hw181 k0_h8

def k0_chk182 (i : grid0.Coords) (k0_t6 : Fin (k0_t6_loop i).trips) (v127 : IVec S16 32) : Prop :=
  (∀ (k0_h8 : k0_cond8 i k0_t6 = 1#1), ∀ a x, ((![v127] : Fin 1 → IVec S16 32) a x).toNat < S16384.size a)
theorem k0_idx182_inb : ∀ (i : grid0.Coords) (k0_t6 : Fin (k0_t6_loop i).trips) (v127 : IVec S16 32) (k0_hw182 : k0_chk182 i k0_t6 v127), ∀ (k0_h8 : k0_cond8 i k0_t6 = 1#1), ∀ a x, ((![v127] : Fin 1 → IVec S16 32) a x).toNat < S16384.size a := fun i k0_t6 v127 k0_hw182 k0_h8 => k0_hw182 k0_h8

def k0_chk183 (i : grid0.Coords) (k0_t6 : Fin (k0_t6_loop i).trips) (v129 : IVec S16 32) : Prop :=
  (∀ (k0_h8 : k0_cond8 i k0_t6 = 1#1), ∀ a x, ((![v129] : Fin 1 → IVec S16 32) a x).toNat < S16384.size a)
theorem k0_idx183_inb : ∀ (i : grid0.Coords) (k0_t6 : Fin (k0_t6_loop i).trips) (v129 : IVec S16 32) (k0_hw183 : k0_chk183 i k0_t6 v129), ∀ (k0_h8 : k0_cond8 i k0_t6 = 1#1), ∀ a x, ((![v129] : Fin 1 → IVec S16 32) a x).toNat < S16384.size a := fun i k0_t6 v129 k0_hw183 k0_h8 => k0_hw183 k0_h8

def k0_chk184 (i : grid0.Coords) (k0_t6 : Fin (k0_t6_loop i).trips) (v131 : IVec S16 32) : Prop :=
  (∀ (k0_h8 : k0_cond8 i k0_t6 = 1#1), ∀ a x, ((![v131] : Fin 1 → IVec S16 32) a x).toNat < S16384.size a)
theorem k0_idx184_inb : ∀ (i : grid0.Coords) (k0_t6 : Fin (k0_t6_loop i).trips) (v131 : IVec S16 32) (k0_hw184 : k0_chk184 i k0_t6 v131), ∀ (k0_h8 : k0_cond8 i k0_t6 = 1#1), ∀ a x, ((![v131] : Fin 1 → IVec S16 32) a x).toNat < S16384.size a := fun i k0_t6 v131 k0_hw184 k0_h8 => k0_hw184 k0_h8

def k0_chk185 (i : grid0.Coords) (k0_t6 : Fin (k0_t6_loop i).trips) (v133 : IVec S16 32) : Prop :=
  (∀ (k0_h8 : k0_cond8 i k0_t6 = 1#1), ∀ a x, ((![v133] : Fin 1 → IVec S16 32) a x).toNat < S16384.size a)
theorem k0_idx185_inb : ∀ (i : grid0.Coords) (k0_t6 : Fin (k0_t6_loop i).trips) (v133 : IVec S16 32) (k0_hw185 : k0_chk185 i k0_t6 v133), ∀ (k0_h8 : k0_cond8 i k0_t6 = 1#1), ∀ a x, ((![v133] : Fin 1 → IVec S16 32) a x).toNat < S16384.size a := fun i k0_t6 v133 k0_hw185 k0_h8 => k0_hw185 k0_h8

def k0_chk186 (i : grid0.Coords) (k0_t6 : Fin (k0_t6_loop i).trips) (v135 : IVec S16 32) : Prop :=
  (∀ (k0_h8 : k0_cond8 i k0_t6 = 1#1), ∀ a x, ((![v135] : Fin 1 → IVec S16 32) a x).toNat < S16384.size a)
theorem k0_idx186_inb : ∀ (i : grid0.Coords) (k0_t6 : Fin (k0_t6_loop i).trips) (v135 : IVec S16 32) (k0_hw186 : k0_chk186 i k0_t6 v135), ∀ (k0_h8 : k0_cond8 i k0_t6 = 1#1), ∀ a x, ((![v135] : Fin 1 → IVec S16 32) a x).toNat < S16384.size a := fun i k0_t6 v135 k0_hw186 k0_h8 => k0_hw186 k0_h8

def k0_chk187 (i : grid0.Coords) (k0_t6 : Fin (k0_t6_loop i).trips) (v137 : IVec S16 32) : Prop :=
  (∀ (k0_h8 : k0_cond8 i k0_t6 = 1#1), ∀ a x, ((![v137] : Fin 1 → IVec S16 32) a x).toNat < S16384.size a)
theorem k0_idx187_inb : ∀ (i : grid0.Coords) (k0_t6 : Fin (k0_t6_loop i).trips) (v137 : IVec S16 32) (k0_hw187 : k0_chk187 i k0_t6 v137), ∀ (k0_h8 : k0_cond8 i k0_t6 = 1#1), ∀ a x, ((![v137] : Fin 1 → IVec S16 32) a x).toNat < S16384.size a := fun i k0_t6 v137 k0_hw187 k0_h8 => k0_hw187 k0_h8

def k0_chk188 (i : grid0.Coords) (k0_t6 : Fin (k0_t6_loop i).trips) (v139 : IVec S16 32) : Prop :=
  (∀ (k0_h8 : k0_cond8 i k0_t6 = 1#1), ∀ a x, ((![v139] : Fin 1 → IVec S16 32) a x).toNat < S16384.size a)
theorem k0_idx188_inb : ∀ (i : grid0.Coords) (k0_t6 : Fin (k0_t6_loop i).trips) (v139 : IVec S16 32) (k0_hw188 : k0_chk188 i k0_t6 v139), ∀ (k0_h8 : k0_cond8 i k0_t6 = 1#1), ∀ a x, ((![v139] : Fin 1 → IVec S16 32) a x).toNat < S16384.size a := fun i k0_t6 v139 k0_hw188 k0_h8 => k0_hw188 k0_h8

def k0_chk189 (i : grid0.Coords) (k0_t6 : Fin (k0_t6_loop i).trips) (v141 : IVec S16 32) : Prop :=
  (∀ (k0_h8 : k0_cond8 i k0_t6 = 1#1), ∀ a x, ((![v141] : Fin 1 → IVec S16 32) a x).toNat < S16384.size a)
theorem k0_idx189_inb : ∀ (i : grid0.Coords) (k0_t6 : Fin (k0_t6_loop i).trips) (v141 : IVec S16 32) (k0_hw189 : k0_chk189 i k0_t6 v141), ∀ (k0_h8 : k0_cond8 i k0_t6 = 1#1), ∀ a x, ((![v141] : Fin 1 → IVec S16 32) a x).toNat < S16384.size a := fun i k0_t6 v141 k0_hw189 k0_h8 => k0_hw189 k0_h8

def k0_chk190 (i : grid0.Coords) (k0_t6 : Fin (k0_t6_loop i).trips) (v143 : IVec S16 32) : Prop :=
  (∀ (k0_h8 : k0_cond8 i k0_t6 = 1#1), ∀ a x, ((![v143] : Fin 1 → IVec S16 32) a x).toNat < S16384.size a)
theorem k0_idx190_inb : ∀ (i : grid0.Coords) (k0_t6 : Fin (k0_t6_loop i).trips) (v143 : IVec S16 32) (k0_hw190 : k0_chk190 i k0_t6 v143), ∀ (k0_h8 : k0_cond8 i k0_t6 = 1#1), ∀ a x, ((![v143] : Fin 1 → IVec S16 32) a x).toNat < S16384.size a := fun i k0_t6 v143 k0_hw190 k0_h8 => k0_hw190 k0_h8

def k0_chk191 (i : grid0.Coords) (k0_t6 : Fin (k0_t6_loop i).trips) (v145 : IVec S16 32) : Prop :=
  (∀ (k0_h8 : k0_cond8 i k0_t6 = 1#1), ∀ a x, ((![v145] : Fin 1 → IVec S16 32) a x).toNat < S16384.size a)
theorem k0_idx191_inb : ∀ (i : grid0.Coords) (k0_t6 : Fin (k0_t6_loop i).trips) (v145 : IVec S16 32) (k0_hw191 : k0_chk191 i k0_t6 v145), ∀ (k0_h8 : k0_cond8 i k0_t6 = 1#1), ∀ a x, ((![v145] : Fin 1 → IVec S16 32) a x).toNat < S16384.size a := fun i k0_t6 v145 k0_hw191 k0_h8 => k0_hw191 k0_h8

def k0_chk192 (i : grid0.Coords) (k0_t6 : Fin (k0_t6_loop i).trips) (v147 : IVec S16 32) : Prop :=
  (∀ (k0_h8 : k0_cond8 i k0_t6 = 1#1), ∀ a x, ((![v147] : Fin 1 → IVec S16 32) a x).toNat < S16384.size a)
theorem k0_idx192_inb : ∀ (i : grid0.Coords) (k0_t6 : Fin (k0_t6_loop i).trips) (v147 : IVec S16 32) (k0_hw192 : k0_chk192 i k0_t6 v147), ∀ (k0_h8 : k0_cond8 i k0_t6 = 1#1), ∀ a x, ((![v147] : Fin 1 → IVec S16 32) a x).toNat < S16384.size a := fun i k0_t6 v147 k0_hw192 k0_h8 => k0_hw192 k0_h8
def k0_mult18 (i : grid0.Coords) (k0_t6 : Fin (k0_t6_loop i).trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_3 : BitVec 32 := 0#32
  let c30_i32 : BitVec 32 := 30#32
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v4 : BitVec 32 := Scalar.addi c30_i32 v3
  let v8 : BitVec 32 := Scalar.subi v4 c0_i32_3
  let c1_i32_4 : BitVec 32 := 1#32
  let v10 : BitVec 32 := Scalar.divsi v8 c1_i32_4
  let v11 : BitVec 32 := Scalar.muli v10 c1_i32_4
  let v12 : BitVec 32 := Scalar.addi c0_i32_3 v11
  let c1_i32_6 : BitVec 32 := 1#32
  let arg13 : BitVec 32 := Scf.iv v12 c1_i32_6 k0_t6
  let c32_i32_34 : BitVec 32 := 32#32
  let v49 : BitVec 32 := Scalar.muli arg13 c32_i32_34
  let v50 : BitVec 32 := Scalar.addi v1 v49
  let c1024_i32_35 : BitVec 32 := 1024#32
  let v51 : BitVec 32 := Scalar.muli v50 c1024_i32_35
  v51
def k0_mult19 (i : grid0.Coords) (k0_t6 : Fin (k0_t6_loop i).trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_3 : BitVec 32 := 0#32
  let c30_i32 : BitVec 32 := 30#32
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v4 : BitVec 32 := Scalar.addi c30_i32 v3
  let v8 : BitVec 32 := Scalar.subi v4 c0_i32_3
  let c1_i32_4 : BitVec 32 := 1#32
  let v10 : BitVec 32 := Scalar.divsi v8 c1_i32_4
  let v11 : BitVec 32 := Scalar.muli v10 c1_i32_4
  let v12 : BitVec 32 := Scalar.addi c0_i32_3 v11
  let c1_i32_6 : BitVec 32 := 1#32
  let arg13 : BitVec 32 := Scf.iv v12 c1_i32_6 k0_t6
  let c32_i32_34 : BitVec 32 := 32#32
  let v49 : BitVec 32 := Scalar.muli arg13 c32_i32_34
  let v50 : BitVec 32 := Scalar.addi v1 v49
  let c1024_i32_35 : BitVec 32 := 1024#32
  let v51 : BitVec 32 := Scalar.muli v50 c1024_i32_35
  let v52 : BitVec 32 := v51
  let c16_i32_36 : BitVec 32 := 16#32
  let v53 : BitVec 32 := Scalar.muli v52 c16_i32_36
  v53
def k0_off13 (i : grid0.Coords) (k0_t6 : Fin (k0_t6_loop i).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_3 : BitVec 32 := 0#32
  let c30_i32 : BitVec 32 := 30#32
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v4 : BitVec 32 := Scalar.addi c30_i32 v3
  let v8 : BitVec 32 := Scalar.subi v4 c0_i32_3
  let c1_i32_4 : BitVec 32 := 1#32
  let v10 : BitVec 32 := Scalar.divsi v8 c1_i32_4
  let v11 : BitVec 32 := Scalar.muli v10 c1_i32_4
  let v12 : BitVec 32 := Scalar.addi c0_i32_3 v11
  let c1_i32_6 : BitVec 32 := 1#32
  let arg13 : BitVec 32 := Scf.iv v12 c1_i32_6 k0_t6
  let c32_i32_34 : BitVec 32 := 32#32
  let v49 : BitVec 32 := Scalar.muli arg13 c32_i32_34
  let v50 : BitVec 32 := Scalar.addi v1 v49
  let c1024_i32_35 : BitVec 32 := 1024#32
  let v51 : BitVec 32 := Scalar.muli v50 c1024_i32_35
  let v52 : BitVec 32 := v51
  let c16_i32_36 : BitVec 32 := 16#32
  let v53 : BitVec 32 := Scalar.muli v52 c16_i32_36
  let v54 : BitVec 32 := v53
  ![v54.toNat]
def k0_cond11 (i : grid0.Coords) (k0_t6 : Fin (k0_t6_loop i).trips) : BitVec 1 :=
  let c0_i32_3 : BitVec 32 := 0#32
  let c30_i32 : BitVec 32 := 30#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v4 : BitVec 32 := Scalar.addi c30_i32 v3
  let v8 : BitVec 32 := Scalar.subi v4 c0_i32_3
  let c1_i32_4 : BitVec 32 := 1#32
  let v10 : BitVec 32 := Scalar.divsi v8 c1_i32_4
  let v11 : BitVec 32 := Scalar.muli v10 c1_i32_4
  let v12 : BitVec 32 := Scalar.addi c0_i32_3 v11
  let c1_i32_6 : BitVec 32 := 1#32
  let arg13 : BitVec 32 := Scf.iv v12 c1_i32_6 k0_t6
  let c2_i32_17 : BitVec 32 := 2#32
  let v29 : BitVec 32 := Scalar.remsi arg13 c2_i32_17
  let c1_i32_18 : BitVec 32 := 1#32
  let v30 : BitVec 1 := Scalar.cmpi .eq v29 c1_i32_18
  let v31 : BitVec 32 := Scalar.extui v30
  let c0_i32_19 : BitVec 32 := 0#32
  let v32 : BitVec 1 := Scalar.cmpi .ne v31 c0_i32_19
  v32

def k0_cond12 (i : grid0.Coords) (k0_t6 : Fin (k0_t6_loop i).trips) : BitVec 1 :=
  let c0_i32_3 : BitVec 32 := 0#32
  let c30_i32 : BitVec 32 := 30#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v4 : BitVec 32 := Scalar.addi c30_i32 v3
  let v8 : BitVec 32 := Scalar.subi v4 c0_i32_3
  let c1_i32_4 : BitVec 32 := 1#32
  let v10 : BitVec 32 := Scalar.divsi v8 c1_i32_4
  let v11 : BitVec 32 := Scalar.muli v10 c1_i32_4
  let v12 : BitVec 32 := Scalar.addi c0_i32_3 v11
  let c1_i32_6 : BitVec 32 := 1#32
  let arg13 : BitVec 32 := Scf.iv v12 c1_i32_6 k0_t6
  let c1_i32_20 : BitVec 32 := 1#32
  let v33 : BitVec 32 := Scalar.addi arg13 c1_i32_20
  let v34 : BitVec 1 := Scalar.cmpi .slt v33 v4
  let v35 : BitVec 32 := Scalar.extui v34
  let c0_i32_21 : BitVec 32 := 0#32
  let v36 : BitVec 1 := Scalar.cmpi .ne v35 c0_i32_21
  v36

def k0_mult20 (i : grid0.Coords) (k0_t6 : Fin (k0_t6_loop i).trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_3 : BitVec 32 := 0#32
  let c30_i32 : BitVec 32 := 30#32
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v4 : BitVec 32 := Scalar.addi c30_i32 v3
  let v8 : BitVec 32 := Scalar.subi v4 c0_i32_3
  let c1_i32_4 : BitVec 32 := 1#32
  let v10 : BitVec 32 := Scalar.divsi v8 c1_i32_4
  let v11 : BitVec 32 := Scalar.muli v10 c1_i32_4
  let v12 : BitVec 32 := Scalar.addi c0_i32_3 v11
  let c1_i32_6 : BitVec 32 := 1#32
  let arg13 : BitVec 32 := Scf.iv v12 c1_i32_6 k0_t6
  let c1_i32_37 : BitVec 32 := 1#32
  let v57 : BitVec 32 := Scalar.addi arg13 c1_i32_37
  let c32_i32_38 : BitVec 32 := 32#32
  let v58 : BitVec 32 := Scalar.muli v57 c32_i32_38
  let v59 : BitVec 32 := Scalar.addi v1 v58
  let c1024_i32_39 : BitVec 32 := 1024#32
  let v60 : BitVec 32 := Scalar.muli v59 c1024_i32_39
  v60
def k0_off14 (i : grid0.Coords) (k0_t6 : Fin (k0_t6_loop i).trips) : Fin 2 → Nat :=
  let c0_i32_42 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_3 : BitVec 32 := 0#32
  let c30_i32 : BitVec 32 := 30#32
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v4 : BitVec 32 := Scalar.addi c30_i32 v3
  let v8 : BitVec 32 := Scalar.subi v4 c0_i32_3
  let c1_i32_4 : BitVec 32 := 1#32
  let v10 : BitVec 32 := Scalar.divsi v8 c1_i32_4
  let v11 : BitVec 32 := Scalar.muli v10 c1_i32_4
  let v12 : BitVec 32 := Scalar.addi c0_i32_3 v11
  let c1_i32_6 : BitVec 32 := 1#32
  let arg13 : BitVec 32 := Scf.iv v12 c1_i32_6 k0_t6
  let c1_i32_37 : BitVec 32 := 1#32
  let v57 : BitVec 32 := Scalar.addi arg13 c1_i32_37
  let c32_i32_38 : BitVec 32 := 32#32
  let v58 : BitVec 32 := Scalar.muli v57 c32_i32_38
  let v59 : BitVec 32 := Scalar.addi v1 v58
  let c1024_i32_39 : BitVec 32 := 1024#32
  let v60 : BitVec 32 := Scalar.muli v59 c1024_i32_39
  let v61 : BitVec 32 := v60
  ![0, v61.toNat]
def k0_cond13 (i : grid0.Coords) (k0_t6 : Fin (k0_t6_loop i).trips) : BitVec 1 :=
  let c0_i32_3 : BitVec 32 := 0#32
  let c30_i32 : BitVec 32 := 30#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v4 : BitVec 32 := Scalar.addi c30_i32 v3
  let v8 : BitVec 32 := Scalar.subi v4 c0_i32_3
  let c1_i32_4 : BitVec 32 := 1#32
  let v10 : BitVec 32 := Scalar.divsi v8 c1_i32_4
  let v11 : BitVec 32 := Scalar.muli v10 c1_i32_4
  let v12 : BitVec 32 := Scalar.addi c0_i32_3 v11
  let c1_i32_6 : BitVec 32 := 1#32
  let arg13 : BitVec 32 := Scf.iv v12 c1_i32_6 k0_t6
  let c2_i32_22 : BitVec 32 := 2#32
  let v37 : BitVec 1 := Scalar.cmpi .sge arg13 c2_i32_22
  let v38 : BitVec 32 := Scalar.extui v37
  let c0_i32_23 : BitVec 32 := 0#32
  let v39 : BitVec 1 := Scalar.cmpi .ne v38 c0_i32_23
  v39

def k0_mult21 (i : grid0.Coords) (k0_t6 : Fin (k0_t6_loop i).trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_3 : BitVec 32 := 0#32
  let c30_i32 : BitVec 32 := 30#32
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v4 : BitVec 32 := Scalar.addi c30_i32 v3
  let v8 : BitVec 32 := Scalar.subi v4 c0_i32_3
  let c1_i32_4 : BitVec 32 := 1#32
  let v10 : BitVec 32 := Scalar.divsi v8 c1_i32_4
  let v11 : BitVec 32 := Scalar.muli v10 c1_i32_4
  let v12 : BitVec 32 := Scalar.addi c0_i32_3 v11
  let c1_i32_6 : BitVec 32 := 1#32
  let arg13 : BitVec 32 := Scf.iv v12 c1_i32_6 k0_t6
  let c2_i32_37 : BitVec 32 := 2#32
  let v57 : BitVec 32 := Scalar.subi arg13 c2_i32_37
  let c32_i32_38 : BitVec 32 := 32#32
  let v58 : BitVec 32 := Scalar.muli v57 c32_i32_38
  let v59 : BitVec 32 := Scalar.addi v1 v58
  let c1024_i32_39 : BitVec 32 := 1024#32
  let v60 : BitVec 32 := Scalar.muli v59 c1024_i32_39
  v60
def k0_mult22 (i : grid0.Coords) (k0_t6 : Fin (k0_t6_loop i).trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_3 : BitVec 32 := 0#32
  let c30_i32 : BitVec 32 := 30#32
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v4 : BitVec 32 := Scalar.addi c30_i32 v3
  let v8 : BitVec 32 := Scalar.subi v4 c0_i32_3
  let c1_i32_4 : BitVec 32 := 1#32
  let v10 : BitVec 32 := Scalar.divsi v8 c1_i32_4
  let v11 : BitVec 32 := Scalar.muli v10 c1_i32_4
  let v12 : BitVec 32 := Scalar.addi c0_i32_3 v11
  let c1_i32_6 : BitVec 32 := 1#32
  let arg13 : BitVec 32 := Scf.iv v12 c1_i32_6 k0_t6
  let c2_i32_37 : BitVec 32 := 2#32
  let v57 : BitVec 32 := Scalar.subi arg13 c2_i32_37
  let c32_i32_38 : BitVec 32 := 32#32
  let v58 : BitVec 32 := Scalar.muli v57 c32_i32_38
  let v59 : BitVec 32 := Scalar.addi v1 v58
  let c1024_i32_39 : BitVec 32 := 1024#32
  let v60 : BitVec 32 := Scalar.muli v59 c1024_i32_39
  let v61 : BitVec 32 := v60
  let c16_i32_40 : BitVec 32 := 16#32
  let v62 : BitVec 32 := Scalar.muli v61 c16_i32_40
  v62
def k0_off15 (i : grid0.Coords) (k0_t6 : Fin (k0_t6_loop i).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_3 : BitVec 32 := 0#32
  let c30_i32 : BitVec 32 := 30#32
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v4 : BitVec 32 := Scalar.addi c30_i32 v3
  let v8 : BitVec 32 := Scalar.subi v4 c0_i32_3
  let c1_i32_4 : BitVec 32 := 1#32
  let v10 : BitVec 32 := Scalar.divsi v8 c1_i32_4
  let v11 : BitVec 32 := Scalar.muli v10 c1_i32_4
  let v12 : BitVec 32 := Scalar.addi c0_i32_3 v11
  let c1_i32_6 : BitVec 32 := 1#32
  let arg13 : BitVec 32 := Scf.iv v12 c1_i32_6 k0_t6
  let c2_i32_37 : BitVec 32 := 2#32
  let v57 : BitVec 32 := Scalar.subi arg13 c2_i32_37
  let c32_i32_38 : BitVec 32 := 32#32
  let v58 : BitVec 32 := Scalar.muli v57 c32_i32_38
  let v59 : BitVec 32 := Scalar.addi v1 v58
  let c1024_i32_39 : BitVec 32 := 1024#32
  let v60 : BitVec 32 := Scalar.muli v59 c1024_i32_39
  let v61 : BitVec 32 := v60
  let c16_i32_40 : BitVec 32 := 16#32
  let v62 : BitVec 32 := Scalar.muli v61 c16_i32_40
  let v63 : BitVec 32 := v62
  ![v63.toNat]
def k0_mult23 (i : grid0.Coords) (k0_t6 : Fin (k0_t6_loop i).trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_3 : BitVec 32 := 0#32
  let c30_i32 : BitVec 32 := 30#32
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v4 : BitVec 32 := Scalar.addi c30_i32 v3
  let v8 : BitVec 32 := Scalar.subi v4 c0_i32_3
  let c1_i32_4 : BitVec 32 := 1#32
  let v10 : BitVec 32 := Scalar.divsi v8 c1_i32_4
  let v11 : BitVec 32 := Scalar.muli v10 c1_i32_4
  let v12 : BitVec 32 := Scalar.addi c0_i32_3 v11
  let c1_i32_6 : BitVec 32 := 1#32
  let arg13 : BitVec 32 := Scf.iv v12 c1_i32_6 k0_t6
  let c32_i32 : BitVec 32 := 32#32
  let v40 : BitVec 32 := Scalar.muli arg13 c32_i32
  let v41 : BitVec 32 := Scalar.addi v1 v40
  let c1024_i32 : BitVec 32 := 1024#32
  let v42 : BitVec 32 := Scalar.muli v41 c1024_i32
  v42
def k0_off16 (i : grid0.Coords) (k0_t6 : Fin (k0_t6_loop i).trips) : Fin 2 → Nat :=
  let c0_i32_26 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_3 : BitVec 32 := 0#32
  let c30_i32 : BitVec 32 := 30#32
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v4 : BitVec 32 := Scalar.addi c30_i32 v3
  let v8 : BitVec 32 := Scalar.subi v4 c0_i32_3
  let c1_i32_4 : BitVec 32 := 1#32
  let v10 : BitVec 32 := Scalar.divsi v8 c1_i32_4
  let v11 : BitVec 32 := Scalar.muli v10 c1_i32_4
  let v12 : BitVec 32 := Scalar.addi c0_i32_3 v11
  let c1_i32_6 : BitVec 32 := 1#32
  let arg13 : BitVec 32 := Scf.iv v12 c1_i32_6 k0_t6
  let c32_i32 : BitVec 32 := 32#32
  let v40 : BitVec 32 := Scalar.muli arg13 c32_i32
  let v41 : BitVec 32 := Scalar.addi v1 v40
  let c1024_i32 : BitVec 32 := 1024#32
  let v42 : BitVec 32 := Scalar.muli v41 c1024_i32
  let v43 : BitVec 32 := v42
  ![0, v43.toNat]
@[reducible] def k0_t9_loop : Scf.Loop 32 :=
  let c0_i32_31 : BitVec 32 := 0#32
  let c8_i32 : BitVec 32 := 8#32
  let v48 : BitVec 32 := Scalar.addi c0_i32_31 c8_i32
  let c1_i32_32 : BitVec 32 := 1#32
  ⟨c0_i32_31, v48, c1_i32_32⟩

def k0_chk193 (i : grid0.Coords) (k0_t6 : Fin (k0_t6_loop i).trips) (v58 : IVec S16 32) (v63 : IVec S16 32) : Prop :=
  (∀ (k0_h11 : k0_cond11 i k0_t6 = 1#1), ∀ a x, ((![v58, v63] : Fin 2 → IVec S16 32) a x).toNat < S16x1041.size a)
theorem k0_idx193_inb : ∀ (i : grid0.Coords) (k0_t6 : Fin (k0_t6_loop i).trips) (v58 : IVec S16 32) (v63 : IVec S16 32) (k0_hw193 : k0_chk193 i k0_t6 v58 v63), ∀ (k0_h11 : k0_cond11 i k0_t6 = 1#1), ∀ a x, ((![v58, v63] : Fin 2 → IVec S16 32) a x).toNat < S16x1041.size a := fun i k0_t6 v58 v63 k0_hw193 k0_h11 => k0_hw193 k0_h11

def k0_chk194 (i : grid0.Coords) (k0_t6 : Fin (k0_t6_loop i).trips) (v58 : IVec S16 32) (v66 : IVec S16 32) : Prop :=
  (∀ (k0_h11 : k0_cond11 i k0_t6 = 1#1), ∀ a x, ((![v58, v66] : Fin 2 → IVec S16 32) a x).toNat < S16x1041.size a)
theorem k0_idx194_inb : ∀ (i : grid0.Coords) (k0_t6 : Fin (k0_t6_loop i).trips) (v58 : IVec S16 32) (v66 : IVec S16 32) (k0_hw194 : k0_chk194 i k0_t6 v58 v66), ∀ (k0_h11 : k0_cond11 i k0_t6 = 1#1), ∀ a x, ((![v58, v66] : Fin 2 → IVec S16 32) a x).toNat < S16x1041.size a := fun i k0_t6 v58 v66 k0_hw194 k0_h11 => k0_hw194 k0_h11

def k0_chk195 (i : grid0.Coords) (k0_t6 : Fin (k0_t6_loop i).trips) (v58 : IVec S16 32) (v69 : IVec S16 32) : Prop :=
  (∀ (k0_h11 : k0_cond11 i k0_t6 = 1#1), ∀ a x, ((![v58, v69] : Fin 2 → IVec S16 32) a x).toNat < S16x1041.size a)
theorem k0_idx195_inb : ∀ (i : grid0.Coords) (k0_t6 : Fin (k0_t6_loop i).trips) (v58 : IVec S16 32) (v69 : IVec S16 32) (k0_hw195 : k0_chk195 i k0_t6 v58 v69), ∀ (k0_h11 : k0_cond11 i k0_t6 = 1#1), ∀ a x, ((![v58, v69] : Fin 2 → IVec S16 32) a x).toNat < S16x1041.size a := fun i k0_t6 v58 v69 k0_hw195 k0_h11 => k0_hw195 k0_h11

def k0_chk196 (i : grid0.Coords) (k0_t6 : Fin (k0_t6_loop i).trips) (v58 : IVec S16 32) (v72 : IVec S16 32) : Prop :=
  (∀ (k0_h11 : k0_cond11 i k0_t6 = 1#1), ∀ a x, ((![v58, v72] : Fin 2 → IVec S16 32) a x).toNat < S16x1041.size a)
theorem k0_idx196_inb : ∀ (i : grid0.Coords) (k0_t6 : Fin (k0_t6_loop i).trips) (v58 : IVec S16 32) (v72 : IVec S16 32) (k0_hw196 : k0_chk196 i k0_t6 v58 v72), ∀ (k0_h11 : k0_cond11 i k0_t6 = 1#1), ∀ a x, ((![v58, v72] : Fin 2 → IVec S16 32) a x).toNat < S16x1041.size a := fun i k0_t6 v58 v72 k0_hw196 k0_h11 => k0_hw196 k0_h11

def k0_chk197 (i : grid0.Coords) (k0_t6 : Fin (k0_t6_loop i).trips) (v58 : IVec S16 32) (v75 : IVec S16 32) : Prop :=
  (∀ (k0_h11 : k0_cond11 i k0_t6 = 1#1), ∀ a x, ((![v58, v75] : Fin 2 → IVec S16 32) a x).toNat < S16x1041.size a)
theorem k0_idx197_inb : ∀ (i : grid0.Coords) (k0_t6 : Fin (k0_t6_loop i).trips) (v58 : IVec S16 32) (v75 : IVec S16 32) (k0_hw197 : k0_chk197 i k0_t6 v58 v75), ∀ (k0_h11 : k0_cond11 i k0_t6 = 1#1), ∀ a x, ((![v58, v75] : Fin 2 → IVec S16 32) a x).toNat < S16x1041.size a := fun i k0_t6 v58 v75 k0_hw197 k0_h11 => k0_hw197 k0_h11

def k0_chk198 (i : grid0.Coords) (k0_t6 : Fin (k0_t6_loop i).trips) (v58 : IVec S16 32) (v78 : IVec S16 32) : Prop :=
  (∀ (k0_h11 : k0_cond11 i k0_t6 = 1#1), ∀ a x, ((![v58, v78] : Fin 2 → IVec S16 32) a x).toNat < S16x1041.size a)
theorem k0_idx198_inb : ∀ (i : grid0.Coords) (k0_t6 : Fin (k0_t6_loop i).trips) (v58 : IVec S16 32) (v78 : IVec S16 32) (k0_hw198 : k0_chk198 i k0_t6 v58 v78), ∀ (k0_h11 : k0_cond11 i k0_t6 = 1#1), ∀ a x, ((![v58, v78] : Fin 2 → IVec S16 32) a x).toNat < S16x1041.size a := fun i k0_t6 v58 v78 k0_hw198 k0_h11 => k0_hw198 k0_h11

def k0_chk199 (i : grid0.Coords) (k0_t6 : Fin (k0_t6_loop i).trips) (v58 : IVec S16 32) (v81 : IVec S16 32) : Prop :=
  (∀ (k0_h11 : k0_cond11 i k0_t6 = 1#1), ∀ a x, ((![v58, v81] : Fin 2 → IVec S16 32) a x).toNat < S16x1041.size a)
theorem k0_idx199_inb : ∀ (i : grid0.Coords) (k0_t6 : Fin (k0_t6_loop i).trips) (v58 : IVec S16 32) (v81 : IVec S16 32) (k0_hw199 : k0_chk199 i k0_t6 v58 v81), ∀ (k0_h11 : k0_cond11 i k0_t6 = 1#1), ∀ a x, ((![v58, v81] : Fin 2 → IVec S16 32) a x).toNat < S16x1041.size a := fun i k0_t6 v58 v81 k0_hw199 k0_h11 => k0_hw199 k0_h11

def k0_chk200 (i : grid0.Coords) (k0_t6 : Fin (k0_t6_loop i).trips) (v58 : IVec S16 32) (v84 : IVec S16 32) : Prop :=
  (∀ (k0_h11 : k0_cond11 i k0_t6 = 1#1), ∀ a x, ((![v58, v84] : Fin 2 → IVec S16 32) a x).toNat < S16x1041.size a)
theorem k0_idx200_inb : ∀ (i : grid0.Coords) (k0_t6 : Fin (k0_t6_loop i).trips) (v58 : IVec S16 32) (v84 : IVec S16 32) (k0_hw200 : k0_chk200 i k0_t6 v58 v84), ∀ (k0_h11 : k0_cond11 i k0_t6 = 1#1), ∀ a x, ((![v58, v84] : Fin 2 → IVec S16 32) a x).toNat < S16x1041.size a := fun i k0_t6 v58 v84 k0_hw200 k0_h11 => k0_hw200 k0_h11

def k0_chk201 (i : grid0.Coords) (k0_t6 : Fin (k0_t6_loop i).trips) (v58 : IVec S16 32) (v87 : IVec S16 32) : Prop :=
  (∀ (k0_h11 : k0_cond11 i k0_t6 = 1#1), ∀ a x, ((![v58, v87] : Fin 2 → IVec S16 32) a x).toNat < S16x1041.size a)
theorem k0_idx201_inb : ∀ (i : grid0.Coords) (k0_t6 : Fin (k0_t6_loop i).trips) (v58 : IVec S16 32) (v87 : IVec S16 32) (k0_hw201 : k0_chk201 i k0_t6 v58 v87), ∀ (k0_h11 : k0_cond11 i k0_t6 = 1#1), ∀ a x, ((![v58, v87] : Fin 2 → IVec S16 32) a x).toNat < S16x1041.size a := fun i k0_t6 v58 v87 k0_hw201 k0_h11 => k0_hw201 k0_h11

def k0_chk202 (i : grid0.Coords) (k0_t6 : Fin (k0_t6_loop i).trips) (v58 : IVec S16 32) (v90 : IVec S16 32) : Prop :=
  (∀ (k0_h11 : k0_cond11 i k0_t6 = 1#1), ∀ a x, ((![v58, v90] : Fin 2 → IVec S16 32) a x).toNat < S16x1041.size a)
theorem k0_idx202_inb : ∀ (i : grid0.Coords) (k0_t6 : Fin (k0_t6_loop i).trips) (v58 : IVec S16 32) (v90 : IVec S16 32) (k0_hw202 : k0_chk202 i k0_t6 v58 v90), ∀ (k0_h11 : k0_cond11 i k0_t6 = 1#1), ∀ a x, ((![v58, v90] : Fin 2 → IVec S16 32) a x).toNat < S16x1041.size a := fun i k0_t6 v58 v90 k0_hw202 k0_h11 => k0_hw202 k0_h11

def k0_chk203 (i : grid0.Coords) (k0_t6 : Fin (k0_t6_loop i).trips) (v58 : IVec S16 32) (v93 : IVec S16 32) : Prop :=
  (∀ (k0_h11 : k0_cond11 i k0_t6 = 1#1), ∀ a x, ((![v58, v93] : Fin 2 → IVec S16 32) a x).toNat < S16x1041.size a)
theorem k0_idx203_inb : ∀ (i : grid0.Coords) (k0_t6 : Fin (k0_t6_loop i).trips) (v58 : IVec S16 32) (v93 : IVec S16 32) (k0_hw203 : k0_chk203 i k0_t6 v58 v93), ∀ (k0_h11 : k0_cond11 i k0_t6 = 1#1), ∀ a x, ((![v58, v93] : Fin 2 → IVec S16 32) a x).toNat < S16x1041.size a := fun i k0_t6 v58 v93 k0_hw203 k0_h11 => k0_hw203 k0_h11

def k0_chk204 (i : grid0.Coords) (k0_t6 : Fin (k0_t6_loop i).trips) (v58 : IVec S16 32) (v96 : IVec S16 32) : Prop :=
  (∀ (k0_h11 : k0_cond11 i k0_t6 = 1#1), ∀ a x, ((![v58, v96] : Fin 2 → IVec S16 32) a x).toNat < S16x1041.size a)
theorem k0_idx204_inb : ∀ (i : grid0.Coords) (k0_t6 : Fin (k0_t6_loop i).trips) (v58 : IVec S16 32) (v96 : IVec S16 32) (k0_hw204 : k0_chk204 i k0_t6 v58 v96), ∀ (k0_h11 : k0_cond11 i k0_t6 = 1#1), ∀ a x, ((![v58, v96] : Fin 2 → IVec S16 32) a x).toNat < S16x1041.size a := fun i k0_t6 v58 v96 k0_hw204 k0_h11 => k0_hw204 k0_h11

def k0_chk205 (i : grid0.Coords) (k0_t6 : Fin (k0_t6_loop i).trips) (v58 : IVec S16 32) (v99 : IVec S16 32) : Prop :=
  (∀ (k0_h11 : k0_cond11 i k0_t6 = 1#1), ∀ a x, ((![v58, v99] : Fin 2 → IVec S16 32) a x).toNat < S16x1041.size a)
theorem k0_idx205_inb : ∀ (i : grid0.Coords) (k0_t6 : Fin (k0_t6_loop i).trips) (v58 : IVec S16 32) (v99 : IVec S16 32) (k0_hw205 : k0_chk205 i k0_t6 v58 v99), ∀ (k0_h11 : k0_cond11 i k0_t6 = 1#1), ∀ a x, ((![v58, v99] : Fin 2 → IVec S16 32) a x).toNat < S16x1041.size a := fun i k0_t6 v58 v99 k0_hw205 k0_h11 => k0_hw205 k0_h11

def k0_chk206 (i : grid0.Coords) (k0_t6 : Fin (k0_t6_loop i).trips) (v58 : IVec S16 32) (v102 : IVec S16 32) : Prop :=
  (∀ (k0_h11 : k0_cond11 i k0_t6 = 1#1), ∀ a x, ((![v58, v102] : Fin 2 → IVec S16 32) a x).toNat < S16x1041.size a)
theorem k0_idx206_inb : ∀ (i : grid0.Coords) (k0_t6 : Fin (k0_t6_loop i).trips) (v58 : IVec S16 32) (v102 : IVec S16 32) (k0_hw206 : k0_chk206 i k0_t6 v58 v102), ∀ (k0_h11 : k0_cond11 i k0_t6 = 1#1), ∀ a x, ((![v58, v102] : Fin 2 → IVec S16 32) a x).toNat < S16x1041.size a := fun i k0_t6 v58 v102 k0_hw206 k0_h11 => k0_hw206 k0_h11

def k0_chk207 (i : grid0.Coords) (k0_t6 : Fin (k0_t6_loop i).trips) (v58 : IVec S16 32) (v105 : IVec S16 32) : Prop :=
  (∀ (k0_h11 : k0_cond11 i k0_t6 = 1#1), ∀ a x, ((![v58, v105] : Fin 2 → IVec S16 32) a x).toNat < S16x1041.size a)
theorem k0_idx207_inb : ∀ (i : grid0.Coords) (k0_t6 : Fin (k0_t6_loop i).trips) (v58 : IVec S16 32) (v105 : IVec S16 32) (k0_hw207 : k0_chk207 i k0_t6 v58 v105), ∀ (k0_h11 : k0_cond11 i k0_t6 = 1#1), ∀ a x, ((![v58, v105] : Fin 2 → IVec S16 32) a x).toNat < S16x1041.size a := fun i k0_t6 v58 v105 k0_hw207 k0_h11 => k0_hw207 k0_h11

def k0_chk208 (i : grid0.Coords) (k0_t6 : Fin (k0_t6_loop i).trips) (v58 : IVec S16 32) (v108 : IVec S16 32) : Prop :=
  (∀ (k0_h11 : k0_cond11 i k0_t6 = 1#1), ∀ a x, ((![v58, v108] : Fin 2 → IVec S16 32) a x).toNat < S16x1041.size a)
theorem k0_idx208_inb : ∀ (i : grid0.Coords) (k0_t6 : Fin (k0_t6_loop i).trips) (v58 : IVec S16 32) (v108 : IVec S16 32) (k0_hw208 : k0_chk208 i k0_t6 v58 v108), ∀ (k0_h11 : k0_cond11 i k0_t6 = 1#1), ∀ a x, ((![v58, v108] : Fin 2 → IVec S16 32) a x).toNat < S16x1041.size a := fun i k0_t6 v58 v108 k0_hw208 k0_h11 => k0_hw208 k0_h11
@[reducible] def k0_t10_loop : Scf.Loop 32 :=
  let c1_i32_42 : BitVec 32 := 1#32
  let c7_i32_43 : BitVec 32 := 7#32
  let v110 : BitVec 32 := Scalar.addi c1_i32_42 c7_i32_43
  let c1_i32_44 : BitVec 32 := 1#32
  ⟨c1_i32_42, v110, c1_i32_44⟩

def k0_chk209 (i : grid0.Coords) (k0_t6 : Fin (k0_t6_loop i).trips) (v58 : IVec S16 32) (v152 : IVec S16 32) : Prop :=
  (∀ (k0_h11 : k0_cond11 i k0_t6 = 1#1), ∀ a x, ((![v58, v152] : Fin 2 → IVec S16 32) a x).toNat < S16x1041.size a)
theorem k0_idx209_inb : ∀ (i : grid0.Coords) (k0_t6 : Fin (k0_t6_loop i).trips) (v58 : IVec S16 32) (v152 : IVec S16 32) (k0_hw209 : k0_chk209 i k0_t6 v58 v152), ∀ (k0_h11 : k0_cond11 i k0_t6 = 1#1), ∀ a x, ((![v58, v152] : Fin 2 → IVec S16 32) a x).toNat < S16x1041.size a := fun i k0_t6 v58 v152 k0_hw209 k0_h11 => k0_hw209 k0_h11

def k0_chk210 (i : grid0.Coords) (k0_t6 : Fin (k0_t6_loop i).trips) (v58 : IVec S16 32) (v155 : IVec S16 32) : Prop :=
  (∀ (k0_h11 : k0_cond11 i k0_t6 = 1#1), ∀ a x, ((![v58, v155] : Fin 2 → IVec S16 32) a x).toNat < S16x1041.size a)
theorem k0_idx210_inb : ∀ (i : grid0.Coords) (k0_t6 : Fin (k0_t6_loop i).trips) (v58 : IVec S16 32) (v155 : IVec S16 32) (k0_hw210 : k0_chk210 i k0_t6 v58 v155), ∀ (k0_h11 : k0_cond11 i k0_t6 = 1#1), ∀ a x, ((![v58, v155] : Fin 2 → IVec S16 32) a x).toNat < S16x1041.size a := fun i k0_t6 v58 v155 k0_hw210 k0_h11 => k0_hw210 k0_h11

def k0_chk211 (i : grid0.Coords) (k0_t6 : Fin (k0_t6_loop i).trips) (v58 : IVec S16 32) (v158 : IVec S16 32) : Prop :=
  (∀ (k0_h11 : k0_cond11 i k0_t6 = 1#1), ∀ a x, ((![v58, v158] : Fin 2 → IVec S16 32) a x).toNat < S16x1041.size a)
theorem k0_idx211_inb : ∀ (i : grid0.Coords) (k0_t6 : Fin (k0_t6_loop i).trips) (v58 : IVec S16 32) (v158 : IVec S16 32) (k0_hw211 : k0_chk211 i k0_t6 v58 v158), ∀ (k0_h11 : k0_cond11 i k0_t6 = 1#1), ∀ a x, ((![v58, v158] : Fin 2 → IVec S16 32) a x).toNat < S16x1041.size a := fun i k0_t6 v58 v158 k0_hw211 k0_h11 => k0_hw211 k0_h11

def k0_chk212 (i : grid0.Coords) (k0_t6 : Fin (k0_t6_loop i).trips) (v58 : IVec S16 32) (v161 : IVec S16 32) : Prop :=
  (∀ (k0_h11 : k0_cond11 i k0_t6 = 1#1), ∀ a x, ((![v58, v161] : Fin 2 → IVec S16 32) a x).toNat < S16x1041.size a)
theorem k0_idx212_inb : ∀ (i : grid0.Coords) (k0_t6 : Fin (k0_t6_loop i).trips) (v58 : IVec S16 32) (v161 : IVec S16 32) (k0_hw212 : k0_chk212 i k0_t6 v58 v161), ∀ (k0_h11 : k0_cond11 i k0_t6 = 1#1), ∀ a x, ((![v58, v161] : Fin 2 → IVec S16 32) a x).toNat < S16x1041.size a := fun i k0_t6 v58 v161 k0_hw212 k0_h11 => k0_hw212 k0_h11

def k0_chk213 (i : grid0.Coords) (k0_t6 : Fin (k0_t6_loop i).trips) (v58 : IVec S16 32) (v164 : IVec S16 32) : Prop :=
  (∀ (k0_h11 : k0_cond11 i k0_t6 = 1#1), ∀ a x, ((![v58, v164] : Fin 2 → IVec S16 32) a x).toNat < S16x1041.size a)
theorem k0_idx213_inb : ∀ (i : grid0.Coords) (k0_t6 : Fin (k0_t6_loop i).trips) (v58 : IVec S16 32) (v164 : IVec S16 32) (k0_hw213 : k0_chk213 i k0_t6 v58 v164), ∀ (k0_h11 : k0_cond11 i k0_t6 = 1#1), ∀ a x, ((![v58, v164] : Fin 2 → IVec S16 32) a x).toNat < S16x1041.size a := fun i k0_t6 v58 v164 k0_hw213 k0_h11 => k0_hw213 k0_h11

def k0_chk214 (i : grid0.Coords) (k0_t6 : Fin (k0_t6_loop i).trips) (v58 : IVec S16 32) (v167 : IVec S16 32) : Prop :=
  (∀ (k0_h11 : k0_cond11 i k0_t6 = 1#1), ∀ a x, ((![v58, v167] : Fin 2 → IVec S16 32) a x).toNat < S16x1041.size a)
theorem k0_idx214_inb : ∀ (i : grid0.Coords) (k0_t6 : Fin (k0_t6_loop i).trips) (v58 : IVec S16 32) (v167 : IVec S16 32) (k0_hw214 : k0_chk214 i k0_t6 v58 v167), ∀ (k0_h11 : k0_cond11 i k0_t6 = 1#1), ∀ a x, ((![v58, v167] : Fin 2 → IVec S16 32) a x).toNat < S16x1041.size a := fun i k0_t6 v58 v167 k0_hw214 k0_h11 => k0_hw214 k0_h11

def k0_chk215 (i : grid0.Coords) (k0_t6 : Fin (k0_t6_loop i).trips) (v58 : IVec S16 32) (v170 : IVec S16 32) : Prop :=
  (∀ (k0_h11 : k0_cond11 i k0_t6 = 1#1), ∀ a x, ((![v58, v170] : Fin 2 → IVec S16 32) a x).toNat < S16x1041.size a)
theorem k0_idx215_inb : ∀ (i : grid0.Coords) (k0_t6 : Fin (k0_t6_loop i).trips) (v58 : IVec S16 32) (v170 : IVec S16 32) (k0_hw215 : k0_chk215 i k0_t6 v58 v170), ∀ (k0_h11 : k0_cond11 i k0_t6 = 1#1), ∀ a x, ((![v58, v170] : Fin 2 → IVec S16 32) a x).toNat < S16x1041.size a := fun i k0_t6 v58 v170 k0_hw215 k0_h11 => k0_hw215 k0_h11

def k0_chk216 (i : grid0.Coords) (k0_t6 : Fin (k0_t6_loop i).trips) (v58 : IVec S16 32) (v173 : IVec S16 32) : Prop :=
  (∀ (k0_h11 : k0_cond11 i k0_t6 = 1#1), ∀ a x, ((![v58, v173] : Fin 2 → IVec S16 32) a x).toNat < S16x1041.size a)
theorem k0_idx216_inb : ∀ (i : grid0.Coords) (k0_t6 : Fin (k0_t6_loop i).trips) (v58 : IVec S16 32) (v173 : IVec S16 32) (k0_hw216 : k0_chk216 i k0_t6 v58 v173), ∀ (k0_h11 : k0_cond11 i k0_t6 = 1#1), ∀ a x, ((![v58, v173] : Fin 2 → IVec S16 32) a x).toNat < S16x1041.size a := fun i k0_t6 v58 v173 k0_hw216 k0_h11 => k0_hw216 k0_h11

def k0_chk217 (i : grid0.Coords) (k0_t6 : Fin (k0_t6_loop i).trips) (v58 : IVec S16 32) (v176 : IVec S16 32) : Prop :=
  (∀ (k0_h11 : k0_cond11 i k0_t6 = 1#1), ∀ a x, ((![v58, v176] : Fin 2 → IVec S16 32) a x).toNat < S16x1041.size a)
theorem k0_idx217_inb : ∀ (i : grid0.Coords) (k0_t6 : Fin (k0_t6_loop i).trips) (v58 : IVec S16 32) (v176 : IVec S16 32) (k0_hw217 : k0_chk217 i k0_t6 v58 v176), ∀ (k0_h11 : k0_cond11 i k0_t6 = 1#1), ∀ a x, ((![v58, v176] : Fin 2 → IVec S16 32) a x).toNat < S16x1041.size a := fun i k0_t6 v58 v176 k0_hw217 k0_h11 => k0_hw217 k0_h11

def k0_chk218 (i : grid0.Coords) (k0_t6 : Fin (k0_t6_loop i).trips) (v58 : IVec S16 32) (v179 : IVec S16 32) : Prop :=
  (∀ (k0_h11 : k0_cond11 i k0_t6 = 1#1), ∀ a x, ((![v58, v179] : Fin 2 → IVec S16 32) a x).toNat < S16x1041.size a)
theorem k0_idx218_inb : ∀ (i : grid0.Coords) (k0_t6 : Fin (k0_t6_loop i).trips) (v58 : IVec S16 32) (v179 : IVec S16 32) (k0_hw218 : k0_chk218 i k0_t6 v58 v179), ∀ (k0_h11 : k0_cond11 i k0_t6 = 1#1), ∀ a x, ((![v58, v179] : Fin 2 → IVec S16 32) a x).toNat < S16x1041.size a := fun i k0_t6 v58 v179 k0_hw218 k0_h11 => k0_hw218 k0_h11

def k0_chk219 (i : grid0.Coords) (k0_t6 : Fin (k0_t6_loop i).trips) (v58 : IVec S16 32) (v182 : IVec S16 32) : Prop :=
  (∀ (k0_h11 : k0_cond11 i k0_t6 = 1#1), ∀ a x, ((![v58, v182] : Fin 2 → IVec S16 32) a x).toNat < S16x1041.size a)
theorem k0_idx219_inb : ∀ (i : grid0.Coords) (k0_t6 : Fin (k0_t6_loop i).trips) (v58 : IVec S16 32) (v182 : IVec S16 32) (k0_hw219 : k0_chk219 i k0_t6 v58 v182), ∀ (k0_h11 : k0_cond11 i k0_t6 = 1#1), ∀ a x, ((![v58, v182] : Fin 2 → IVec S16 32) a x).toNat < S16x1041.size a := fun i k0_t6 v58 v182 k0_hw219 k0_h11 => k0_hw219 k0_h11

def k0_chk220 (i : grid0.Coords) (k0_t6 : Fin (k0_t6_loop i).trips) (v58 : IVec S16 32) (v185 : IVec S16 32) : Prop :=
  (∀ (k0_h11 : k0_cond11 i k0_t6 = 1#1), ∀ a x, ((![v58, v185] : Fin 2 → IVec S16 32) a x).toNat < S16x1041.size a)
theorem k0_idx220_inb : ∀ (i : grid0.Coords) (k0_t6 : Fin (k0_t6_loop i).trips) (v58 : IVec S16 32) (v185 : IVec S16 32) (k0_hw220 : k0_chk220 i k0_t6 v58 v185), ∀ (k0_h11 : k0_cond11 i k0_t6 = 1#1), ∀ a x, ((![v58, v185] : Fin 2 → IVec S16 32) a x).toNat < S16x1041.size a := fun i k0_t6 v58 v185 k0_hw220 k0_h11 => k0_hw220 k0_h11

def k0_chk221 (i : grid0.Coords) (k0_t6 : Fin (k0_t6_loop i).trips) (v58 : IVec S16 32) (v188 : IVec S16 32) : Prop :=
  (∀ (k0_h11 : k0_cond11 i k0_t6 = 1#1), ∀ a x, ((![v58, v188] : Fin 2 → IVec S16 32) a x).toNat < S16x1041.size a)
theorem k0_idx221_inb : ∀ (i : grid0.Coords) (k0_t6 : Fin (k0_t6_loop i).trips) (v58 : IVec S16 32) (v188 : IVec S16 32) (k0_hw221 : k0_chk221 i k0_t6 v58 v188), ∀ (k0_h11 : k0_cond11 i k0_t6 = 1#1), ∀ a x, ((![v58, v188] : Fin 2 → IVec S16 32) a x).toNat < S16x1041.size a := fun i k0_t6 v58 v188 k0_hw221 k0_h11 => k0_hw221 k0_h11

def k0_chk222 (i : grid0.Coords) (k0_t6 : Fin (k0_t6_loop i).trips) (v58 : IVec S16 32) (v191 : IVec S16 32) : Prop :=
  (∀ (k0_h11 : k0_cond11 i k0_t6 = 1#1), ∀ a x, ((![v58, v191] : Fin 2 → IVec S16 32) a x).toNat < S16x1041.size a)
theorem k0_idx222_inb : ∀ (i : grid0.Coords) (k0_t6 : Fin (k0_t6_loop i).trips) (v58 : IVec S16 32) (v191 : IVec S16 32) (k0_hw222 : k0_chk222 i k0_t6 v58 v191), ∀ (k0_h11 : k0_cond11 i k0_t6 = 1#1), ∀ a x, ((![v58, v191] : Fin 2 → IVec S16 32) a x).toNat < S16x1041.size a := fun i k0_t6 v58 v191 k0_hw222 k0_h11 => k0_hw222 k0_h11

def k0_chk223 (i : grid0.Coords) (k0_t6 : Fin (k0_t6_loop i).trips) (v58 : IVec S16 32) (v194 : IVec S16 32) : Prop :=
  (∀ (k0_h11 : k0_cond11 i k0_t6 = 1#1), ∀ a x, ((![v58, v194] : Fin 2 → IVec S16 32) a x).toNat < S16x1041.size a)
theorem k0_idx223_inb : ∀ (i : grid0.Coords) (k0_t6 : Fin (k0_t6_loop i).trips) (v58 : IVec S16 32) (v194 : IVec S16 32) (k0_hw223 : k0_chk223 i k0_t6 v58 v194), ∀ (k0_h11 : k0_cond11 i k0_t6 = 1#1), ∀ a x, ((![v58, v194] : Fin 2 → IVec S16 32) a x).toNat < S16x1041.size a := fun i k0_t6 v58 v194 k0_hw223 k0_h11 => k0_hw223 k0_h11

def k0_chk224 (i : grid0.Coords) (k0_t6 : Fin (k0_t6_loop i).trips) (v58 : IVec S16 32) (v197 : IVec S16 32) : Prop :=
  (∀ (k0_h11 : k0_cond11 i k0_t6 = 1#1), ∀ a x, ((![v58, v197] : Fin 2 → IVec S16 32) a x).toNat < S16x1041.size a)
theorem k0_idx224_inb : ∀ (i : grid0.Coords) (k0_t6 : Fin (k0_t6_loop i).trips) (v58 : IVec S16 32) (v197 : IVec S16 32) (k0_hw224 : k0_chk224 i k0_t6 v58 v197), ∀ (k0_h11 : k0_cond11 i k0_t6 = 1#1), ∀ a x, ((![v58, v197] : Fin 2 → IVec S16 32) a x).toNat < S16x1041.size a := fun i k0_t6 v58 v197 k0_hw224 k0_h11 => k0_hw224 k0_h11

def k0_chk225 (i : grid0.Coords) (k0_t6 : Fin (k0_t6_loop i).trips) (v206 : IVec S16 32) : Prop :=
  (∀ (k0_h11 : k0_cond11 i k0_t6 = 1#1), ∀ a x, ((![v206] : Fin 1 → IVec S16 32) a x).toNat < S16384.size a)
theorem k0_idx225_inb : ∀ (i : grid0.Coords) (k0_t6 : Fin (k0_t6_loop i).trips) (v206 : IVec S16 32) (k0_hw225 : k0_chk225 i k0_t6 v206), ∀ (k0_h11 : k0_cond11 i k0_t6 = 1#1), ∀ a x, ((![v206] : Fin 1 → IVec S16 32) a x).toNat < S16384.size a := fun i k0_t6 v206 k0_hw225 k0_h11 => k0_hw225 k0_h11

def k0_chk226 (i : grid0.Coords) (k0_t6 : Fin (k0_t6_loop i).trips) (v208 : IVec S16 32) : Prop :=
  (∀ (k0_h11 : k0_cond11 i k0_t6 = 1#1), ∀ a x, ((![v208] : Fin 1 → IVec S16 32) a x).toNat < S16384.size a)
theorem k0_idx226_inb : ∀ (i : grid0.Coords) (k0_t6 : Fin (k0_t6_loop i).trips) (v208 : IVec S16 32) (k0_hw226 : k0_chk226 i k0_t6 v208), ∀ (k0_h11 : k0_cond11 i k0_t6 = 1#1), ∀ a x, ((![v208] : Fin 1 → IVec S16 32) a x).toNat < S16384.size a := fun i k0_t6 v208 k0_hw226 k0_h11 => k0_hw226 k0_h11

def k0_chk227 (i : grid0.Coords) (k0_t6 : Fin (k0_t6_loop i).trips) (v210 : IVec S16 32) : Prop :=
  (∀ (k0_h11 : k0_cond11 i k0_t6 = 1#1), ∀ a x, ((![v210] : Fin 1 → IVec S16 32) a x).toNat < S16384.size a)
theorem k0_idx227_inb : ∀ (i : grid0.Coords) (k0_t6 : Fin (k0_t6_loop i).trips) (v210 : IVec S16 32) (k0_hw227 : k0_chk227 i k0_t6 v210), ∀ (k0_h11 : k0_cond11 i k0_t6 = 1#1), ∀ a x, ((![v210] : Fin 1 → IVec S16 32) a x).toNat < S16384.size a := fun i k0_t6 v210 k0_hw227 k0_h11 => k0_hw227 k0_h11

def k0_chk228 (i : grid0.Coords) (k0_t6 : Fin (k0_t6_loop i).trips) (v212 : IVec S16 32) : Prop :=
  (∀ (k0_h11 : k0_cond11 i k0_t6 = 1#1), ∀ a x, ((![v212] : Fin 1 → IVec S16 32) a x).toNat < S16384.size a)
theorem k0_idx228_inb : ∀ (i : grid0.Coords) (k0_t6 : Fin (k0_t6_loop i).trips) (v212 : IVec S16 32) (k0_hw228 : k0_chk228 i k0_t6 v212), ∀ (k0_h11 : k0_cond11 i k0_t6 = 1#1), ∀ a x, ((![v212] : Fin 1 → IVec S16 32) a x).toNat < S16384.size a := fun i k0_t6 v212 k0_hw228 k0_h11 => k0_hw228 k0_h11

def k0_chk229 (i : grid0.Coords) (k0_t6 : Fin (k0_t6_loop i).trips) (v214 : IVec S16 32) : Prop :=
  (∀ (k0_h11 : k0_cond11 i k0_t6 = 1#1), ∀ a x, ((![v214] : Fin 1 → IVec S16 32) a x).toNat < S16384.size a)
theorem k0_idx229_inb : ∀ (i : grid0.Coords) (k0_t6 : Fin (k0_t6_loop i).trips) (v214 : IVec S16 32) (k0_hw229 : k0_chk229 i k0_t6 v214), ∀ (k0_h11 : k0_cond11 i k0_t6 = 1#1), ∀ a x, ((![v214] : Fin 1 → IVec S16 32) a x).toNat < S16384.size a := fun i k0_t6 v214 k0_hw229 k0_h11 => k0_hw229 k0_h11

def k0_chk230 (i : grid0.Coords) (k0_t6 : Fin (k0_t6_loop i).trips) (v216 : IVec S16 32) : Prop :=
  (∀ (k0_h11 : k0_cond11 i k0_t6 = 1#1), ∀ a x, ((![v216] : Fin 1 → IVec S16 32) a x).toNat < S16384.size a)
theorem k0_idx230_inb : ∀ (i : grid0.Coords) (k0_t6 : Fin (k0_t6_loop i).trips) (v216 : IVec S16 32) (k0_hw230 : k0_chk230 i k0_t6 v216), ∀ (k0_h11 : k0_cond11 i k0_t6 = 1#1), ∀ a x, ((![v216] : Fin 1 → IVec S16 32) a x).toNat < S16384.size a := fun i k0_t6 v216 k0_hw230 k0_h11 => k0_hw230 k0_h11

def k0_chk231 (i : grid0.Coords) (k0_t6 : Fin (k0_t6_loop i).trips) (v218 : IVec S16 32) : Prop :=
  (∀ (k0_h11 : k0_cond11 i k0_t6 = 1#1), ∀ a x, ((![v218] : Fin 1 → IVec S16 32) a x).toNat < S16384.size a)
theorem k0_idx231_inb : ∀ (i : grid0.Coords) (k0_t6 : Fin (k0_t6_loop i).trips) (v218 : IVec S16 32) (k0_hw231 : k0_chk231 i k0_t6 v218), ∀ (k0_h11 : k0_cond11 i k0_t6 = 1#1), ∀ a x, ((![v218] : Fin 1 → IVec S16 32) a x).toNat < S16384.size a := fun i k0_t6 v218 k0_hw231 k0_h11 => k0_hw231 k0_h11

def k0_chk232 (i : grid0.Coords) (k0_t6 : Fin (k0_t6_loop i).trips) (v220 : IVec S16 32) : Prop :=
  (∀ (k0_h11 : k0_cond11 i k0_t6 = 1#1), ∀ a x, ((![v220] : Fin 1 → IVec S16 32) a x).toNat < S16384.size a)
theorem k0_idx232_inb : ∀ (i : grid0.Coords) (k0_t6 : Fin (k0_t6_loop i).trips) (v220 : IVec S16 32) (k0_hw232 : k0_chk232 i k0_t6 v220), ∀ (k0_h11 : k0_cond11 i k0_t6 = 1#1), ∀ a x, ((![v220] : Fin 1 → IVec S16 32) a x).toNat < S16384.size a := fun i k0_t6 v220 k0_hw232 k0_h11 => k0_hw232 k0_h11

def k0_chk233 (i : grid0.Coords) (k0_t6 : Fin (k0_t6_loop i).trips) (v222 : IVec S16 32) : Prop :=
  (∀ (k0_h11 : k0_cond11 i k0_t6 = 1#1), ∀ a x, ((![v222] : Fin 1 → IVec S16 32) a x).toNat < S16384.size a)
theorem k0_idx233_inb : ∀ (i : grid0.Coords) (k0_t6 : Fin (k0_t6_loop i).trips) (v222 : IVec S16 32) (k0_hw233 : k0_chk233 i k0_t6 v222), ∀ (k0_h11 : k0_cond11 i k0_t6 = 1#1), ∀ a x, ((![v222] : Fin 1 → IVec S16 32) a x).toNat < S16384.size a := fun i k0_t6 v222 k0_hw233 k0_h11 => k0_hw233 k0_h11

def k0_chk234 (i : grid0.Coords) (k0_t6 : Fin (k0_t6_loop i).trips) (v224 : IVec S16 32) : Prop :=
  (∀ (k0_h11 : k0_cond11 i k0_t6 = 1#1), ∀ a x, ((![v224] : Fin 1 → IVec S16 32) a x).toNat < S16384.size a)
theorem k0_idx234_inb : ∀ (i : grid0.Coords) (k0_t6 : Fin (k0_t6_loop i).trips) (v224 : IVec S16 32) (k0_hw234 : k0_chk234 i k0_t6 v224), ∀ (k0_h11 : k0_cond11 i k0_t6 = 1#1), ∀ a x, ((![v224] : Fin 1 → IVec S16 32) a x).toNat < S16384.size a := fun i k0_t6 v224 k0_hw234 k0_h11 => k0_hw234 k0_h11

def k0_chk235 (i : grid0.Coords) (k0_t6 : Fin (k0_t6_loop i).trips) (v226 : IVec S16 32) : Prop :=
  (∀ (k0_h11 : k0_cond11 i k0_t6 = 1#1), ∀ a x, ((![v226] : Fin 1 → IVec S16 32) a x).toNat < S16384.size a)
theorem k0_idx235_inb : ∀ (i : grid0.Coords) (k0_t6 : Fin (k0_t6_loop i).trips) (v226 : IVec S16 32) (k0_hw235 : k0_chk235 i k0_t6 v226), ∀ (k0_h11 : k0_cond11 i k0_t6 = 1#1), ∀ a x, ((![v226] : Fin 1 → IVec S16 32) a x).toNat < S16384.size a := fun i k0_t6 v226 k0_hw235 k0_h11 => k0_hw235 k0_h11

def k0_chk236 (i : grid0.Coords) (k0_t6 : Fin (k0_t6_loop i).trips) (v228 : IVec S16 32) : Prop :=
  (∀ (k0_h11 : k0_cond11 i k0_t6 = 1#1), ∀ a x, ((![v228] : Fin 1 → IVec S16 32) a x).toNat < S16384.size a)
theorem k0_idx236_inb : ∀ (i : grid0.Coords) (k0_t6 : Fin (k0_t6_loop i).trips) (v228 : IVec S16 32) (k0_hw236 : k0_chk236 i k0_t6 v228), ∀ (k0_h11 : k0_cond11 i k0_t6 = 1#1), ∀ a x, ((![v228] : Fin 1 → IVec S16 32) a x).toNat < S16384.size a := fun i k0_t6 v228 k0_hw236 k0_h11 => k0_hw236 k0_h11

def k0_chk237 (i : grid0.Coords) (k0_t6 : Fin (k0_t6_loop i).trips) (v230 : IVec S16 32) : Prop :=
  (∀ (k0_h11 : k0_cond11 i k0_t6 = 1#1), ∀ a x, ((![v230] : Fin 1 → IVec S16 32) a x).toNat < S16384.size a)
theorem k0_idx237_inb : ∀ (i : grid0.Coords) (k0_t6 : Fin (k0_t6_loop i).trips) (v230 : IVec S16 32) (k0_hw237 : k0_chk237 i k0_t6 v230), ∀ (k0_h11 : k0_cond11 i k0_t6 = 1#1), ∀ a x, ((![v230] : Fin 1 → IVec S16 32) a x).toNat < S16384.size a := fun i k0_t6 v230 k0_hw237 k0_h11 => k0_hw237 k0_h11

def k0_chk238 (i : grid0.Coords) (k0_t6 : Fin (k0_t6_loop i).trips) (v232 : IVec S16 32) : Prop :=
  (∀ (k0_h11 : k0_cond11 i k0_t6 = 1#1), ∀ a x, ((![v232] : Fin 1 → IVec S16 32) a x).toNat < S16384.size a)
theorem k0_idx238_inb : ∀ (i : grid0.Coords) (k0_t6 : Fin (k0_t6_loop i).trips) (v232 : IVec S16 32) (k0_hw238 : k0_chk238 i k0_t6 v232), ∀ (k0_h11 : k0_cond11 i k0_t6 = 1#1), ∀ a x, ((![v232] : Fin 1 → IVec S16 32) a x).toNat < S16384.size a := fun i k0_t6 v232 k0_hw238 k0_h11 => k0_hw238 k0_h11

def k0_chk239 (i : grid0.Coords) (k0_t6 : Fin (k0_t6_loop i).trips) (v234 : IVec S16 32) : Prop :=
  (∀ (k0_h11 : k0_cond11 i k0_t6 = 1#1), ∀ a x, ((![v234] : Fin 1 → IVec S16 32) a x).toNat < S16384.size a)
theorem k0_idx239_inb : ∀ (i : grid0.Coords) (k0_t6 : Fin (k0_t6_loop i).trips) (v234 : IVec S16 32) (k0_hw239 : k0_chk239 i k0_t6 v234), ∀ (k0_h11 : k0_cond11 i k0_t6 = 1#1), ∀ a x, ((![v234] : Fin 1 → IVec S16 32) a x).toNat < S16384.size a := fun i k0_t6 v234 k0_hw239 k0_h11 => k0_hw239 k0_h11

def k0_chk240 (i : grid0.Coords) (k0_t6 : Fin (k0_t6_loop i).trips) (v236 : IVec S16 32) : Prop :=
  (∀ (k0_h11 : k0_cond11 i k0_t6 = 1#1), ∀ a x, ((![v236] : Fin 1 → IVec S16 32) a x).toNat < S16384.size a)
theorem k0_idx240_inb : ∀ (i : grid0.Coords) (k0_t6 : Fin (k0_t6_loop i).trips) (v236 : IVec S16 32) (k0_hw240 : k0_chk240 i k0_t6 v236), ∀ (k0_h11 : k0_cond11 i k0_t6 = 1#1), ∀ a x, ((![v236] : Fin 1 → IVec S16 32) a x).toNat < S16384.size a := fun i k0_t6 v236 k0_hw240 k0_h11 => k0_hw240 k0_h11

def k0_chk241 (i : grid0.Coords) (k0_t6 : Fin (k0_t6_loop i).trips) (v117 : IVec S16 32) : Prop :=
  (∀ (k0_h11 : k0_cond11 i k0_t6 = 1#1), ∀ a x, ((![v117] : Fin 1 → IVec S16 32) a x).toNat < S16384.size a)
theorem k0_idx241_inb : ∀ (i : grid0.Coords) (k0_t6 : Fin (k0_t6_loop i).trips) (v117 : IVec S16 32) (k0_hw241 : k0_chk241 i k0_t6 v117), ∀ (k0_h11 : k0_cond11 i k0_t6 = 1#1), ∀ a x, ((![v117] : Fin 1 → IVec S16 32) a x).toNat < S16384.size a := fun i k0_t6 v117 k0_hw241 k0_h11 => k0_hw241 k0_h11

def k0_chk242 (i : grid0.Coords) (k0_t6 : Fin (k0_t6_loop i).trips) (v119 : IVec S16 32) : Prop :=
  (∀ (k0_h11 : k0_cond11 i k0_t6 = 1#1), ∀ a x, ((![v119] : Fin 1 → IVec S16 32) a x).toNat < S16384.size a)
theorem k0_idx242_inb : ∀ (i : grid0.Coords) (k0_t6 : Fin (k0_t6_loop i).trips) (v119 : IVec S16 32) (k0_hw242 : k0_chk242 i k0_t6 v119), ∀ (k0_h11 : k0_cond11 i k0_t6 = 1#1), ∀ a x, ((![v119] : Fin 1 → IVec S16 32) a x).toNat < S16384.size a := fun i k0_t6 v119 k0_hw242 k0_h11 => k0_hw242 k0_h11

def k0_chk243 (i : grid0.Coords) (k0_t6 : Fin (k0_t6_loop i).trips) (v121 : IVec S16 32) : Prop :=
  (∀ (k0_h11 : k0_cond11 i k0_t6 = 1#1), ∀ a x, ((![v121] : Fin 1 → IVec S16 32) a x).toNat < S16384.size a)
theorem k0_idx243_inb : ∀ (i : grid0.Coords) (k0_t6 : Fin (k0_t6_loop i).trips) (v121 : IVec S16 32) (k0_hw243 : k0_chk243 i k0_t6 v121), ∀ (k0_h11 : k0_cond11 i k0_t6 = 1#1), ∀ a x, ((![v121] : Fin 1 → IVec S16 32) a x).toNat < S16384.size a := fun i k0_t6 v121 k0_hw243 k0_h11 => k0_hw243 k0_h11

def k0_chk244 (i : grid0.Coords) (k0_t6 : Fin (k0_t6_loop i).trips) (v123 : IVec S16 32) : Prop :=
  (∀ (k0_h11 : k0_cond11 i k0_t6 = 1#1), ∀ a x, ((![v123] : Fin 1 → IVec S16 32) a x).toNat < S16384.size a)
theorem k0_idx244_inb : ∀ (i : grid0.Coords) (k0_t6 : Fin (k0_t6_loop i).trips) (v123 : IVec S16 32) (k0_hw244 : k0_chk244 i k0_t6 v123), ∀ (k0_h11 : k0_cond11 i k0_t6 = 1#1), ∀ a x, ((![v123] : Fin 1 → IVec S16 32) a x).toNat < S16384.size a := fun i k0_t6 v123 k0_hw244 k0_h11 => k0_hw244 k0_h11

def k0_chk245 (i : grid0.Coords) (k0_t6 : Fin (k0_t6_loop i).trips) (v125 : IVec S16 32) : Prop :=
  (∀ (k0_h11 : k0_cond11 i k0_t6 = 1#1), ∀ a x, ((![v125] : Fin 1 → IVec S16 32) a x).toNat < S16384.size a)
theorem k0_idx245_inb : ∀ (i : grid0.Coords) (k0_t6 : Fin (k0_t6_loop i).trips) (v125 : IVec S16 32) (k0_hw245 : k0_chk245 i k0_t6 v125), ∀ (k0_h11 : k0_cond11 i k0_t6 = 1#1), ∀ a x, ((![v125] : Fin 1 → IVec S16 32) a x).toNat < S16384.size a := fun i k0_t6 v125 k0_hw245 k0_h11 => k0_hw245 k0_h11

def k0_chk246 (i : grid0.Coords) (k0_t6 : Fin (k0_t6_loop i).trips) (v127 : IVec S16 32) : Prop :=
  (∀ (k0_h11 : k0_cond11 i k0_t6 = 1#1), ∀ a x, ((![v127] : Fin 1 → IVec S16 32) a x).toNat < S16384.size a)
theorem k0_idx246_inb : ∀ (i : grid0.Coords) (k0_t6 : Fin (k0_t6_loop i).trips) (v127 : IVec S16 32) (k0_hw246 : k0_chk246 i k0_t6 v127), ∀ (k0_h11 : k0_cond11 i k0_t6 = 1#1), ∀ a x, ((![v127] : Fin 1 → IVec S16 32) a x).toNat < S16384.size a := fun i k0_t6 v127 k0_hw246 k0_h11 => k0_hw246 k0_h11

def k0_chk247 (i : grid0.Coords) (k0_t6 : Fin (k0_t6_loop i).trips) (v129 : IVec S16 32) : Prop :=
  (∀ (k0_h11 : k0_cond11 i k0_t6 = 1#1), ∀ a x, ((![v129] : Fin 1 → IVec S16 32) a x).toNat < S16384.size a)
theorem k0_idx247_inb : ∀ (i : grid0.Coords) (k0_t6 : Fin (k0_t6_loop i).trips) (v129 : IVec S16 32) (k0_hw247 : k0_chk247 i k0_t6 v129), ∀ (k0_h11 : k0_cond11 i k0_t6 = 1#1), ∀ a x, ((![v129] : Fin 1 → IVec S16 32) a x).toNat < S16384.size a := fun i k0_t6 v129 k0_hw247 k0_h11 => k0_hw247 k0_h11

def k0_chk248 (i : grid0.Coords) (k0_t6 : Fin (k0_t6_loop i).trips) (v131 : IVec S16 32) : Prop :=
  (∀ (k0_h11 : k0_cond11 i k0_t6 = 1#1), ∀ a x, ((![v131] : Fin 1 → IVec S16 32) a x).toNat < S16384.size a)
theorem k0_idx248_inb : ∀ (i : grid0.Coords) (k0_t6 : Fin (k0_t6_loop i).trips) (v131 : IVec S16 32) (k0_hw248 : k0_chk248 i k0_t6 v131), ∀ (k0_h11 : k0_cond11 i k0_t6 = 1#1), ∀ a x, ((![v131] : Fin 1 → IVec S16 32) a x).toNat < S16384.size a := fun i k0_t6 v131 k0_hw248 k0_h11 => k0_hw248 k0_h11

def k0_chk249 (i : grid0.Coords) (k0_t6 : Fin (k0_t6_loop i).trips) (v133 : IVec S16 32) : Prop :=
  (∀ (k0_h11 : k0_cond11 i k0_t6 = 1#1), ∀ a x, ((![v133] : Fin 1 → IVec S16 32) a x).toNat < S16384.size a)
theorem k0_idx249_inb : ∀ (i : grid0.Coords) (k0_t6 : Fin (k0_t6_loop i).trips) (v133 : IVec S16 32) (k0_hw249 : k0_chk249 i k0_t6 v133), ∀ (k0_h11 : k0_cond11 i k0_t6 = 1#1), ∀ a x, ((![v133] : Fin 1 → IVec S16 32) a x).toNat < S16384.size a := fun i k0_t6 v133 k0_hw249 k0_h11 => k0_hw249 k0_h11

def k0_chk250 (i : grid0.Coords) (k0_t6 : Fin (k0_t6_loop i).trips) (v135 : IVec S16 32) : Prop :=
  (∀ (k0_h11 : k0_cond11 i k0_t6 = 1#1), ∀ a x, ((![v135] : Fin 1 → IVec S16 32) a x).toNat < S16384.size a)
theorem k0_idx250_inb : ∀ (i : grid0.Coords) (k0_t6 : Fin (k0_t6_loop i).trips) (v135 : IVec S16 32) (k0_hw250 : k0_chk250 i k0_t6 v135), ∀ (k0_h11 : k0_cond11 i k0_t6 = 1#1), ∀ a x, ((![v135] : Fin 1 → IVec S16 32) a x).toNat < S16384.size a := fun i k0_t6 v135 k0_hw250 k0_h11 => k0_hw250 k0_h11

def k0_chk251 (i : grid0.Coords) (k0_t6 : Fin (k0_t6_loop i).trips) (v137 : IVec S16 32) : Prop :=
  (∀ (k0_h11 : k0_cond11 i k0_t6 = 1#1), ∀ a x, ((![v137] : Fin 1 → IVec S16 32) a x).toNat < S16384.size a)
theorem k0_idx251_inb : ∀ (i : grid0.Coords) (k0_t6 : Fin (k0_t6_loop i).trips) (v137 : IVec S16 32) (k0_hw251 : k0_chk251 i k0_t6 v137), ∀ (k0_h11 : k0_cond11 i k0_t6 = 1#1), ∀ a x, ((![v137] : Fin 1 → IVec S16 32) a x).toNat < S16384.size a := fun i k0_t6 v137 k0_hw251 k0_h11 => k0_hw251 k0_h11

def k0_chk252 (i : grid0.Coords) (k0_t6 : Fin (k0_t6_loop i).trips) (v139 : IVec S16 32) : Prop :=
  (∀ (k0_h11 : k0_cond11 i k0_t6 = 1#1), ∀ a x, ((![v139] : Fin 1 → IVec S16 32) a x).toNat < S16384.size a)
theorem k0_idx252_inb : ∀ (i : grid0.Coords) (k0_t6 : Fin (k0_t6_loop i).trips) (v139 : IVec S16 32) (k0_hw252 : k0_chk252 i k0_t6 v139), ∀ (k0_h11 : k0_cond11 i k0_t6 = 1#1), ∀ a x, ((![v139] : Fin 1 → IVec S16 32) a x).toNat < S16384.size a := fun i k0_t6 v139 k0_hw252 k0_h11 => k0_hw252 k0_h11

def k0_chk253 (i : grid0.Coords) (k0_t6 : Fin (k0_t6_loop i).trips) (v141 : IVec S16 32) : Prop :=
  (∀ (k0_h11 : k0_cond11 i k0_t6 = 1#1), ∀ a x, ((![v141] : Fin 1 → IVec S16 32) a x).toNat < S16384.size a)
theorem k0_idx253_inb : ∀ (i : grid0.Coords) (k0_t6 : Fin (k0_t6_loop i).trips) (v141 : IVec S16 32) (k0_hw253 : k0_chk253 i k0_t6 v141), ∀ (k0_h11 : k0_cond11 i k0_t6 = 1#1), ∀ a x, ((![v141] : Fin 1 → IVec S16 32) a x).toNat < S16384.size a := fun i k0_t6 v141 k0_hw253 k0_h11 => k0_hw253 k0_h11

def k0_chk254 (i : grid0.Coords) (k0_t6 : Fin (k0_t6_loop i).trips) (v143 : IVec S16 32) : Prop :=
  (∀ (k0_h11 : k0_cond11 i k0_t6 = 1#1), ∀ a x, ((![v143] : Fin 1 → IVec S16 32) a x).toNat < S16384.size a)
theorem k0_idx254_inb : ∀ (i : grid0.Coords) (k0_t6 : Fin (k0_t6_loop i).trips) (v143 : IVec S16 32) (k0_hw254 : k0_chk254 i k0_t6 v143), ∀ (k0_h11 : k0_cond11 i k0_t6 = 1#1), ∀ a x, ((![v143] : Fin 1 → IVec S16 32) a x).toNat < S16384.size a := fun i k0_t6 v143 k0_hw254 k0_h11 => k0_hw254 k0_h11

def k0_chk255 (i : grid0.Coords) (k0_t6 : Fin (k0_t6_loop i).trips) (v145 : IVec S16 32) : Prop :=
  (∀ (k0_h11 : k0_cond11 i k0_t6 = 1#1), ∀ a x, ((![v145] : Fin 1 → IVec S16 32) a x).toNat < S16384.size a)
theorem k0_idx255_inb : ∀ (i : grid0.Coords) (k0_t6 : Fin (k0_t6_loop i).trips) (v145 : IVec S16 32) (k0_hw255 : k0_chk255 i k0_t6 v145), ∀ (k0_h11 : k0_cond11 i k0_t6 = 1#1), ∀ a x, ((![v145] : Fin 1 → IVec S16 32) a x).toNat < S16384.size a := fun i k0_t6 v145 k0_hw255 k0_h11 => k0_hw255 k0_h11

def k0_chk256 (i : grid0.Coords) (k0_t6 : Fin (k0_t6_loop i).trips) (v147 : IVec S16 32) : Prop :=
  (∀ (k0_h11 : k0_cond11 i k0_t6 = 1#1), ∀ a x, ((![v147] : Fin 1 → IVec S16 32) a x).toNat < S16384.size a)
theorem k0_idx256_inb : ∀ (i : grid0.Coords) (k0_t6 : Fin (k0_t6_loop i).trips) (v147 : IVec S16 32) (k0_hw256 : k0_chk256 i k0_t6 v147), ∀ (k0_h11 : k0_cond11 i k0_t6 = 1#1), ∀ a x, ((![v147] : Fin 1 → IVec S16 32) a x).toNat < S16384.size a := fun i k0_t6 v147 k0_hw256 k0_h11 => k0_hw256 k0_h11
def k0_mult24 (i : grid0.Coords) (k0_t6 : Fin (k0_t6_loop i).trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_3 : BitVec 32 := 0#32
  let c30_i32 : BitVec 32 := 30#32
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v4 : BitVec 32 := Scalar.addi c30_i32 v3
  let v8 : BitVec 32 := Scalar.subi v4 c0_i32_3
  let c1_i32_4 : BitVec 32 := 1#32
  let v10 : BitVec 32 := Scalar.divsi v8 c1_i32_4
  let v11 : BitVec 32 := Scalar.muli v10 c1_i32_4
  let v12 : BitVec 32 := Scalar.addi c0_i32_3 v11
  let c1_i32_6 : BitVec 32 := 1#32
  let arg13 : BitVec 32 := Scf.iv v12 c1_i32_6 k0_t6
  let c32_i32_34 : BitVec 32 := 32#32
  let v49 : BitVec 32 := Scalar.muli arg13 c32_i32_34
  let v50 : BitVec 32 := Scalar.addi v1 v49
  let c1024_i32_35 : BitVec 32 := 1024#32
  let v51 : BitVec 32 := Scalar.muli v50 c1024_i32_35
  v51
def k0_mult25 (i : grid0.Coords) (k0_t6 : Fin (k0_t6_loop i).trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_3 : BitVec 32 := 0#32
  let c30_i32 : BitVec 32 := 30#32
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v4 : BitVec 32 := Scalar.addi c30_i32 v3
  let v8 : BitVec 32 := Scalar.subi v4 c0_i32_3
  let c1_i32_4 : BitVec 32 := 1#32
  let v10 : BitVec 32 := Scalar.divsi v8 c1_i32_4
  let v11 : BitVec 32 := Scalar.muli v10 c1_i32_4
  let v12 : BitVec 32 := Scalar.addi c0_i32_3 v11
  let c1_i32_6 : BitVec 32 := 1#32
  let arg13 : BitVec 32 := Scf.iv v12 c1_i32_6 k0_t6
  let c32_i32_34 : BitVec 32 := 32#32
  let v49 : BitVec 32 := Scalar.muli arg13 c32_i32_34
  let v50 : BitVec 32 := Scalar.addi v1 v49
  let c1024_i32_35 : BitVec 32 := 1024#32
  let v51 : BitVec 32 := Scalar.muli v50 c1024_i32_35
  let v52 : BitVec 32 := v51
  let c16_i32_36 : BitVec 32 := 16#32
  let v53 : BitVec 32 := Scalar.muli v52 c16_i32_36
  v53
def k0_off17 (i : grid0.Coords) (k0_t6 : Fin (k0_t6_loop i).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_3 : BitVec 32 := 0#32
  let c30_i32 : BitVec 32 := 30#32
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v4 : BitVec 32 := Scalar.addi c30_i32 v3
  let v8 : BitVec 32 := Scalar.subi v4 c0_i32_3
  let c1_i32_4 : BitVec 32 := 1#32
  let v10 : BitVec 32 := Scalar.divsi v8 c1_i32_4
  let v11 : BitVec 32 := Scalar.muli v10 c1_i32_4
  let v12 : BitVec 32 := Scalar.addi c0_i32_3 v11
  let c1_i32_6 : BitVec 32 := 1#32
  let arg13 : BitVec 32 := Scf.iv v12 c1_i32_6 k0_t6
  let c32_i32_34 : BitVec 32 := 32#32
  let v49 : BitVec 32 := Scalar.muli arg13 c32_i32_34
  let v50 : BitVec 32 := Scalar.addi v1 v49
  let c1024_i32_35 : BitVec 32 := 1024#32
  let v51 : BitVec 32 := Scalar.muli v50 c1024_i32_35
  let v52 : BitVec 32 := v51
  let c16_i32_36 : BitVec 32 := 16#32
  let v53 : BitVec 32 := Scalar.muli v52 c16_i32_36
  let v54 : BitVec 32 := v53
  ![v54.toNat]
def k0_cond14 (i : grid0.Coords) : BitVec 1 :=
  let c30_i32 : BitVec 32 := 30#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v4 : BitVec 32 := Scalar.addi c30_i32 v3
  let c2_i32_7 : BitVec 32 := 2#32
  let v13 : BitVec 1 := Scalar.cmpi .sge v4 c2_i32_7
  let v14 : BitVec 32 := Scalar.extui v13
  let c0_i32_8 : BitVec 32 := 0#32
  let v15 : BitVec 1 := Scalar.cmpi .ne v14 c0_i32_8
  v15

def k0_cond15 (i : grid0.Coords) : BitVec 1 :=
  let c30_i32 : BitVec 32 := 30#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v4 : BitVec 32 := Scalar.addi c30_i32 v3
  let c2_i32_14 : BitVec 32 := 2#32
  let v25 : BitVec 32 := Scalar.subi v4 c2_i32_14
  let c2_i32_15 : BitVec 32 := 2#32
  let v26 : BitVec 32 := Scalar.remsi v25 c2_i32_15
  let c0_i32_16 : BitVec 32 := 0#32
  let v27 : BitVec 1 := Scalar.cmpi .eq v26 c0_i32_16
  let v28 : BitVec 32 := Scalar.extui v27
  let c0_i32_17 : BitVec 32 := 0#32
  let v29 : BitVec 1 := Scalar.cmpi .ne v28 c0_i32_17
  v29

def k0_mult26 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c30_i32 : BitVec 32 := 30#32
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v4 : BitVec 32 := Scalar.addi c30_i32 v3
  let c2_i32_14 : BitVec 32 := 2#32
  let v25 : BitVec 32 := Scalar.subi v4 c2_i32_14
  let c32_i32 : BitVec 32 := 32#32
  let v34 : BitVec 32 := Scalar.muli v25 c32_i32
  let v35 : BitVec 32 := Scalar.addi v1 v34
  let c1024_i32 : BitVec 32 := 1024#32
  let v36 : BitVec 32 := Scalar.muli v35 c1024_i32
  v36
def k0_mult27 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c30_i32 : BitVec 32 := 30#32
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v4 : BitVec 32 := Scalar.addi c30_i32 v3
  let c2_i32_14 : BitVec 32 := 2#32
  let v25 : BitVec 32 := Scalar.subi v4 c2_i32_14
  let c32_i32 : BitVec 32 := 32#32
  let v34 : BitVec 32 := Scalar.muli v25 c32_i32
  let v35 : BitVec 32 := Scalar.addi v1 v34
  let c1024_i32 : BitVec 32 := 1024#32
  let v36 : BitVec 32 := Scalar.muli v35 c1024_i32
  let v37 : BitVec 32 := v36
  let c16_i32_21 : BitVec 32 := 16#32
  let v38 : BitVec 32 := Scalar.muli v37 c16_i32_21
  v38
def k0_off18 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c30_i32 : BitVec 32 := 30#32
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v4 : BitVec 32 := Scalar.addi c30_i32 v3
  let c2_i32_14 : BitVec 32 := 2#32
  let v25 : BitVec 32 := Scalar.subi v4 c2_i32_14
  let c32_i32 : BitVec 32 := 32#32
  let v34 : BitVec 32 := Scalar.muli v25 c32_i32
  let v35 : BitVec 32 := Scalar.addi v1 v34
  let c1024_i32 : BitVec 32 := 1024#32
  let v36 : BitVec 32 := Scalar.muli v35 c1024_i32
  let v37 : BitVec 32 := v36
  let c16_i32_21 : BitVec 32 := 16#32
  let v38 : BitVec 32 := Scalar.muli v37 c16_i32_21
  let v39 : BitVec 32 := v38
  ![v39.toNat]
def k0_cond16 (i : grid0.Coords) : BitVec 1 :=
  let c30_i32 : BitVec 32 := 30#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v4 : BitVec 32 := Scalar.addi c30_i32 v3
  let c2_i32_14 : BitVec 32 := 2#32
  let v25 : BitVec 32 := Scalar.subi v4 c2_i32_14
  let c2_i32_18 : BitVec 32 := 2#32
  let v30 : BitVec 32 := Scalar.remsi v25 c2_i32_18
  let c1_i32_19 : BitVec 32 := 1#32
  let v31 : BitVec 1 := Scalar.cmpi .eq v30 c1_i32_19
  let v32 : BitVec 32 := Scalar.extui v31
  let c0_i32_20 : BitVec 32 := 0#32
  let v33 : BitVec 1 := Scalar.cmpi .ne v32 c0_i32_20
  v33

def k0_mult28 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c30_i32 : BitVec 32 := 30#32
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v4 : BitVec 32 := Scalar.addi c30_i32 v3
  let c2_i32_14 : BitVec 32 := 2#32
  let v25 : BitVec 32 := Scalar.subi v4 c2_i32_14
  let c32_i32 : BitVec 32 := 32#32
  let v34 : BitVec 32 := Scalar.muli v25 c32_i32
  let v35 : BitVec 32 := Scalar.addi v1 v34
  let c1024_i32 : BitVec 32 := 1024#32
  let v36 : BitVec 32 := Scalar.muli v35 c1024_i32
  v36
def k0_mult29 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c30_i32 : BitVec 32 := 30#32
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v4 : BitVec 32 := Scalar.addi c30_i32 v3
  let c2_i32_14 : BitVec 32 := 2#32
  let v25 : BitVec 32 := Scalar.subi v4 c2_i32_14
  let c32_i32 : BitVec 32 := 32#32
  let v34 : BitVec 32 := Scalar.muli v25 c32_i32
  let v35 : BitVec 32 := Scalar.addi v1 v34
  let c1024_i32 : BitVec 32 := 1024#32
  let v36 : BitVec 32 := Scalar.muli v35 c1024_i32
  let v37 : BitVec 32 := v36
  let c16_i32_21 : BitVec 32 := 16#32
  let v38 : BitVec 32 := Scalar.muli v37 c16_i32_21
  v38
def k0_off19 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c30_i32 : BitVec 32 := 30#32
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v4 : BitVec 32 := Scalar.addi c30_i32 v3
  let c2_i32_14 : BitVec 32 := 2#32
  let v25 : BitVec 32 := Scalar.subi v4 c2_i32_14
  let c32_i32 : BitVec 32 := 32#32
  let v34 : BitVec 32 := Scalar.muli v25 c32_i32
  let v35 : BitVec 32 := Scalar.addi v1 v34
  let c1024_i32 : BitVec 32 := 1024#32
  let v36 : BitVec 32 := Scalar.muli v35 c1024_i32
  let v37 : BitVec 32 := v36
  let c16_i32_21 : BitVec 32 := 16#32
  let v38 : BitVec 32 := Scalar.muli v37 c16_i32_21
  let v39 : BitVec 32 := v38
  ![v39.toNat]
def k0_cond17 (i : grid0.Coords) : BitVec 1 :=
  let c30_i32 : BitVec 32 := 30#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v4 : BitVec 32 := Scalar.addi c30_i32 v3
  let c1_i32_9 : BitVec 32 := 1#32
  let v16 : BitVec 1 := Scalar.cmpi .sge v4 c1_i32_9
  let v17 : BitVec 32 := Scalar.extui v16
  let c0_i32_10 : BitVec 32 := 0#32
  let v18 : BitVec 1 := Scalar.cmpi .ne v17 c0_i32_10
  v18

def k0_cond18 (i : grid0.Coords) : BitVec 1 :=
  let c30_i32 : BitVec 32 := 30#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v4 : BitVec 32 := Scalar.addi c30_i32 v3
  let c1_i32_14 : BitVec 32 := 1#32
  let v25 : BitVec 32 := Scalar.subi v4 c1_i32_14
  let c2_i32_15 : BitVec 32 := 2#32
  let v26 : BitVec 32 := Scalar.remsi v25 c2_i32_15
  let c0_i32_16 : BitVec 32 := 0#32
  let v27 : BitVec 1 := Scalar.cmpi .eq v26 c0_i32_16
  let v28 : BitVec 32 := Scalar.extui v27
  let c0_i32_17 : BitVec 32 := 0#32
  let v29 : BitVec 1 := Scalar.cmpi .ne v28 c0_i32_17
  v29

def k0_mult30 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c30_i32 : BitVec 32 := 30#32
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v4 : BitVec 32 := Scalar.addi c30_i32 v3
  let c1_i32_14 : BitVec 32 := 1#32
  let v25 : BitVec 32 := Scalar.subi v4 c1_i32_14
  let c32_i32 : BitVec 32 := 32#32
  let v34 : BitVec 32 := Scalar.muli v25 c32_i32
  let v35 : BitVec 32 := Scalar.addi v1 v34
  let c1024_i32 : BitVec 32 := 1024#32
  let v36 : BitVec 32 := Scalar.muli v35 c1024_i32
  v36
def k0_mult31 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c30_i32 : BitVec 32 := 30#32
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v4 : BitVec 32 := Scalar.addi c30_i32 v3
  let c1_i32_14 : BitVec 32 := 1#32
  let v25 : BitVec 32 := Scalar.subi v4 c1_i32_14
  let c32_i32 : BitVec 32 := 32#32
  let v34 : BitVec 32 := Scalar.muli v25 c32_i32
  let v35 : BitVec 32 := Scalar.addi v1 v34
  let c1024_i32 : BitVec 32 := 1024#32
  let v36 : BitVec 32 := Scalar.muli v35 c1024_i32
  let v37 : BitVec 32 := v36
  let c16_i32_21 : BitVec 32 := 16#32
  let v38 : BitVec 32 := Scalar.muli v37 c16_i32_21
  v38
def k0_off20 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c30_i32 : BitVec 32 := 30#32
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v4 : BitVec 32 := Scalar.addi c30_i32 v3
  let c1_i32_14 : BitVec 32 := 1#32
  let v25 : BitVec 32 := Scalar.subi v4 c1_i32_14
  let c32_i32 : BitVec 32 := 32#32
  let v34 : BitVec 32 := Scalar.muli v25 c32_i32
  let v35 : BitVec 32 := Scalar.addi v1 v34
  let c1024_i32 : BitVec 32 := 1024#32
  let v36 : BitVec 32 := Scalar.muli v35 c1024_i32
  let v37 : BitVec 32 := v36
  let c16_i32_21 : BitVec 32 := 16#32
  let v38 : BitVec 32 := Scalar.muli v37 c16_i32_21
  let v39 : BitVec 32 := v38
  ![v39.toNat]
def k0_cond19 (i : grid0.Coords) : BitVec 1 :=
  let c30_i32 : BitVec 32 := 30#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v4 : BitVec 32 := Scalar.addi c30_i32 v3
  let c1_i32_14 : BitVec 32 := 1#32
  let v25 : BitVec 32 := Scalar.subi v4 c1_i32_14
  let c2_i32_18 : BitVec 32 := 2#32
  let v30 : BitVec 32 := Scalar.remsi v25 c2_i32_18
  let c1_i32_19 : BitVec 32 := 1#32
  let v31 : BitVec 1 := Scalar.cmpi .eq v30 c1_i32_19
  let v32 : BitVec 32 := Scalar.extui v31
  let c0_i32_20 : BitVec 32 := 0#32
  let v33 : BitVec 1 := Scalar.cmpi .ne v32 c0_i32_20
  v33

def k0_mult32 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c30_i32 : BitVec 32 := 30#32
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v4 : BitVec 32 := Scalar.addi c30_i32 v3
  let c1_i32_14 : BitVec 32 := 1#32
  let v25 : BitVec 32 := Scalar.subi v4 c1_i32_14
  let c32_i32 : BitVec 32 := 32#32
  let v34 : BitVec 32 := Scalar.muli v25 c32_i32
  let v35 : BitVec 32 := Scalar.addi v1 v34
  let c1024_i32 : BitVec 32 := 1024#32
  let v36 : BitVec 32 := Scalar.muli v35 c1024_i32
  v36
def k0_mult33 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c30_i32 : BitVec 32 := 30#32
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v4 : BitVec 32 := Scalar.addi c30_i32 v3
  let c1_i32_14 : BitVec 32 := 1#32
  let v25 : BitVec 32 := Scalar.subi v4 c1_i32_14
  let c32_i32 : BitVec 32 := 32#32
  let v34 : BitVec 32 := Scalar.muli v25 c32_i32
  let v35 : BitVec 32 := Scalar.addi v1 v34
  let c1024_i32 : BitVec 32 := 1024#32
  let v36 : BitVec 32 := Scalar.muli v35 c1024_i32
  let v37 : BitVec 32 := v36
  let c16_i32_21 : BitVec 32 := 16#32
  let v38 : BitVec 32 := Scalar.muli v37 c16_i32_21
  v38
def k0_off21 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c30_i32 : BitVec 32 := 30#32
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v4 : BitVec 32 := Scalar.addi c30_i32 v3
  let c1_i32_14 : BitVec 32 := 1#32
  let v25 : BitVec 32 := Scalar.subi v4 c1_i32_14
  let c32_i32 : BitVec 32 := 32#32
  let v34 : BitVec 32 := Scalar.muli v25 c32_i32
  let v35 : BitVec 32 := Scalar.addi v1 v34
  let c1024_i32 : BitVec 32 := 1024#32
  let v36 : BitVec 32 := Scalar.muli v35 c1024_i32
  let v37 : BitVec 32 := v36
  let c16_i32_21 : BitVec 32 := 16#32
  let v38 : BitVec 32 := Scalar.muli v37 c16_i32_21
  let v39 : BitVec 32 := v38
  ![v39.toNat]
def k0_cond20 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32 : BitVec 32 := 31#32
  let v19 : BitVec 1 := Scalar.cmpi .eq v1 c31_i32
  let v20 : BitVec 32 := Scalar.extui v19
  let c0_i32_11 : BitVec 32 := 0#32
  let v21 : BitVec 1 := Scalar.cmpi .ne v20 c0_i32_11
  v21

@[reducible] def k0_t11_loop : Scf.Loop 32 :=
  let c0_i32_15 : BitVec 32 := 0#32
  let c4_i32 : BitVec 32 := 4#32
  let v25 : BitVec 32 := Scalar.addi c0_i32_15 c4_i32
  let c1_i32_16 : BitVec 32 := 1#32
  ⟨c0_i32_15, v25, c1_i32_16⟩

def k0_chk257 (i : grid0.Coords) (v27 : IVec S16 32) (v32 : IVec S16 32) : Prop :=
  (∀ (k0_h20 : k0_cond20 i = 1#1), ∀ a x, ((![v27, v32] : Fin 2 → IVec S16 32) a x).toNat < S16x1041.size a)
theorem k0_idx257_inb : ∀ (i : grid0.Coords) (v27 : IVec S16 32) (v32 : IVec S16 32) (k0_hw257 : k0_chk257 i v27 v32), ∀ (k0_h20 : k0_cond20 i = 1#1), ∀ a x, ((![v27, v32] : Fin 2 → IVec S16 32) a x).toNat < S16x1041.size a := fun i v27 v32 k0_hw257 k0_h20 => k0_hw257 k0_h20

def k0_chk258 (i : grid0.Coords) (v27 : IVec S16 32) (v35 : IVec S16 32) : Prop :=
  (∀ (k0_h20 : k0_cond20 i = 1#1), ∀ a x, ((![v27, v35] : Fin 2 → IVec S16 32) a x).toNat < S16x1041.size a)
theorem k0_idx258_inb : ∀ (i : grid0.Coords) (v27 : IVec S16 32) (v35 : IVec S16 32) (k0_hw258 : k0_chk258 i v27 v35), ∀ (k0_h20 : k0_cond20 i = 1#1), ∀ a x, ((![v27, v35] : Fin 2 → IVec S16 32) a x).toNat < S16x1041.size a := fun i v27 v35 k0_hw258 k0_h20 => k0_hw258 k0_h20

def k0_chk259 (i : grid0.Coords) (v27 : IVec S16 32) (v38 : IVec S16 32) : Prop :=
  (∀ (k0_h20 : k0_cond20 i = 1#1), ∀ a x, ((![v27, v38] : Fin 2 → IVec S16 32) a x).toNat < S16x1041.size a)
theorem k0_idx259_inb : ∀ (i : grid0.Coords) (v27 : IVec S16 32) (v38 : IVec S16 32) (k0_hw259 : k0_chk259 i v27 v38), ∀ (k0_h20 : k0_cond20 i = 1#1), ∀ a x, ((![v27, v38] : Fin 2 → IVec S16 32) a x).toNat < S16x1041.size a := fun i v27 v38 k0_hw259 k0_h20 => k0_hw259 k0_h20

def k0_chk260 (i : grid0.Coords) (v27 : IVec S16 32) (v41 : IVec S16 32) : Prop :=
  (∀ (k0_h20 : k0_cond20 i = 1#1), ∀ a x, ((![v27, v41] : Fin 2 → IVec S16 32) a x).toNat < S16x1041.size a)
theorem k0_idx260_inb : ∀ (i : grid0.Coords) (v27 : IVec S16 32) (v41 : IVec S16 32) (k0_hw260 : k0_chk260 i v27 v41), ∀ (k0_h20 : k0_cond20 i = 1#1), ∀ a x, ((![v27, v41] : Fin 2 → IVec S16 32) a x).toNat < S16x1041.size a := fun i v27 v41 k0_hw260 k0_h20 => k0_hw260 k0_h20

def k0_chk261 (i : grid0.Coords) (v27 : IVec S16 32) (v44 : IVec S16 32) : Prop :=
  (∀ (k0_h20 : k0_cond20 i = 1#1), ∀ a x, ((![v27, v44] : Fin 2 → IVec S16 32) a x).toNat < S16x1041.size a)
theorem k0_idx261_inb : ∀ (i : grid0.Coords) (v27 : IVec S16 32) (v44 : IVec S16 32) (k0_hw261 : k0_chk261 i v27 v44), ∀ (k0_h20 : k0_cond20 i = 1#1), ∀ a x, ((![v27, v44] : Fin 2 → IVec S16 32) a x).toNat < S16x1041.size a := fun i v27 v44 k0_hw261 k0_h20 => k0_hw261 k0_h20

def k0_chk262 (i : grid0.Coords) (v27 : IVec S16 32) (v47 : IVec S16 32) : Prop :=
  (∀ (k0_h20 : k0_cond20 i = 1#1), ∀ a x, ((![v27, v47] : Fin 2 → IVec S16 32) a x).toNat < S16x1041.size a)
theorem k0_idx262_inb : ∀ (i : grid0.Coords) (v27 : IVec S16 32) (v47 : IVec S16 32) (k0_hw262 : k0_chk262 i v27 v47), ∀ (k0_h20 : k0_cond20 i = 1#1), ∀ a x, ((![v27, v47] : Fin 2 → IVec S16 32) a x).toNat < S16x1041.size a := fun i v27 v47 k0_hw262 k0_h20 => k0_hw262 k0_h20

def k0_chk263 (i : grid0.Coords) (v27 : IVec S16 32) (v50 : IVec S16 32) : Prop :=
  (∀ (k0_h20 : k0_cond20 i = 1#1), ∀ a x, ((![v27, v50] : Fin 2 → IVec S16 32) a x).toNat < S16x1041.size a)
theorem k0_idx263_inb : ∀ (i : grid0.Coords) (v27 : IVec S16 32) (v50 : IVec S16 32) (k0_hw263 : k0_chk263 i v27 v50), ∀ (k0_h20 : k0_cond20 i = 1#1), ∀ a x, ((![v27, v50] : Fin 2 → IVec S16 32) a x).toNat < S16x1041.size a := fun i v27 v50 k0_hw263 k0_h20 => k0_hw263 k0_h20

def k0_chk264 (i : grid0.Coords) (v27 : IVec S16 32) (v53 : IVec S16 32) : Prop :=
  (∀ (k0_h20 : k0_cond20 i = 1#1), ∀ a x, ((![v27, v53] : Fin 2 → IVec S16 32) a x).toNat < S16x1041.size a)
theorem k0_idx264_inb : ∀ (i : grid0.Coords) (v27 : IVec S16 32) (v53 : IVec S16 32) (k0_hw264 : k0_chk264 i v27 v53), ∀ (k0_h20 : k0_cond20 i = 1#1), ∀ a x, ((![v27, v53] : Fin 2 → IVec S16 32) a x).toNat < S16x1041.size a := fun i v27 v53 k0_hw264 k0_h20 => k0_hw264 k0_h20

def k0_chk265 (i : grid0.Coords) (v27 : IVec S16 32) (v56 : IVec S16 32) : Prop :=
  (∀ (k0_h20 : k0_cond20 i = 1#1), ∀ a x, ((![v27, v56] : Fin 2 → IVec S16 32) a x).toNat < S16x1041.size a)
theorem k0_idx265_inb : ∀ (i : grid0.Coords) (v27 : IVec S16 32) (v56 : IVec S16 32) (k0_hw265 : k0_chk265 i v27 v56), ∀ (k0_h20 : k0_cond20 i = 1#1), ∀ a x, ((![v27, v56] : Fin 2 → IVec S16 32) a x).toNat < S16x1041.size a := fun i v27 v56 k0_hw265 k0_h20 => k0_hw265 k0_h20

def k0_chk266 (i : grid0.Coords) (v27 : IVec S16 32) (v59 : IVec S16 32) : Prop :=
  (∀ (k0_h20 : k0_cond20 i = 1#1), ∀ a x, ((![v27, v59] : Fin 2 → IVec S16 32) a x).toNat < S16x1041.size a)
theorem k0_idx266_inb : ∀ (i : grid0.Coords) (v27 : IVec S16 32) (v59 : IVec S16 32) (k0_hw266 : k0_chk266 i v27 v59), ∀ (k0_h20 : k0_cond20 i = 1#1), ∀ a x, ((![v27, v59] : Fin 2 → IVec S16 32) a x).toNat < S16x1041.size a := fun i v27 v59 k0_hw266 k0_h20 => k0_hw266 k0_h20

def k0_chk267 (i : grid0.Coords) (v27 : IVec S16 32) (v62 : IVec S16 32) : Prop :=
  (∀ (k0_h20 : k0_cond20 i = 1#1), ∀ a x, ((![v27, v62] : Fin 2 → IVec S16 32) a x).toNat < S16x1041.size a)
theorem k0_idx267_inb : ∀ (i : grid0.Coords) (v27 : IVec S16 32) (v62 : IVec S16 32) (k0_hw267 : k0_chk267 i v27 v62), ∀ (k0_h20 : k0_cond20 i = 1#1), ∀ a x, ((![v27, v62] : Fin 2 → IVec S16 32) a x).toNat < S16x1041.size a := fun i v27 v62 k0_hw267 k0_h20 => k0_hw267 k0_h20

def k0_chk268 (i : grid0.Coords) (v27 : IVec S16 32) (v65 : IVec S16 32) : Prop :=
  (∀ (k0_h20 : k0_cond20 i = 1#1), ∀ a x, ((![v27, v65] : Fin 2 → IVec S16 32) a x).toNat < S16x1041.size a)
theorem k0_idx268_inb : ∀ (i : grid0.Coords) (v27 : IVec S16 32) (v65 : IVec S16 32) (k0_hw268 : k0_chk268 i v27 v65), ∀ (k0_h20 : k0_cond20 i = 1#1), ∀ a x, ((![v27, v65] : Fin 2 → IVec S16 32) a x).toNat < S16x1041.size a := fun i v27 v65 k0_hw268 k0_h20 => k0_hw268 k0_h20

def k0_chk269 (i : grid0.Coords) (v27 : IVec S16 32) (v68 : IVec S16 32) : Prop :=
  (∀ (k0_h20 : k0_cond20 i = 1#1), ∀ a x, ((![v27, v68] : Fin 2 → IVec S16 32) a x).toNat < S16x1041.size a)
theorem k0_idx269_inb : ∀ (i : grid0.Coords) (v27 : IVec S16 32) (v68 : IVec S16 32) (k0_hw269 : k0_chk269 i v27 v68), ∀ (k0_h20 : k0_cond20 i = 1#1), ∀ a x, ((![v27, v68] : Fin 2 → IVec S16 32) a x).toNat < S16x1041.size a := fun i v27 v68 k0_hw269 k0_h20 => k0_hw269 k0_h20

def k0_chk270 (i : grid0.Coords) (v27 : IVec S16 32) (v71 : IVec S16 32) : Prop :=
  (∀ (k0_h20 : k0_cond20 i = 1#1), ∀ a x, ((![v27, v71] : Fin 2 → IVec S16 32) a x).toNat < S16x1041.size a)
theorem k0_idx270_inb : ∀ (i : grid0.Coords) (v27 : IVec S16 32) (v71 : IVec S16 32) (k0_hw270 : k0_chk270 i v27 v71), ∀ (k0_h20 : k0_cond20 i = 1#1), ∀ a x, ((![v27, v71] : Fin 2 → IVec S16 32) a x).toNat < S16x1041.size a := fun i v27 v71 k0_hw270 k0_h20 => k0_hw270 k0_h20

def k0_chk271 (i : grid0.Coords) (v27 : IVec S16 32) (v74 : IVec S16 32) : Prop :=
  (∀ (k0_h20 : k0_cond20 i = 1#1), ∀ a x, ((![v27, v74] : Fin 2 → IVec S16 32) a x).toNat < S16x1041.size a)
theorem k0_idx271_inb : ∀ (i : grid0.Coords) (v27 : IVec S16 32) (v74 : IVec S16 32) (k0_hw271 : k0_chk271 i v27 v74), ∀ (k0_h20 : k0_cond20 i = 1#1), ∀ a x, ((![v27, v74] : Fin 2 → IVec S16 32) a x).toNat < S16x1041.size a := fun i v27 v74 k0_hw271 k0_h20 => k0_hw271 k0_h20

def k0_chk272 (i : grid0.Coords) (v27 : IVec S16 32) (v77 : IVec S16 32) : Prop :=
  (∀ (k0_h20 : k0_cond20 i = 1#1), ∀ a x, ((![v27, v77] : Fin 2 → IVec S16 32) a x).toNat < S16x1041.size a)
theorem k0_idx272_inb : ∀ (i : grid0.Coords) (v27 : IVec S16 32) (v77 : IVec S16 32) (k0_hw272 : k0_chk272 i v27 v77), ∀ (k0_h20 : k0_cond20 i = 1#1), ∀ a x, ((![v27, v77] : Fin 2 → IVec S16 32) a x).toNat < S16x1041.size a := fun i v27 v77 k0_hw272 k0_h20 => k0_hw272 k0_h20
@[reducible] def k0_t12_loop : Scf.Loop 32 :=
  let c1_i32_23 : BitVec 32 := 1#32
  let c7_i32_24 : BitVec 32 := 7#32
  let v79 : BitVec 32 := Scalar.addi c1_i32_23 c7_i32_24
  let c1_i32_25 : BitVec 32 := 1#32
  ⟨c1_i32_23, v79, c1_i32_25⟩

def k0_chk273 (i : grid0.Coords) (v27 : IVec S16 32) (v121 : IVec S16 32) : Prop :=
  (∀ (k0_h20 : k0_cond20 i = 1#1), ∀ a x, ((![v27, v121] : Fin 2 → IVec S16 32) a x).toNat < S16x1041.size a)
theorem k0_idx273_inb : ∀ (i : grid0.Coords) (v27 : IVec S16 32) (v121 : IVec S16 32) (k0_hw273 : k0_chk273 i v27 v121), ∀ (k0_h20 : k0_cond20 i = 1#1), ∀ a x, ((![v27, v121] : Fin 2 → IVec S16 32) a x).toNat < S16x1041.size a := fun i v27 v121 k0_hw273 k0_h20 => k0_hw273 k0_h20

def k0_chk274 (i : grid0.Coords) (v27 : IVec S16 32) (v124 : IVec S16 32) : Prop :=
  (∀ (k0_h20 : k0_cond20 i = 1#1), ∀ a x, ((![v27, v124] : Fin 2 → IVec S16 32) a x).toNat < S16x1041.size a)
theorem k0_idx274_inb : ∀ (i : grid0.Coords) (v27 : IVec S16 32) (v124 : IVec S16 32) (k0_hw274 : k0_chk274 i v27 v124), ∀ (k0_h20 : k0_cond20 i = 1#1), ∀ a x, ((![v27, v124] : Fin 2 → IVec S16 32) a x).toNat < S16x1041.size a := fun i v27 v124 k0_hw274 k0_h20 => k0_hw274 k0_h20

def k0_chk275 (i : grid0.Coords) (v27 : IVec S16 32) (v127 : IVec S16 32) : Prop :=
  (∀ (k0_h20 : k0_cond20 i = 1#1), ∀ a x, ((![v27, v127] : Fin 2 → IVec S16 32) a x).toNat < S16x1041.size a)
theorem k0_idx275_inb : ∀ (i : grid0.Coords) (v27 : IVec S16 32) (v127 : IVec S16 32) (k0_hw275 : k0_chk275 i v27 v127), ∀ (k0_h20 : k0_cond20 i = 1#1), ∀ a x, ((![v27, v127] : Fin 2 → IVec S16 32) a x).toNat < S16x1041.size a := fun i v27 v127 k0_hw275 k0_h20 => k0_hw275 k0_h20

def k0_chk276 (i : grid0.Coords) (v27 : IVec S16 32) (v130 : IVec S16 32) : Prop :=
  (∀ (k0_h20 : k0_cond20 i = 1#1), ∀ a x, ((![v27, v130] : Fin 2 → IVec S16 32) a x).toNat < S16x1041.size a)
theorem k0_idx276_inb : ∀ (i : grid0.Coords) (v27 : IVec S16 32) (v130 : IVec S16 32) (k0_hw276 : k0_chk276 i v27 v130), ∀ (k0_h20 : k0_cond20 i = 1#1), ∀ a x, ((![v27, v130] : Fin 2 → IVec S16 32) a x).toNat < S16x1041.size a := fun i v27 v130 k0_hw276 k0_h20 => k0_hw276 k0_h20

def k0_chk277 (i : grid0.Coords) (v27 : IVec S16 32) (v133 : IVec S16 32) : Prop :=
  (∀ (k0_h20 : k0_cond20 i = 1#1), ∀ a x, ((![v27, v133] : Fin 2 → IVec S16 32) a x).toNat < S16x1041.size a)
theorem k0_idx277_inb : ∀ (i : grid0.Coords) (v27 : IVec S16 32) (v133 : IVec S16 32) (k0_hw277 : k0_chk277 i v27 v133), ∀ (k0_h20 : k0_cond20 i = 1#1), ∀ a x, ((![v27, v133] : Fin 2 → IVec S16 32) a x).toNat < S16x1041.size a := fun i v27 v133 k0_hw277 k0_h20 => k0_hw277 k0_h20

def k0_chk278 (i : grid0.Coords) (v27 : IVec S16 32) (v136 : IVec S16 32) : Prop :=
  (∀ (k0_h20 : k0_cond20 i = 1#1), ∀ a x, ((![v27, v136] : Fin 2 → IVec S16 32) a x).toNat < S16x1041.size a)
theorem k0_idx278_inb : ∀ (i : grid0.Coords) (v27 : IVec S16 32) (v136 : IVec S16 32) (k0_hw278 : k0_chk278 i v27 v136), ∀ (k0_h20 : k0_cond20 i = 1#1), ∀ a x, ((![v27, v136] : Fin 2 → IVec S16 32) a x).toNat < S16x1041.size a := fun i v27 v136 k0_hw278 k0_h20 => k0_hw278 k0_h20

def k0_chk279 (i : grid0.Coords) (v27 : IVec S16 32) (v139 : IVec S16 32) : Prop :=
  (∀ (k0_h20 : k0_cond20 i = 1#1), ∀ a x, ((![v27, v139] : Fin 2 → IVec S16 32) a x).toNat < S16x1041.size a)
theorem k0_idx279_inb : ∀ (i : grid0.Coords) (v27 : IVec S16 32) (v139 : IVec S16 32) (k0_hw279 : k0_chk279 i v27 v139), ∀ (k0_h20 : k0_cond20 i = 1#1), ∀ a x, ((![v27, v139] : Fin 2 → IVec S16 32) a x).toNat < S16x1041.size a := fun i v27 v139 k0_hw279 k0_h20 => k0_hw279 k0_h20

def k0_chk280 (i : grid0.Coords) (v27 : IVec S16 32) (v142 : IVec S16 32) : Prop :=
  (∀ (k0_h20 : k0_cond20 i = 1#1), ∀ a x, ((![v27, v142] : Fin 2 → IVec S16 32) a x).toNat < S16x1041.size a)
theorem k0_idx280_inb : ∀ (i : grid0.Coords) (v27 : IVec S16 32) (v142 : IVec S16 32) (k0_hw280 : k0_chk280 i v27 v142), ∀ (k0_h20 : k0_cond20 i = 1#1), ∀ a x, ((![v27, v142] : Fin 2 → IVec S16 32) a x).toNat < S16x1041.size a := fun i v27 v142 k0_hw280 k0_h20 => k0_hw280 k0_h20

def k0_chk281 (i : grid0.Coords) (v27 : IVec S16 32) (v145 : IVec S16 32) : Prop :=
  (∀ (k0_h20 : k0_cond20 i = 1#1), ∀ a x, ((![v27, v145] : Fin 2 → IVec S16 32) a x).toNat < S16x1041.size a)
theorem k0_idx281_inb : ∀ (i : grid0.Coords) (v27 : IVec S16 32) (v145 : IVec S16 32) (k0_hw281 : k0_chk281 i v27 v145), ∀ (k0_h20 : k0_cond20 i = 1#1), ∀ a x, ((![v27, v145] : Fin 2 → IVec S16 32) a x).toNat < S16x1041.size a := fun i v27 v145 k0_hw281 k0_h20 => k0_hw281 k0_h20

def k0_chk282 (i : grid0.Coords) (v27 : IVec S16 32) (v148 : IVec S16 32) : Prop :=
  (∀ (k0_h20 : k0_cond20 i = 1#1), ∀ a x, ((![v27, v148] : Fin 2 → IVec S16 32) a x).toNat < S16x1041.size a)
theorem k0_idx282_inb : ∀ (i : grid0.Coords) (v27 : IVec S16 32) (v148 : IVec S16 32) (k0_hw282 : k0_chk282 i v27 v148), ∀ (k0_h20 : k0_cond20 i = 1#1), ∀ a x, ((![v27, v148] : Fin 2 → IVec S16 32) a x).toNat < S16x1041.size a := fun i v27 v148 k0_hw282 k0_h20 => k0_hw282 k0_h20

def k0_chk283 (i : grid0.Coords) (v27 : IVec S16 32) (v151 : IVec S16 32) : Prop :=
  (∀ (k0_h20 : k0_cond20 i = 1#1), ∀ a x, ((![v27, v151] : Fin 2 → IVec S16 32) a x).toNat < S16x1041.size a)
theorem k0_idx283_inb : ∀ (i : grid0.Coords) (v27 : IVec S16 32) (v151 : IVec S16 32) (k0_hw283 : k0_chk283 i v27 v151), ∀ (k0_h20 : k0_cond20 i = 1#1), ∀ a x, ((![v27, v151] : Fin 2 → IVec S16 32) a x).toNat < S16x1041.size a := fun i v27 v151 k0_hw283 k0_h20 => k0_hw283 k0_h20

def k0_chk284 (i : grid0.Coords) (v27 : IVec S16 32) (v154 : IVec S16 32) : Prop :=
  (∀ (k0_h20 : k0_cond20 i = 1#1), ∀ a x, ((![v27, v154] : Fin 2 → IVec S16 32) a x).toNat < S16x1041.size a)
theorem k0_idx284_inb : ∀ (i : grid0.Coords) (v27 : IVec S16 32) (v154 : IVec S16 32) (k0_hw284 : k0_chk284 i v27 v154), ∀ (k0_h20 : k0_cond20 i = 1#1), ∀ a x, ((![v27, v154] : Fin 2 → IVec S16 32) a x).toNat < S16x1041.size a := fun i v27 v154 k0_hw284 k0_h20 => k0_hw284 k0_h20

def k0_chk285 (i : grid0.Coords) (v27 : IVec S16 32) (v157 : IVec S16 32) : Prop :=
  (∀ (k0_h20 : k0_cond20 i = 1#1), ∀ a x, ((![v27, v157] : Fin 2 → IVec S16 32) a x).toNat < S16x1041.size a)
theorem k0_idx285_inb : ∀ (i : grid0.Coords) (v27 : IVec S16 32) (v157 : IVec S16 32) (k0_hw285 : k0_chk285 i v27 v157), ∀ (k0_h20 : k0_cond20 i = 1#1), ∀ a x, ((![v27, v157] : Fin 2 → IVec S16 32) a x).toNat < S16x1041.size a := fun i v27 v157 k0_hw285 k0_h20 => k0_hw285 k0_h20

def k0_chk286 (i : grid0.Coords) (v27 : IVec S16 32) (v160 : IVec S16 32) : Prop :=
  (∀ (k0_h20 : k0_cond20 i = 1#1), ∀ a x, ((![v27, v160] : Fin 2 → IVec S16 32) a x).toNat < S16x1041.size a)
theorem k0_idx286_inb : ∀ (i : grid0.Coords) (v27 : IVec S16 32) (v160 : IVec S16 32) (k0_hw286 : k0_chk286 i v27 v160), ∀ (k0_h20 : k0_cond20 i = 1#1), ∀ a x, ((![v27, v160] : Fin 2 → IVec S16 32) a x).toNat < S16x1041.size a := fun i v27 v160 k0_hw286 k0_h20 => k0_hw286 k0_h20

def k0_chk287 (i : grid0.Coords) (v27 : IVec S16 32) (v163 : IVec S16 32) : Prop :=
  (∀ (k0_h20 : k0_cond20 i = 1#1), ∀ a x, ((![v27, v163] : Fin 2 → IVec S16 32) a x).toNat < S16x1041.size a)
theorem k0_idx287_inb : ∀ (i : grid0.Coords) (v27 : IVec S16 32) (v163 : IVec S16 32) (k0_hw287 : k0_chk287 i v27 v163), ∀ (k0_h20 : k0_cond20 i = 1#1), ∀ a x, ((![v27, v163] : Fin 2 → IVec S16 32) a x).toNat < S16x1041.size a := fun i v27 v163 k0_hw287 k0_h20 => k0_hw287 k0_h20

def k0_chk288 (i : grid0.Coords) (v27 : IVec S16 32) (v166 : IVec S16 32) : Prop :=
  (∀ (k0_h20 : k0_cond20 i = 1#1), ∀ a x, ((![v27, v166] : Fin 2 → IVec S16 32) a x).toNat < S16x1041.size a)
theorem k0_idx288_inb : ∀ (i : grid0.Coords) (v27 : IVec S16 32) (v166 : IVec S16 32) (k0_hw288 : k0_chk288 i v27 v166), ∀ (k0_h20 : k0_cond20 i = 1#1), ∀ a x, ((![v27, v166] : Fin 2 → IVec S16 32) a x).toNat < S16x1041.size a := fun i v27 v166 k0_hw288 k0_h20 => k0_hw288 k0_h20

def k0_chk289 (i : grid0.Coords) (v175 : IVec S16 32) : Prop :=
  (∀ (k0_h20 : k0_cond20 i = 1#1), ∀ a x, ((![v175] : Fin 1 → IVec S16 32) a x).toNat < S16384.size a)
theorem k0_idx289_inb : ∀ (i : grid0.Coords) (v175 : IVec S16 32) (k0_hw289 : k0_chk289 i v175), ∀ (k0_h20 : k0_cond20 i = 1#1), ∀ a x, ((![v175] : Fin 1 → IVec S16 32) a x).toNat < S16384.size a := fun i v175 k0_hw289 k0_h20 => k0_hw289 k0_h20

def k0_chk290 (i : grid0.Coords) (v177 : IVec S16 32) : Prop :=
  (∀ (k0_h20 : k0_cond20 i = 1#1), ∀ a x, ((![v177] : Fin 1 → IVec S16 32) a x).toNat < S16384.size a)
theorem k0_idx290_inb : ∀ (i : grid0.Coords) (v177 : IVec S16 32) (k0_hw290 : k0_chk290 i v177), ∀ (k0_h20 : k0_cond20 i = 1#1), ∀ a x, ((![v177] : Fin 1 → IVec S16 32) a x).toNat < S16384.size a := fun i v177 k0_hw290 k0_h20 => k0_hw290 k0_h20

def k0_chk291 (i : grid0.Coords) (v179 : IVec S16 32) : Prop :=
  (∀ (k0_h20 : k0_cond20 i = 1#1), ∀ a x, ((![v179] : Fin 1 → IVec S16 32) a x).toNat < S16384.size a)
theorem k0_idx291_inb : ∀ (i : grid0.Coords) (v179 : IVec S16 32) (k0_hw291 : k0_chk291 i v179), ∀ (k0_h20 : k0_cond20 i = 1#1), ∀ a x, ((![v179] : Fin 1 → IVec S16 32) a x).toNat < S16384.size a := fun i v179 k0_hw291 k0_h20 => k0_hw291 k0_h20

def k0_chk292 (i : grid0.Coords) (v181 : IVec S16 32) : Prop :=
  (∀ (k0_h20 : k0_cond20 i = 1#1), ∀ a x, ((![v181] : Fin 1 → IVec S16 32) a x).toNat < S16384.size a)
theorem k0_idx292_inb : ∀ (i : grid0.Coords) (v181 : IVec S16 32) (k0_hw292 : k0_chk292 i v181), ∀ (k0_h20 : k0_cond20 i = 1#1), ∀ a x, ((![v181] : Fin 1 → IVec S16 32) a x).toNat < S16384.size a := fun i v181 k0_hw292 k0_h20 => k0_hw292 k0_h20

def k0_chk293 (i : grid0.Coords) (v183 : IVec S16 32) : Prop :=
  (∀ (k0_h20 : k0_cond20 i = 1#1), ∀ a x, ((![v183] : Fin 1 → IVec S16 32) a x).toNat < S16384.size a)
theorem k0_idx293_inb : ∀ (i : grid0.Coords) (v183 : IVec S16 32) (k0_hw293 : k0_chk293 i v183), ∀ (k0_h20 : k0_cond20 i = 1#1), ∀ a x, ((![v183] : Fin 1 → IVec S16 32) a x).toNat < S16384.size a := fun i v183 k0_hw293 k0_h20 => k0_hw293 k0_h20

def k0_chk294 (i : grid0.Coords) (v185 : IVec S16 32) : Prop :=
  (∀ (k0_h20 : k0_cond20 i = 1#1), ∀ a x, ((![v185] : Fin 1 → IVec S16 32) a x).toNat < S16384.size a)
theorem k0_idx294_inb : ∀ (i : grid0.Coords) (v185 : IVec S16 32) (k0_hw294 : k0_chk294 i v185), ∀ (k0_h20 : k0_cond20 i = 1#1), ∀ a x, ((![v185] : Fin 1 → IVec S16 32) a x).toNat < S16384.size a := fun i v185 k0_hw294 k0_h20 => k0_hw294 k0_h20

def k0_chk295 (i : grid0.Coords) (v187 : IVec S16 32) : Prop :=
  (∀ (k0_h20 : k0_cond20 i = 1#1), ∀ a x, ((![v187] : Fin 1 → IVec S16 32) a x).toNat < S16384.size a)
theorem k0_idx295_inb : ∀ (i : grid0.Coords) (v187 : IVec S16 32) (k0_hw295 : k0_chk295 i v187), ∀ (k0_h20 : k0_cond20 i = 1#1), ∀ a x, ((![v187] : Fin 1 → IVec S16 32) a x).toNat < S16384.size a := fun i v187 k0_hw295 k0_h20 => k0_hw295 k0_h20

def k0_chk296 (i : grid0.Coords) (v189 : IVec S16 32) : Prop :=
  (∀ (k0_h20 : k0_cond20 i = 1#1), ∀ a x, ((![v189] : Fin 1 → IVec S16 32) a x).toNat < S16384.size a)
theorem k0_idx296_inb : ∀ (i : grid0.Coords) (v189 : IVec S16 32) (k0_hw296 : k0_chk296 i v189), ∀ (k0_h20 : k0_cond20 i = 1#1), ∀ a x, ((![v189] : Fin 1 → IVec S16 32) a x).toNat < S16384.size a := fun i v189 k0_hw296 k0_h20 => k0_hw296 k0_h20

def k0_chk297 (i : grid0.Coords) (v191 : IVec S16 32) : Prop :=
  (∀ (k0_h20 : k0_cond20 i = 1#1), ∀ a x, ((![v191] : Fin 1 → IVec S16 32) a x).toNat < S16384.size a)
theorem k0_idx297_inb : ∀ (i : grid0.Coords) (v191 : IVec S16 32) (k0_hw297 : k0_chk297 i v191), ∀ (k0_h20 : k0_cond20 i = 1#1), ∀ a x, ((![v191] : Fin 1 → IVec S16 32) a x).toNat < S16384.size a := fun i v191 k0_hw297 k0_h20 => k0_hw297 k0_h20

def k0_chk298 (i : grid0.Coords) (v193 : IVec S16 32) : Prop :=
  (∀ (k0_h20 : k0_cond20 i = 1#1), ∀ a x, ((![v193] : Fin 1 → IVec S16 32) a x).toNat < S16384.size a)
theorem k0_idx298_inb : ∀ (i : grid0.Coords) (v193 : IVec S16 32) (k0_hw298 : k0_chk298 i v193), ∀ (k0_h20 : k0_cond20 i = 1#1), ∀ a x, ((![v193] : Fin 1 → IVec S16 32) a x).toNat < S16384.size a := fun i v193 k0_hw298 k0_h20 => k0_hw298 k0_h20

def k0_chk299 (i : grid0.Coords) (v195 : IVec S16 32) : Prop :=
  (∀ (k0_h20 : k0_cond20 i = 1#1), ∀ a x, ((![v195] : Fin 1 → IVec S16 32) a x).toNat < S16384.size a)
theorem k0_idx299_inb : ∀ (i : grid0.Coords) (v195 : IVec S16 32) (k0_hw299 : k0_chk299 i v195), ∀ (k0_h20 : k0_cond20 i = 1#1), ∀ a x, ((![v195] : Fin 1 → IVec S16 32) a x).toNat < S16384.size a := fun i v195 k0_hw299 k0_h20 => k0_hw299 k0_h20

def k0_chk300 (i : grid0.Coords) (v197 : IVec S16 32) : Prop :=
  (∀ (k0_h20 : k0_cond20 i = 1#1), ∀ a x, ((![v197] : Fin 1 → IVec S16 32) a x).toNat < S16384.size a)
theorem k0_idx300_inb : ∀ (i : grid0.Coords) (v197 : IVec S16 32) (k0_hw300 : k0_chk300 i v197), ∀ (k0_h20 : k0_cond20 i = 1#1), ∀ a x, ((![v197] : Fin 1 → IVec S16 32) a x).toNat < S16384.size a := fun i v197 k0_hw300 k0_h20 => k0_hw300 k0_h20

def k0_chk301 (i : grid0.Coords) (v199 : IVec S16 32) : Prop :=
  (∀ (k0_h20 : k0_cond20 i = 1#1), ∀ a x, ((![v199] : Fin 1 → IVec S16 32) a x).toNat < S16384.size a)
theorem k0_idx301_inb : ∀ (i : grid0.Coords) (v199 : IVec S16 32) (k0_hw301 : k0_chk301 i v199), ∀ (k0_h20 : k0_cond20 i = 1#1), ∀ a x, ((![v199] : Fin 1 → IVec S16 32) a x).toNat < S16384.size a := fun i v199 k0_hw301 k0_h20 => k0_hw301 k0_h20

def k0_chk302 (i : grid0.Coords) (v201 : IVec S16 32) : Prop :=
  (∀ (k0_h20 : k0_cond20 i = 1#1), ∀ a x, ((![v201] : Fin 1 → IVec S16 32) a x).toNat < S16384.size a)
theorem k0_idx302_inb : ∀ (i : grid0.Coords) (v201 : IVec S16 32) (k0_hw302 : k0_chk302 i v201), ∀ (k0_h20 : k0_cond20 i = 1#1), ∀ a x, ((![v201] : Fin 1 → IVec S16 32) a x).toNat < S16384.size a := fun i v201 k0_hw302 k0_h20 => k0_hw302 k0_h20

def k0_chk303 (i : grid0.Coords) (v203 : IVec S16 32) : Prop :=
  (∀ (k0_h20 : k0_cond20 i = 1#1), ∀ a x, ((![v203] : Fin 1 → IVec S16 32) a x).toNat < S16384.size a)
theorem k0_idx303_inb : ∀ (i : grid0.Coords) (v203 : IVec S16 32) (k0_hw303 : k0_chk303 i v203), ∀ (k0_h20 : k0_cond20 i = 1#1), ∀ a x, ((![v203] : Fin 1 → IVec S16 32) a x).toNat < S16384.size a := fun i v203 k0_hw303 k0_h20 => k0_hw303 k0_h20

def k0_chk304 (i : grid0.Coords) (v205 : IVec S16 32) : Prop :=
  (∀ (k0_h20 : k0_cond20 i = 1#1), ∀ a x, ((![v205] : Fin 1 → IVec S16 32) a x).toNat < S16384.size a)
theorem k0_idx304_inb : ∀ (i : grid0.Coords) (v205 : IVec S16 32) (k0_hw304 : k0_chk304 i v205), ∀ (k0_h20 : k0_cond20 i = 1#1), ∀ a x, ((![v205] : Fin 1 → IVec S16 32) a x).toNat < S16384.size a := fun i v205 k0_hw304 k0_h20 => k0_hw304 k0_h20

def k0_chk305 (i : grid0.Coords) (v86 : IVec S16 32) : Prop :=
  (∀ (k0_h20 : k0_cond20 i = 1#1), ∀ a x, ((![v86] : Fin 1 → IVec S16 32) a x).toNat < S16384.size a)
theorem k0_idx305_inb : ∀ (i : grid0.Coords) (v86 : IVec S16 32) (k0_hw305 : k0_chk305 i v86), ∀ (k0_h20 : k0_cond20 i = 1#1), ∀ a x, ((![v86] : Fin 1 → IVec S16 32) a x).toNat < S16384.size a := fun i v86 k0_hw305 k0_h20 => k0_hw305 k0_h20

def k0_chk306 (i : grid0.Coords) (v88 : IVec S16 32) : Prop :=
  (∀ (k0_h20 : k0_cond20 i = 1#1), ∀ a x, ((![v88] : Fin 1 → IVec S16 32) a x).toNat < S16384.size a)
theorem k0_idx306_inb : ∀ (i : grid0.Coords) (v88 : IVec S16 32) (k0_hw306 : k0_chk306 i v88), ∀ (k0_h20 : k0_cond20 i = 1#1), ∀ a x, ((![v88] : Fin 1 → IVec S16 32) a x).toNat < S16384.size a := fun i v88 k0_hw306 k0_h20 => k0_hw306 k0_h20

def k0_chk307 (i : grid0.Coords) (v90 : IVec S16 32) : Prop :=
  (∀ (k0_h20 : k0_cond20 i = 1#1), ∀ a x, ((![v90] : Fin 1 → IVec S16 32) a x).toNat < S16384.size a)
theorem k0_idx307_inb : ∀ (i : grid0.Coords) (v90 : IVec S16 32) (k0_hw307 : k0_chk307 i v90), ∀ (k0_h20 : k0_cond20 i = 1#1), ∀ a x, ((![v90] : Fin 1 → IVec S16 32) a x).toNat < S16384.size a := fun i v90 k0_hw307 k0_h20 => k0_hw307 k0_h20

def k0_chk308 (i : grid0.Coords) (v92 : IVec S16 32) : Prop :=
  (∀ (k0_h20 : k0_cond20 i = 1#1), ∀ a x, ((![v92] : Fin 1 → IVec S16 32) a x).toNat < S16384.size a)
theorem k0_idx308_inb : ∀ (i : grid0.Coords) (v92 : IVec S16 32) (k0_hw308 : k0_chk308 i v92), ∀ (k0_h20 : k0_cond20 i = 1#1), ∀ a x, ((![v92] : Fin 1 → IVec S16 32) a x).toNat < S16384.size a := fun i v92 k0_hw308 k0_h20 => k0_hw308 k0_h20

def k0_chk309 (i : grid0.Coords) (v94 : IVec S16 32) : Prop :=
  (∀ (k0_h20 : k0_cond20 i = 1#1), ∀ a x, ((![v94] : Fin 1 → IVec S16 32) a x).toNat < S16384.size a)
theorem k0_idx309_inb : ∀ (i : grid0.Coords) (v94 : IVec S16 32) (k0_hw309 : k0_chk309 i v94), ∀ (k0_h20 : k0_cond20 i = 1#1), ∀ a x, ((![v94] : Fin 1 → IVec S16 32) a x).toNat < S16384.size a := fun i v94 k0_hw309 k0_h20 => k0_hw309 k0_h20

def k0_chk310 (i : grid0.Coords) (v96 : IVec S16 32) : Prop :=
  (∀ (k0_h20 : k0_cond20 i = 1#1), ∀ a x, ((![v96] : Fin 1 → IVec S16 32) a x).toNat < S16384.size a)
theorem k0_idx310_inb : ∀ (i : grid0.Coords) (v96 : IVec S16 32) (k0_hw310 : k0_chk310 i v96), ∀ (k0_h20 : k0_cond20 i = 1#1), ∀ a x, ((![v96] : Fin 1 → IVec S16 32) a x).toNat < S16384.size a := fun i v96 k0_hw310 k0_h20 => k0_hw310 k0_h20

def k0_chk311 (i : grid0.Coords) (v98 : IVec S16 32) : Prop :=
  (∀ (k0_h20 : k0_cond20 i = 1#1), ∀ a x, ((![v98] : Fin 1 → IVec S16 32) a x).toNat < S16384.size a)
theorem k0_idx311_inb : ∀ (i : grid0.Coords) (v98 : IVec S16 32) (k0_hw311 : k0_chk311 i v98), ∀ (k0_h20 : k0_cond20 i = 1#1), ∀ a x, ((![v98] : Fin 1 → IVec S16 32) a x).toNat < S16384.size a := fun i v98 k0_hw311 k0_h20 => k0_hw311 k0_h20

def k0_chk312 (i : grid0.Coords) (v100 : IVec S16 32) : Prop :=
  (∀ (k0_h20 : k0_cond20 i = 1#1), ∀ a x, ((![v100] : Fin 1 → IVec S16 32) a x).toNat < S16384.size a)
theorem k0_idx312_inb : ∀ (i : grid0.Coords) (v100 : IVec S16 32) (k0_hw312 : k0_chk312 i v100), ∀ (k0_h20 : k0_cond20 i = 1#1), ∀ a x, ((![v100] : Fin 1 → IVec S16 32) a x).toNat < S16384.size a := fun i v100 k0_hw312 k0_h20 => k0_hw312 k0_h20

def k0_chk313 (i : grid0.Coords) (v102 : IVec S16 32) : Prop :=
  (∀ (k0_h20 : k0_cond20 i = 1#1), ∀ a x, ((![v102] : Fin 1 → IVec S16 32) a x).toNat < S16384.size a)
theorem k0_idx313_inb : ∀ (i : grid0.Coords) (v102 : IVec S16 32) (k0_hw313 : k0_chk313 i v102), ∀ (k0_h20 : k0_cond20 i = 1#1), ∀ a x, ((![v102] : Fin 1 → IVec S16 32) a x).toNat < S16384.size a := fun i v102 k0_hw313 k0_h20 => k0_hw313 k0_h20

def k0_chk314 (i : grid0.Coords) (v104 : IVec S16 32) : Prop :=
  (∀ (k0_h20 : k0_cond20 i = 1#1), ∀ a x, ((![v104] : Fin 1 → IVec S16 32) a x).toNat < S16384.size a)
theorem k0_idx314_inb : ∀ (i : grid0.Coords) (v104 : IVec S16 32) (k0_hw314 : k0_chk314 i v104), ∀ (k0_h20 : k0_cond20 i = 1#1), ∀ a x, ((![v104] : Fin 1 → IVec S16 32) a x).toNat < S16384.size a := fun i v104 k0_hw314 k0_h20 => k0_hw314 k0_h20

def k0_chk315 (i : grid0.Coords) (v106 : IVec S16 32) : Prop :=
  (∀ (k0_h20 : k0_cond20 i = 1#1), ∀ a x, ((![v106] : Fin 1 → IVec S16 32) a x).toNat < S16384.size a)
theorem k0_idx315_inb : ∀ (i : grid0.Coords) (v106 : IVec S16 32) (k0_hw315 : k0_chk315 i v106), ∀ (k0_h20 : k0_cond20 i = 1#1), ∀ a x, ((![v106] : Fin 1 → IVec S16 32) a x).toNat < S16384.size a := fun i v106 k0_hw315 k0_h20 => k0_hw315 k0_h20

def k0_chk316 (i : grid0.Coords) (v108 : IVec S16 32) : Prop :=
  (∀ (k0_h20 : k0_cond20 i = 1#1), ∀ a x, ((![v108] : Fin 1 → IVec S16 32) a x).toNat < S16384.size a)
theorem k0_idx316_inb : ∀ (i : grid0.Coords) (v108 : IVec S16 32) (k0_hw316 : k0_chk316 i v108), ∀ (k0_h20 : k0_cond20 i = 1#1), ∀ a x, ((![v108] : Fin 1 → IVec S16 32) a x).toNat < S16384.size a := fun i v108 k0_hw316 k0_h20 => k0_hw316 k0_h20

def k0_chk317 (i : grid0.Coords) (v110 : IVec S16 32) : Prop :=
  (∀ (k0_h20 : k0_cond20 i = 1#1), ∀ a x, ((![v110] : Fin 1 → IVec S16 32) a x).toNat < S16384.size a)
theorem k0_idx317_inb : ∀ (i : grid0.Coords) (v110 : IVec S16 32) (k0_hw317 : k0_chk317 i v110), ∀ (k0_h20 : k0_cond20 i = 1#1), ∀ a x, ((![v110] : Fin 1 → IVec S16 32) a x).toNat < S16384.size a := fun i v110 k0_hw317 k0_h20 => k0_hw317 k0_h20

def k0_chk318 (i : grid0.Coords) (v112 : IVec S16 32) : Prop :=
  (∀ (k0_h20 : k0_cond20 i = 1#1), ∀ a x, ((![v112] : Fin 1 → IVec S16 32) a x).toNat < S16384.size a)
theorem k0_idx318_inb : ∀ (i : grid0.Coords) (v112 : IVec S16 32) (k0_hw318 : k0_chk318 i v112), ∀ (k0_h20 : k0_cond20 i = 1#1), ∀ a x, ((![v112] : Fin 1 → IVec S16 32) a x).toNat < S16384.size a := fun i v112 k0_hw318 k0_h20 => k0_hw318 k0_h20

def k0_chk319 (i : grid0.Coords) (v114 : IVec S16 32) : Prop :=
  (∀ (k0_h20 : k0_cond20 i = 1#1), ∀ a x, ((![v114] : Fin 1 → IVec S16 32) a x).toNat < S16384.size a)
theorem k0_idx319_inb : ∀ (i : grid0.Coords) (v114 : IVec S16 32) (k0_hw319 : k0_chk319 i v114), ∀ (k0_h20 : k0_cond20 i = 1#1), ∀ a x, ((![v114] : Fin 1 → IVec S16 32) a x).toNat < S16384.size a := fun i v114 k0_hw319 k0_h20 => k0_hw319 k0_h20

def k0_chk320 (i : grid0.Coords) (v116 : IVec S16 32) : Prop :=
  (∀ (k0_h20 : k0_cond20 i = 1#1), ∀ a x, ((![v116] : Fin 1 → IVec S16 32) a x).toNat < S16384.size a)
theorem k0_idx320_inb : ∀ (i : grid0.Coords) (v116 : IVec S16 32) (k0_hw320 : k0_chk320 i v116), ∀ (k0_h20 : k0_cond20 i = 1#1), ∀ a x, ((![v116] : Fin 1 → IVec S16 32) a x).toNat < S16384.size a := fun i v116 k0_hw320 k0_h20 => k0_hw320 k0_h20
abbrev grid1 : Pipeline.Grid := ⟨2, ![2, 16], ![false, false]⟩

def k1_mult1 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v2 : BitVec 32 := Scalar.muli v1 c3136_i32
  v2
def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v2 : BitVec 32 := Scalar.muli v1 c3136_i32
  let v3 : BitVec 32 := v2
  ![v3.toNat]
def k1_cond1 (i : grid1.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32 : BitVec 32 := 31#32
  let v6 : BitVec 1 := Scalar.cmpi .slt v1 c31_i32
  let v7 : BitVec 32 := Scalar.extui v6
  let c0_i32_3 : BitVec 32 := 0#32
  let v8 : BitVec 1 := Scalar.cmpi .ne v7 c0_i32_3
  v8

def k1_off2 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v2 : BitVec 32 := Scalar.muli v1 c3136_i32
  let v3 : BitVec 32 := v2
  let c0_i32_6_r1 : BitVec 32 := 0#32
  ![v3.toNat, 0]
def k1_cond2 (i : grid1.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32_4 : BitVec 32 := 31#32
  let v9 : BitVec 1 := Scalar.cmpi .eq v1 c31_i32_4
  let v10 : BitVec 32 := Scalar.extui v9
  let c0_i32_5 : BitVec 32 := 0#32
  let v11 : BitVec 1 := Scalar.cmpi .ne v10 c0_i32_5
  v11

def k1_off3 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v2 : BitVec 32 := Scalar.muli v1 c3136_i32
  let v3 : BitVec 32 := v2
  let c0_i32_8_r2 : BitVec 32 := 0#32
  ![v3.toNat, 0]
abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S100000 : Shape := ⟨1, ![100000]⟩
abbrev S1000000x16 : Shape := ⟨2, ![1000000, 16]⟩
abbrev S_ : Shape := ⟨0, ![]⟩
abbrev S100000x1 : Shape := ⟨2, ![100000, 1]⟩
abbrev S1 : Shape := ⟨1, ![1]⟩
abbrev S1x1 : Shape := ⟨2, ![1, 1]⟩
abbrev S100000x16 : Shape := ⟨2, ![100000, 16]⟩

abbrev nBuf : Space → Nat
  | .hbm => 25
  | .vmem => 0
  | .smem => 0
  | _ => 0

abbrev bufTy : (tb : Table) → Fin (tcTables nBuf tb) → BufTy
  | .hbm, ⟨0, _⟩ => ⟨S100000, .i32⟩
  | .hbm, ⟨1, _⟩ => ⟨S1000000x16, .f32⟩
  | .hbm, ⟨2, _⟩ => ⟨S_, .i32⟩
  | .hbm, ⟨3, _⟩ => ⟨S100000, .i32⟩
  | .hbm, ⟨4, _⟩ => ⟨S100000, .i1⟩
  | .hbm, ⟨5, _⟩ => ⟨S_, .i32⟩
  | .hbm, ⟨6, _⟩ => ⟨S100000, .i32⟩
  | .hbm, ⟨7, _⟩ => ⟨S100000, .i32⟩
  | .hbm, ⟨8, _⟩ => ⟨S100000, .i32⟩
  | .hbm, ⟨9, _⟩ => ⟨S100000x1, .i32⟩
  | .hbm, ⟨10, _⟩ => ⟨S1, .i32⟩
  | .hbm, ⟨11, _⟩ => ⟨S_, .i32⟩
  | .hbm, ⟨12, _⟩ => ⟨S100000x1, .i32⟩
  | .hbm, ⟨13, _⟩ => ⟨S100000x1, .i1⟩
  | .hbm, ⟨14, _⟩ => ⟨S1x1, .i32⟩
  | .hbm, ⟨15, _⟩ => ⟨S100000x1, .i32⟩
  | .hbm, ⟨16, _⟩ => ⟨S100000x1, .i1⟩
  | .hbm, ⟨17, _⟩ => ⟨S100000x1, .i1⟩
  | .hbm, ⟨18, _⟩ => ⟨S_, .i1⟩
  | .hbm, ⟨19, _⟩ => ⟨S100000, .i1⟩
  | .hbm, ⟨20, _⟩ => ⟨S100000x16, .f32⟩
  | .hbm, ⟨21, _⟩ => ⟨S100000x16, .i1⟩
  | .hbm, ⟨22, _⟩ => ⟨S_, .f32⟩
  | .hbm, ⟨23, _⟩ => ⟨S100000x16, .f32⟩
  | .hbm, ⟨24, _⟩ => ⟨S100000x16, .f32⟩
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]
-- ==== Proof.Setup.lean ====
/-
  What every module of this proof shares: the program as the launch theorem sees it, the ghost state,
  the arrays' locations, and a whole tile buffer held at contents named by what its view reads.
-/
module

public import proofs.«01_k».proof.Defs
public import proofs.«01_k».proof.Proof.Gen.KernelIdeal
public import proofs.«01_k».proof.Proof.Gen.KernelIdeal.Skeleton
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic

@[expose] public section

noncomputable section

namespace Cert.Proof.Table

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 2 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the transfers' counters -/

abbrev UH : Type := URounds (GSem nD τ sig) ℕ
abbrev UU : Type := UH × Counters
abbrev MM (F : FTy → Type) : Type := MT nD τ sig (HIx 2) (Elt F) ℕ UU ℕ

local notation "𝕄" => MM F

abbrev EH : Emb UH (MT nD τ sig (HIx 2) (Elt F) ℕ UU ℕ) := embL

/-- The thread of the first kernel's tile at the grid point `i`. -/
abbrev thr0 (d : Dev nD) (i : grid0.Coords) : Thread nD τ := V d ((i 0).castLE hcore0) ((i 1).castLE hsub0)

/-! ## A tile buffer, held at what its view reads -/

/-- The buffer of `b`, a tile memory of the tile at `i`, held outright; `g` is what `b` reads of it. -/
def Hold (d : Dev nD) (i : grid0.Coords) {s : Shape} {e : EltTy} (b : Memref sig .scVector .vmem s e) (g : s.Idx → Elt F e) : sProp 𝕄 :=
  iprop(∃ f, ⌜b.view.read (Elt F) f = g⌝ ∗ (b.view.loc (thr0 d i) ↦[b.view.set]{fullShare} f))

theorem hold_eq (d : Dev nD) (i : grid0.Coords) {s : Shape} {e : EltTy} (b : Memref sig .scVector .vmem s e) (g : s.Idx → Elt F e) :
    Hold d i b g = iprop(∃ f, ⌜b.view.read (Elt F) f = g⌝ ∗ (b.view.loc (thr0 d i) ↦[b.view.set]{fullShare} f)) := rfl

theorem set_whole_access {κ : Kind} {sp : Space} {s : Shape} {e : EltTy} (b : Memref sig κ sp s e) : (b.access (.whole s)).set = b.view.set := by
  rw [View.set_slice, Rect.set_whole]; rfl

theorem read_whole_access {κ : Kind} {sp : Space} {s : Shape} {e : EltTy} (b : Memref sig κ sp s e) (f) :
    (b.access (.whole s)).read (Elt F) f = b.view.read (Elt F) f := by
  funext x
  rw [View.read_apply, View.read_apply, View.emb_slice]
  simp only [Function.Embedding.trans_apply, Rect.emb_whole_apply]

end Cert.Proof.Table
end
-- ==== Proof.Transpose.lean ====
/-
  The transposition a tile runs on one slab: column `c` of the slab read as a vector of sixteen and
  written at the places `16 c … 16 c + 15` of the flat buffer, 128 columns a trip of the outer loop.
  The printed kernel has this text three times, on one pair of buffers or the other; here it is stated
  once over the buffers and the guard it runs under, and the three printed loops are it.
-/
module

public import proofs.«01_k».proof.Proof.Setup

@[expose] public section

noncomputable section

namespace Cert.Proof.Table

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MM F

/-! ## The text, once -/

abbrev lanes : IVec S16 32 := iota .scVector S16 32 [0] iota_S16_d0_w32_scVector
abbrev colsAt (w b : BitVec 32) : IVec S16 32 := addi (broadcast S16 w) (broadcast S16 b)
abbrev posAt (w b : BitVec 32) : IVec S16 32 := addi (addi (broadcast S16 (Scalar.muli w 16#32)) lanes) (broadcast S16 b)

theorem inner_ok : k0_t3_loop.OK := by decide
theorem outer_ok : k0_t2_loop.OK := by decide

section Text

variable (i : grid0.Coords) {c : BitVec 1} (hc : c = 1#1)
  (sl : Memref sig .scVector .vmem S16x1041 .f32) (tr : Memref sig .scVector .vmem S16384 .f32)

def ColChk (c : BitVec 1) (cols : IVec S16 32) : Prop := c = 1#1 → ∀ a x, ((![lanes, cols] : Fin 2 → IVec S16 32) a x).toNat < S16x1041.size a
def PosChk (c : BitVec 1) (pos : IVec S16 32) : Prop := c = 1#1 → ∀ a x, ((![pos] : Fin 1 → IVec S16 32) a x).toNat < S16384.size a

instance ColChk.dec (c : BitVec 1) (cols : IVec S16 32) : Decidable (ColChk c cols) := decidable_of_iff' _ (Iff.of_eq (ColChk.eq_1 c cols))
instance PosChk.dec (c : BitVec 1) (pos : IVec S16 32) : Decidable (PosChk c pos) := decidable_of_iff' _ (Iff.of_eq (PosChk.eq_1 c pos))

/-- One column of the slab read, the side condition assumed first. -/
def colLoad (cols : IVec S16 32) : Prog (TpuEff nD τ sig (Elt F) Λ₀ (.scVector ((i 0).castLE hcore0) ((i 1).castLE hsub0))) (Vec F S16 .f32) := do
  have hw : ColChk c cols := (← Prog.lift (TpuEff.assume (ColChk c cols) (ColChk.dec c cols))).down
  SparseCore.vectorLoadIdx sl ![lanes, cols] (hw hc) (View.loads_vmem h_S16x1041)

/-- One column written to the flat buffer, the side condition assumed first. -/
def colStore (pos : IVec S16 32) (v : Vec F S16 .f32) : Prog (TpuEff nD τ sig (Elt F) Λ₀ (.scVector ((i 0).castLE hcore0) ((i 1).castLE hsub0))) PUnit := do
  have hw : PosChk c pos := (← Prog.lift (TpuEff.assume (PosChk c pos) (PosChk.dec c pos))).down
  SparseCore.vectorStoreIdx tr ![pos] v (fun _ => 1#1) false (hw hc) (View.stores_vmem_bits_univ h_S16384 rfl)

abbrev Vec16 : Type := Vec F S16 .f32 × Vec F S16 .f32 × Vec F S16 .f32 × Vec F S16 .f32 × Vec F S16 .f32 × Vec F S16 .f32 × Vec F S16 .f32 × Vec F S16 .f32 × Vec F S16 .f32 × Vec F S16 .f32 × Vec F S16 .f32 × Vec F S16 .f32 × Vec F S16 .f32 × Vec F S16 .f32 × Vec F S16 .f32 × Vec F S16 .f32

/-- One trip of the inner loop: sixteen columns read, the sixteen read a trip before written. -/
def innerTrip (w : BitVec 32) (m : Fin k0_t3_loop.trips) : Vec16 (F := F) → Prog (TpuEff nD τ sig (Elt F) Λ₀ (.scVector ((i 0).castLE hcore0) ((i 1).castLE hsub0))) (Vec16 (F := F)) :=
  fun (a0, a1, a2, a3, a4, a5, a6, a7, a8, a9, a10, a11, a12, a13, a14, a15) => do
    let b0 ← colLoad i hc sl (colsAt (Scalar.addi w (Scalar.muli (Scf.iv 1#32 1#32 m) 16#32)) 0#32)
    let b1 ← colLoad i hc sl (colsAt (Scalar.addi w (Scalar.muli (Scf.iv 1#32 1#32 m) 16#32)) 1#32)
    let b2 ← colLoad i hc sl (colsAt (Scalar.addi w (Scalar.muli (Scf.iv 1#32 1#32 m) 16#32)) 2#32)
    let b3 ← colLoad i hc sl (colsAt (Scalar.addi w (Scalar.muli (Scf.iv 1#32 1#32 m) 16#32)) 3#32)
    let b4 ← colLoad i hc sl (colsAt (Scalar.addi w (Scalar.muli (Scf.iv 1#32 1#32 m) 16#32)) 4#32)
    let b5 ← colLoad i hc sl (colsAt (Scalar.addi w (Scalar.muli (Scf.iv 1#32 1#32 m) 16#32)) 5#32)
    let b6 ← colLoad i hc sl (colsAt (Scalar.addi w (Scalar.muli (Scf.iv 1#32 1#32 m) 16#32)) 6#32)
    let b7 ← colLoad i hc sl (colsAt (Scalar.addi w (Scalar.muli (Scf.iv 1#32 1#32 m) 16#32)) 7#32)
    let b8 ← colLoad i hc sl (colsAt (Scalar.addi w (Scalar.muli (Scf.iv 1#32 1#32 m) 16#32)) 8#32)
    let b9 ← colLoad i hc sl (colsAt (Scalar.addi w (Scalar.muli (Scf.iv 1#32 1#32 m) 16#32)) 9#32)
    let b10 ← colLoad i hc sl (colsAt (Scalar.addi w (Scalar.muli (Scf.iv 1#32 1#32 m) 16#32)) 10#32)
    let b11 ← colLoad i hc sl (colsAt (Scalar.addi w (Scalar.muli (Scf.iv 1#32 1#32 m) 16#32)) 11#32)
    let b12 ← colLoad i hc sl (colsAt (Scalar.addi w (Scalar.muli (Scf.iv 1#32 1#32 m) 16#32)) 12#32)
    let b13 ← colLoad i hc sl (colsAt (Scalar.addi w (Scalar.muli (Scf.iv 1#32 1#32 m) 16#32)) 13#32)
    let b14 ← colLoad i hc sl (colsAt (Scalar.addi w (Scalar.muli (Scf.iv 1#32 1#32 m) 16#32)) 14#32)
    let b15 ← colLoad i hc sl (colsAt (Scalar.addi w (Scalar.muli (Scf.iv 1#32 1#32 m) 16#32)) 15#32)
    colStore i hc tr (posAt (Scalar.addi w (Scalar.muli (Scalar.subi (Scf.iv 1#32 1#32 m) 1#32) 16#32)) 0#32) a0
    colStore i hc tr (posAt (Scalar.addi w (Scalar.muli (Scalar.subi (Scf.iv 1#32 1#32 m) 1#32) 16#32)) 16#32) a1
    colStore i hc tr (posAt (Scalar.addi w (Scalar.muli (Scalar.subi (Scf.iv 1#32 1#32 m) 1#32) 16#32)) 32#32) a2
    colStore i hc tr (posAt (Scalar.addi w (Scalar.muli (Scalar.subi (Scf.iv 1#32 1#32 m) 1#32) 16#32)) 48#32) a3
    colStore i hc tr (posAt (Scalar.addi w (Scalar.muli (Scalar.subi (Scf.iv 1#32 1#32 m) 1#32) 16#32)) 64#32) a4
    colStore i hc tr (posAt (Scalar.addi w (Scalar.muli (Scalar.subi (Scf.iv 1#32 1#32 m) 1#32) 16#32)) 80#32) a5
    colStore i hc tr (posAt (Scalar.addi w (Scalar.muli (Scalar.subi (Scf.iv 1#32 1#32 m) 1#32) 16#32)) 96#32) a6
    colStore i hc tr (posAt (Scalar.addi w (Scalar.muli (Scalar.subi (Scf.iv 1#32 1#32 m) 1#32) 16#32)) 112#32) a7
    colStore i hc tr (posAt (Scalar.addi w (Scalar.muli (Scalar.subi (Scf.iv 1#32 1#32 m) 1#32) 16#32)) 128#32) a8
    colStore i hc tr (posAt (Scalar.addi w (Scalar.muli (Scalar.subi (Scf.iv 1#32 1#32 m) 1#32) 16#32)) 144#32) a9
    colStore i hc tr (posAt (Scalar.addi w (Scalar.muli (Scalar.subi (Scf.iv 1#32 1#32 m) 1#32) 16#32)) 160#32) a10
    colStore i hc tr (posAt (Scalar.addi w (Scalar.muli (Scalar.subi (Scf.iv 1#32 1#32 m) 1#32) 16#32)) 176#32) a11
    colStore i hc tr (posAt (Scalar.addi w (Scalar.muli (Scalar.subi (Scf.iv 1#32 1#32 m) 1#32) 16#32)) 192#32) a12
    colStore i hc tr (posAt (Scalar.addi w (Scalar.muli (Scalar.subi (Scf.iv 1#32 1#32 m) 1#32) 16#32)) 208#32) a13
    colStore i hc tr (posAt (Scalar.addi w (Scalar.muli (Scalar.subi (Scf.iv 1#32 1#32 m) 1#32) 16#32)) 224#32) a14
    colStore i hc tr (posAt (Scalar.addi w (Scalar.muli (Scalar.subi (Scf.iv 1#32 1#32 m) 1#32) 16#32)) 240#32) a15
    pure (b0, b1, b2, b3, b4, b5, b6, b7, b8, b9, b10, b11, b12, b13, b14, b15)

/-- One trip of the outer loop up to the cut the printed program makes in its last stores. -/
def outerHead (k : ℕ) : Prog (TpuEff nD τ sig (Elt F) Λ₀ (.scVector ((i 0).castLE hcore0) ((i 1).castLE hsub0))) (Σ' (_ : Vec F S16 .f32) (_ : Vec F S16 .f32) (_ : Vec F S16 .f32) (_ : Vec F S16 .f32) (_ : Vec F S16 .f32) (_ : Vec F S16 .f32) (_ : Vec F S16 .f32) (_ : Vec F S16 .f32) (_ : Vec F S16 .f32) (_ : Vec F S16 .f32) (_ : Vec F S16 .f32) (_ : Vec F S16 .f32), IVec S16 32) := do
  let b0 ← colLoad i hc sl (colsAt (Scalar.addi (Scalar.muli (Scf.iv 0#32 1#32 k) 128#32) 0#32) 0#32)
  let b1 ← colLoad i hc sl (colsAt (Scalar.addi (Scalar.muli (Scf.iv 0#32 1#32 k) 128#32) 0#32) 1#32)
  let b2 ← colLoad i hc sl (colsAt (Scalar.addi (Scalar.muli (Scf.iv 0#32 1#32 k) 128#32) 0#32) 2#32)
  let b3 ← colLoad i hc sl (colsAt (Scalar.addi (Scalar.muli (Scf.iv 0#32 1#32 k) 128#32) 0#32) 3#32)
  let b4 ← colLoad i hc sl (colsAt (Scalar.addi (Scalar.muli (Scf.iv 0#32 1#32 k) 128#32) 0#32) 4#32)
  let b5 ← colLoad i hc sl (colsAt (Scalar.addi (Scalar.muli (Scf.iv 0#32 1#32 k) 128#32) 0#32) 5#32)
  let b6 ← colLoad i hc sl (colsAt (Scalar.addi (Scalar.muli (Scf.iv 0#32 1#32 k) 128#32) 0#32) 6#32)
  let b7 ← colLoad i hc sl (colsAt (Scalar.addi (Scalar.muli (Scf.iv 0#32 1#32 k) 128#32) 0#32) 7#32)
  let b8 ← colLoad i hc sl (colsAt (Scalar.addi (Scalar.muli (Scf.iv 0#32 1#32 k) 128#32) 0#32) 8#32)
  let b9 ← colLoad i hc sl (colsAt (Scalar.addi (Scalar.muli (Scf.iv 0#32 1#32 k) 128#32) 0#32) 9#32)
  let b10 ← colLoad i hc sl (colsAt (Scalar.addi (Scalar.muli (Scf.iv 0#32 1#32 k) 128#32) 0#32) 10#32)
  let b11 ← colLoad i hc sl (colsAt (Scalar.addi (Scalar.muli (Scf.iv 0#32 1#32 k) 128#32) 0#32) 11#32)
  let b12 ← colLoad i hc sl (colsAt (Scalar.addi (Scalar.muli (Scf.iv 0#32 1#32 k) 128#32) 0#32) 12#32)
  let b13 ← colLoad i hc sl (colsAt (Scalar.addi (Scalar.muli (Scf.iv 0#32 1#32 k) 128#32) 0#32) 13#32)
  let b14 ← colLoad i hc sl (colsAt (Scalar.addi (Scalar.muli (Scf.iv 0#32 1#32 k) 128#32) 0#32) 14#32)
  let b15 ← colLoad i hc sl (colsAt (Scalar.addi (Scalar.muli (Scf.iv 0#32 1#32 k) 128#32) 0#32) 15#32)
  let (a0, a1, a2, a3, a4, a5, a6, a7, a8, a9, a10, a11, a12, a13, a14, a15) ← Scf.Loop.for k0_t3_loop inner_ok (b0, b1, b2, b3, b4, b5, b6, b7, b8, b9, b10, b11, b12, b13, b14, b15) (innerTrip i hc sl tr (Scalar.muli (Scf.iv 0#32 1#32 k) 128#32))
  colStore i hc tr (posAt (Scalar.addi (Scalar.muli (Scf.iv 0#32 1#32 k) 128#32) 112#32) 0#32) a0
  colStore i hc tr (posAt (Scalar.addi (Scalar.muli (Scf.iv 0#32 1#32 k) 128#32) 112#32) 16#32) a1
  colStore i hc tr (posAt (Scalar.addi (Scalar.muli (Scf.iv 0#32 1#32 k) 128#32) 112#32) 32#32) a2
  colStore i hc tr (posAt (Scalar.addi (Scalar.muli (Scf.iv 0#32 1#32 k) 128#32) 112#32) 48#32) a3
  pure ⟨a4, a5, a6, a7, a8, a9, a10, a11, a12, a13, a14, a15, addi (broadcast S16 (Scalar.muli (Scalar.addi (Scalar.muli (Scf.iv 0#32 1#32 k) 128#32) 112#32) 16#32)) lanes⟩

/-- One trip of the outer loop: 128 columns of the slab written at their places. -/
def outerTrip (k : ℕ) (_ : Unit) : Prog (TpuEff nD τ sig (Elt F) Λ₀ (.scVector ((i 0).castLE hcore0) ((i 1).castLE hsub0))) Unit := do
  let ⟨a4, a5, a6, a7, a8, a9, a10, a11, a12, a13, a14, a15, p⟩ ← outerHead i hc sl tr k
  colStore i hc tr (addi p (broadcast S16 64#32)) a4
  colStore i hc tr (addi p (broadcast S16 80#32)) a5
  colStore i hc tr (addi p (broadcast S16 96#32)) a6
  colStore i hc tr (addi p (broadcast S16 112#32)) a7
  colStore i hc tr (addi p (broadcast S16 128#32)) a8
  colStore i hc tr (addi p (broadcast S16 144#32)) a9
  colStore i hc tr (addi p (broadcast S16 160#32)) a10
  colStore i hc tr (addi p (broadcast S16 176#32)) a11
  colStore i hc tr (addi p (broadcast S16 192#32)) a12
  colStore i hc tr (addi p (broadcast S16 208#32)) a13
  colStore i hc tr (addi p (broadcast S16 224#32)) a14
  colStore i hc tr (addi p (broadcast S16 240#32)) a15
  pure ⟨⟩
end Text

/-! ## The words it computes -/

theorem colsAt_toNat {w b : BitVec 32} {n : ℕ} (hw : w.toNat = n) (h : n + b.toNat < 2 ^ 32) (x : S16.Idx) : (colsAt w b x).toNat = n + b.toNat := by
  show (w + b).toNat = _
  rw [BitVec.toNat_add, hw, Nat.mod_eq_of_lt h]

theorem lanes_toNat (x : S16.Idx) : (lanes x).toNat = (x 0).val := by
  have h : (x 0).val < 16 := (x 0).isLt
  show (BitVec.ofNat 32 (0 * S16.size 0 + (x 0).val)).toNat = _
  rw [BitVec.toNat_ofNat, Nat.mod_eq_of_lt (by omega)]; omega

theorem posAt_toNat {w b : BitVec 32} {n c : ℕ} (hw : w.toNat = n) (hb : n * 16 + b.toNat = 16 * c) (hc : c < 1041) (x : S16.Idx) :
    (posAt w b x).toNat = 16 * c + (x 0).val := by
  have h : (x 0).val < 16 := (x 0).isLt
  show (w * 16#32 + lanes x + b).toNat = _
  rw [BitVec.toNat_add, BitVec.toNat_add, BitVec.toNat_mul, lanes_toNat, hw, show (16#32 : BitVec 32).toNat = 16 from rfl]
  omega

theorem iv_toNat (a : BitVec 32) {k n : ℕ} (h : a.toNat + k = n) (hn : n < 2 ^ 32) : (Scf.iv a 1#32 k).toNat = n := by
  show (a + BitVec.ofNat 32 k * 1#32).toNat = _
  rw [BitVec.mul_one, BitVec.toNat_add, BitVec.toNat_ofNat]; omega

theorem add_toNat {a b : BitVec 32} {m n : ℕ} (ha : a.toNat = m) (hb : b.toNat = n) (h : m + n < 2 ^ 32) : (Scalar.addi a b).toNat = m + n := by
  show (a + b).toNat = _
  rw [BitVec.toNat_add, ha, hb, Nat.mod_eq_of_lt h]

theorem mul_toNat {a b : BitVec 32} {m n : ℕ} (ha : a.toNat = m) (hb : b.toNat = n) (h : m * n < 2 ^ 32) : (Scalar.muli a b).toNat = m * n := by
  show (a * b).toNat = _
  rw [BitVec.toNat_mul, ha, hb, Nat.mod_eq_of_lt h]

theorem sub_one_toNat {a : BitVec 32} {m : ℕ} (ha : a.toNat = m + 1) : (Scalar.subi a 1#32).toNat = m := by
  have := a.isLt
  show (a - 1#32).toNat = _
  rw [BitVec.toNat_sub, ha, show (1#32 : BitVec 32).toNat = 1 from rfl]; omega

/-! ## The values it moves -/

/-- The slab's element at row `r`, column `c` (each taken modulo the extent, so that it is total). -/
def cell (r c : ℕ) : S16x1041.Idx := fun a => ⟨(![r, c] : Fin 2 → ℕ) a % S16x1041.size a, Nat.mod_lt _ (by revert a; decide)⟩

/-- Column `c` of a slab as a vector of sixteen. -/
def colvec (g : S16x1041.Idx → Elt F .f32) (c : ℕ) : Vec F S16 .f32 := fun x => g (cell (x 0).val c)

theorem loadIdx_col (g : S16x1041.Idx → Elt F .f32) {cols : IVec S16 32} {c : ℕ} (hc : c < 1041) (h : ∀ x, (cols x).toNat = c)
    (hb : ∀ a x, ((![lanes, cols] : Fin 2 → IVec S16 32) a x).toNat < S16x1041.size a) :
    loadIdx (s := S16x1041) (t := S16) (F := F) (e := .f32) g ![lanes, cols] hb = colvec g c := by
  funext x
  refine congrArg g (funext fun a => Fin.ext ?_)
  have hx : (x 0).val < 16 := (x 0).isLt
  match a with
  | 0 => show (lanes x).toNat = (x 0).val % 16; rw [lanes_toNat, Nat.mod_eq_of_lt hx]
  | 1 => show (cols x).toNat = c % 1041; rw [h, Nat.mod_eq_of_lt hc]

/-- A run of single-element writes: at `j` the value is `w` when every write there writes `w` and either one does or `w` was there. -/
theorem foldl_writes {α β : Type} {s : Shape} (key : α → s.Idx) (val : α → β) (j : s.Idx) (w : β) (l : List α) (f : s.Idx → β)
    (hv : ∀ k ∈ l, (∀ a, (j a).val = (key k a).val) → val k = w)
    (hf : f j = w ∨ ∃ k ∈ l, ∀ a, (j a).val = (key k a).val) :
    l.foldl (fun g k => fun j => if (∀ a, (j a).val = (key k a).val) then val k else g j) f j = w := by
  induction l generalizing f with
  | nil => simpa using hf
  | cons k l ih =>
    refine ih _ (fun k' hk' => hv k' (List.mem_cons_of_mem _ hk')) ?_
    by_cases h : ∀ a, (j a).val = (key k a).val
    · left; simp only [h, implies_true, if_true]; exact hv k List.mem_cons_self h
    · rcases hf with hf | ⟨k', hk', hj⟩
      · left; simpa only [h, if_false] using hf
      · rcases List.mem_cons.mp hk' with rfl | hk'
        · exact absurd hj h
        · exact .inr ⟨k', hk', hj⟩

/-- The first `16 n` words of `t` are the first `n` columns of the slab `g`, each in its lanes' order. -/
def Flat (g : S16x1041.Idx → Elt F .f32) (n : ℕ) (t : S16384.Idx → Elt F .f32) : Prop :=
  ∀ x : S16384.Idx, (x 0).val < 16 * n → t x = g (cell ((x 0).val % 16) ((x 0).val / 16))

theorem flat_zero (g : S16x1041.Idx → Elt F .f32) (t) : Flat g 0 t := fun _ h => absurd h (by omega)

theorem flat_store {g : S16x1041.Idx → Elt F .f32} {n : ℕ} {t : S16384.Idx → Elt F .f32} (ht : Flat g n t) {pos : IVec S16 32}
    (hp : ∀ x, (pos x).toNat = 16 * n + (x 0).val) (hb : ∀ a x, ((![pos] : Fin 1 → IVec S16 32) a x).toNat < S16384.size a) :
    Flat g (n + 1) (storeIdx (s := S16384) (F := F) (e := .f32) t ![pos] (colvec g n) (fun _ => 1#1) false hb) := by
  intro j hj
  have e : storeIdx (s := S16384) (F := F) (e := .f32) t ![pos] (colvec g n) (fun _ => 1#1) false hb
      = (List.finRange 16).foldl (fun g' k => fun j => if (∀ a, (j a).val = (idxAt (s := S16384) (t := S16) ![pos] hb (Shape.ofLane k) a).val)
          then colvec g n (Shape.ofLane k) else g' j) t := by
    unfold storeIdx; simp only [show (1#1 : BitVec 1) = 1 from rfl, if_true, Bool.false_eq_true, if_false]; rfl
  rw [e]
  refine foldl_writes (fun k : Fin 16 => idxAt (s := S16384) (t := S16) ![pos] hb (Shape.ofLane k)) (fun k => colvec g n (Shape.ofLane k)) j _ _ t ?_ ?_
  · intro k _ h
    have h0 : (j 0).val = (pos (Shape.ofLane k)).toNat := h 0
    have hk : (Shape.ofLane (d := ![16]) k 0).val = k.val := rfl
    rw [hp, hk] at h0
    have := k.isLt
    show g (cell k.val n) = _
    congr 2 <;> omega
  · by_cases hlt : (j 0).val < 16 * n
    · exact .inl (ht j hlt)
    · refine .inr ⟨⟨(j 0).val - 16 * n, by omega⟩, List.mem_finRange _, fun a => ?_⟩
      obtain rfl := Fin.eq_zero a
      show (j 0).val = (pos _).toNat
      rw [hp]; show _ = 16 * n + ((j 0).val - 16 * n); omega

/-! ## A step of it at a time -/

section Steps

variable (d : Dev nD) (i : grid0.Coords) {c : BitVec 1} (hc : c = 1#1)
  (sl : Memref sig .scVector .vmem S16x1041 .f32) (tr : Memref sig .scVector .vmem S16384 .f32) (g : S16x1041.Idx → Elt F .f32)

/-- The flat buffer, its first `n` columns written. -/
def HoldT (n : ℕ) : sProp 𝕄 := iprop(∃ t, ⌜Flat g n t⌝ ∗ Hold d i tr t)

theorem holdT_eq (n : ℕ) : HoldT d i tr g n = iprop(∃ t, ⌜Flat g n t⌝ ∗ Hold d i tr t) := rfl

local notation "WP" => wp frame (wpE (defs₀ (F := F)) 𝒱₀ (thr0 d i) none) Set.univ

theorem load_step {w b : BitVec 32} {n : ℕ} {R : sProp 𝕄} {α : Type} {k : Vec F S16 .f32 → Prog (TpuEff nD τ sig (Elt F) Λ₀ (.scVector ((i 0).castLE hcore0) ((i 1).castLE hsub0))) α}
    {Q : α → sProp 𝕄} (hw : w.toNat = n) (hn : n + 16 ≤ 1041) (hb : b.toNat < 16)
    (H : iprop(Hold d i sl g ∗ R) ⊢ WP (k (colvec g (n + b.toNat))) Q) :
    iprop(Hold d i sl g ∗ R) ⊢ WP (colLoad i hc sl (colsAt w b) >>= k) Q := by
  have hcol := colsAt_toNat (b := b) hw (by omega)
  have hchk : ColChk c (colsAt w b) := fun _ a x => by
    have hx : (x 0).val < 16 := (x 0).isLt
    match a with
    | 0 => show (lanes x).toNat < 16; rw [lanes_toNat]; exact hx
    | 1 => show (colsAt w b x).toNat < 1041; rw [hcol]; omega
  refine .trans ?_ (wp_assume 𝒱₀ (thr0 d i) none Set.univ hchk)
  show _ ⊢ WP (SparseCore.vectorLoadIdx sl ![lanes, colsAt w b] (hchk hc) (View.loads_vmem h_S16x1041) >>= k) Q
  rw [hold_eq]
  iintro ⟨⟨%f, %hf, Hs⟩, HR⟩
  iapply (SparseCore.wp_vectorLoadIdx 𝒱₀ (thr0 d i) none Set.univ (Q := Q) (base := sl) (set_whole_access sl).subset) $$ Hs
  iintro Hs
  rw [read_whole_access, hf, loadIdx_col g (by omega) hcol]
  iapply H
  isplitl [Hs]
  · rw [hold_eq]; iexists f; isplitr; · ipureintro; exact hf
    iexact Hs
  · iexact HR

theorem store_step {w b : BitVec 32} {n m : ℕ} {v : Vec F S16 .f32} {R : sProp 𝕄} {α : Type}
    {k : PUnit → Prog (TpuEff nD τ sig (Elt F) Λ₀ (.scVector ((i 0).castLE hcore0) ((i 1).castLE hsub0))) α}
    {Q : α → sProp 𝕄} (hw : w.toNat = n) (hb : n * 16 + b.toNat = 16 * m) (hm : m < 1024) (hv : v = colvec g m)
    (H : iprop(R ∗ HoldT d i tr g (m + 1)) ⊢ WP (k ⟨⟩) Q) :
    iprop(R ∗ HoldT d i tr g m) ⊢ WP (colStore i hc tr (posAt w b) v >>= k) Q := by
  subst hv
  have hpos := posAt_toNat hw hb (by omega)
  have hchk : PosChk c (posAt w b) := fun _ a x => by
    have hx : (x 0).val < 16 := (x 0).isLt
    obtain rfl := Fin.eq_zero a
    show (posAt w b x).toNat < 16384
    rw [hpos]; omega
  refine .trans ?_ (wp_assume 𝒱₀ (thr0 d i) none Set.univ hchk)
  show _ ⊢ WP (SparseCore.vectorStoreIdx tr ![posAt w b] (colvec g m) (fun _ => 1#1) false (hchk hc) (View.stores_vmem_bits_univ h_S16384 rfl) >>= k) Q
  rw [holdT_eq]
  iintro ⟨HR, %t, %ht, Ht⟩
  ihave Ht := (Entails.of_eq (hold_eq d i tr t)) $$ Ht
  icases Ht with ⟨%f, %hf, Ht⟩
  ihave Ht := (Entails.of_eq (show (tr.view.loc (thr0 d i) ↦[tr.view.set]{fullShare} f : sProp 𝕄)
      = ((tr.access (.whole _)).loc (thr0 d i) ↦[(tr.access (.whole _)).set]{fullShare} f) by rw [set_whole_access])) $$ Ht
  iapply (SparseCore.wp_vectorStoreIdx 𝒱₀ (thr0 d i) none Set.univ (Q := Q) (base := tr)) $$ Ht
  iintro Ht
  iapply H
  isplitl [HR]; · iexact HR
  rw [holdT_eq]
  iexists _; isplitr
  swap
  · rw [hold_eq]; iexists _; isplitr
    swap
    · iapply (Entails.of_eq (show ((tr.access (.whole _)).loc (thr0 d i) ↦[(tr.access (.whole _)).set]{fullShare} _ : sProp 𝕄)
        = (tr.view.loc (thr0 d i) ↦[tr.view.set]{fullShare} _) by rw [set_whole_access])) $$ Ht
    · ipureintro
      rw [← read_whole_access, View.read_write_univ]
  · ipureintro
    rw [read_whole_access, hf]
    exact flat_store ht hpos _

/-! ## Its trips -/

/-- Sixteen columns from column `n`. -/
def colvecs (g : S16x1041.Idx → Elt F .f32) (n : ℕ) : Vec16 (F := F) :=
  (colvec g n, colvec g (n + 1), colvec g (n + 2), colvec g (n + 3), colvec g (n + 4), colvec g (n + 5), colvec g (n + 6), colvec g (n + 7),
    colvec g (n + 8), colvec g (n + 9), colvec g (n + 10), colvec g (n + 11), colvec g (n + 12), colvec g (n + 13), colvec g (n + 14), colvec g (n + 15))

/-- A counted loop at the head of a program, by its invariant. -/
theorem for_step {σ α : Type} {lb ub st : BitVec 32} {hok : Scf.OK lb ub st} {init : σ}
    {body : Fin (Scf.trips lb ub st) → σ → Prog (TpuEff nD τ sig (Elt F) Λ₀ (.scVector ((i 0).castLE hcore0) ((i 1).castLE hsub0))) σ}
    {kk : σ → Prog (TpuEff nD τ sig (Elt F) Λ₀ (.scVector ((i 0).castLE hcore0) ((i 1).castLE hsub0))) α} {Q : α → sProp 𝕄} {R : sProp 𝕄}
    (I : ℕ → σ → sProp 𝕄) (hbody : ∀ (k : Fin (Scf.trips lb ub st)) (acc : σ), I k acc ⊢ WP (body k acc) (I (k + 1)))
    (H0 : R ⊢ I 0 init) (Hk : ∀ acc, I (Scf.trips lb ub st) acc ⊢ WP (kk acc) Q) :
    R ⊢ WP (Scf.for lb ub st hok init body >>= kk) Q := by
  iintro H
  iapply (Scf.wp_for_bind frame (wpE (defs₀ (F := F)) 𝒱₀ (thr0 d i) none) Set.univ lb ub st hok init body I hbody) $$ [H]
  · iapply H0 $$ H
  iintro %acc H
  iapply (Hk acc) $$ H

theorem inner_trip {w : BitVec 32} {n : ℕ} (hw : w.toNat = n) (hn : n + 128 ≤ 1024) (m : Fin k0_t3_loop.trips) :
    iprop(Hold d i sl g ∗ HoldT d i tr g (n + 16 * m.val))
      ⊢ WP (innerTrip i hc sl tr w m (colvecs g (n + 16 * m.val)))
          fun acc => iprop(⌜acc = colvecs g (n + 16 * (m.val + 1))⌝ ∗ Hold d i sl g ∗ HoldT d i tr g (n + 16 * (m.val + 1))) := by
  have hm : m.val < 7 := m.isLt
  have hiv := iv_toNat 1#32 (k := m.val) (n := m.val + 1) (by rw [show (1#32 : BitVec 32).toNat = 1 from rfl]; omega) (by omega)
  have h1 := add_toNat hw (mul_toNat hiv (show (16#32 : BitVec 32).toNat = 16 from rfl) (by omega)) (by omega)
  have h2 := add_toNat hw (mul_toNat (sub_one_toNat hiv) (show (16#32 : BitVec 32).toNat = 16 from rfl) (by omega)) (by omega)
  unfold innerTrip colvecs; dsimp only
  iterate 16 refine load_step d i hc sl g h1 (by omega) (by decide) ?_
  iterate 16 refine store_step d i hc tr g h2 (by rw [BitVec.toNat_ofNat]; omega) (by omega) rfl ?_
  rw [wp_pure]
  refine .trans ?_ fupd_intro
  iintro ⟨Hs, Ht⟩
  isplitr
  · ipureintro
    simp only [BitVec.toNat_ofNat, Nat.reducePow, Nat.reduceMod, show (m.val + 1) * 16 = 16 * (m.val + 1) by omega, Nat.add_zero]
  isplitl [Hs]; · iexact Hs
  rw [show n + 16 * (m.val + 1) = n + 16 * m.val + 1 + 1 + 1 + 1 + 1 + 1 + 1 + 1 + 1 + 1 + 1 + 1 + 1 + 1 + 1 + 1 by omega]
  iexact Ht

theorem outer_trip (k : ℕ) (hk : k < 8) (u : Unit) :
    iprop(Hold d i sl g ∗ HoldT d i tr g (128 * k))
      ⊢ WP (outerTrip i hc sl tr k u) fun _ => iprop(Hold d i sl g ∗ HoldT d i tr g (128 * (k + 1))) := by
  have hiv := iv_toNat 0#32 (k := k) (n := k) (by rw [show (0#32 : BitVec 32).toNat = 0 from rfl]; omega) (by omega)
  have hv := (mul_toNat hiv (show (128#32 : BitVec 32).toNat = 128 from rfl) (by omega)).trans (Nat.mul_comm _ _)
  have h1 := add_toNat hv (show (0#32 : BitVec 32).toNat = 0 from rfl) (by omega)
  have h2 := add_toNat hv (show (112#32 : BitVec 32).toNat = 112 from rfl) (by omega)
  unfold outerTrip outerHead
  simp only [bind_assoc, pure_bind]
  iterate 16 refine load_step d i hc sl g h1 (by omega) (by decide) ?_
  show _ ⊢ WP (Scf.for k0_t3_loop.lb k0_t3_loop.ub k0_t3_loop.st inner_ok (colvecs g (128 * k)) (innerTrip i hc sl tr (Scalar.muli (Scf.iv 0#32 1#32 k) 128#32)) >>= _) _
  refine for_step d i (fun m acc => iprop(⌜acc = colvecs g (128 * k + 16 * m)⌝ ∗ Hold d i sl g ∗ HoldT d i tr g (128 * k + 16 * m))) ?_ ?_ ?_
  · intro m acc
    iintro ⟨%h, H⟩; subst h
    iapply (inner_trip d i hc sl tr g hv (by omega) m) $$ H
  · iintro H; isplitr; · ipureintro; rfl
    iexact H
  intro acc
  rw [show Scf.trips k0_t3_loop.lb k0_t3_loop.ub k0_t3_loop.st = 7 by decide]
  refine .trans pure_sep (pure_elim_left fun h => ?_)
  subst h
  unfold colvecs; dsimp only
  iterate 16 refine store_step d i hc tr g h2 (by rw [BitVec.toNat_ofNat]; omega) (by omega) rfl ?_
  rw [wp_pure]
  refine .trans ?_ fupd_intro
  rw [show 128 * (k + 1) = 128 * k + 16 * 7 + 1 + 1 + 1 + 1 + 1 + 1 + 1 + 1 + 1 + 1 + 1 + 1 + 1 + 1 + 1 + 1 by omega]

/-- The loop of `n ≤ 8` outer trips: the slab transposed into the flat buffer, `128 n` columns of it. -/
theorem loop_step {lb ub : BitVec 32} {hok : Scf.OK lb ub 1#32} {body : Fin (Scf.trips lb ub 1#32) → Unit → Prog (TpuEff nD τ sig (Elt F) Λ₀ (.scVector ((i 0).castLE hcore0) ((i 1).castLE hsub0))) Unit}
    {α : Type} {kk : Unit → Prog (TpuEff nD τ sig (Elt F) Λ₀ (.scVector ((i 0).castLE hcore0) ((i 1).castLE hsub0))) α} {Q : α → sProp 𝕄} {n : ℕ} {t : S16384.Idx → Elt F .f32}
    (hbody : body = fun k u => outerTrip i hc sl tr k.val u) (hn : Scf.trips lb ub 1#32 = n) (h8 : n ≤ 8) :
    iprop(Hold d i sl g ∗ Hold d i tr t)
      ⊢ iprop((iprop(Hold d i sl g ∗ HoldT d i tr g (128 * n)) -∗ WP (kk ⟨⟩) Q) -∗ WP (Scf.for lb ub 1#32 hok () body >>= kk) Q) := by
  subst hbody
  iintro ⟨Hs, Ht⟩ Hk
  iapply (Scf.wp_for_bind frame (wpE (defs₀ (F := F)) 𝒱₀ (thr0 d i) none) Set.univ lb ub 1#32 hok () _
    (fun k _ => iprop(Hold d i sl g ∗ HoldT d i tr g (128 * k))) (fun k u => outer_trip d i hc sl tr g k.val (by have := k.isLt; omega) u)) $$ [Hs Ht]
  · isplitl [Hs]; · iexact Hs
    rw [holdT_eq]; iexists t; isplitr; · ipureintro; exact flat_zero g t
    iexact Ht
  iintro %u H
  rw [hn]
  iapply Hk $$ H

end Steps

/-! ## The three printed loops are it -/

section Printed

variable (i : grid0.Coords) (arg2 : Memref sig .scVector .hbm S16x1000000 .f32) (harg2 : arg2.IsWhole) (arg3 : Memref sig .scVector .hbm S1024 .f32) (harg3 : arg3.IsWhole) (arg4 : Memref sig .scVector .hbm S16000000 .f32) (harg4 : arg4.IsWhole) (arg5 : Memref sig .scVector .vmem S16x1041 .f32) (harg5 : arg5.IsWhole) (arg6 : Memref sig .scVector .vmem S16x1041 .f32) (harg6 : arg6.IsWhole) (arg7 : Memref sig .scVector .vmem S16384 .f32) (harg7 : arg7.IsWhole) (arg8 : Memref sig .scVector .vmem S16384 .f32) (harg8 : arg8.IsWhole) (arg9 : DmaSems sig S_) (arg10 : DmaSems sig S_) (arg11 : DmaSems sig S_) (arg12 : DmaSems sig S_) (v26_r0 : DmaSems sig S_) (v26_r1 : DmaSems sig S_) (v25_r2 : DmaSems sig S_) (v25_r3 : DmaSems sig S_)

set_option maxRecDepth 65536 in
theorem t2_eq (k0_t1 : Fin (k0_t1_loop i).trips) (h : k0_cond2 i k0_t1 = 1#1) :
    k0_t2_body (F := F) i arg2 harg2 arg3 harg3 arg4 harg4 arg5 harg5 arg6 harg6 arg7 harg7 arg8 harg8 arg9 arg10 arg11 arg12 v26_r0 v26_r1 v25_r2 v25_r3 k0_t1 h
      = fun k u => outerTrip i h arg5 arg7 k.val u := rfl

set_option maxRecDepth 65536 in
theorem t4_eq (k0_t1 : Fin (k0_t1_loop i).trips) (h : k0_cond5 i k0_t1 = 1#1) :
    k0_t4_body (F := F) i arg2 harg2 arg3 harg3 arg4 harg4 arg5 harg5 arg6 harg6 arg7 harg7 arg8 harg8 arg9 arg10 arg11 arg12 v26_r0 v26_r1 v25_r2 v25_r3 k0_t1 h
      = fun k u => outerTrip i h arg6 arg8 k.val u := rfl

set_option maxRecDepth 65536 in
theorem t11_eq (h : k0_cond20 i = 1#1) :
    k0_t11_body (F := F) i arg2 harg2 arg3 harg3 arg4 harg4 arg5 harg5 arg6 harg6 arg7 harg7 arg8 harg8 arg9 arg10 arg11 arg12 v26_r0 v26_r1 v25_r2 v25_r3 h
      = fun k u => outerTrip i h arg5 arg7 k.val u := rfl

end Printed

end Cert.Proof.Table
end
-- ==== Proof.Moves.lean ====
/-
  The copies of the first kernel, each stated once: a window of the transposed table copied into a
  slab, a flat buffer copied out to its place in the relaid table, and a wait. What a copy in flight
  will hand back is stated by its VALUES: the slab at the window's columns, the written places at
  what the relaid table holds in the end.
-/
module

public import proofs.«01_k».proof.Proof.Transpose

@[expose] public section

noncomputable section

namespace Cert.Proof.Table

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MM F

/-! ## The arrays -/

/-- The transposed table, the table's last 64 rows laid flat, and the relaid table, as a tile names them. -/
abbrev wtV : Memref sig .scVector .hbm S16x1000000 .f32 := Memref.whole main_v7_scv
abbrev tailV : Memref sig .scVector .hbm S1024 .f32 := Memref.whole main_v6_scv
abbrev gV : Memref sig .scVector .hbm S16000000 .f32 := Memref.whole main_v8_scv

/-- The cell of the transposed table at row `r`, column `c`; of the flat tail at `k`. -/
def wcell (r c : ℕ) : S16x1000000.Idx := fun a => ⟨(![r, c] : Fin 2 → ℕ) a % S16x1000000.size a, Nat.mod_lt _ (by revert a; decide)⟩
def tcell (k : ℕ) : S1024.Idx := fun a => ⟨k % S1024.size a, Nat.mod_lt _ (by revert a; decide)⟩

/-- What the relaid table holds: place `16 c + r` the transposed table's row `r` of column `c`, the last 1024
    places the flat tail. -/
def relaid (A : S16x1000000.Idx → Elt F .f32) (B : S1024.Idx → Elt F .f32) : S16000000.Idx → Elt F .f32 :=
  fun x => if (x 0).val < 15998976 then A (wcell ((x 0).val % 16) ((x 0).val / 16)) else B (tcell ((x 0).val - 15998976))

/-- The places from `o` on, `n` of them. -/
def places (o n : ℕ) : Finset S16000000.Idx := Finset.univ.filter fun x => o ≤ (x 0).val ∧ (x 0).val < o + n

theorem set_place {o sz : Fin 1 → ℕ} (inb : ∀ a, o a + sz a ≤ S16000000.size a) (h) :
    (gV.slice (Rect.unit (s := S16000000) o sz inb) h).view.set = places (o 0) (sz 0) := by
  refine (View.set_slice_whole _ _).trans ?_
  ext x
  rw [places, Finset.mem_filter]
  refine Rect.mem_set_unit.trans ⟨fun h => ⟨Finset.mem_univ _, h 0⟩, fun h a => ?_⟩
  obtain rfl := Fin.eq_zero a
  exact h.2

/-- The programs of the first kernel's tile at `i`. -/
abbrev Tile (F : FTy → Type) (i : grid0.Coords) (α : Type) := Prog (TpuEff nD τ sig (Elt F) Λ₀ (.scVector ((i 0).castLE hcore0) ((i 1).castLE hsub0))) α

section Steps

variable (d : Dev nD) (i : grid0.Coords)

local notation "WP" => wp frame (wpE (defs₀ (F := F)) 𝒱₀ (thr0 d i) none) Set.univ

/-- A copy of this tile in flight on the semaphore `sm`, to credit `N` and hand back `D`. -/
abbrev Fly (sm : DmaSem sig) (N : ℕ) (D : sProp 𝕄) : sProp 𝕄 := Transfers.Flight countersEmb (thr0 d i) (.dma sm) (default : HIx 2) N D

/-- What the tile owes, and that it may wait. -/
def Owing (O : CellTallies nD τ sig (HIx 2)) (W : Waits sig (HIx 2)) : sProp 𝕄 :=
  iprop(Transfers.MayWaits (thr0 d i) (default : HIx 2) O ∗ ∃ W', ⌜∀ p ∈ W', p ∈ W ∨ p.2 = none⌝ ∗ owes (thr0 d i) O W')

theorem owing_eq (O : CellTallies nD τ sig (HIx 2)) (W : Waits sig (HIx 2)) : Owing (F := F) d i O W =
    iprop(Transfers.MayWaits (thr0 d i) (default : HIx 2) O ∗ ∃ W', ⌜∀ p ∈ W', p ∈ W ∨ p.2 = none⌝ ∗ owes (thr0 d i) O W') := rfl

theorem wait_step {sp sp' : Space} {s s' : Shape} {e e' : EltTy} {sm : DmaSem sig} {srcw : Memref sig .scVector sp' s' e'} {dstw : Memref sig .scVector sp s e}
    {hsrc : srcw.view.WordExact} {hdst : dstw.view.WordExact} {α : Type} {k : Unit → Tile F i α} {Q : α → sProp 𝕄}
    {N : ℕ} {D : sProp 𝕄} {O : CellTallies nD τ sig (HIx 2)} {W : Waits sig (HIx 2)} (hN : dstw.view.dmaCredit = N) :
    iprop(Fly d i sm N D ∗ Owing d i O W)
      ⊢ iprop((iprop(D ∗ semVal (thr0 d i, .dma sm) 0 ∗ Owing d i O W) -∗ WP (k ⟨⟩) Q)
          -∗ WP (Prog.lift (.waitDma2 sm srcw dstw hsrc hdst) >>= k) Q) := by
  show _ ⊢ iprop(_ -∗ WP (.op (.waitDma2 sm srcw dstw hsrc hdst) k) Q)
  rw [owing_eq]
  iintro ⟨Hf, ⟨#Hmw, %W', %hW, HO⟩⟩ Hk
  iapply (Transfers.wp_waitLocalO countersEmb 𝒱₀ (thr0 d i) none (default : HIx 2) hN) $$ [Hf HO]
  · isplitl [Hf]; · iexact Hf
    isplitl [HO]; · iexact HO
    iapply (Transfers.MayWaits.elim (SemLoc.dma sm)) $$ Hmw
  iintro ⟨HD, Hs, HO⟩
  iapply Hk
  isplitl [HD]; · iexact HD
  isplitl [Hs]; · iexact Hs
  isplitr; · iexact Hmw
  iexists _; isplitr
  swap; · iexact HO
  ipureintro; intro p hp
  rcases Finset.mem_insert.mp hp with hp | hp
  · exact .inr (hp ▸ rfl)
  · exact hW p hp

/-- A tile buffer copied out to a block of the relaid table: what will come back is the block at its final values. -/
theorem out_step {o sz : Fin 1 → ℕ} {inb : ∀ a, o a + sz a ≤ S16000000.size a} {h} {sm : DmaSem sig}
    {src : Memref sig .scVector .vmem (Rect.unit (s := S16000000) o sz inb).shape .f32}
    {hsrc : src.view.WordExact} {hdst : (gV.slice (Rect.unit (s := S16000000) o sz inb) h).view.WordExact}
    {hsem} {α : Type} {k : Unit → Tile F i α} {Q : α → sProp 𝕄} {N : ℕ}
    {f : Buf (Elt F) (src.view.loc (thr0 d i))} {b G : Buf (Elt F) (gV.view.loc (thr0 d i))}
    (hN : (gV.slice (Rect.unit (s := S16000000) o sz inb) h).view.dmaCredit = N) (hN0 : 0 < N)
    (hG : ∀ x, src.view.read (Elt F) f x = G ((Rect.unit (s := S16000000) o sz inb).emb x)) :
    iprop((src.view.loc (thr0 d i) ↦[src.view.set]{fullShare} f) ∗ (gV.view.loc (thr0 d i) ↦[places (o 0) (sz 0)]{fullShare} b) ∗ semVal (thr0 d i, .dma sm) 0)
      ⊢ iprop((Fly d i sm N iprop((gV.view.loc (thr0 d i) ↦[places (o 0) (sz 0)]{fullShare} G) ∗ (src.view.loc (thr0 d i) ↦[src.view.set]{fullShare} f)) -∗ WP (k ⟨⟩) Q)
          -∗ WP (Prog.lift (.enqueueDma src (.here (gV.slice (Rect.unit (s := S16000000) o sz inb) h)) (.dma sm) hsrc hdst hsem) >>= k) Q) := by
  show _ ⊢ iprop(_ -∗ WP (.op (.enqueueDma src (.here (gV.slice (Rect.unit (s := S16000000) o sz inb) h)) (.dma sm) hsrc hdst hsem) k) Q)
  have hset := set_place inb h
  have hval : ∀ x ∈ places (o 0) (sz 0), (gV.slice (Rect.unit (s := S16000000) o sz inb) h).view.write (Elt F) b (src.view.read (Elt F) f) Finset.univ x = G x := by
    intro x hx
    rw [← hset] at hx
    obtain ⟨y, -, hy⟩ := Finset.mem_map.mp hx
    subst hy
    refine (View.write_emb_of_mem _ _ (Finset.mem_univ y)).trans ?_
    exact hG y
  have hD : (gV.slice (Rect.unit (s := S16000000) o sz inb) h).view.set ⊆ places (o 0) (sz 0) := hset.subset
  have hA : (gV.slice (Rect.unit (s := S16000000) o sz inb) h).view.amount (.dma sm) = N := hN
  iintro ⟨Hs, Hd, Hv⟩ Hk
  iapply (Transfers.wp_dmaLocal countersEmb 𝒱₀ (thr0 d i) none (default : HIx 2) N hA hN0 hD (src := src) (dst := gV.slice (Rect.unit (s := S16000000) o sz inb) h) (via := .same) (fd := b)) $$ [Hs Hd Hv]
  · isplitl [Hs]; · iexact Hs
    isplitl [Hd]; · iexact Hd
    iexact Hv
  iintro Hf
  iapply Hk
  iapply (Transfers.Flight_mono countersEmb (thr0 d i) ?_) $$ Hf
  iintro ⟨Hd, Hs⟩
  isplitr [Hs]
  · iapply (Entails.of_eq (pointsTo_congr hval)) $$ Hd
  · iexact Hs

/-- A whole flat buffer out, by what it holds. -/
theorem out_hold {o sz : Fin 1 → ℕ} {inb : ∀ a, o a + sz a ≤ S16000000.size a} {h} {sm : DmaSem sig}
    {src : Memref sig .scVector .vmem (Rect.unit (s := S16000000) o sz inb).shape .f32}
    {hsrc : src.view.WordExact} {hdst : (gV.slice (Rect.unit (s := S16000000) o sz inb) h).view.WordExact}
    {hsem} {α : Type} {k : Unit → Tile F i α} {Q : α → sProp 𝕄} {N : ℕ} {t}
    {b G : Buf (Elt F) (gV.view.loc (thr0 d i))}
    (hN : (gV.slice (Rect.unit (s := S16000000) o sz inb) h).view.dmaCredit = N) (hN0 : 0 < N)
    (hG : ∀ x, t x = G ((Rect.unit (s := S16000000) o sz inb).emb x)) :
    iprop(Hold d i src t ∗ (gV.view.loc (thr0 d i) ↦[places (o 0) (sz 0)]{fullShare} b) ∗ semVal (thr0 d i, .dma sm) 0)
      ⊢ iprop((Fly d i sm N iprop((gV.view.loc (thr0 d i) ↦[places (o 0) (sz 0)]{fullShare} G) ∗ ∃ t, Hold d i src t) -∗ WP (k ⟨⟩) Q)
          -∗ WP (Prog.lift (.enqueueDma src (.here (gV.slice (Rect.unit (s := S16000000) o sz inb) h)) (.dma sm) hsrc hdst hsem) >>= k) Q) := by
  rw [hold_eq]
  iintro ⟨Ht, Hd, Hv⟩ Hk
  icases Ht with ⟨%f, %hf, Hs⟩
  iapply (out_step d i hN hN0 (f := f) (b := b) (G := G) (fun x => (congrFun hf x).trans (hG x))) $$ [Hs Hd Hv]
  · isplitl [Hs]; · iexact Hs
    isplitl [Hd]; · iexact Hd
    iexact Hv
  iintro Hf
  iapply Hk
  iapply (Transfers.Flight_mono countersEmb (thr0 d i) ?_) $$ Hf
  iintro ⟨Hd, Hs⟩
  isplitl [Hd]; · iexact Hd
  iexists t; rw [hold_eq]; iexists f
  isplitr; · ipureintro; exact hf
  iexact Hs

/-- The first places of a flat buffer out and the wait for it: the block at its final values. -/
theorem out_wait {o sz : Fin 1 → ℕ} {inb : ∀ a, o a + sz a ≤ S16000000.size a} {h} {inb' : ∀ a, (![0] : Fin 1 → ℕ) a + sz a ≤ S16384.size a}
    {h' : ∀ a, (Rect.unit (s := S16384) ![0] sz inb').stride a = 1} {sm : DmaSem sig}
    {tr : Memref sig .scVector .vmem S16384 .f32}
    {hsrc : (tr.slice (Rect.unit (s := S16384) ![0] sz inb') h').view.WordExact} {hdst : (gV.slice (Rect.unit (s := S16000000) o sz inb) h).view.WordExact}
    {hsrc' : (tr.slice (Rect.unit (s := S16384) ![0] sz inb') h').view.WordExact} {hdst' : (gV.slice (Rect.unit (s := S16000000) o sz inb) h).view.WordExact}
    {hsem} {α : Type} {k : Unit → Tile F i α} {Q : α → sProp 𝕄} {t}
    {b G : Buf (Elt F) (gV.view.loc (thr0 d i))} {O : CellTallies nD τ sig (HIx 2)} {W : Waits sig (HIx 2)}
    (hn : 0 < sz 0)
    (hG : ∀ x, t ((Rect.unit (s := S16384) ![0] sz inb').emb x) = G ((Rect.unit (s := S16000000) o sz inb).emb x)) :
    iprop(Hold d i tr t ∗ (gV.view.loc (thr0 d i) ↦[places (o 0) (sz 0)]{fullShare} b) ∗ semVal (thr0 d i, .dma sm) 0 ∗ Owing d i O W)
      ⊢ iprop((iprop((gV.view.loc (thr0 d i) ↦[places (o 0) (sz 0)]{fullShare} G) ∗ Hold d i tr t ∗ semVal (thr0 d i, .dma sm) 0 ∗ Owing d i O W) -∗ WP (k ⟨⟩) Q)
          -∗ WP (Prog.lift (.enqueueDma (tr.slice (Rect.unit (s := S16384) ![0] sz inb') h') (.here (gV.slice (Rect.unit (s := S16000000) o sz inb) h)) (.dma sm) hsrc hdst hsem)
                >>= fun _ => Prog.lift (.waitDma2 sm (tr.slice (Rect.unit (s := S16384) ![0] sz inb') h') (gV.slice (Rect.unit (s := S16000000) o sz inb) h) hsrc' hdst') >>= k) Q) := by
  have hN0 : 0 < (gV.slice (Rect.unit (s := S16000000) o sz inb) h).view.dmaCredit :=
    View.dmaCredit_pos _ (by show 0 < ∏ a, sz a; rw [Fin.prod_univ_one]; exact hn)
  rw [hold_eq]
  iintro ⟨Ht, Hd, Hv, HO⟩ Hk
  icases Ht with ⟨%f, %hf, Hs⟩
  ihave Hs := (pointsTo_split_subset (q := fullShare) (f := f) (S := tr.view.set) (I := (tr.slice (Rect.unit (s := S16384) ![0] sz inb') h').view.set) (View.set_slice_subset _ _)).1 $$ Hs
  icases Hs with ⟨Hs, Hr⟩
  have hval : ∀ x : (Rect.unit (s := S16000000) o sz inb).shape.Idx, (tr.slice (Rect.unit (s := S16384) ![0] sz inb') h').view.read (Elt F) f x = G ((Rect.unit (s := S16000000) o sz inb).emb x) :=
    fun x => (congrFun hf _).trans (hG x)
  iapply (out_step d i rfl hN0 (src := tr.slice (Rect.unit (s := S16384) ![0] sz inb') h') (f := (f : Buf (Elt F) ((tr.slice (Rect.unit (s := S16384) ![0] sz inb') h').view.loc (thr0 d i)))) (b := b) (G := G) hval) $$ [Hs Hd Hv]
  · isplitl [Hs]; · iexact Hs
    isplitl [Hd]; · iexact Hd
    iexact Hv
  iintro Hf
  iapply (wait_step d i rfl) $$ [Hf HO]
  · isplitl [Hf]; · iexact Hf
    iexact HO
  iintro ⟨⟨Hd, Hs⟩, Hv, HO⟩
  iapply Hk
  isplitl [Hd]; · iexact Hd
  isplitl [Hs Hr]
  · iexists f; isplitr; · ipureintro; exact hf
    iapply (pointsTo_split_subset (q := fullShare) (f := f) (S := tr.view.set) (I := (tr.slice (Rect.unit (s := S16384) ![0] sz inb') h').view.set) (View.set_slice_subset _ _)).2
    isplitl [Hs]; · iexact Hs
    iexact Hr
  isplitl [Hv]; · iexact Hv
  iexact HO

/-! ## A window of the transposed table into a slab -/

/-- The slab `sl` holds `n` columns of the transposed table, from column `b` on. -/
def SlabAt (A : S16x1000000.Idx → Elt F .f32) (sl : Memref sig .scVector .vmem S16x1041 .f32) (b n : ℕ) : sProp 𝕄 :=
  iprop(∃ g, ⌜∀ r c, r < 16 → c < n → g (cell r c) = A (wcell r (b + c))⌝ ∗ Hold d i sl g)

theorem slabAt_eq (A : S16x1000000.Idx → Elt F .f32) (sl : Memref sig .scVector .vmem S16x1041 .f32) (b n : ℕ) : SlabAt d i A sl b n =
    iprop(∃ g, ⌜∀ r c, r < 16 → c < n → g (cell r c) = A (wcell r (b + c))⌝ ∗ Hold d i sl g) := rfl

/-- The copy of `n` columns from `b` into `sl` in flight, and what is left of the tile's share of the table. -/
def SFly (A : S16x1000000.Idx → Elt F .f32) (q : PosShare TreeShare) (sl : Memref sig .scVector .vmem S16x1041 .f32) (sm : DmaSem sig) (b n N : ℕ) : sProp 𝕄 :=
  iprop(∃ S : Finset S16x1000000.Idx, Fly d i sm N iprop(SlabAt d i A sl b n ∗ (wtV.view.loc (thr0 d i) ↦[S]{q} A)) ∗ (wtV.view.loc (thr0 d i) ↦[Finset.univ \ S]{q} A))

theorem sfly_eq (A : S16x1000000.Idx → Elt F .f32) (q : PosShare TreeShare) (sl : Memref sig .scVector .vmem S16x1041 .f32) (sm : DmaSem sig) (b n N : ℕ) : SFly d i A q sl sm b n N =
    iprop(∃ S : Finset S16x1000000.Idx, Fly d i sm N iprop(SlabAt d i A sl b n ∗ (wtV.view.loc (thr0 d i) ↦[S]{q} A)) ∗ (wtV.view.loc (thr0 d i) ↦[Finset.univ \ S]{q} A)) := rfl

theorem in_step {o : Fin 2 → ℕ} {n base : ℕ} {inb : ∀ a, o a + (![16, n] : Fin 2 → ℕ) a ≤ S16x1000000.size a} {h}
    {inb' : ∀ a, (![0, 0] : Fin 2 → ℕ) a + (![16, n] : Fin 2 → ℕ) a ≤ S16x1041.size a} {h'} {sm : DmaSem sig}
    {sl : Memref sig .scVector .vmem S16x1041 .f32} {A : S16x1000000.Idx → Elt F .f32} {q : PosShare TreeShare}
    {hsrc : (wtV.slice (Rect.unit (s := S16x1000000) o ![16, n] inb) h).view.WordExact} {hdst : (sl.slice (Rect.unit (s := S16x1041) ![0, 0] ![16, n] inb') h').view.WordExact}
    {hsem} {α : Type} {k : Unit → Tile F i α} {Q : α → sProp 𝕄} {N : ℕ}
    (ho : o = ![0, base]) (hn : 0 < n)
    (hN : (sl.slice (Rect.unit (s := S16x1041) ![0, 0] ![16, n] inb') h').view.dmaCredit = N) :
    iprop((∃ g, Hold d i sl g) ∗ (wtV.view.loc (thr0 d i) ↦{q} A) ∗ semVal (thr0 d i, .dma sm) 0)
      ⊢ iprop((SFly d i A q sl sm base n N -∗ WP (k ⟨⟩) Q)
          -∗ WP (Prog.lift (.enqueueDma (wtV.slice (Rect.unit (s := S16x1000000) o ![16, n] inb) h) (.here (sl.slice (Rect.unit (s := S16x1041) ![0, 0] ![16, n] inb') h')) (.dma sm) hsrc hdst hsem) >>= k) Q) := by
  subst ho
  show _ ⊢ iprop(_ -∗ WP (.op (.enqueueDma (wtV.slice (Rect.unit (s := S16x1000000) ![0, base] ![16, n] inb) h) (.here (sl.slice (Rect.unit (s := S16x1041) ![0, 0] ![16, n] inb') h')) (.dma sm) hsrc hdst hsem) k) Q)
  have hN0 : 0 < N := hN ▸ View.dmaCredit_pos _ (by show 0 < ∏ a, (![16, n] : Fin 2 → ℕ) a; rw [Fin.prod_univ_two]; exact Nat.mul_pos (by show 0 < 16; decide) hn)
  have hA : (sl.slice (Rect.unit (s := S16x1041) ![0, 0] ![16, n] inb') h').view.amount (.dma sm) = N := hN
  have hD : (sl.slice (Rect.unit (s := S16x1041) ![0, 0] ![16, n] inb') h').view.set ⊆ sl.view.set := View.set_slice_subset _ _
  have hn1 : n ≤ 1041 := by have := inb' 1; simpa using this
  have hb1 : base + n ≤ 1000000 := by have := inb 1; simpa using this
  have hval : ∀ (f : Buf (Elt F) (sl.view.loc (thr0 d i))) r c, r < 16 → c < n →
      sl.view.read (Elt F) ((sl.slice (Rect.unit (s := S16x1041) ![0, 0] ![16, n] inb') h').view.write (Elt F) f
        ((wtV.slice (Rect.unit (s := S16x1000000) ![0, base] ![16, n] inb) h).view.read (Elt F) A) Finset.univ) (cell r c) = A (wcell r (base + c)) := by
    intro f r c hr hc
    have hlt : ∀ a : Fin 2, (![r, c] : Fin 2 → ℕ) a < (![16, n] : Fin 2 → ℕ) a := by
      intro a; match a with
      | 0 => exact hr
      | 1 => exact hc
    have hcell : cell r c = (Rect.unit (s := S16x1041) ![0, 0] ![16, n] inb').emb (fun a => ⟨(![r, c] : Fin 2 → ℕ) a, hlt a⟩) := by
      funext a; refine Fin.ext ?_
      rw [Rect.emb_apply]
      match a with
      | 0 => show r % 16 = 0 + 1 * r; omega
      | 1 => show c % 1041 = 0 + 1 * c; omega
    rw [hcell]
    refine (View.read_slice_write_emb _ _ _ (Finset.mem_univ _)).trans ?_
    show A _ = A _
    congr 1
    funext a; refine Fin.ext ?_
    match a with
    | 0 => show 0 + 1 * r = r % 16; omega
    | 1 => show base + 1 * c = (base + c) % 1000000; omega
  iintro ⟨⟨%g, Ht⟩, Hw, Hv⟩ Hk
  ihave Ht := (Entails.of_eq (hold_eq d i sl g)) $$ Ht
  icases Ht with ⟨%f, %hf, Hs⟩
  ihave Hw := (pointsTo_split_subset (q := q) (f := A) (S := Finset.univ) (Finset.subset_univ (wtV.slice (Rect.unit (s := S16x1000000) ![0, base] ![16, n] inb) h).view.set)).1 $$ Hw
  icases Hw with ⟨Hw, Hr⟩
  iapply (Transfers.wp_dmaLocal countersEmb 𝒱₀ (thr0 d i) none (default : HIx 2) N hA hN0 hD (src := wtV.slice (Rect.unit (s := S16x1000000) ![0, base] ![16, n] inb) h)
    (dst := sl.slice (Rect.unit (s := S16x1041) ![0, 0] ![16, n] inb') h') (via := .same) (fd := f) (fs := A)) $$ [Hs Hw Hv]
  · isplitl [Hw]; · iexact Hw
    isplitl [Hs]; · iexact Hs
    iexact Hv
  iintro Hf
  iapply Hk
  rw [sfly_eq]
  iexists (wtV.slice (Rect.unit (s := S16x1000000) ![0, base] ![16, n] inb) h).view.set
  isplitl [Hf]
  · iapply (Transfers.Flight_mono countersEmb (thr0 d i) ?_) $$ Hf
    iintro ⟨Hs, Hw⟩
    isplitl [Hs]
    · rw [slabAt_eq]
      iexists _; isplitr
      swap
      · rw [hold_eq]; iexists _; isplitr
        swap; · iexact Hs
        ipureintro; rfl
      · ipureintro; exact hval f
    · iexact Hw
  · iexact Hr

/-- The wait for it: the slab at those columns, the share of the table whole again. -/
theorem in_wait {sp sp' : Space} {s s' : Shape} {e e' : EltTy} {sm : DmaSem sig} {srcw : Memref sig .scVector sp' s' e'} {dstw : Memref sig .scVector sp s e}
    {hsrc : srcw.view.WordExact} {hdst : dstw.view.WordExact} {α : Type} {k : Unit → Tile F i α} {Q : α → sProp 𝕄}
    {A : S16x1000000.Idx → Elt F .f32} {q : PosShare TreeShare} {sl : Memref sig .scVector .vmem S16x1041 .f32} {b n N : ℕ}
    {O : CellTallies nD τ sig (HIx 2)} {W : Waits sig (HIx 2)} (hN : dstw.view.dmaCredit = N) :
    iprop(SFly d i A q sl sm b n N ∗ Owing d i O W)
      ⊢ iprop((iprop(SlabAt d i A sl b n ∗ (wtV.view.loc (thr0 d i) ↦{q} A) ∗ semVal (thr0 d i, .dma sm) 0 ∗ Owing d i O W) -∗ WP (k ⟨⟩) Q)
          -∗ WP (Prog.lift (.waitDma2 sm srcw dstw hsrc hdst) >>= k) Q) := by
  rw [sfly_eq]
  iintro ⟨⟨%S, Hf, Hr⟩, HO⟩ Hk
  iapply (wait_step d i hN) $$ [Hf HO]
  · isplitl [Hf]; · iexact Hf
    iexact HO
  iintro ⟨⟨Hs, Hw⟩, Hv, HO⟩
  iapply Hk
  isplitl [Hs]; · iexact Hs
  isplitl [Hw Hr]
  · iapply (pointsTo_split_subset (q := q) (f := A) (S := Finset.univ) (Finset.subset_univ S)).2
    isplitl [Hw]; · iexact Hw
    iexact Hr
  isplitl [Hv]; · iexact Hv
  iexact HO

end Steps

end Cert.Proof.Table
end
-- ==== Proof.Windows.lean ====
/-
  The first kernel's loop over its windows. The printed trip has its text twice, for even and for odd
  trips, over the two pairs of buffers; here it is stated once over the pair it works on.
-/
module

public import proofs.«01_k».proof.Proof.Moves

@[expose] public section

noncomputable section

namespace Cert.Proof.Table

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MM F

/-- How many whole windows the tile at `i` relays, and which. -/
def nwin (i : grid0.Coords) : ℕ := if 2 * (i 1).val + (i 0).val < 16 then 31 else 30
def win (i : grid0.Coords) (t : ℕ) : ℕ := 2 * (i 1).val + (i 0).val + 32 * t

theorem trips_eq : ∀ i : grid0.Coords, (k0_t1_loop i).trips = nwin i := by decide +kernel
theorem cond2_iff : ∀ (i : grid0.Coords) (t : Fin (k0_t1_loop i).trips), k0_cond2 i t = 1#1 ↔ t.val % 2 = 0 := by decide +kernel
theorem cond5_iff : ∀ (i : grid0.Coords) (t : Fin (k0_t1_loop i).trips), k0_cond5 i t = 1#1 ↔ t.val % 2 = 1 := by decide +kernel
theorem cond3_iff : ∀ (i : grid0.Coords) (t : Fin (k0_t1_loop i).trips), k0_cond3 i t = 1#1 ↔ t.val + 1 < nwin i := by decide +kernel
theorem cond6_iff : ∀ (i : grid0.Coords) (t : Fin (k0_t1_loop i).trips), k0_cond6 i t = 1#1 ↔ t.val + 1 < nwin i := by decide +kernel
theorem cond4_iff : ∀ (i : grid0.Coords) (t : Fin (k0_t1_loop i).trips), k0_cond4 i t = 1#1 ↔ 2 ≤ t.val := by decide +kernel
theorem cond7_iff : ∀ (i : grid0.Coords) (t : Fin (k0_t1_loop i).trips), k0_cond7 i t = 1#1 ↔ 2 ≤ t.val := by decide +kernel
theorem cond1_one : ∀ i : grid0.Coords, k0_cond1 i = 1#1 := by decide +kernel
theorem dead_trips : ∀ i : grid0.Coords, (k0_t6_loop i).trips = 0 := by decide +kernel
theorem cond14_one : ∀ i : grid0.Coords, k0_cond14 i = 1#1 := by decide +kernel
theorem cond17_one : ∀ i : grid0.Coords, k0_cond17 i = 1#1 := by decide +kernel
theorem cond15_iff : ∀ i : grid0.Coords, k0_cond15 i = 1#1 ↔ nwin i % 2 = 0 := by decide +kernel
theorem cond16_iff : ∀ i : grid0.Coords, k0_cond16 i = 1#1 ↔ nwin i % 2 = 1 := by decide +kernel
theorem cond18_iff : ∀ i : grid0.Coords, k0_cond18 i = 1#1 ↔ nwin i % 2 = 1 := by decide +kernel
theorem cond19_iff : ∀ i : grid0.Coords, k0_cond19 i = 1#1 ↔ nwin i % 2 = 0 := by decide +kernel
theorem cond20_iff : ∀ i : grid0.Coords, k0_cond20 i = 1#1 ↔ 2 * (i 1).val + (i 0).val = 31 := by decide +kernel
theorem last_iff : ∀ i : grid0.Coords, Scalar.cmpi .ne (Scalar.extui (Scalar.cmpi .eq (Scalar.addi (Scalar.muli (BitVec.ofNat 32 (i 1).val) 2#32) (BitVec.ofNat 32 (i 0).val)) 30#32)) 0#32 = 1#1 ↔ 2 * (i 1).val + (i 0).val = 30 := by decide +kernel

section Half
variable (i : grid0.Coords) {c c3 c4 : BitVec 1} (hc : c = 1#1) (sla slb : Memref sig .scVector .vmem S16x1041 .f32) (tra : Memref sig .scVector .vmem S16384 .f32) (htra : tra.IsWhole)
  (sia sib soa : DmaSems sig S_) (oP : Fin 2 → ℕ) (bP : c3 = 1#1 → ∀ a, oP a + S16x1024.size a ≤ S16x1000000.size a)
  (oD : Fin 1 → ℕ) (bD : c4 = 1#1 → ∀ a, oD a + S16384.size a ≤ S16000000.size a)
  (oW : Fin 2 → ℕ) (bW : ∀ a, oW a + S16x1024.size a ≤ S16x1000000.size a)
  (oO : Fin 1 → ℕ) (bO : ∀ a, oO a + S16384.size a ≤ S16000000.size a)

abbrev winSlab (sl : Memref sig .scVector .vmem S16x1041 .f32) : Memref sig .scVector .vmem S16x1024 .f32 :=
  sl.slice (Rect.unit (s := S16x1041) ![0, 0] S16x1024.size inb_S16x1041_S16x1024_0_0) (fun _ => rfl)

/-- What a whole window's copy credits: into a slab, out of a flat buffer. -/
abbrev inN (sl : Memref sig .scVector .vmem S16x1041 .f32) : ℕ := (winSlab sl).view.dmaCredit
abbrev outN : ℕ := (gV.slice (Rect.unit (s := S16000000) ![0] S16384.size (by decide)) (fun _ => rfl)).view.dmaCredit

theorem outN_pos : 0 < outN := View.dmaCredit_pos _ (by decide)

/-- The next window's copy started, if there is one. -/
def prefetch : Tile F i Unit :=
  if h3 : c3 = 1#1 then do
    Prog.lift (.enqueueDma (wtV.slice (Rect.unit (s := S16x1000000) oP S16x1024.size (bP h3)) (fun _ => rfl)) (.here (winSlab slb)) (.dma sib.sem) (View.wordExact_bits rfl) (View.wordExact_bits rfl) ⟨Or.inl rfl, trivial⟩)
    pure ⟨⟩
  else do
    pure ⟨⟩

/-- A flat buffer's copy out waited for, if there is one. -/
def drain : Tile F i Unit :=
  if h4 : c4 = 1#1 then do
    Prog.lift (.waitDma2 soa.sem tra (gV.slice (Rect.unit (s := S16000000) oD S16384.size (bD h4)) (fun _ => rfl)) htra.wordExact (View.wordExact_bits rfl))
    pure ⟨⟩
  else do
    pure ⟨⟩

/-- One trip of the loop over windows, over the pair of buffers it works on: the next window's copy started into the
    other slab, this flat buffer's earlier copy out waited for, the window waited for, transposed, copied out. -/
def half : Tile F i Unit :=
  prefetch i slb sib oP bP >>= fun _ => drain i tra htra soa oD bD >>= fun _ => do
    Prog.lift (.waitDma2 sia.sem (wtV.slice (Rect.unit (s := S16x1000000) oW S16x1024.size bW) (fun _ => rfl)) (winSlab sla) (View.wordExact_bits rfl) (View.wordExact_bits rfl))
    Scf.Loop.for k0_t2_loop outer_ok ⟨⟩ (fun k u => outerTrip i hc sla tra k.val u)
    Prog.lift (.enqueueDma tra (.here (gV.slice (Rect.unit (s := S16000000) oO S16384.size bO) (fun _ => rfl))) (.dma soa.sem) htra.wordExact (View.wordExact_bits rfl) ⟨Or.inl rfl, trivial⟩)
    pure ⟨⟩
end Half

section Printed
variable (i : grid0.Coords) (arg3 : Memref sig .scVector .hbm S1024 .f32) (harg3 : arg3.IsWhole) (arg5 : Memref sig .scVector .vmem S16x1041 .f32) (harg5 : arg5.IsWhole) (arg6 : Memref sig .scVector .vmem S16x1041 .f32) (harg6 : arg6.IsWhole) (arg7 : Memref sig .scVector .vmem S16384 .f32) (harg7 : arg7.IsWhole) (arg8 : Memref sig .scVector .vmem S16384 .f32) (harg8 : arg8.IsWhole) (arg9 : DmaSems sig S_) (arg10 : DmaSems sig S_) (arg11 : DmaSems sig S_) (arg12 : DmaSems sig S_) (v26_r0 : DmaSems sig S_) (v26_r1 : DmaSems sig S_) (v25_r2 : DmaSems sig S_) (v25_r3 : DmaSems sig S_)

theorem even_eq (t : Fin (k0_t1_loop i).trips) (u : Unit) (h2 : k0_cond2 i t = 1#1) (h5 : ¬ k0_cond5 i t = 1#1) :
    k0_t1_body (F := F) i wtV (Memref.isWhole_whole _) arg3 harg3 gV (Memref.isWhole_whole _) arg5 harg5 arg6 harg6 arg7 harg7 arg8 harg8 arg9 arg10 arg11 arg12 v26_r0 v26_r1 v25_r2 v25_r3 t u
      = half i h2 arg5 arg6 arg7 harg7 arg9 arg10 arg11 (k0_off2 i t) (k0_off2_inb i t h2) (k0_off3 i t) (k0_off3_inb i t h2) (k0_off4 i t) (k0_off4_inb i t h2) (k0_off5 i t) (k0_off5_inb i t h2) := by
  unfold k0_t1_body
  simp only [dif_pos h2, dif_neg h5, t2_eq]
  unfold half prefetch drain
  split <;> split <;> simp only [bind_assoc, pure_bind] <;> rfl

theorem odd_eq (t : Fin (k0_t1_loop i).trips) (u : Unit) (h2 : ¬ k0_cond2 i t = 1#1) (h5 : k0_cond5 i t = 1#1) :
    k0_t1_body (F := F) i wtV (Memref.isWhole_whole _) arg3 harg3 gV (Memref.isWhole_whole _) arg5 harg5 arg6 harg6 arg7 harg7 arg8 harg8 arg9 arg10 arg11 arg12 v26_r0 v26_r1 v25_r2 v25_r3 t u
      = half i h5 arg6 arg5 arg8 harg8 arg10 arg9 arg12 (k0_off6 i t) (k0_off6_inb i t h5) (k0_off7 i t) (k0_off7_inb i t h5) (k0_off8 i t) (k0_off8_inb i t h5) (k0_off9 i t) (k0_off9_inb i t h5) := by
  unfold k0_t1_body
  simp only [dif_pos h5, dif_neg h2, t4_eq]
  unfold half prefetch drain
  split <;> split <;> simp only [bind_assoc, pure_bind] <;> rfl
end Printed
section Spec

variable (d : Dev nD) (i : grid0.Coords) (A : S16x1000000.Idx → Elt F .f32) (B : S1024.Idx → Elt F .f32)

local notation "WP" => wp frame (wpE (defs₀ (F := F)) 𝒱₀ (thr0 d i) none) Set.univ

/-- A slab with no copy in flight; a flat buffer with none; a flat buffer whose copy out to window `w` is in flight. -/
def SIdle (q : PosShare TreeShare) (sl : Memref sig .scVector .vmem S16x1041 .f32) (sm : DmaSem sig) : sProp 𝕄 :=
  iprop((∃ g, Hold d i sl g) ∗ (wtV.view.loc (thr0 d i) ↦{q} A) ∗ semVal (thr0 d i, .dma sm) 0)
def TIdle (tr : Memref sig .scVector .vmem S16384 .f32) (sm : DmaSem sig) : sProp 𝕄 :=
  iprop((∃ t, Hold (F := F) d i tr t) ∗ semVal (thr0 d i, .dma sm) 0)
/-- Window `w` of the relaid table, at the contents `f`. -/
def WinAt (w : ℕ) (f : S16000000.Idx → Elt F .f32) : sProp 𝕄 := gV.view.loc (thr0 d i) ↦[places (16384 * w) 16384]{fullShare} f
def TFly (tr : Memref sig .scVector .vmem S16384 .f32) (sm : DmaSem sig) (w : ℕ) : sProp 𝕄 :=
  Fly d i sm outN iprop(WinAt d i w (relaid A B) ∗ ∃ t, Hold d i tr t)

theorem sidle_eq (q : PosShare TreeShare) (sl : Memref sig .scVector .vmem S16x1041 .f32) (sm : DmaSem sig) : SIdle d i A q sl sm =
  iprop((∃ g, Hold d i sl g) ∗ (wtV.view.loc (thr0 d i) ↦{q} A) ∗ semVal (thr0 d i, .dma sm) 0) := rfl
theorem tidle_eq (tr : Memref sig .scVector .vmem S16384 .f32) (sm : DmaSem sig) : TIdle (F := F) d i tr sm =
  iprop((∃ t, Hold (F := F) d i tr t) ∗ semVal (thr0 d i, .dma sm) 0) := rfl

theorem tfly_eq (tr : Memref sig .scVector .vmem S16384 .f32) (sm : DmaSem sig) (w : ℕ) : TFly d i A B tr sm w =
  Fly d i sm outN iprop(WinAt d i w (relaid A B) ∗ ∃ t, Hold d i tr t) := rfl
theorem winAt_eq (w : ℕ) (f : S16000000.Idx → Elt F .f32) : WinAt d i w f = (gV.view.loc (thr0 d i) ↦[places (16384 * w) 16384]{fullShare} f) := rfl

/-- The whole slab transposed: the window's loop. -/
theorem loop8_step {c : BitVec 1} (hc : c = 1#1) (sl : Memref sig .scVector .vmem S16x1041 .f32) (tr : Memref sig .scVector .vmem S16384 .f32) (g : S16x1041.Idx → Elt F .f32) (t : S16384.Idx → Elt F .f32)
    {α : Type} {k : Unit → Tile F i α} {Q : α → sProp 𝕄} :
    iprop(Hold d i sl g ∗ Hold d i tr t)
      ⊢ iprop((iprop(Hold d i sl g ∗ HoldT d i tr g 1024) -∗ WP (k ⟨⟩) Q)
        -∗ WP (Scf.Loop.for k0_t2_loop outer_ok ⟨⟩ (fun k u => outerTrip i hc sl tr k.val u) >>= k) Q) :=
  loop_step d i hc sl tr g (lb := k0_t2_loop.lb) (ub := k0_t2_loop.ub) (hok := outer_ok) (n := 8) rfl (by decide) (Nat.le_refl 8)

/-- A flat buffer holding a slab's columns holds what the relaid table does on that block. -/
theorem flat_relaid {g : S16x1041.Idx → Elt F .f32} {t : S16384.Idx → Elt F .f32} {b n : ℕ} (hb : b + n ≤ 999936) (hn : n ≤ 1024)
    (hg : ∀ r c, r < 16 → c < n → g (cell r c) = A (wcell r (b + c))) (ht : Flat g n t) (x : S16384.Idx) (y : S16000000.Idx)
    (hx : (x 0).val < 16 * n) (hy : (y 0).val = 16 * b + (x 0).val) : t x = relaid A B y := by
  rw [ht x hx, hg _ _ (by omega) (by omega), relaid, if_pos (by omega)]
  congr 2 <;> omega

theorem prefetch_step {c3 : BitVec 1} {p : Prop} [Decidable p] {slb : Memref sig .scVector .vmem S16x1041 .f32} {sib : DmaSems sig S_} {oP : Fin 2 → ℕ}
    {bP : c3 = 1#1 → ∀ a, oP a + S16x1024.size a ≤ S16x1000000.size a} {q : PosShare TreeShare} {w : ℕ} {α : Type} {k : Unit → Tile F i α} {Q : α → sProp 𝕄}
    (hp : c3 = 1#1 ↔ p) (ho : oP = ![0, 1024 * w]) :
    SIdle d i A q slb sib.sem
      ⊢ iprop((iprop(if p then SFly d i A q slb sib.sem (1024 * w) 1024 (inN slb) else SIdle d i A q slb sib.sem) -∗ WP (k ⟨⟩) Q)
        -∗ WP (prefetch i slb sib oP bP >>= k) Q) := by
  unfold prefetch
  by_cases h : c3 = 1#1
  · rw [dif_pos h, if_pos (hp.mp h), sidle_eq]
    simp only [bind_assoc, pure_bind]
    iintro H Hk
    iapply (in_step d i (n := 1024) ho (by decide) rfl) $$ H
    iexact Hk
  · rw [dif_neg h, if_neg (fun h' => h (hp.mpr h')), pure_bind]
    iintro H Hk
    iapply Hk $$ H

theorem drain_step {c4 : BitVec 1} {p : Prop} [Decidable p] {tra : Memref sig .scVector .vmem S16384 .f32} {htra : tra.IsWhole} {soa : DmaSems sig S_} {oD : Fin 1 → ℕ}
    {bD : c4 = 1#1 → ∀ a, oD a + S16384.size a ≤ S16000000.size a} {w : ℕ} {α : Type} {k : Unit → Tile F i α} {Q : α → sProp 𝕄}
    {O : CellTallies nD τ sig (HIx 2)} {W : Waits sig (HIx 2)} (hp : c4 = 1#1 ↔ p) :
    iprop((if p then TFly d i A B tra soa.sem w else TIdle d i tra soa.sem) ∗ Owing d i O W)
      ⊢ iprop((iprop(TIdle d i tra soa.sem ∗ (if p then WinAt d i w (relaid A B) else emp) ∗ Owing d i O W) -∗ WP (k ⟨⟩) Q)
        -∗ WP (drain i tra htra soa oD bD >>= k) Q) := by
  unfold drain
  rw [tidle_eq, tfly_eq]
  by_cases h : c4 = 1#1
  · rw [dif_pos h, if_pos (hp.mp h), if_pos (hp.mp h)]
    simp only [bind_assoc, pure_bind]
    iintro H Hk
    iapply (wait_step d i (dstw := gV.slice (Rect.unit (s := S16000000) oD S16384.size (bD h)) (fun _ => rfl)) (N := outN) rfl) $$ H
    iintro ⟨⟨Hg, Ht⟩, Hv, HO⟩
    iapply Hk
    isplitl [Ht Hv]
    · isplitl [Ht]; · iexact Ht
      iexact Hv
    isplitl [Hg]; · iexact Hg
    iexact HO
  · rw [dif_neg h, if_neg (fun h' => h (hp.mpr h')), if_neg (fun h' => h (hp.mpr h')), pure_bind]
    iintro ⟨Ht, HO⟩ Hk
    iapply Hk
    isplitl [Ht]; · iexact Ht
    isplitr; · iempintro
    iexact HO

/-- The transposed window out to its block. -/
theorem outwin_step {w : ℕ} (hw : w < 976) {tra : Memref sig .scVector .vmem S16384 .f32} (htra : tra.IsWhole) {soa : DmaSems sig S_}
    {bO : ∀ a, (![16384 * w] : Fin 1 → ℕ) a + S16384.size a ≤ S16000000.size a} {g : S16x1041.Idx → Elt F .f32} {b : S16000000.Idx → Elt F .f32}
    {α : Type} {k : Unit → Tile F i α} {Q : α → sProp 𝕄}
    (hg : ∀ r c, r < 16 → c < 1024 → g (cell r c) = A (wcell r (1024 * w + c))) :
    iprop(HoldT d i tra g 1024 ∗ WinAt d i w b ∗ semVal (thr0 d i, .dma soa.sem) 0)
      ⊢ iprop((TFly d i A B tra soa.sem w -∗ WP (k ⟨⟩) Q)
        -∗ WP (Prog.lift (.enqueueDma tra (.here (gV.slice (Rect.unit (s := S16000000) ![16384 * w] S16384.size bO) (fun _ => rfl))) (.dma soa.sem) htra.wordExact (View.wordExact_bits rfl) ⟨Or.inl rfl, trivial⟩) >>= k) Q) := by
  rw [holdT_eq, tfly_eq, winAt_eq, winAt_eq]
  iintro ⟨⟨%t, %ht, Ht⟩, Hw, Hv⟩
  have hG : ∀ x : S16384.Idx, t x = relaid A B ((Rect.unit (s := S16000000) ![16384 * w] S16384.size bO).emb x) := fun x =>
    flat_relaid A B (n := 1024) (by omega) (by omega) hg ht x _ (by have := (x 0).isLt; exact this) (by
      rw [Rect.emb_apply]
      show 16384 * w + 1 * (x 0).val = 16 * (1024 * w) + (x 0).val
      omega)
  iapply (out_hold d i (o := ![16384 * w]) (sz := S16384.size) (src := tra) (t := t) (b := b) (G := relaid A B) (N := outN) rfl outN_pos hG) $$ [Ht Hw Hv]
  isplitl [Ht]; · iexact Ht
  isplitl [Hw]; · iexact Hw
  iexact Hv

theorem half_spec {c c3 c4 : BitVec 1} {p3 p4 : Prop} [Decidable p3] [Decidable p4] (hc : c = 1#1) (sla slb : Memref sig .scVector .vmem S16x1041 .f32)
    (tra : Memref sig .scVector .vmem S16384 .f32) (htra : tra.IsWhole) (sia sib soa : DmaSems sig S_)
    {oP : Fin 2 → ℕ} {bP : c3 = 1#1 → ∀ a, oP a + S16x1024.size a ≤ S16x1000000.size a}
    {oD : Fin 1 → ℕ} {bD : c4 = 1#1 → ∀ a, oD a + S16384.size a ≤ S16000000.size a}
    {oW : Fin 2 → ℕ} {bW : ∀ a, oW a + S16x1024.size a ≤ S16x1000000.size a}
    {oO : Fin 1 → ℕ} {bO : ∀ a, oO a + S16384.size a ≤ S16000000.size a}
    {qa qb : PosShare TreeShare} {w w0 w1 : ℕ} {b : S16000000.Idx → Elt F .f32} {O : CellTallies nD τ sig (HIx 2)} {W : Waits sig (HIx 2)}
    (h3 : c3 = 1#1 ↔ p3) (h4 : c4 = 1#1 ↔ p4) (hP : oP = ![0, 1024 * w1]) (hO : oO = ![16384 * w]) (hw : w < 976) :
    iprop(SFly d i A qa sla sia.sem (1024 * w) 1024 (inN sla) ∗ SIdle d i A qb slb sib.sem ∗ (if p4 then TFly d i A B tra soa.sem w0 else TIdle d i tra soa.sem)
        ∗ WinAt d i w b ∗ Owing d i O W)
      ⊢ WP (half i hc sla slb tra htra sia sib soa oP bP oD bD oW bW oO bO)
          fun _ => iprop(SIdle d i A qa sla sia.sem ∗ (if p3 then SFly d i A qb slb sib.sem (1024 * w1) 1024 (inN slb) else SIdle d i A qb slb sib.sem)
            ∗ TFly d i A B tra soa.sem w ∗ (if p4 then WinAt d i w0 (relaid A B) else emp) ∗ Owing d i O W) := by
  subst hO
  unfold half
  iintro ⟨Ha, Hb, Ht, Hw, HO⟩
  iapply (prefetch_step d i A h3 hP) $$ Hb
  iintro Hb
  iapply (drain_step d i A B h4) $$ [Ht HO]
  · isplitl [Ht]; · iexact Ht
    iexact HO
  iintro ⟨Ht, Hg, HO⟩
  iapply (in_wait d i (dstw := winSlab sla) rfl) $$ [Ha HO]
  · isplitl [Ha]; · iexact Ha
    iexact HO
  iintro ⟨Hs, Hwt, Hv, HO⟩
  ihave Hs := (Entails.of_eq (slabAt_eq d i A sla (1024 * w) 1024)) $$ Hs
  ihave Ht := (Entails.of_eq (tidle_eq d i tra soa.sem)) $$ Ht
  icases Hs with ⟨%g, %hg, Hs⟩
  icases Ht with ⟨⟨%t, Ht⟩, Hvt⟩
  iapply (loop8_step d i hc sla tra g t) $$ [Hs Ht]
  · isplitl [Hs]; · iexact Hs
    iexact Ht
  iintro ⟨Hs, Ht⟩
  iapply (outwin_step d i A B hw htra (g := g) (b := b) hg) $$ [Ht Hw Hvt]
  · isplitl [Ht]; · iexact Ht
    isplitl [Hw]; · iexact Hw
    iexact Hvt
  iintro Hf
  rw [wp_pure]
  iapply fupd_intro
  isplitl [Hs Hwt Hv]
  · rw [sidle_eq]
    isplitl [Hs]; · iexists g; iexact Hs
    isplitl [Hwt]; · iexact Hwt
    iexact Hv
  isplitl [Hb]; · iexact Hb
  isplitl [Hf]; · iexact Hf
  isplitl [Hg]; · iexact Hg
  iexact HO

end Spec

end Cert.Proof.Table
end
-- ==== Proof.Detile.lean ====
/-
  The first kernel's tile, whole: the loop over its windows, the waits after it, and the two tails the
  last two tiles copy.
-/
module

public import proofs.«01_k».proof.Proof.Windows
public import Idealize.SL.BI.BigOpNat

@[expose] public section

noncomputable section

namespace Cert.Proof.Table

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MM F

/-! ## The loop over the windows -/

section Loop

variable (d : Dev nD) (i : grid0.Coords) (A : S16x1000000.Idx → Elt F .f32) (B : S1024.Idx → Elt F .f32) (b : S16000000.Idx → Elt F .f32)

local notation "WP" => wp frame (wpE (defs₀ (F := F)) 𝒱₀ (thr0 d i) none) Set.univ

/-- Before trip `t`, over the pair of buffers it works on (`a`) and the other (`b`): the trip's window on its way
    into its slab, the last two windows' copies out in flight, the later windows as they were, the earlier ones done. -/
def J (O : CellTallies nD τ sig (HIx 2)) (W : Waits sig (HIx 2)) (sla slb : Memref sig .scVector .vmem S16x1041 .f32) (tra trb : Memref sig .scVector .vmem S16384 .f32)
    (sia sib soa sob : DmaSems sig S_) (qa qb : PosShare TreeShare) (t : ℕ) : sProp 𝕄 :=
  iprop((if t < nwin i then SFly d i A qa sla sia.sem (1024 * win i t) 1024 (inN sla) else SIdle d i A qa sla sia.sem) ∗ SIdle d i A qb slb sib.sem
    ∗ (if 2 ≤ t then TFly d i A B tra soa.sem (win i (t - 2)) else TIdle d i tra soa.sem)
    ∗ (if 1 ≤ t then TFly d i A B trb sob.sem (win i (t - 1)) else TIdle d i trb sob.sem)
    ∗ bigSep (Finset.Ico t (nwin i)) (fun k => WinAt d i (win i k) b) ∗ bigSep (Finset.range (t - 2)) (fun k => WinAt d i (win i k) (relaid A B))
    ∗ Owing d i O W)

theorem win_lt {t : ℕ} (h : t < nwin i) : win i t < 976 := by
  have h0 : (i 0).val < 2 := (i 0).isLt
  have h1 : (i 1).val < 16 := (i 1).isLt
  unfold nwin at h; unfold win
  split at h <;> omega

theorem half_step {O : CellTallies nD τ sig (HIx 2)} {W : Waits sig (HIx 2)} {c c3 c4 : BitVec 1} (hc : c = 1#1) (sla slb : Memref sig .scVector .vmem S16x1041 .f32)
    (tra trb : Memref sig .scVector .vmem S16384 .f32) (htra : tra.IsWhole) (sia sib soa sob : DmaSems sig S_)
    {oP : Fin 2 → ℕ} {bP : c3 = 1#1 → ∀ a, oP a + S16x1024.size a ≤ S16x1000000.size a}
    {oD : Fin 1 → ℕ} {bD : c4 = 1#1 → ∀ a, oD a + S16384.size a ≤ S16000000.size a}
    {oW : Fin 2 → ℕ} {bW : ∀ a, oW a + S16x1024.size a ≤ S16x1000000.size a}
    {oO : Fin 1 → ℕ} {bO : ∀ a, oO a + S16384.size a ≤ S16000000.size a} {qa qb : PosShare TreeShare} {t : ℕ} (ht : t < nwin i)
    (h3 : c3 = 1#1 ↔ t + 1 < nwin i) (h4 : c4 = 1#1 ↔ 2 ≤ t) (hP : oP = ![0, 1024 * win i (t + 1)]) (hO : oO = ![16384 * win i t]) :
    J d i A B b O W sla slb tra trb sia sib soa sob qa qb t
      ⊢ WP (half i hc sla slb tra htra sia sib soa oP bP oD bD oW bW oO bO)
          fun _ => J d i A B b O W slb sla trb tra sib sia sob soa qb qa (t + 1) := by
  have e1 : (if 2 ≤ t + 1 then TFly d i A B trb sob.sem (win i (t + 1 - 2)) else TIdle d i trb sob.sem)
      = if 1 ≤ t then TFly d i A B trb sob.sem (win i (t - 1)) else TIdle d i trb sob.sem := by
    rw [show t + 1 - 2 = t - 1 by omega]
    exact if_congr ⟨fun h => by omega, fun h => by omega⟩ rfl rfl
  have e2 : iprop((if 2 ≤ t then WinAt d i (win i (t - 2)) (relaid A B) else emp) ∗ bigSep (Finset.range (t - 2)) (fun k => WinAt d i (win i k) (relaid A B)))
      ⊢ bigSep (Finset.range (t + 1 - 2)) (fun k => WinAt d i (win i k) (relaid A B)) := by
    by_cases h : 2 ≤ t
    · rw [if_pos h, show t + 1 - 2 = (t - 2) + 1 by omega, bigSep_range_succ]
    · rw [if_neg h, show t + 1 - 2 = t - 2 by omega]
      iintro ⟨-, H⟩; iexact H
  unfold J
  rw [e1, if_pos ht, if_pos (Nat.le_add_left 1 t), bigSep_Ico_succ_bot ht, show t + 1 - 1 = t by omega]
  iintro ⟨Ha, Hb, Hta, Htb, ⟨Hw, Hlater⟩, Hdone, HO⟩
  iapply (wp_wand_r frame _ _)
  isplitl [Ha Hb Hta Hw HO]
  · iapply (half_spec d i A B hc sla slb tra htra sia sib soa (qa := qa) (qb := qb) (w := win i t) (w0 := win i (t - 2)) (b := b) h3 h4 hP hO (win_lt i ht))
    isplitl [Ha]; · iexact Ha
    isplitl [Hb]; · iexact Hb
    isplitl [Hta]; · iexact Hta
    isplitl [Hw]; · iexact Hw
    iexact HO
  iintro %u ⟨Ha, Hb, Hta, Hg, HO⟩
  isplitl [Hb]; · iexact Hb
  isplitl [Ha]; · iexact Ha
  isplitl [Htb]
  · iexact Htb
  isplitl [Hta]; · iexact Hta
  isplitl [Hlater]; · iexact Hlater
  isplitl [Hg Hdone]
  · iapply e2
    isplitl [Hg]; · iexact Hg
    iexact Hdone
  iexact HO

end Loop

/-! ## The tails -/

section Tails

variable (i : grid0.Coords) (sl : Memref sig .scVector .vmem S16x1041 .f32) (tr : Memref sig .scVector .vmem S16384 .f32) (sm sm' : DmaSems sig S_)

abbrev halfSlab : Memref sig .scVector .vmem S16x512 .f32 :=
  sl.slice (Rect.unit (s := S16x1041) ![0, 0] S16x512.size inb_S16x1041_S16x512_0_0) (fun _ => rfl)
abbrev halfCols : Memref sig .scVector .hbm S16x512 .f32 :=
  wtV.slice (Rect.unit (s := S16x1000000) ![0, 999424] S16x512.size inb_S16x1000000_S16x512_0_999424) (fun _ => rfl)
abbrev halfOut : Memref sig .scVector .hbm S8192 .f32 := gV.slice (Rect.unit (s := S16000000) ![15990784] S8192.size inb_S16000000_S8192_15990784) (fun _ => rfl)
abbrev halfFlat : Memref sig .scVector .vmem S8192 .f32 := tr.slice (Rect.unit (s := S16384) ![0] S8192.size inb_S16384_S8192_0) (fun _ => rfl)
abbrev endOut : Memref sig .scVector .hbm S1024 .f32 := gV.slice (Rect.unit (s := S16000000) ![15998976] S1024.size inb_S16000000_S1024_15998976) (fun _ => rfl)
abbrev endFlat : Memref sig .scVector .vmem S1024 .f32 := tr.slice (Rect.unit (s := S16384) ![0] S1024.size inb_S16384_S1024_0) (fun _ => rfl)

theorem half_ok : k0_t11_loop.OK := by decide

/-- The last half window, by the tile that copies it. -/
def tailHalf : Tile F i Unit :=
  if h : k0_cond20 i = 1#1 then do
    Prog.lift (.enqueueDma halfCols (.here (halfSlab sl)) (.dma sm.sem) (View.wordExact_bits rfl) (View.wordExact_bits rfl) ⟨Or.inl rfl, trivial⟩)
    Prog.lift (.waitDma2 sm.sem halfCols (halfSlab sl) (View.wordExact_bits rfl) (View.wordExact_bits rfl))
    Scf.Loop.for k0_t11_loop half_ok ⟨⟩ (fun k u => outerTrip i h sl tr k.val u)
    Prog.lift (.enqueueDma (halfFlat tr) (.here halfOut) (.dma sm'.sem) (View.wordExact_bits rfl) (View.wordExact_bits rfl) ⟨Or.inl rfl, trivial⟩)
    Prog.lift (.waitDma2 sm'.sem (halfFlat tr) halfOut (View.wordExact_bits rfl) (View.wordExact_bits rfl))
    pure ⟨⟩
  else do
    pure ⟨⟩

/-- The word the last guard tests: whether this is tile 30. -/
abbrev lastWord : BitVec 1 :=
  Scalar.cmpi .ne (Scalar.extui (Scalar.cmpi .eq (Scalar.addi (Scalar.muli (BitVec.ofNat 32 (i 1).val) 2#32) (BitVec.ofNat 32 (i 0).val)) 30#32) : BitVec 32) 0#32

/-- The flat tail, by the tile that copies it. -/
def tailEnd : Tile F i Unit :=
  if h : lastWord i = 1#1 then do
    Prog.lift (.enqueueDma tailV (.here (endFlat tr)) (.dma sm.sem) (Memref.isWhole_whole _).wordExact (View.wordExact_bits rfl) ⟨Or.inl rfl, trivial⟩)
    Prog.lift (.waitDma2 sm.sem tailV (endFlat tr) (Memref.isWhole_whole _).wordExact (View.wordExact_bits rfl))
    Prog.lift (.enqueueDma (endFlat tr) (.here endOut) (.dma sm'.sem) (View.wordExact_bits rfl) (View.wordExact_bits rfl) ⟨Or.inl rfl, trivial⟩)
    Prog.lift (.waitDma2 sm'.sem (endFlat tr) endOut (View.wordExact_bits rfl) (View.wordExact_bits rfl))
    pure ⟨⟩
  else do
    pure ⟨⟩

end Tails

section TailSpecs

variable (d : Dev nD) (i : grid0.Coords) (A : S16x1000000.Idx → Elt F .f32) (B : S1024.Idx → Elt F .f32)

local notation "WP" => wp frame (wpE (defs₀ (F := F)) 𝒱₀ (thr0 d i) none) Set.univ

/-- `n` places of the relaid table from `o` on, at `f`. -/
def BlockAt (o n : ℕ) (f : S16000000.Idx → Elt F .f32) : sProp 𝕄 := gV.view.loc (thr0 d i) ↦[places o n]{fullShare} f
theorem blockAt_eq (o n : ℕ) (f : S16000000.Idx → Elt F .f32) : BlockAt d i o n f = (gV.view.loc (thr0 d i) ↦[places o n]{fullShare} f) := rfl

/-- The half slab transposed. -/
theorem loop4_step {c : BitVec 1} (hc : c = 1#1) (sl : Memref sig .scVector .vmem S16x1041 .f32) (tr : Memref sig .scVector .vmem S16384 .f32) (g : S16x1041.Idx → Elt F .f32) (t : S16384.Idx → Elt F .f32)
    {α : Type} {k : Unit → Tile F i α} {Q : α → sProp 𝕄} :
    iprop(Hold d i sl g ∗ Hold d i tr t)
      ⊢ iprop((iprop(Hold d i sl g ∗ HoldT d i tr g 512) -∗ WP (k ⟨⟩) Q)
        -∗ WP (Scf.Loop.for k0_t11_loop half_ok ⟨⟩ (fun k u => outerTrip i hc sl tr k.val u) >>= k) Q) :=
  loop_step d i hc sl tr g (lb := k0_t11_loop.lb) (ub := k0_t11_loop.ub) (hok := half_ok) (n := 4) rfl (by decide) (by decide)

variable {O : CellTallies nD τ sig (HIx 2)} {W : Waits sig (HIx 2)} {sl : Memref sig .scVector .vmem S16x1041 .f32} {tr : Memref sig .scVector .vmem S16384 .f32}
  {sm sm' : DmaSems sig S_} {q : PosShare TreeShare} {b : S16000000.Idx → Elt F .f32}

theorem tailHalf_step {α : Type} {k : Unit → Tile F i α} {Q : α → sProp 𝕄} {p : Prop} [Decidable p] (hp : k0_cond20 i = 1#1 ↔ p) :
    iprop((∃ g, Hold d i sl g) ∗ (wtV.view.loc (thr0 d i) ↦{q} A) ∗ (∃ t, Hold d i tr t) ∗ semVal (thr0 d i, .dma sm.sem) 0 ∗ semVal (thr0 d i, .dma sm'.sem) 0
        ∗ (if p then BlockAt d i 15990784 8192 b else emp) ∗ Owing d i O W)
      ⊢ iprop((iprop((∃ g, Hold d i sl g) ∗ (wtV.view.loc (thr0 d i) ↦{q} A) ∗ (∃ t, Hold d i tr t) ∗ semVal (thr0 d i, .dma sm.sem) 0 ∗ semVal (thr0 d i, .dma sm'.sem) 0
          ∗ (if p then BlockAt d i 15990784 8192 (relaid A B) else emp) ∗ Owing d i O W) -∗ WP (k ⟨⟩) Q)
        -∗ WP (tailHalf i sl tr sm sm' >>= k) Q) := by
  unfold tailHalf
  by_cases h : k0_cond20 i = 1#1
  swap
  · rw [dif_neg h, if_neg (fun h' => h (hp.mpr h')), if_neg (fun h' => h (hp.mpr h')), pure_bind]
    iintro H Hk
    iapply Hk $$ H
  rw [dif_pos h, if_pos (hp.mp h), if_pos (hp.mp h), blockAt_eq, blockAt_eq]
  simp only [bind_assoc, pure_bind]
  iintro ⟨Hs, Hw, Ht, Hv, Hv', Hg, HO⟩ Hk
  iapply (in_step d i (n := 512) (base := 999424) (sl := sl) (A := A) (q := q) (N := (halfSlab sl).view.dmaCredit) rfl (by decide) rfl) $$ [Hs Hw Hv]
  · isplitl [Hs]; · iexact Hs
    isplitl [Hw]; · iexact Hw
    iexact Hv
  iintro Hf
  iapply (in_wait d i (dstw := halfSlab sl) (N := (halfSlab sl).view.dmaCredit) rfl) $$ [Hf HO]
  · isplitl [Hf]; · iexact Hf
    iexact HO
  iintro ⟨Hs, Hw, Hv, HO⟩
  ihave Hs := (Entails.of_eq (slabAt_eq d i A sl 999424 512)) $$ Hs
  icases Hs with ⟨%g, %hg, Hs⟩
  icases Ht with ⟨%t, Ht⟩
  iapply (loop4_step d i h sl tr g t) $$ [Hs Ht]
  · isplitl [Hs]; · iexact Hs
    iexact Ht
  iintro ⟨Hs, Ht⟩
  ihave Ht := (Entails.of_eq (holdT_eq d i tr g 512)) $$ Ht
  icases Ht with ⟨%t', %ht, Ht⟩
  have hG : ∀ x : S8192.Idx, t' ((Rect.unit (s := S16384) ![0] S8192.size inb_S16384_S8192_0).emb x)
      = relaid A B ((Rect.unit (s := S16000000) ![15990784] S8192.size inb_S16000000_S8192_15990784).emb x) := by
    intro x
    have hx : (x 0).val < 8192 := (x 0).isLt
    have h1 : (((Rect.unit (s := S16384) ![0] S8192.size inb_S16384_S8192_0).emb x) 0).val = 0 + 1 * (x 0).val := rfl
    have h2 : (((Rect.unit (s := S16000000) ![15990784] S8192.size inb_S16000000_S8192_15990784).emb x) 0).val = 15990784 + 1 * (x 0).val := rfl
    exact flat_relaid A B (n := 512) (b := 999424) (by omega) (by omega) hg ht _ _ (by omega) (by omega)
  have hn : 0 < S8192.size 0 := by decide
  iapply (out_wait d i (o := ![15990784]) (sz := S8192.size) (tr := tr) (b := b) (G := relaid A B) hn hG) $$ [Ht Hg Hv' HO]
  · isplitl [Ht]; · iexact Ht
    isplitl [Hg]; · iexact Hg
    isplitl [Hv']; · iexact Hv'
    iexact HO
  iintro ⟨Hg, Ht, Hv', HO⟩
  iapply Hk
  isplitl [Hs]; · iexists g; iexact Hs
  isplitl [Hw]; · iexact Hw
  isplitl [Ht]; · iexists t'; iexact Ht
  isplitl [Hv]; · iexact Hv
  isplitl [Hv']; · iexact Hv'
  isplitl [Hg]; · iexact Hg
  iexact HO

theorem tailEnd_step {α : Type} {k : Unit → Tile F i α} {Q : α → sProp 𝕄} {p : Prop} [Decidable p] (hp : lastWord i = 1#1 ↔ p) :
    iprop((tailV.view.loc (thr0 d i) ↦{q} B) ∗ (∃ t, Hold d i tr t) ∗ semVal (thr0 d i, .dma sm.sem) 0 ∗ semVal (thr0 d i, .dma sm'.sem) 0
        ∗ (if p then BlockAt d i 15998976 1024 b else emp) ∗ Owing d i O W)
      ⊢ iprop((iprop((tailV.view.loc (thr0 d i) ↦{q} B) ∗ (∃ t, Hold d i tr t) ∗ semVal (thr0 d i, .dma sm.sem) 0 ∗ semVal (thr0 d i, .dma sm'.sem) 0
          ∗ (if p then BlockAt d i 15998976 1024 (relaid A B) else emp) ∗ Owing d i O W) -∗ WP (k ⟨⟩) Q)
        -∗ WP (tailEnd i tr sm sm' >>= k) Q) := by
  unfold tailEnd
  by_cases h : lastWord i = 1#1
  swap
  · rw [dif_neg h, if_neg (fun h' => h (hp.mpr h')), if_neg (fun h' => h (hp.mpr h')), pure_bind]
    iintro H Hk
    iapply Hk $$ H
  rw [dif_pos h, if_pos (hp.mp h), if_pos (hp.mp h), blockAt_eq, blockAt_eq]
  simp only [bind_assoc, pure_bind]
  have hset : tailV.view.set = Finset.univ := View.set_whole _
  have hD : (endFlat tr).view.set ⊆ tr.view.set := View.set_slice_subset _ _
  iintro ⟨Hb, ⟨%t, Ht⟩, Hv, Hv', Hg, HO⟩ Hk
  ihave Ht := (Entails.of_eq (hold_eq d i tr t)) $$ Ht
  icases Ht with ⟨%f, %hf, Ht⟩
  ihave Hb := (Entails.of_eq (show (tailV.view.loc (thr0 d i) ↦{q} B : sProp 𝕄) = (tailV.view.loc (thr0 d i) ↦[tailV.view.set]{q} B) by rw [hset])) $$ Hb
  iapply (Transfers.wp_dmaLocal countersEmb 𝒱₀ (thr0 d i) none (default : HIx 2) (endFlat tr).view.dmaCredit rfl (View.dmaCredit_pos _ (by decide)) hD
    (src := tailV) (dst := endFlat tr) (via := .same) (fd := f) (fs := B)) $$ [Hb Ht Hv]
  · isplitl [Hb]; · iexact Hb
    isplitl [Ht]; · iexact Ht
    iexact Hv
  iintro Hf
  iapply (wait_step d i (dstw := endFlat tr) (N := (endFlat tr).view.dmaCredit) rfl) $$ [Hf HO]
  · isplitl [Hf]; · iexact Hf
    iexact HO
  iintro ⟨⟨Ht, Hb⟩, Hv, HO⟩
  ihave Hb := (Entails.of_eq (show (tailV.view.loc (thr0 d i) ↦[tailV.view.set]{q} B : sProp 𝕄) = (tailV.view.loc (thr0 d i) ↦{q} B) by rw [hset])) $$ Hb
  have hG : ∀ x : S1024.Idx, tr.view.read (Elt F) ((endFlat tr).view.write (Elt F) f (tailV.view.read (Elt F) B) Finset.univ) ((Rect.unit (s := S16384) ![0] S1024.size inb_S16384_S1024_0).emb x)
      = relaid A B ((Rect.unit (s := S16000000) ![15998976] S1024.size inb_S16000000_S1024_15998976).emb x) := fun x => by
    refine (View.read_slice_write_emb _ _ _ (Finset.mem_univ x)).trans ?_
    have hx : (x 0).val < 1024 := (x 0).isLt
    have he : (((Rect.unit (s := S16000000) ![15998976] S1024.size inb_S16000000_S1024_15998976).emb x) 0).val = 15998976 + 1 * (x 0).val := rfl
    rw [relaid, if_neg (by omega), he]
    have e : x = tcell (15998976 + 1 * (x 0).val - 15998976) := by
      funext a; obtain rfl := Fin.eq_zero a
      refine Fin.ext ?_
      show (x 0).val = (15998976 + 1 * (x 0).val - 15998976) % 1024
      omega
    exact (show tailV.view.read (Elt F) B x = B x from rfl).trans (congrArg B e)
  have hn : 0 < S1024.size 0 := by decide
  iapply (out_wait d i (o := ![15998976]) (sz := S1024.size) (tr := tr) (b := b) (G := relaid A B) hn hG) $$ [Ht Hg Hv' HO]
  · isplitl [Ht]
    · rw [hold_eq]; iexists _; isplitr
      swap; · iexact Ht
      ipureintro; rfl
    isplitl [Hg]; · iexact Hg
    isplitl [Hv']; · iexact Hv'
    iexact HO
  iintro ⟨Hg, Ht, Hv', HO⟩
  iapply Hk
  isplitl [Hb]; · iexact Hb
  isplitl [Ht]; · iexists _; iexact Ht
  isplitl [Hv]; · iexact Hv
  isplitl [Hv']; · iexact Hv'
  isplitl [Hg]; · iexact Hg
  iexact HO

end TailSpecs

end Cert.Proof.Table
end
-- ==== Proof.Relay.lean ====
/-
  The first kernel's tile, whole: it leaves its share of the relaid table at the relaid values.
-/
module

public import proofs.«01_k».proof.Proof.Detile

@[expose] public section

noncomputable section

namespace Cert.Proof.Table

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MM F

section Whole

variable (d : Dev nD) (i : grid0.Coords) (A : S16x1000000.Idx → Elt F .f32) (B : S1024.Idx → Elt F .f32) (b : S16000000.Idx → Elt F .f32)
  (arg5 : Memref sig .scVector .vmem S16x1041 .f32) (harg5 : arg5.IsWhole) (arg6 : Memref sig .scVector .vmem S16x1041 .f32) (harg6 : arg6.IsWhole) (arg7 : Memref sig .scVector .vmem S16384 .f32) (harg7 : arg7.IsWhole) (arg8 : Memref sig .scVector .vmem S16384 .f32) (harg8 : arg8.IsWhole) (arg9 : DmaSems sig S_) (arg10 : DmaSems sig S_) (arg11 : DmaSems sig S_) (arg12 : DmaSems sig S_) (v26_r0 : DmaSems sig S_) (v26_r1 : DmaSems sig S_) (v25_r2 : DmaSems sig S_) (v25_r3 : DmaSems sig S_)

local notation "WP" => wp frame (wpE (defs₀ (F := F)) 𝒱₀ (thr0 d i) none) Set.univ

/-- The waits after the loop: for the last two windows' copies out, whichever buffers they are from. -/
def epilogue {α : Type} (k : Unit → Tile F i α) : Tile F i α :=
  drain i arg7 harg7 arg11 (k0_off18 i) (k0_off18_inb i (cond14_one i)) >>= fun _ => drain i arg8 harg8 arg12 (k0_off19 i) (k0_off19_inb i (cond14_one i)) >>= fun _ =>
  drain i arg7 harg7 arg11 (k0_off20 i) (k0_off20_inb i (cond17_one i)) >>= fun _ => drain i arg8 harg8 arg12 (k0_off21 i) (k0_off21_inb i (cond17_one i)) >>= k

/-- The loop over the windows, the loop that never runs, and the waits. -/
def windows {α : Type} (k : Unit → Tile F i α) : Tile F i α :=
  Scf.Loop.for (k0_t1_loop i) (k0_t1_ok i) ⟨⟩ (k0_t1_body i wtV (Memref.isWhole_whole _) tailV (Memref.isWhole_whole _) gV (Memref.isWhole_whole _) arg5 harg5 arg6 harg6 arg7 harg7 arg8 harg8 arg9 arg10 arg11 arg12 v26_r0 v26_r1 v25_r2 v25_r3) >>= fun _ =>
  Scf.Loop.for (k0_t6_loop i) (k0_t6_ok i) ⟨⟩ (k0_t6_body i wtV (Memref.isWhole_whole _) tailV (Memref.isWhole_whole _) gV (Memref.isWhole_whole _) arg5 harg5 arg6 harg6 arg7 harg7 arg8 harg8 arg9 arg10 arg11 arg12 v26_r0 v26_r1 v25_r2 v25_r3) >>= fun _ =>
  epilogue i arg7 harg7 arg8 harg8 arg11 arg12 k

/-- The tails. -/
def tails : Tile F i Unit := tailHalf i arg5 arg7 v26_r0 v26_r1 >>= fun _ => tailEnd i arg8 v25_r2 v25_r3 >>= fun _ => pure ⟨⟩

/-- The whole kernel in these words. -/
def relay : Tile F i Unit :=
  prefetch i arg5 arg9 (k0_off1 i) (k0_off1_inb i) >>= fun _ => windows i arg5 harg5 arg6 harg6 arg7 harg7 arg8 harg8 arg9 arg10 arg11 arg12 v26_r0 v26_r1 v25_r2 v25_r3 fun _ => tails i arg5 arg7 arg8 v26_r0 v26_r1 v25_r2 v25_r3

set_option maxRecDepth 65536 in
theorem relay_eq : cc0_detile_kernel_skel (F := F) i wtV (Memref.isWhole_whole _) tailV (Memref.isWhole_whole _) gV (Memref.isWhole_whole _) arg5 harg5 arg6 harg6 arg7 harg7 arg8 harg8 arg9 arg10 arg11 arg12 v26_r0 v26_r1 v25_r2 v25_r3 = relay i arg5 harg5 arg6 harg6 arg7 harg7 arg8 harg8 arg9 arg10 arg11 arg12 v26_r0 v26_r1 v25_r2 v25_r3 := by
  unfold cc0_detile_kernel_skel relay windows tails epilogue prefetch tailHalf tailEnd drain
  simp only [dif_pos (cond1_one i), dif_pos (cond14_one i), dif_pos (cond17_one i), t11_eq]
  rcases Nat.mod_two_eq_zero_or_one (nwin i) with h | h
  · simp only [dif_pos ((cond15_iff i).mpr h), dif_pos ((cond19_iff i).mpr h), dif_neg (show ¬ k0_cond16 i = 1#1 from fun h' => by have := (cond16_iff i).mp h'; omega),
      dif_neg (show ¬ k0_cond18 i = 1#1 from fun h' => by have := (cond18_iff i).mp h'; omega)]
    split <;> split <;> simp only [bind_assoc, pure_bind] <;> rfl
  · simp only [dif_pos ((cond16_iff i).mpr h), dif_pos ((cond18_iff i).mpr h), dif_neg (show ¬ k0_cond15 i = 1#1 from fun h' => by have := (cond15_iff i).mp h'; omega),
      dif_neg (show ¬ k0_cond19 i = 1#1 from fun h' => by have := (cond19_iff i).mp h'; omega)]
    split <;> split <;> simp only [bind_assoc, pure_bind] <;> rfl

variable (O : CellTallies nD τ sig (HIx 2)) (W : Waits sig (HIx 2)) (qa qb : PosShare TreeShare)

/-- Before trip `t` of the loop: even trips work on the first pair of buffers, odd ones on the second. -/
def JJ (t : ℕ) : sProp 𝕄 :=
  if t % 2 = 0 then J d i A B b O W arg5 arg6 arg7 arg8 arg9 arg10 arg11 arg12 qa qb t
  else J d i A B b O W arg6 arg5 arg8 arg7 arg10 arg9 arg12 arg11 qb qa t

theorem trip_step (t : Fin (k0_t1_loop i).trips) (u : Unit) :
    JJ d i A B b arg5 arg6 arg7 arg8 arg9 arg10 arg11 arg12 O W qa qb t.val
      ⊢ WP (k0_t1_body i wtV (Memref.isWhole_whole _) tailV (Memref.isWhole_whole _) gV (Memref.isWhole_whole _) arg5 harg5 arg6 harg6 arg7 harg7 arg8 harg8 arg9 arg10 arg11 arg12 v26_r0 v26_r1 v25_r2 v25_r3 t u) fun _ => JJ d i A B b arg5 arg6 arg7 arg8 arg9 arg10 arg11 arg12 O W qa qb (t.val + 1) := by
  have ht : t.val < nwin i := lt_of_lt_of_eq t.isLt (trips_eq i)
  unfold JJ
  rcases Nat.mod_two_eq_zero_or_one t.val with h | h
  · have h2 : k0_cond2 i t = 1#1 := (cond2_iff i t).mpr h
    have h5 : ¬ k0_cond5 i t = 1#1 := fun h' => by have := (cond5_iff i t).mp h'; omega
    have hP : k0_off2 i t = ![0, 1024 * win i (t.val + 1)] := (k0_off2_eq i t).trans (by congr 2; unfold win; omega)
    have hO : k0_off5 i t = ![16384 * win i t.val] := (k0_off5_eq i t).trans (by congr 1; unfold win; omega)
    rw [if_pos h, if_neg (show ¬ (t.val + 1) % 2 = 0 by omega), even_eq i tailV (Memref.isWhole_whole _) arg5 harg5 arg6 harg6 arg7 harg7 arg8 harg8 arg9 arg10 arg11 arg12 v26_r0 v26_r1 v25_r2 v25_r3 t u h2 h5]
    exact @half_step F _ d i A B b O W (k0_cond2 i t) (k0_cond3 i t) (k0_cond4 i t) h2 arg5 arg6 arg7 arg8 harg7 arg9 arg10 arg11 arg12 (k0_off2 i t) (k0_off2_inb i t h2)
      (k0_off3 i t) (k0_off3_inb i t h2) (k0_off4 i t) (k0_off4_inb i t h2) (k0_off5 i t) (k0_off5_inb i t h2) qa qb t.val ht (cond3_iff i t) (cond4_iff i t) hP hO
  · have h2 : ¬ k0_cond2 i t = 1#1 := fun h' => by have := (cond2_iff i t).mp h'; omega
    have h5 : k0_cond5 i t = 1#1 := (cond5_iff i t).mpr h
    have hP : k0_off6 i t = ![0, 1024 * win i (t.val + 1)] := (k0_off6_eq i t).trans (by congr 2; unfold win; omega)
    have hO : k0_off9 i t = ![16384 * win i t.val] := (k0_off9_eq i t).trans (by congr 1; unfold win; omega)
    rw [if_neg (show ¬ t.val % 2 = 0 by omega), if_pos (show (t.val + 1) % 2 = 0 by omega), odd_eq i tailV (Memref.isWhole_whole _) arg5 harg5 arg6 harg6 arg7 harg7 arg8 harg8 arg9 arg10 arg11 arg12 v26_r0 v26_r1 v25_r2 v25_r3 t u h2 h5]
    exact @half_step F _ d i A B b O W (k0_cond5 i t) (k0_cond6 i t) (k0_cond7 i t) h5 arg6 arg5 arg8 arg7 harg8 arg10 arg9 arg12 arg11 (k0_off6 i t) (k0_off6_inb i t h5)
      (k0_off7 i t) (k0_off7_inb i t h5) (k0_off8 i t) (k0_off8_inb i t h5) (k0_off9 i t) (k0_off9_inb i t h5) qb qa t.val ht (cond6_iff i t) (cond7_iff i t) hP hO

theorem trips_step {α : Type} {k : Unit → Tile F i α} {Q : α → sProp 𝕄} :
    JJ d i A B b arg5 arg6 arg7 arg8 arg9 arg10 arg11 arg12 O W qa qb 0
      ⊢ iprop((JJ d i A B b arg5 arg6 arg7 arg8 arg9 arg10 arg11 arg12 O W qa qb (nwin i) -∗ WP (k ⟨⟩) Q)
        -∗ WP (Scf.Loop.for (k0_t1_loop i) (k0_t1_ok i) ⟨⟩ (k0_t1_body i wtV (Memref.isWhole_whole _) tailV (Memref.isWhole_whole _) gV (Memref.isWhole_whole _) arg5 harg5 arg6 harg6 arg7 harg7 arg8 harg8 arg9 arg10 arg11 arg12 v26_r0 v26_r1 v25_r2 v25_r3) >>= k) Q) := by
  iintro H Hk
  iapply (Scf.wp_for_bind frame (wpE (defs₀ (F := F)) 𝒱₀ (thr0 d i) none) Set.univ _ _ _ (k0_t1_ok i) ⟨⟩ _
    (fun t _ => JJ d i A B b arg5 arg6 arg7 arg8 arg9 arg10 arg11 arg12 O W qa qb t)
    (fun t u => trip_step d i A B b arg5 harg5 arg6 harg6 arg7 harg7 arg8 harg8 arg9 arg10 arg11 arg12 v26_r0 v26_r1 v25_r2 v25_r3 O W qa qb t u)) $$ [H]
  · iexact H
  iintro %u H
  iapply Hk
  iapply (Entails.of_eq (congrArg (JJ d i A B b arg5 arg6 arg7 arg8 arg9 arg10 arg11 arg12 O W qa qb) (trips_eq i))) $$ H

theorem dead_step {α : Type} {k : Unit → Tile F i α} {Q : α → sProp 𝕄} :
    WP (k ⟨⟩) Q ⊢ WP (Scf.Loop.for (k0_t6_loop i) (k0_t6_ok i) ⟨⟩ (k0_t6_body i wtV (Memref.isWhole_whole _) tailV (Memref.isWhole_whole _) gV (Memref.isWhole_whole _) arg5 harg5 arg6 harg6 arg7 harg7 arg8 harg8 arg9 arg10 arg11 arg12 v26_r0 v26_r1 v25_r2 v25_r3) >>= k) Q := by
  iintro H
  iapply (Scf.wp_for_bind frame (wpE (defs₀ (F := F)) 𝒱₀ (thr0 d i) none) Set.univ _ _ _ (k0_t6_ok i) ⟨⟩ _
    (fun _ _ => WP (k ⟨⟩) Q) (fun t u => absurd (lt_of_lt_of_eq t.isLt (dead_trips i)) (Nat.not_lt_zero _))) $$ [H]
  · iexact H
  iintro %u H
  iexact H

theorem off15_no (h : nwin i % 2 = 1) : ¬ k0_cond15 i = 1#1 := fun h' => by have := (cond15_iff i).mp h'; omega

theorem off16_no (h : nwin i % 2 = 0) : ¬ k0_cond16 i = 1#1 := fun h' => by have := (cond16_iff i).mp h'; omega

theorem off18_no (h : nwin i % 2 = 0) : ¬ k0_cond18 i = 1#1 := fun h' => by have := (cond18_iff i).mp h'; omega

theorem off19_no (h : nwin i % 2 = 1) : ¬ k0_cond19 i = 1#1 := fun h' => by have := (cond19_iff i).mp h'; omega

/-- A wait whose guard is off. -/
theorem no_drain {c4 : BitVec 1} {tr : Memref sig .scVector .vmem S16384 .f32} {htr : tr.IsWhole} {so : DmaSems sig S_} {oD : Fin 1 → ℕ}
    {bD : c4 = 1#1 → ∀ a, oD a + S16384.size a ≤ S16000000.size a} {α : Type} {k : Unit → Tile F i α} (h : ¬ c4 = 1#1) :
    drain i tr htr so oD bD >>= k = k ⟨⟩ := by
  unfold drain; rw [dif_neg h, pure_bind]

/-- A wait whose guard is on. -/
theorem do_drain {c4 : BitVec 1} {tr : Memref sig .scVector .vmem S16384 .f32} {htr : tr.IsWhole} {so : DmaSems sig S_} {oD : Fin 1 → ℕ}
    {bD : c4 = 1#1 → ∀ a, oD a + S16384.size a ≤ S16000000.size a} {w : ℕ} {α : Type} {k : Unit → Tile F i α} {Q : α → sProp 𝕄} (h : c4 = 1#1) :
    iprop(TFly d i A B tr so.sem w ∗ Owing d i O W)
      ⊢ iprop((iprop(TIdle d i tr so.sem ∗ WinAt d i w (relaid A B) ∗ Owing d i O W) -∗ WP (k ⟨⟩) Q) -∗ WP (drain i tr htr so oD bD >>= k) Q) := by
  have := drain_step d i A B (p := True) (tra := tr) (htra := htr) (soa := so) (oD := oD) (bD := bD) (w := w) (k := k) (Q := Q) (O := O) (W := W) ⟨fun _ => trivial, fun _ => h⟩
  simpa only [if_true] using this

/-- The first window's copy in, whose guard is always on. -/
theorem do_prefetch {c3 : BitVec 1} {slb : Memref sig .scVector .vmem S16x1041 .f32} {sib : DmaSems sig S_} {oP : Fin 2 → ℕ}
    {bP : c3 = 1#1 → ∀ a, oP a + S16x1024.size a ≤ S16x1000000.size a} {q : PosShare TreeShare} {w : ℕ} {α : Type} {k : Unit → Tile F i α} {Q : α → sProp 𝕄}
    (h : c3 = 1#1) (ho : oP = ![0, 1024 * w]) :
    SIdle d i A q slb sib.sem ⊢ iprop((SFly d i A q slb sib.sem (1024 * w) 1024 (inN slb) -∗ WP (k ⟨⟩) Q) -∗ WP (prefetch i slb sib oP bP >>= k) Q) := by
  have := prefetch_step d i A (p := True) (slb := slb) (sib := sib) (oP := oP) (bP := bP) (q := q) (w := w) (k := k) (Q := Q) ⟨fun _ => trivial, fun _ => h⟩ ho
  simpa only [if_true] using this

/-- After the loop and its waits: the buffers idle and every window at the relaid values. -/
def Done : sProp 𝕄 :=
  iprop(SIdle d i A qa arg5 arg9.sem ∗ SIdle d i A qb arg6 arg10.sem ∗ TIdle d i arg7 arg11.sem ∗ TIdle d i arg8 arg12.sem
    ∗ bigSep (Finset.range (nwin i)) (fun k => WinAt d i (win i k) (relaid A B)) ∗ Owing d i O W)

theorem done_eq : Done d i A B arg5 arg6 arg7 arg8 arg9 arg10 arg11 arg12 O W qa qb
    = iprop(((∃ g, Hold d i arg5 g) ∗ (wtV.view.loc (thr0 d i) ↦{qa} A) ∗ semVal (thr0 d i, .dma arg9.sem) 0) ∗ SIdle d i A qb arg6 arg10.sem
      ∗ ((∃ t, Hold d i arg7 t) ∗ semVal (thr0 d i, .dma arg11.sem) 0) ∗ ((∃ t, Hold d i arg8 t) ∗ semVal (thr0 d i, .dma arg12.sem) 0)
      ∗ bigSep (Finset.range (nwin i)) (fun k => WinAt d i (win i k) (relaid A B)) ∗ Owing d i O W) := by
  unfold Done; rw [sidle_eq, tidle_eq, tidle_eq]

theorem nwin_ge : 2 ≤ nwin i := by unfold nwin; split <;> decide

theorem windows_join {f : S16000000.Idx → Elt F .f32} :
    iprop(bigSep (Finset.range (nwin i - 2)) (fun k => WinAt d i (win i k) f) ∗ WinAt d i (win i (nwin i - 2)) f ∗ WinAt d i (win i (nwin i - 1)) f)
      ⊢ bigSep (Finset.range (nwin i)) (fun k => WinAt d i (win i k) f) := by
  obtain ⟨m, hm⟩ : ∃ m, nwin i = m + 1 + 1 := ⟨nwin i - 2, by have := nwin_ge i; omega⟩
  rw [hm, bigSep_range_succ, bigSep_range_succ, show m + 1 + 1 - 2 = m by omega, show m + 1 + 1 - 1 = m + 1 by omega]
  iintro ⟨H, H0, H1⟩
  isplitl [H1]; · iexact H1
  isplitl [H0]; · iexact H0
  iexact H

theorem epilogue_step {α : Type} {k : Unit → Tile F i α} {Q : α → sProp 𝕄} :
    JJ d i A B b arg5 arg6 arg7 arg8 arg9 arg10 arg11 arg12 O W qa qb (nwin i)
      ⊢ iprop((Done d i A B arg5 arg6 arg7 arg8 arg9 arg10 arg11 arg12 O W qa qb -∗ WP (k ⟨⟩) Q) -∗ WP (epilogue i arg7 harg7 arg8 harg8 arg11 arg12 k) Q) := by
  unfold JJ epilogue Done
  rcases Nat.mod_two_eq_zero_or_one (nwin i) with h | h
  · rw [if_pos h]
    unfold J
    rw [if_neg (lt_irrefl _), if_pos (nwin_ge i), if_pos (le_trans (by decide : 1 ≤ 2) (nwin_ge i)), @no_drain F _ i (k0_cond16 i) arg8 harg8 arg12 (k0_off19 i) (k0_off19_inb i (cond14_one i)) _ _ (off16_no i h), @no_drain F _ i (k0_cond18 i) arg7 harg7 arg11 (k0_off20 i) (k0_off20_inb i (cond17_one i)) _ _ (off18_no i h)]
    iintro ⟨Ha, Hb, Hta, Htb, -, Hw, HO⟩ Hk
    iapply (@do_drain F _ d i A B O W (k0_cond15 i) arg7 harg7 arg11 (k0_off18 i) (k0_off18_inb i (cond14_one i)) (win i (nwin i - 2)) _ _ _ ((cond15_iff i).mpr h)) $$ [Hta HO]
    · isplitl [Hta]; · iexact Hta
      iexact HO
    iintro ⟨Hta, H0, HO⟩
    iapply (@do_drain F _ d i A B O W (k0_cond19 i) arg8 harg8 arg12 (k0_off21 i) (k0_off21_inb i (cond17_one i)) (win i (nwin i - 1)) _ _ _ ((cond19_iff i).mpr h)) $$ [Htb HO]
    · isplitl [Htb]; · iexact Htb
      iexact HO
    iintro ⟨Htb, H1, HO⟩
    iapply Hk
    isplitl [Ha]; · iexact Ha
    isplitl [Hb]; · iexact Hb
    isplitl [Hta]; · iexact Hta
    isplitl [Htb]; · iexact Htb
    isplitr [HO]
    · iapply (windows_join d i); isplitl [Hw]; · iexact Hw
      isplitl [H0]; · iexact H0
      iexact H1
    iexact HO
  · rw [if_neg (show ¬ nwin i % 2 = 0 by omega)]
    unfold J
    rw [if_neg (lt_irrefl _), if_pos (nwin_ge i), if_pos (le_trans (by decide : 1 ≤ 2) (nwin_ge i)), @no_drain F _ i (k0_cond15 i) arg7 harg7 arg11 (k0_off18 i) (k0_off18_inb i (cond14_one i)) _ _ (off15_no i h)]
    iintro ⟨Ha, Hb, Hta, Htb, -, Hw, HO⟩ Hk
    iapply (@do_drain F _ d i A B O W (k0_cond16 i) arg8 harg8 arg12 (k0_off19 i) (k0_off19_inb i (cond14_one i)) (win i (nwin i - 2)) _ _ _ ((cond16_iff i).mpr h)) $$ [Hta HO]
    · isplitl [Hta]; · iexact Hta
      iexact HO
    iintro ⟨Hta, H0, HO⟩
    iapply (@do_drain F _ d i A B O W (k0_cond18 i) arg7 harg7 arg11 (k0_off20 i) (k0_off20_inb i (cond17_one i)) (win i (nwin i - 1)) _ _ _ ((cond18_iff i).mpr h)) $$ [Htb HO]
    · isplitl [Htb]; · iexact Htb
      iexact HO
    iintro ⟨Htb, H1, HO⟩
    rw [@no_drain F _ i (k0_cond19 i) arg8 harg8 arg12 (k0_off21 i) (k0_off21_inb i (cond17_one i)) _ _ (off19_no i h)]
    iapply Hk
    isplitl [Hb]; · iexact Hb
    isplitl [Ha]; · iexact Ha
    isplitl [Htb]; · iexact Htb
    isplitl [Hta]; · iexact Hta
    isplitr [HO]
    · iapply (windows_join d i); isplitl [Hw]; · iexact Hw
      isplitl [H0]; · iexact H0
      iexact H1
    iexact HO

/-- What the tile holds of the relaid table: its windows, and its tail when it has one. -/
def Share (f : S16000000.Idx → Elt F .f32) : sProp 𝕄 :=
  iprop(bigSep (Finset.range (nwin i)) (fun k => WinAt d i (win i k) f)
    ∗ (if 2 * (i 1).val + (i 0).val = 31 then BlockAt d i 15990784 8192 f else emp)
    ∗ (if 2 * (i 1).val + (i 0).val = 30 then BlockAt d i 15998976 1024 f else emp))

/-- What the tile holds besides, before and after. -/
def Kit (q : PosShare TreeShare) : sProp 𝕄 :=
  iprop(SIdle d i A qa arg5 arg9.sem ∗ SIdle d i A qb arg6 arg10.sem ∗ TIdle d i arg7 arg11.sem ∗ TIdle d i arg8 arg12.sem
    ∗ (tailV.view.loc (thr0 d i) ↦{q} B)
    ∗ semVal (thr0 d i, .dma v26_r0.sem) 0 ∗ semVal (thr0 d i, .dma v26_r1.sem) 0 ∗ semVal (thr0 d i, .dma v25_r2.sem) 0 ∗ semVal (thr0 d i, .dma v25_r3.sem) 0)

theorem windows_step {α : Type} {k : Unit → Tile F i α} {Q : α → sProp 𝕄} :
    JJ d i A B b arg5 arg6 arg7 arg8 arg9 arg10 arg11 arg12 O W qa qb 0
      ⊢ iprop((Done d i A B arg5 arg6 arg7 arg8 arg9 arg10 arg11 arg12 O W qa qb -∗ WP (k ⟨⟩) Q) -∗ WP (windows i arg5 harg5 arg6 harg6 arg7 harg7 arg8 harg8 arg9 arg10 arg11 arg12 v26_r0 v26_r1 v25_r2 v25_r3 k) Q) := by
  unfold windows
  iintro HJ Hk
  iapply (@trips_step F _ d i A B b arg5 harg5 arg6 harg6 arg7 harg7 arg8 harg8 arg9 arg10 arg11 arg12 v26_r0 v26_r1 v25_r2 v25_r3 O W qa qb α
    (fun _ => Scf.Loop.for (k0_t6_loop i) (k0_t6_ok i) ⟨⟩ (k0_t6_body i wtV (Memref.isWhole_whole _) tailV (Memref.isWhole_whole _) gV (Memref.isWhole_whole _) arg5 harg5 arg6 harg6 arg7 harg7 arg8 harg8 arg9 arg10 arg11 arg12 v26_r0 v26_r1 v25_r2 v25_r3) >>= fun _ => epilogue i arg7 harg7 arg8 harg8 arg11 arg12 k) Q) $$ HJ
  iintro HJ
  iapply (@dead_step F _ d i arg5 harg5 arg6 harg6 arg7 harg7 arg8 harg8 arg9 arg10 arg11 arg12 v26_r0 v26_r1 v25_r2 v25_r3 α (fun _ => epilogue i arg7 harg7 arg8 harg8 arg11 arg12 k) Q)
  iapply (@epilogue_step F _ d i A B b arg5 arg6 arg7 harg7 arg8 harg8 arg9 arg10 arg11 arg12 O W qa qb α k Q) $$ HJ
  iexact Hk

theorem first_trip :
    iprop(SFly d i A qa arg5 arg9.sem (1024 * win i 0) 1024 (inN arg5) ∗ SIdle d i A qb arg6 arg10.sem ∗ TIdle d i arg7 arg11.sem ∗ TIdle d i arg8 arg12.sem
      ∗ bigSep (Finset.range (nwin i)) (fun k => WinAt d i (win i k) b) ∗ Owing d i O W)
      ⊢ JJ d i A B b arg5 arg6 arg7 arg8 arg9 arg10 arg11 arg12 O W qa qb 0 := by
  unfold JJ
  rw [if_pos rfl]
  unfold J
  rw [if_pos (lt_of_lt_of_le (by decide : 0 < 2) (nwin_ge i)), if_neg (by decide), if_neg (by decide), ← Finset.range_eq_Ico, Nat.zero_sub, Finset.range_zero, bigSep_empty]
  iintro ⟨Ha, Hb, Hta, Htb, Hw, HO⟩
  isplitl [Ha]; · iexact Ha
  isplitl [Hb]; · iexact Hb
  isplitl [Hta]; · iexact Hta
  isplitl [Htb]; · iexact Htb
  isplitl [Hw]; · iexact Hw
  isplitr; · iempintro
  iexact HO

theorem tails_spec (q : PosShare TreeShare) :
    iprop(Done d i A B arg5 arg6 arg7 arg8 arg9 arg10 arg11 arg12 O W qa qb ∗ (tailV.view.loc (thr0 d i) ↦{q} B)
        ∗ (semVal (thr0 d i, .dma v26_r0.sem) 0 ∗ semVal (thr0 d i, .dma v26_r1.sem) 0 ∗ semVal (thr0 d i, .dma v25_r2.sem) 0 ∗ semVal (thr0 d i, .dma v25_r3.sem) 0)
        ∗ (if 2 * (i 1).val + (i 0).val = 31 then BlockAt d i 15990784 8192 b else emp)
        ∗ (if 2 * (i 1).val + (i 0).val = 30 then BlockAt d i 15998976 1024 b else emp))
      ⊢ WP (tails i arg5 arg7 arg8 v26_r0 v26_r1 v25_r2 v25_r3)
          fun _ => iprop(Kit d i A B arg5 arg6 arg7 arg8 arg9 arg10 arg11 arg12 v26_r0 v26_r1 v25_r2 v25_r3 qa qb q ∗ Share d i (relaid A B) ∗ Owing d i O W) := by
  unfold tails Kit Share
  simp only [done_eq, sidle_eq, tidle_eq]
  iintro ⟨⟨⟨Hs, HA, Hv⟩, Hb, ⟨Ht, Hvt⟩, ⟨Ht', Hvt'⟩, Hw, HO⟩, HB, ⟨H0, H1, H2, H3⟩, Hh, He⟩
  iapply (tailHalf_step d i A B (sl := arg5) (tr := arg7) (sm := v26_r0) (sm' := v26_r1) (q := qa) (b := b) (O := O) (W := W) (cond20_iff i)) $$ [Hs HA Ht H0 H1 Hh HO]
  · isplitl [Hs]; · iexact Hs
    isplitl [HA]; · iexact HA
    isplitl [Ht]; · iexact Ht
    isplitl [H0]; · iexact H0
    isplitl [H1]; · iexact H1
    isplitl [Hh]; · iexact Hh
    iexact HO
  iintro ⟨Hs, HA, Ht, H0, H1, Hh, HO⟩
  iapply (tailEnd_step d i A B (tr := arg8) (sm := v25_r2) (sm' := v25_r3) (q := q) (b := b) (O := O) (W := W) (last_iff i)) $$ [HB Ht' H2 H3 He HO]
  · isplitl [HB]; · iexact HB
    isplitl [Ht']; · iexact Ht'
    isplitl [H2]; · iexact H2
    isplitl [H3]; · iexact H3
    isplitl [He]; · iexact He
    iexact HO
  iintro ⟨HB, Ht', H2, H3, He, HO⟩
  rw [wp_pure]
  iapply fupd_intro
  isplitr [Hw Hh He HO]
  · isplitl [Hs HA Hv]
    · isplitl [Hs]; · iexact Hs
      isplitl [HA]; · iexact HA
      iexact Hv
    isplitl [Hb]; · iexact Hb
    isplitl [Ht Hvt]
    · isplitl [Ht]; · iexact Ht
      iexact Hvt
    isplitl [Ht' Hvt']
    · isplitl [Ht']; · iexact Ht'
      iexact Hvt'
    isplitl [HB]; · iexact HB
    isplitl [H0]; · iexact H0
    isplitl [H1]; · iexact H1
    isplitl [H2]; · iexact H2
    iexact H3
  isplitl [Hw Hh He]
  · isplitl [Hw]; · iexact Hw
    isplitl [Hh]; · iexact Hh
    iexact He
  iexact HO

theorem kit_eq (q : PosShare TreeShare) : Kit d i A B arg5 arg6 arg7 arg8 arg9 arg10 arg11 arg12 v26_r0 v26_r1 v25_r2 v25_r3 qa qb q
    = iprop(SIdle d i A qa arg5 arg9.sem ∗ SIdle d i A qb arg6 arg10.sem ∗ TIdle d i arg7 arg11.sem ∗ TIdle d i arg8 arg12.sem
      ∗ (tailV.view.loc (thr0 d i) ↦{q} B)
      ∗ semVal (thr0 d i, .dma v26_r0.sem) 0 ∗ semVal (thr0 d i, .dma v26_r1.sem) 0 ∗ semVal (thr0 d i, .dma v25_r2.sem) 0 ∗ semVal (thr0 d i, .dma v25_r3.sem) 0) := rfl
theorem share_eq (f : S16000000.Idx → Elt F .f32) : Share d i f
    = iprop(bigSep (Finset.range (nwin i)) (fun k => WinAt d i (win i k) f)
      ∗ (if 2 * (i 1).val + (i 0).val = 31 then BlockAt d i 15990784 8192 f else emp)
      ∗ (if 2 * (i 1).val + (i 0).val = 30 then BlockAt d i 15998976 1024 f else emp)) := rfl

theorem relay_spec (q : PosShare TreeShare) :
    iprop(Kit d i A B arg5 arg6 arg7 arg8 arg9 arg10 arg11 arg12 v26_r0 v26_r1 v25_r2 v25_r3 qa qb q ∗ Share d i b ∗ Owing d i O W)
      ⊢ WP (relay i arg5 harg5 arg6 harg6 arg7 harg7 arg8 harg8 arg9 arg10 arg11 arg12 v26_r0 v26_r1 v25_r2 v25_r3)
          fun _ => iprop(Kit d i A B arg5 arg6 arg7 arg8 arg9 arg10 arg11 arg12 v26_r0 v26_r1 v25_r2 v25_r3 qa qb q ∗ Share d i (relaid A B) ∗ Owing d i O W) := by
  have h0 : k0_off1 i = ![0, 1024 * win i 0] := (k0_off1_eq i).trans (by congr 2; unfold win; omega)
  unfold relay
  rw [kit_eq, share_eq]
  iintro ⟨⟨Ha, Hb, Hta, Htb, HB, Hv⟩, ⟨Hw, Hh⟩, HO⟩
  iapply (@do_prefetch F _ d i A (k0_cond1 i) arg5 arg9 (k0_off1 i) (k0_off1_inb i) qa (win i 0) Unit
    (fun _ => windows i arg5 harg5 arg6 harg6 arg7 harg7 arg8 harg8 arg9 arg10 arg11 arg12 v26_r0 v26_r1 v25_r2 v25_r3 fun _ => tails i arg5 arg7 arg8 v26_r0 v26_r1 v25_r2 v25_r3) _ (cond1_one i) h0) $$ Ha
  iintro Ha
  iapply (@windows_step F _ d i A B b arg5 harg5 arg6 harg6 arg7 harg7 arg8 harg8 arg9 arg10 arg11 arg12 v26_r0 v26_r1 v25_r2 v25_r3 O W qa qb Unit (fun _ => tails i arg5 arg7 arg8 v26_r0 v26_r1 v25_r2 v25_r3) _) $$ [Ha Hb Hta Htb Hw HO]
  · iapply (first_trip d i A B b arg5 arg6 arg7 arg8 arg9 arg10 arg11 arg12 O W qa qb)
    isplitl [Ha]; · iexact Ha
    isplitl [Hb]; · iexact Hb
    isplitl [Hta]; · iexact Hta
    isplitl [Htb]; · iexact Htb
    isplitl [Hw]; · iexact Hw
    iexact HO
  iintro HD
  iapply (tails_spec d i A B b arg5 arg6 arg7 arg8 arg9 arg10 arg11 arg12 v26_r0 v26_r1 v25_r2 v25_r3 O W qa qb q)
  isplitl [HD]; · iexact HD
  isplitl [HB]; · iexact HB
  isplitl [Hv]; · iexact Hv
  iexact Hh

end Whole

end Cert.Proof.Table
end
-- ==== Proof.Task0.lean ====
/-
  The first call's tile in the form the launch asks for: handed its shares of the transposed table and
  of the tail and its part of the relaid table, it hands them back with its part at the relaid values.
-/
module

public import proofs.«01_k».proof.Proof.Relay

@[expose] public section

noncomputable section

namespace Cert.Proof.Table

open Cert.KernelIdeal Cert.KernelIdeal.Gen

open Idealize.ShloMosaic
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MM F

/-! ## A tile's own buffers and semaphores, some of them taken out -/

section Own

variable (d : Dev nD) (c : Fin τ.nSC) (s : Fin τ.nSub)

theorem ownSems0_split (T : Finset (DmaSem sig)) (hT : ∀ x ∈ T, (SemLoc.dma x : SemLoc sig).isScoped .scVector = true) :
    (ownSems0 (V d c s) : sProp 𝕄) = iprop(bigSep T (fun x => semVal (V d c s, .dma x) 0)
      ∗ bigSep (ownCells (V d c s) \ T.map ⟨fun x => (V d c s, .dma x), fun _ _ h => SemLoc.dma.inj (Prod.mk.inj h).2⟩) fun g => semVal g 0) := by
  unfold SparseCore.Cfg.ownSems0
  rw [SparseCore.bigSep_sdiff_split' (s := ownCells (V d c s)) (t := T.map ⟨fun x => (V d c s, .dma x), fun _ _ h => SemLoc.dma.inj (Prod.mk.inj h).2⟩), bigSep_map]
  · rfl
  · intro g hg
    obtain ⟨x, hx, rfl⟩ := Finset.mem_map.mp hg
    exact mem_ownCells.mpr ⟨rfl, hT x hx⟩

theorem ownBufs_split (T : Finset (Ref sig .scVector)) (hT : ∀ r ∈ T, ((Proc.scVector c s).devRef r : DevRef τ sig).owner = .proc (.scVector c s)) :
    (ownBufs (V d c s) : sProp 𝕄) = iprop(bigSep T (fun r => iprop(∃ f, (V d c s).loc r ↦{fullShare} f))
      ∗ bigSep (ownRefs (τ := τ) (sig := sig) (.scVector c s) \ T.map ⟨Proc.devRef (.scVector c s), Proc.devRef_injective _⟩) fun b => iprop(∃ f, ((d, b) : Loc nD τ sig) ↦{fullShare} f)) := by
  unfold SparseCore.Cfg.ownBufs
  rw [SparseCore.bigSep_sdiff_split' (s := ownRefs (V d c s).2) (t := T.map ⟨Proc.devRef (.scVector c s), Proc.devRef_injective _⟩), bigSep_map]
  · rfl
  · intro g hg
    obtain ⟨x, hx, rfl⟩ := Finset.mem_map.mp hg
    exact SparseCore.Cfg.mem_ownRefs_of_owner (hT x hx)

end Own

/-! ## The first call's tile -/

section First

variable (d : Dev nD) (i : grid0.Coords) (A : S16x1000000.Idx → Elt F .f32) (B : S1024.Idx → Elt F .f32)

theorem whole_hold {s : Shape} {e : EltTy} (b : Memref sig .scVector .vmem s e) (hb : b.view.set = Finset.univ) :
    (iprop(∃ f, b.view.loc (thr0 d i) ↦{fullShare} f) : sProp 𝕄) ⊢ iprop(∃ g, Hold d i b g) := by
  iintro ⟨%f, H⟩
  iexists (b.view.read (Elt F) f)
  rw [hold_eq]
  iexists f
  isplitr; · ipureintro; rfl
  iapply (Entails.of_eq (show (b.view.loc (thr0 d i) ↦{fullShare} f : sProp 𝕄) = b.view.loc (thr0 d i) ↦[b.view.set]{fullShare} f by rw [hb])) $$ H

theorem hold_whole {s : Shape} {e : EltTy} (b : Memref sig .scVector .vmem s e) (hb : b.view.set = Finset.univ) :
    (iprop(∃ g, Hold d i b g) : sProp 𝕄) ⊢ iprop(∃ f, b.view.loc (thr0 d i) ↦{fullShare} f) := by
  simp only [hold_eq]
  iintro ⟨%g, %f, -, H⟩
  iexists f
  iapply (Entails.of_eq (show (b.view.loc (thr0 d i) ↦[b.view.set]{fullShare} f : sProp 𝕄) = b.view.loc (thr0 d i) ↦{fullShare} f by rw [hb])) $$ H

/-- What the tile at `i` is handed for the first call, and hands back with the relaid table's part at its values. -/
def Task0 (q : PosShare TreeShare) (f : S16000000.Idx → Elt F .f32) : sProp 𝕄 :=
  iprop((wtV.view.loc (thr0 d i) ↦{q} A) ∗ (tailV.view.loc (thr0 d i) ↦{q} B) ∗ Share d i f)

theorem task0_eq (q : PosShare TreeShare) (f : S16000000.Idx → Elt F .f32) : Task0 d i A B q f =
  iprop((wtV.view.loc (thr0 d i) ↦{q} A) ∗ (tailV.view.loc (thr0 d i) ↦{q} B) ∗ Share d i f) := rfl

abbrev sems0 : Finset (DmaSem sig) := {cc0_scratch4.sem, cc0_scratch5.sem, cc0_scratch6.sem, cc0_scratch7.sem, cc0_scoped0.sem, cc0_scoped1.sem, cc0_scoped2.sem, cc0_scoped3.sem}
abbrev refs0 : Finset (Ref sig .scVector) := {cc0_scratch0, cc0_scratch1, cc0_scratch2, cc0_scratch3}

theorem sems0_eq (Φ : DmaSem sig → sProp 𝕄) : bigSep sems0 Φ = iprop(Φ cc0_scratch4.sem ∗ Φ cc0_scratch5.sem ∗ Φ cc0_scratch6.sem ∗ Φ cc0_scratch7.sem
    ∗ Φ cc0_scoped0.sem ∗ Φ cc0_scoped1.sem ∗ Φ cc0_scoped2.sem ∗ Φ cc0_scoped3.sem) := by
  unfold sems0
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

theorem refs0_eq (Φ : Ref sig .scVector → sProp 𝕄) : bigSep refs0 Φ = iprop(Φ cc0_scratch0 ∗ Φ cc0_scratch1 ∗ Φ cc0_scratch2 ∗ Φ cc0_scratch3) := by
  unfold refs0
  rw [SparseCore.bigSep_insert' (by decide), SparseCore.bigSep_insert' (by decide), SparseCore.bigSep_insert' (by decide), bigSep_singleton]

section Any

variable (arg5 : Memref sig .scVector .vmem S16x1041 .f32) (harg5 : arg5.IsWhole) (arg6 : Memref sig .scVector .vmem S16x1041 .f32) (harg6 : arg6.IsWhole) (arg7 : Memref sig .scVector .vmem S16384 .f32) (harg7 : arg7.IsWhole) (arg8 : Memref sig .scVector .vmem S16384 .f32) (harg8 : arg8.IsWhole) (arg9 : DmaSems sig S_) (arg10 : DmaSems sig S_) (arg11 : DmaSems sig S_) (arg12 : DmaSems sig S_) (v26_r0 : DmaSems sig S_) (v26_r1 : DmaSems sig S_) (v25_r2 : DmaSems sig S_) (v25_r3 : DmaSems sig S_)

/-- The four scratch buffers, at whatever they hold. -/
def Bufs0 : sProp 𝕄 := iprop((∃ f, arg5.view.loc (thr0 d i) ↦{fullShare} f) ∗ (∃ f, arg6.view.loc (thr0 d i) ↦{fullShare} f) ∗ (∃ f, arg7.view.loc (thr0 d i) ↦{fullShare} f) ∗ (∃ f, arg8.view.loc (thr0 d i) ↦{fullShare} f))

theorem bufs0_eq : (Bufs0 d i arg5 arg6 arg7 arg8 : sProp 𝕄) = iprop((∃ f, arg5.view.loc (thr0 d i) ↦{fullShare} f) ∗ (∃ f, arg6.view.loc (thr0 d i) ↦{fullShare} f) ∗ (∃ f, arg7.view.loc (thr0 d i) ↦{fullShare} f) ∗ (∃ f, arg8.view.loc (thr0 d i) ↦{fullShare} f)) := rfl

/-- The eight semaphores at zero. -/
def Sems0 : sProp 𝕄 := iprop(semVal (thr0 d i, .dma arg9.sem) 0 ∗ semVal (thr0 d i, .dma arg10.sem) 0 ∗ semVal (thr0 d i, .dma arg11.sem) 0 ∗ semVal (thr0 d i, .dma arg12.sem) 0 ∗ semVal (thr0 d i, .dma v26_r0.sem) 0 ∗ semVal (thr0 d i, .dma v26_r1.sem) 0 ∗ semVal (thr0 d i, .dma v25_r2.sem) 0 ∗ semVal (thr0 d i, .dma v25_r3.sem) 0)

theorem sems0_def : (Sems0 d i arg9 arg10 arg11 arg12 v26_r0 v26_r1 v25_r2 v25_r3 : sProp 𝕄) = iprop(semVal (thr0 d i, .dma arg9.sem) 0 ∗ semVal (thr0 d i, .dma arg10.sem) 0 ∗ semVal (thr0 d i, .dma arg11.sem) 0 ∗ semVal (thr0 d i, .dma arg12.sem) 0 ∗ semVal (thr0 d i, .dma v26_r0.sem) 0 ∗ semVal (thr0 d i, .dma v26_r1.sem) 0 ∗ semVal (thr0 d i, .dma v25_r2.sem) 0 ∗ semVal (thr0 d i, .dma v25_r3.sem) 0) := rfl

theorem kit_of (h5 : arg5.view.set = Finset.univ) (h6 : arg6.view.set = Finset.univ) (h7 : arg7.view.set = Finset.univ) (h8 : arg8.view.set = Finset.univ) (q : PosShare TreeShare) :
    iprop((wtV.view.loc (thr0 d i) ↦{q} A) ∗ (tailV.view.loc (thr0 d i) ↦{q} B) ∗ Bufs0 d i arg5 arg6 arg7 arg8 ∗ Sems0 d i arg9 arg10 arg11 arg12 v26_r0 v26_r1 v25_r2 v25_r3)
      ⊢ Kit d i A B arg5 arg6 arg7 arg8 arg9 arg10 arg11 arg12 v26_r0 v26_r1 v25_r2 v25_r3 q.left q.right q := by
  rw [bufs0_eq, sems0_def, kit_eq]
  simp only [sidle_eq, tidle_eq]
  iintro ⟨HA, HB, ⟨Hs0, Hs1, Ht0, Ht1⟩, ⟨Hv0, Hv1, Hv2, Hv3, Hv⟩⟩
  ihave HA := (pointsTo_share (PosShare.mem_left_op_right q)).1 $$ HA
  icases HA with ⟨HA, HA'⟩
  isplitl [Hs0 HA Hv0]
  · isplitl [Hs0]; · iapply (whole_hold d i arg5 h5) $$ Hs0
    isplitl [HA]; · iexact HA
    iexact Hv0
  isplitl [Hs1 HA' Hv1]
  · isplitl [Hs1]; · iapply (whole_hold d i arg6 h6) $$ Hs1
    isplitl [HA']; · iexact HA'
    iexact Hv1
  isplitl [Ht0 Hv2]
  · isplitl [Ht0]; · iapply (whole_hold d i arg7 h7) $$ Ht0
    iexact Hv2
  isplitl [Ht1 Hv3]
  · isplitl [Ht1]; · iapply (whole_hold d i arg8 h8) $$ Ht1
    iexact Hv3
  isplitl [HB]; · iexact HB
  iexact Hv

theorem of_kit (h5 : arg5.view.set = Finset.univ) (h6 : arg6.view.set = Finset.univ) (h7 : arg7.view.set = Finset.univ) (h8 : arg8.view.set = Finset.univ) (q : PosShare TreeShare) :
    Kit d i A B arg5 arg6 arg7 arg8 arg9 arg10 arg11 arg12 v26_r0 v26_r1 v25_r2 v25_r3 q.left q.right q
      ⊢ iprop((wtV.view.loc (thr0 d i) ↦{q} A) ∗ (tailV.view.loc (thr0 d i) ↦{q} B) ∗ Bufs0 d i arg5 arg6 arg7 arg8 ∗ Sems0 d i arg9 arg10 arg11 arg12 v26_r0 v26_r1 v25_r2 v25_r3) := by
  rw [bufs0_eq, sems0_def, kit_eq]
  simp only [sidle_eq, tidle_eq]
  iintro ⟨⟨Hs0, HA, Hv0⟩, ⟨Hs1, HA', Hv1⟩, ⟨Ht0, Hv2⟩, ⟨Ht1, Hv3⟩, HB, Hv⟩
  isplitl [HA HA']
  · iapply (pointsTo_share (PosShare.mem_left_op_right q)).2
    isplitl [HA] <;> iassumption
  isplitl [HB]; · iexact HB
  isplitl [Hs0 Hs1 Ht0 Ht1]
  · isplitl [Hs0]; · iapply (hold_whole d i arg5 h5) $$ Hs0
    isplitl [Hs1]; · iapply (hold_whole d i arg6 h6) $$ Hs1
    isplitl [Ht0]; · iapply (hold_whole d i arg7 h7) $$ Ht0
    iapply (hold_whole d i arg8 h8) $$ Ht1
  isplitl [Hv0]; · iexact Hv0
  isplitl [Hv1]; · iexact Hv1
  isplitl [Hv2]; · iexact Hv2
  isplitl [Hv3]; · iexact Hv3
  iexact Hv

set_option maxHeartbeats 4000000 in
theorem relay_task (h5 : arg5.view.set = Finset.univ) (h6 : arg6.view.set = Finset.univ) (h7 : arg7.view.set = Finset.univ) (h8 : arg8.view.set = Finset.univ)
    (R R' : sProp 𝕄) (q : PosShare TreeShare) (b : S16000000.Idx → Elt F .f32) (O : CellTallies nD τ sig (HIx 2)) (W : Waits sig (HIx 2)) (hO : ∀ g, O g none = 0) :
    iprop(levAts (K (F := F)).L (K (F := F)).lev ∗ emp ∗ Task0 d i A B q b
        ∗ (Bufs0 d i arg5 arg6 arg7 arg8 ∗ R) ∗ (Sems0 d i arg9 arg10 arg11 arg12 v26_r0 v26_r1 v25_r2 v25_r3 ∗ R') ∗ owes (thr0 d i) O W)
      ⊢ wp frame (wpE (defs₀ (F := F)) 𝒱₀ (thr0 d i) none) Set.univ
          (cc0_detile_kernel i wtV (Memref.isWhole_whole _) tailV (Memref.isWhole_whole _) gV (Memref.isWhole_whole _) arg5 harg5 arg6 harg6 arg7 harg7 arg8 harg8 arg9 arg10 arg11 arg12 v26_r0 v26_r1 v25_r2 v25_r3)
          fun _ => iprop(Task0 d i A B q (relaid A B) ∗ (Bufs0 d i arg5 arg6 arg7 arg8 ∗ R) ∗ (Sems0 d i arg9 arg10 arg11 arg12 v26_r0 v26_r1 v25_r2 v25_r3 ∗ R')
            ∗ ∃ W', ⌜∀ p ∈ W', p ∈ W ∨ p.2 = none⌝ ∗ owes (thr0 d i) O W') := by
  rw [cc0_detile_kernel_eq_skeleton, relay_eq]
  have hs := @relay_spec F _ d i A B b arg5 harg5 arg6 harg6 arg7 harg7 arg8 harg8 arg9 arg10 arg11 arg12 v26_r0 v26_r1 v25_r2 v25_r3 O W q.left q.right q
  simp only [task0_eq]
  iintro ⟨#Hlv, -, ⟨HA, HB, Hg⟩, ⟨Hbufs, HR⟩, ⟨Hsems, HR'⟩, HO⟩
  ihave #Hmw := (show levAts (K (F := F)).L (K (F := F)).lev ⊢ Transfers.MayWaits (thr0 d i) (default : HIx 2) O from
    (K (F := F)).mayWaits_none (thr := thr0 d i) hO) $$ Hlv
  ihave H := hs $$ [HA HB Hg Hbufs Hsems HO]
  · isplitr [Hg HO]
    · iapply (kit_of d i A B arg5 arg6 arg7 arg8 arg9 arg10 arg11 arg12 v26_r0 v26_r1 v25_r2 v25_r3 h5 h6 h7 h8 q)
      isplitl [HA]; · iexact HA
      isplitl [HB]; · iexact HB
      isplitl [Hbufs]; · iexact Hbufs
      iexact Hsems
    isplitl [Hg]; · iexact Hg
    rw [owing_eq]
    isplitr; · iexact Hmw
    iexists W
    isplitr; · ipureintro; exact fun p hp => .inl hp
    iexact HO
  iapply (wp_wand_r frame _ _)
  isplitl [H]; · iexact H
  simp only [owing_eq]
  iintro %u ⟨Hk, Hg, ⟨-, HO⟩⟩
  ihave Hk := (of_kit d i A B arg5 arg6 arg7 arg8 arg9 arg10 arg11 arg12 v26_r0 v26_r1 v25_r2 v25_r3 h5 h6 h7 h8 q) $$ Hk
  icases Hk with ⟨HA, HB, Hbufs, Hsems⟩
  isplitl [HA HB Hg]
  · isplitl [HA]; · iexact HA
    isplitl [HB]; · iexact HB
    iexact Hg
  isplitl [Hbufs HR]
  · isplitl [Hbufs]; · iexact Hbufs
    iexact HR
  isplitl [Hsems HR']
  · isplitl [Hsems]; · iexact Hsems
    iexact HR'
  iexact HO

end Any

set_option maxHeartbeats 4000000 in
theorem task0_body (q : PosShare TreeShare) (b : S16000000.Idx → Elt F .f32) (O : CellTallies nD τ sig (HIx 2)) (W : Waits sig (HIx 2)) (hO : ∀ g, O g none = 0) :
    iprop(levAts (K (F := F)).L (K (F := F)).lev ∗ emp ∗ Task0 d i A B q b
        ∗ scopedBufs (thr0 d i) ∗ scopedSems0 (thr0 d i) ∗ owes (thr0 d i) O W)
      ⊢ wp frame (wpE (defs₀ (F := F)) 𝒱₀ (thr0 d i) none) Set.univ
          (cc0_detile_kernel i wtV (Memref.isWhole_whole _) tailV (Memref.isWhole_whole _) gV (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scoped0 cc0_scoped1 cc0_scoped2 cc0_scoped3)
          fun _ => iprop(Task0 d i A B q (relaid A B) ∗ scopedBufs (thr0 d i) ∗ scopedSems0 (thr0 d i)
            ∗ ∃ W', ⌜∀ p ∈ W', p ∈ W ∨ p.2 = none⌝ ∗ owes (thr0 d i) O W') := by
  rw [(K (F := F)).scopedBufs_V facts d _ _, SparseCore.Cfg.scopedSems0_V (Val := Elt F) d _ _,
    ownSems0_split d _ _ sems0 (by decide), ownBufs_split d _ _ refs0 (by intro r hr; fin_cases hr <;> rfl), sems0_eq, refs0_eq]
  exact @relay_task F _ d i A B (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scoped0 cc0_scoped1 cc0_scoped2 cc0_scoped3 (View.set_whole _) (View.set_whole _) (View.set_whole _) (View.set_whole _) _ _ q b O W hO

end First

end Cert.Proof.Table
end
-- ==== Proof.Gather.lean ====
/-
  The second call's kernel: a tile fetches its part of the padded index list, gathers the rows it names
  from the relaid table, and copies them out to its part of the result.
-/
module

public import proofs.«01_k».proof.Proof.Task0

@[expose] public section

noncomputable section

namespace Cert.Proof.Table

open Cert.KernelIdeal Cert.KernelIdeal.Gen

open Idealize.ShloMosaic
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MM F

/-! ## The second call's arrays and what it computes -/

abbrev xV : Memref sig .scVector .hbm S100352 .i32 := Memref.whole main_v4_scv
abbrev tV : Memref sig .scVector .hbm S1000000x16 .f32 := Memref.whole main_v9_scv
abbrev oV : Memref sig .scVector .hbm S100000x16 .f32 := Memref.whole main_v10_scv
abbrev sV : Memref sig .scVector .vmem S3136 .i32 := Memref.whole cc1_scratch0
abbrev rV : Memref sig .scVector .vmem S3136x16 .f32 := Memref.whole cc1_scratch1

/-- The thread of the second kernel's tile at the grid point `i`, and its number. -/
abbrev thr1 (d : Dev nD) (i : grid1.Coords) : Thread nD τ := V d ((i 0).castLE hcore1) ((i 1).castLE hsub1)
abbrev num1 (i : grid1.Coords) : ℕ := 2 * (i 1).val + (i 0).val

/-- The place `k` of the padded index list; the table's cell at row `r`, column `c`. -/
def xcell (k : ℕ) : S100352.Idx := fun a => ⟨k % S100352.size a, Nat.mod_lt _ (by revert a; decide)⟩
def rcell (r c : ℕ) : S1000000x16.Idx := fun a => ⟨(![r, c] : Fin 2 → ℕ) a % S1000000x16.size a, Nat.mod_lt _ (by revert a; decide)⟩

/-- The rows a list names, of a table. -/
def picked (Tb : S1000000x16.Idx → Elt F .f32) (X : S100352.Idx → Elt F .i32) : S100000x16.Idx → Elt F .f32 :=
  fun x => Tb (rcell (X (xcell (x 0).val)).toNat (x 1).val)

/-- The rows of the result that the tile numbered `w` writes. -/
def rowsOf (w : ℕ) : Finset S100000x16.Idx := Finset.univ.filter fun x => (x 0).val / 3136 = w

/-- A list's words are row numbers of the table. -/
def InTable (X : S100352.Idx → Elt F .i32) : Prop := ∀ j, (X j).toNat < 1000000

theorem set_rows {o sz : Fin 2 → ℕ} (w : ℕ) (inb : ∀ a, o a + sz a ≤ S100000x16.size a) (h) (h0 : o 0 = 3136 * w) (h1 : o 1 = 0) (s1 : sz 1 = 16)
    (s0 : ∀ v < 100000, v / 3136 = w ↔ 3136 * w ≤ v ∧ v < 3136 * w + sz 0) :
    (oV.slice (Rect.unit (s := S100000x16) o sz inb) h).view.set = rowsOf w := by
  refine (View.set_slice_whole _ _).trans ?_
  ext x
  rw [rowsOf, Finset.mem_filter]
  have hx0 : (x 0).val < 100000 := (x 0).isLt
  have hx1 : (x 1).val < 16 := (x 1).isLt
  refine Rect.mem_set_unit.trans ⟨fun h => ⟨Finset.mem_univ _, (s0 _ hx0).mpr (h0 ▸ h 0)⟩, fun h a => ?_⟩
  match a with
  | 0 => rw [h0]; exact (s0 _ hx0).mp h.2
  | 1 => rw [h1, s1]; exact ⟨Nat.zero_le _, by omega⟩

theorem off1_zero (i : grid1.Coords) : k1_off1 i 0 = 3136 * num1 i := by
  rw [k1_off1_eq]; show 6272 * (i 1).val + 3136 * (i 0).val = _; unfold num1; omega

theorem off2_zero (i : grid1.Coords) : k1_off2 i 0 = 3136 * num1 i := by
  rw [k1_off2_eq]; show 6272 * (i 1).val + 3136 * (i 0).val = _; unfold num1; omega

theorem off3_zero (i : grid1.Coords) : k1_off3 i 0 = 3136 * num1 i := by
  rw [k1_off3_eq]; show 6272 * (i 1).val + 3136 * (i 0).val = _; unfold num1; omega

theorem gcond1_iff : ∀ i : grid1.Coords, k1_cond1 i = 1#1 ↔ num1 i < 31 := by decide +kernel
theorem gcond2_iff : ∀ i : grid1.Coords, k1_cond2 i = 1#1 ↔ num1 i = 31 := by decide +kernel

theorem num1_lt (i : grid1.Coords) : num1 i < 32 := by
  have h0 : (i 0).val < 2 := (i 0).isLt
  have h1 : (i 1).val < 16 := (i 1).isLt
  unfold num1; omega

/-! ## What lands -/

section Lands

variable (i : grid1.Coords) (X : S100352.Idx → Elt F .i32) (Tb : S1000000x16.Idx → Elt F .f32)

abbrev xRow : Memref sig .scVector .hbm S3136 .i32 := xV.slice (Rect.unit (s := S100352) (k1_off1 i) S3136.size (k1_off1_inb i)) (fun _ => rfl)
abbrev tAll : Memref sig .scVector .hbm S1000000x16 .f32 := tV.slice (Rect.unit (s := S1000000x16) ![0, 0] S1000000x16.size inb_S1000000x16_S1000000x16_0_0) (fun _ => rfl)

theorem read_xRow (j : S3136.Idx) : (xRow i).view.read (Elt F) X j = X (xcell (3136 * num1 i + (j 0).val)) := by
  refine ((View.read_apply _ _).trans (cast_eq _ _)).trans (congrArg X ?_)
  funext a
  obtain rfl := Fin.eq_zero a
  apply Fin.ext
  have hj : (j 0).val < 3136 := (j 0).isLt
  have := num1_lt i
  show k1_off1 i 0 + 1 * (j 0).val = (3136 * num1 i + (j 0).val) % 100352
  rw [off1_zero, Nat.mod_eq_of_lt (by omega)]; omega

theorem read_tAll (x : S1000000x16.Idx) : tAll.view.read (Elt F) Tb x = Tb x := by
  refine ((View.read_apply _ _).trans (cast_eq _ _)).trans (congrArg Tb ?_)
  funext a
  apply Fin.ext
  match a with
  | 0 => show 0 + 1 * (x 0).val = _; omega
  | 1 => show 0 + 1 * (x 1).val = _; omega

theorem gathered (list : S3136.Idx → Elt F .i32) (hl : ∀ j, list j = X (xcell (3136 * num1 i + (j 0).val)))
    (hin : ∀ x, (list x).toNat < S1000000x16.size gathers_S1000000x16_S3136x16.axis) (y : S3136x16.Idx) :
    SparseCore.gatherPayload gathers_S1000000x16_S3136x16 (tAll.view.read (Elt F) Tb) (SparseCore.rows list rfl hin) y
      = Tb (rcell (X (xcell (3136 * num1 i + (y 0).val))).toNat (y 1).val) := by
  unfold SparseCore.gatherPayload
  rw [read_tAll]
  refine congrArg Tb ?_
  funext a
  apply Fin.ext
  have hy1 : (y 1).val < 16 := (y 1).isLt
  match a with
  | 0 =>
    refine (congrArg Fin.val (Shape.Gathers.idx_axis _ _ _)).trans ?_
    show (list (S3136.rowMajor.symm ((y 0).cast rfl))).toNat = (X (xcell (3136 * num1 i + (y 0).val))).toNat % 1000000
    have hk : ((S3136.rowMajor.symm ((y 0).cast rfl) : S3136.Idx) 0).val = (y 0).val := by
      rw [← Shape.rowMajor_val_one, Equiv.apply_symm_apply]; rfl
    have h := hin (S3136.rowMajor.symm ((y 0).cast rfl))
    rw [hl, hk] at h
    rw [hl, hk]
    exact (Nat.mod_eq_of_lt h).symm
  | 1 =>
    refine (Shape.Gathers.idx_of_ne _ _ _ 1 (by decide)).trans ?_
    show (y 1).val = (y 1).val % 16
    omega

end Lands

/-! ## The steps of the second kernel's tile -/

abbrev Tile1 (F : FTy → Type) (i : grid1.Coords) (α : Type) := Prog (TpuEff nD τ sig (Elt F) Λ₀ (.scVector ((i 0).castLE hcore1) ((i 1).castLE hsub1))) α

section Steps

variable (d : Dev nD) (i : grid1.Coords) (X : S100352.Idx → Elt F .i32) (Tb : S1000000x16.Idx → Elt F .f32)

local notation "WP" => wp frame (wpE (defs₀ (F := F)) 𝒱₀ (thr1 d i) none) Set.univ

/-- What the tile owes, and that it may wait. -/
def Due (O : CellTallies nD τ sig (HIx 2)) (W : Waits sig (HIx 2)) : sProp 𝕄 :=
  iprop(Transfers.MayWaits (thr1 d i) (default : HIx 2) O ∗ ∃ W', ⌜∀ p ∈ W', p ∈ W ∨ p.2 = none⌝ ∗ owes (thr1 d i) O W')

theorem due_eq (O : CellTallies nD τ sig (HIx 2)) (W : Waits sig (HIx 2)) : Due (F := F) d i O W =
    iprop(Transfers.MayWaits (thr1 d i) (default : HIx 2) O ∗ ∃ W', ⌜∀ p ∈ W', p ∈ W ∨ p.2 = none⌝ ∗ owes (thr1 d i) O W') := rfl

abbrev Fly1 (sm : DmaSem sig) (N : ℕ) (D : sProp 𝕄) : sProp 𝕄 := Transfers.Flight countersEmb (thr1 d i) (.dma sm) (default : HIx 2) N D

theorem await {sp sp' : Space} {s s' : Shape} {e e' : EltTy} {sm : DmaSem sig} {srcw : Memref sig .scVector sp' s' e'} {dstw : Memref sig .scVector sp s e}
    {hsrc : srcw.view.WordExact} {hdst : dstw.view.WordExact} {α : Type} {k : Unit → Tile1 F i α} {Q : α → sProp 𝕄}
    {N : ℕ} {D : sProp 𝕄} {O : CellTallies nD τ sig (HIx 2)} {W : Waits sig (HIx 2)} (hN : dstw.view.dmaCredit = N) :
    iprop(Fly1 d i sm N D ∗ Due d i O W)
      ⊢ iprop((iprop(D ∗ semVal (thr1 d i, .dma sm) 0 ∗ Due d i O W) -∗ WP (k ⟨⟩) Q)
          -∗ WP (Prog.lift (.waitDma2 sm srcw dstw hsrc hdst) >>= k) Q) := by
  show _ ⊢ iprop(_ -∗ WP (.op (.waitDma2 sm srcw dstw hsrc hdst) k) Q)
  rw [due_eq]
  iintro ⟨Hf, ⟨#Hmw, %W', %hW, HO⟩⟩ Hk
  iapply (Transfers.wp_waitLocalO countersEmb 𝒱₀ (thr1 d i) none (default : HIx 2) hN) $$ [Hf HO]
  · isplitl [Hf]; · iexact Hf
    isplitl [HO]; · iexact HO
    iapply (Transfers.MayWaits.elim (SemLoc.dma sm)) $$ Hmw
  iintro ⟨HD, Hs, HO⟩
  iapply Hk
  isplitl [HD]; · iexact HD
  isplitl [Hs]; · iexact Hs
  isplitr; · iexact Hmw
  iexists _; isplitr
  swap; · iexact HO
  ipureintro; intro p hp
  rcases Finset.mem_insert.mp hp with hp | hp
  · exact .inr (hp ▸ rfl)
  · exact hW p hp

/-- A copy and the wait for it: the destination's part at what was wanted, the source back. -/
theorem copied {sp sp' : Space} {s : Shape} {e : EltTy} {sm : DmaSem sig} {src : Memref sig .scVector sp s e} {dst : Memref sig .scVector sp' s e}
    {hsrc : src.view.WordExact} {hdst : dst.view.WordExact} {hsrc' : src.view.WordExact} {hdst' : dst.view.WordExact} {hsem} {α : Type} {k : Unit → Tile1 F i α} {Q : α → sProp 𝕄}
    {q : PosShare TreeShare} {fs : Buf (Elt F) (src.view.loc (thr1 d i))} {S : Finset (Idx (dst.view.loc (thr1 d i)))} {fd G : Buf (Elt F) (dst.view.loc (thr1 d i))}
    {O : CellTallies nD τ sig (HIx 2)} {W : Waits sig (HIx 2)} (hs : 0 < s.numel) (hS : dst.view.set = S)
    (hG : ∀ y, dst.view.write (Elt F) fd (src.view.read (Elt F) fs) Finset.univ (dst.view.emb y) = G (dst.view.emb y)) :
    iprop((src.view.loc (thr1 d i) ↦[src.view.set]{q} fs) ∗ (dst.view.loc (thr1 d i) ↦[S]{fullShare} fd) ∗ semVal (thr1 d i, .dma sm) 0 ∗ Due d i O W)
      ⊢ iprop((iprop((src.view.loc (thr1 d i) ↦[src.view.set]{q} fs) ∗ (dst.view.loc (thr1 d i) ↦[S]{fullShare} G) ∗ semVal (thr1 d i, .dma sm) 0 ∗ Due d i O W) -∗ WP (k ⟨⟩) Q)
          -∗ WP (Prog.lift (.enqueueDma src (.here dst) (.dma sm) hsrc hdst hsem) >>= fun _ => Prog.lift (.waitDma2 sm src dst hsrc' hdst') >>= k) Q) := by
  show _ ⊢ iprop(_ -∗ WP (.op (.enqueueDma src (.here dst) (.dma sm) hsrc hdst hsem) fun _ => Prog.lift (.waitDma2 sm src dst hsrc' hdst') >>= k) Q)
  have hval : ∀ x ∈ S, dst.view.write (Elt F) fd (src.view.read (Elt F) fs) Finset.univ x = G x := by
    intro x hx
    rw [← hS] at hx
    obtain ⟨y, -, rfl⟩ := Finset.mem_map.mp hx
    exact hG y
  iintro ⟨Hs, Hd, Hv, HO⟩ Hk
  iapply (Transfers.wp_dmaLocal countersEmb 𝒱₀ (thr1 d i) none (default : HIx 2) dst.view.dmaCredit rfl (View.dmaCredit_pos _ hs) hS.subset (src := src) (dst := dst) (via := .same) (fd := fd)) $$ [Hs Hd Hv]
  · isplitl [Hs]; · iexact Hs
    isplitl [Hd]; · iexact Hd
    iexact Hv
  iintro Hf
  iapply (await d i rfl) $$ [Hf HO]
  · isplitl [Hf]; · iexact Hf
    iexact HO
  iintro ⟨⟨Hd, Hs⟩, Hv, HO⟩
  iapply Hk
  isplitl [Hs]; · iexact Hs
  isplitl [Hd]; · iapply (Entails.of_eq (pointsTo_congr hval)) $$ Hd
  isplitl [Hv]; · iexact Hv
  iexact HO

theorem rows_credit (h : S1000000x16.Gathers 0 S3136x16) :
    ∑ j, ((rV).slice (S3136x16.rowRect h.axis' j) (S3136x16.stride_rowRect h.axis' j)).view.dmaCredit = (rV).view.dmaCredit := by
  refine (Finset.sum_const (M := ℕ) (s := (Finset.univ : Finset (Fin 3136))) (((rV).slice (S3136x16.rowRect h.axis' (⟨0, by decide⟩ : Fin 3136)) (S3136x16.stride_rowRect h.axis' (⟨0, by decide⟩ : Fin 3136))).view.dmaCredit)).trans ?_
  rw [Finset.card_univ, Fintype.card_fin]
  revert h; decide +kernel

/-- The indirect gather and its wait: the row buffer at the rows the list names. -/
theorem gather_rows {sm : DmaSem sig} {hsrc : tAll.view.WordExact} {hsrc' : tAll.view.WordExact} {hdst' : rV.view.WordExact} {he hsp} {hp} {hr}
    {α : Type} {k : Unit → Tile1 F i α} {Q : α → sProp 𝕄} {q : PosShare TreeShare} {fo : Buf (Elt F) (sV.view.loc (thr1 d i))}
    {O : CellTallies nD τ sig (HIx 2)} {W : Waits sig (HIx 2)}
    (hl : ∀ j, sV.view.read (Elt F) fo j = X (xcell (3136 * num1 i + (j 0).val))) (hX : InTable X) :
    iprop((tV.view.loc (thr1 d i) ↦{q} Tb) ∗ (∃ f, rV.view.loc (thr1 d i) ↦{fullShare} f) ∗ (sV.view.loc (thr1 d i) ↦{fullShare} fo) ∗ semVal (thr1 d i, .dma sm) 0 ∗ Due d i O W)
      ⊢ iprop((iprop((tV.view.loc (thr1 d i) ↦{q} Tb)
              ∗ (∃ g, ⌜∀ y, rV.view.read (Elt F) g y = Tb (rcell (X (xcell (3136 * num1 i + (y 0).val))).toNat (y 1).val)⌝ ∗ (rV.view.loc (thr1 d i) ↦{fullShare} g))
              ∗ (sV.view.loc (thr1 d i) ↦{fullShare} fo) ∗ semVal (thr1 d i, .dma sm) 0 ∗ Due d i O W) -∗ WP (k ⟨⟩) Q)
          -∗ WP (SparseCore.enqueueIndirectGather hp tAll rV gathers_S1000000x16_S3136x16 sV rfl sm hsrc he hsp hr
                >>= fun _ => SparseCore.waitIndirectGather sm tAll rV hsrc' hdst' >>= k) Q) := by
  have hin : ∀ x, (sV.view.read (Elt F) fo x).toNat < S1000000x16.size gathers_S1000000x16_S3136x16.axis := fun x => by
    rw [hl]; exact hX _
  have hrs : (rV).view.set = Finset.univ := View.set_whole _
  have hss : (sV).view.set = Finset.univ := View.set_whole _
  iintro ⟨Ht, ⟨%fr, Hr⟩, Hs, Hv, HO⟩ Hk
  ihave Ht := (pointsTo_split_subset (q := q) (f := Tb) (S := Finset.univ) (Finset.subset_univ (tAll).view.set)).1 $$ Ht
  icases Ht with ⟨Ht, Htr⟩
  ihave Hr := (Entails.of_eq (show ((rV).view.loc (thr1 d i) ↦{fullShare} fr : sProp 𝕄) = (rV).view.loc (thr1 d i) ↦[(rV).view.set]{fullShare} fr by rw [hrs])) $$ Hr
  ihave Hs := (Entails.of_eq (show ((sV).view.loc (thr1 d i) ↦{fullShare} fo : sProp 𝕄) = (sV).view.loc (thr1 d i) ↦[(sV).view.set]{fullShare} fo by rw [hss])) $$ Hs
  iapply (SparseCore.wp_indirectGatherLocal countersEmb 𝒱₀ (thr1 d i) none (src := tAll) (dst := rV) (offs := sV) (hg := gathers_S1000000x16_S3136x16) (fs := Tb) (fd := fr) (fo := fo) (default : HIx 2)
      (rV).view.dmaCredit (rows_credit _) (by decide) hin) $$ [Ht Hr Hs Hv]
  · isplitl [Ht]; · iexact Ht
    isplitl [Hr]; · iexact Hr
    isplitl [Hs]; · iexact Hs
    iexact Hv
  iintro Hf
  iapply (await d i (srcw := tAll) (dstw := rV) rfl) $$ [Hf HO]
  · isplitl [Hf]; · iexact Hf
    iexact HO
  iintro ⟨⟨Hr, Ht, Hs⟩, Hv, HO⟩
  iapply Hk
  isplitl [Ht Htr]
  · iapply (pointsTo_split_subset (q := q) (f := Tb) (S := Finset.univ) (Finset.subset_univ (tAll).view.set)).2
    isplitl [Ht] <;> iassumption
  isplitl [Hr]
  · iexists _; isplitr
    swap; · iapply (Entails.of_eq (show ((rV).view.loc (thr1 d i) ↦[(rV).view.set]{fullShare} _ : sProp 𝕄) = (rV).view.loc (thr1 d i) ↦{fullShare} _ by rw [hrs])) $$ Hr
    ipureintro; intro y
    rw [View.read_write_univ]
    exact gathered i X Tb _ hl hin y
  isplitl [Hs]; · iapply (Entails.of_eq (show ((sV).view.loc (thr1 d i) ↦[(sV).view.set]{fullShare} fo : sProp 𝕄) = (sV).view.loc (thr1 d i) ↦{fullShare} fo by rw [hss])) $$ Hs
  isplitl [Hv]; · iexact Hv
  iexact HO

end Steps

/-! ## The whole tile -/

section Whole

variable (d : Dev nD) (i : grid1.Coords) (X : S100352.Idx → Elt F .i32) (Tb : S1000000x16.Idx → Elt F .f32)

local notation "WP" => wp frame (wpE (defs₀ (F := F)) 𝒱₀ (thr1 d i) none) Set.univ

/-- What the tile at `i` is handed for the second call, and hands back with its rows of the result at their values. -/
def Task1 (q : PosShare TreeShare) (f : S100000x16.Idx → Elt F .f32) : sProp 𝕄 :=
  iprop((xV.view.loc (thr1 d i) ↦{q} X) ∗ (tV.view.loc (thr1 d i) ↦{q} Tb) ∗ (oV.view.loc (thr1 d i) ↦[rowsOf (num1 i)]{fullShare} f))

theorem task1_eq (q : PosShare TreeShare) (f : S100000x16.Idx → Elt F .f32) : Task1 d i X Tb q f =
  iprop((xV.view.loc (thr1 d i) ↦{q} X) ∗ (tV.view.loc (thr1 d i) ↦{q} Tb) ∗ (oV.view.loc (thr1 d i) ↦[rowsOf (num1 i)]{fullShare} f)) := rfl

/-- What a copy of the row buffer's first rows to the tile's part of the result leaves there. -/
theorem row_lands {o : Fin 2 → ℕ} {n : ℕ} {inb : ∀ a, o a + (![n, 16] : Fin 2 → ℕ) a ≤ S100000x16.size a} {h} (h0 : o 0 = 3136 * num1 i) (h1 : o 1 = 0)
    (b : S100000x16.Idx → Elt F .f32) (w : (⟨2, ![n, 16]⟩ : Shape).Idx → Elt F .f32)
    (hw : ∀ y, w y = Tb (rcell (X (xcell (3136 * num1 i + (y 0).val))).toNat (y 1).val)) (y : (⟨2, ![n, 16]⟩ : Shape).Idx) :
    (oV.slice (Rect.unit (s := S100000x16) o ![n, 16] inb) h).view.write (Elt F) b w Finset.univ ((oV.slice (Rect.unit (s := S100000x16) o ![n, 16] inb) h).view.emb y)
      = picked Tb X ((oV.slice (Rect.unit (s := S100000x16) o ![n, 16] inb) h).view.emb y) := by
  refine ((View.write_emb_of_mem _ _ (Finset.mem_univ y)).trans (cast_eq _ _)).trans ((hw y).trans ?_)
  unfold picked
  have e0 : ((oV.slice (Rect.unit (s := S100000x16) o ![n, 16] inb) h).view.emb y 0).val = 3136 * num1 i + (y 0).val := by
    show o 0 + 1 * (y 0).val = _; rw [h0]; omega
  have e1 : ((oV.slice (Rect.unit (s := S100000x16) o ![n, 16] inb) h).view.emb y 1).val = (y 1).val := by
    show o 1 + 1 * (y 1).val = _; rw [h1]; omega
  rw [e0, e1]

abbrev oRow (h1 : k1_cond1 i = 1#1) : Memref sig .scVector .hbm S3136x16 .f32 := oV.slice (Rect.unit (s := S100000x16) (k1_off2 i) S3136x16.size (k1_off2_inb i h1)) (fun _ => rfl)
abbrev oEnd (h2 : k1_cond2 i = 1#1) : Memref sig .scVector .hbm S2784x16 .f32 := oV.slice (Rect.unit (s := S100000x16) (k1_off3 i) S2784x16.size (k1_off3_inb i h2)) (fun _ => rfl)
abbrev rEnd : Memref sig .scVector .vmem S2784x16 .f32 := rV.slice (Rect.unit (s := S3136x16) ![0, 0] S2784x16.size inb_S3136x16_S2784x16_0_0) (fun _ => rfl)

theorem set_oRow (h1 : k1_cond1 i = 1#1) : (oRow i h1).view.set = rowsOf (num1 i) :=
  set_rows (num1 i) _ _ (off2_zero i) (by rw [k1_off2_eq]; rfl) rfl fun v _ => by show _ ↔ _ ∧ v < _ + 3136; omega

theorem set_oEnd (h2 : k1_cond2 i = 1#1) : (oEnd i h2).view.set = rowsOf (num1 i) :=
  set_rows (num1 i) _ _ (off3_zero i) (by rw [k1_off3_eq]; rfl) rfl fun v hv => by
    have := (gcond2_iff i).mp h2
    show _ ↔ _ ∧ v < _ + 2784; omega

abbrev sems1 : Finset (DmaSem sig) := {cc1_scratch2.sem, cc1_scoped0.sem, cc1_scoped1.sem, cc1_scoped2.sem}
abbrev refs1 : Finset (Ref sig .scVector) := {cc1_scratch0, cc1_scratch1}

theorem sems1_eq (Φ : DmaSem sig → sProp 𝕄) : bigSep sems1 Φ = iprop(Φ cc1_scratch2.sem ∗ Φ cc1_scoped0.sem ∗ Φ cc1_scoped1.sem ∗ Φ cc1_scoped2.sem) := by
  unfold sems1
  rw [SparseCore.bigSep_insert' (by decide), SparseCore.bigSep_insert' (by decide), SparseCore.bigSep_insert' (by decide), bigSep_singleton]

theorem refs1_eq (Φ : Ref sig .scVector → sProp 𝕄) : bigSep refs1 Φ = iprop(Φ cc1_scratch0 ∗ Φ cc1_scratch1) := by
  unfold refs1
  rw [SparseCore.bigSep_insert' (by decide), bigSep_singleton]

/-- The copies out: the whole row buffer, or for the last tile its first rows. -/
abbrev ending : Tile1 F i PUnit := do
  if k1_h1 : k1_cond1 i = 1#1 then do
    Prog.lift (.enqueueDma rV (.here (oRow i k1_h1)) (.dma cc1_scoped1.sem) (Memref.isWhole_whole _).wordExact (View.wordExact_bits rfl) ⟨Or.inl rfl, trivial⟩)
    Prog.lift (.waitDma2 cc1_scoped1.sem rV (oRow i k1_h1) (Memref.isWhole_whole _).wordExact (View.wordExact_bits rfl))
    pure ⟨⟩
  else do
    pure ⟨⟩
  if k1_h2 : k1_cond2 i = 1#1 then do
    Prog.lift (.enqueueDma rEnd (.here (oEnd i k1_h2)) (.dma cc1_scoped2.sem) (View.wordExact_bits rfl) (View.wordExact_bits rfl) ⟨Or.inl rfl, trivial⟩)
    Prog.lift (.waitDma2 cc1_scoped2.sem rEnd (oEnd i k1_h2) (View.wordExact_bits rfl) (View.wordExact_bits rfl))
    pure ⟨⟩
  else do
    pure ⟨⟩
  pure ⟨⟩

theorem ending_full (h1 : k1_cond1 i = 1#1) (h2 : ¬ k1_cond2 i = 1#1) : ending (F := F) i =
    (Prog.lift (.enqueueDma rV (.here (oRow i h1)) (.dma cc1_scoped1.sem) (Memref.isWhole_whole _).wordExact (View.wordExact_bits rfl) ⟨Or.inl rfl, trivial⟩) >>= fun _ =>
      Prog.lift (.waitDma2 cc1_scoped1.sem rV (oRow i h1) (Memref.isWhole_whole _).wordExact (View.wordExact_bits rfl)) >>= fun _ => pure ⟨⟩) := by
  simp only [ending, dif_pos h1, dif_neg h2, bind_assoc, pure_bind]

theorem ending_last (h1 : ¬ k1_cond1 i = 1#1) (h2 : k1_cond2 i = 1#1) : ending (F := F) i =
    (Prog.lift (.enqueueDma rEnd (.here (oEnd i h2)) (.dma cc1_scoped2.sem) (View.wordExact_bits rfl) (View.wordExact_bits rfl) ⟨Or.inl rfl, trivial⟩) >>= fun _ =>
      Prog.lift (.waitDma2 cc1_scoped2.sem rEnd (oEnd i h2) (View.wordExact_bits rfl) (View.wordExact_bits rfl)) >>= fun _ => pure ⟨⟩) := by
  simp only [ending, dif_neg h1, dif_pos h2, bind_assoc, pure_bind]

/-- What the tile holds around its copies out. -/
def Out (O : CellTallies nD τ sig (HIx 2)) (W : Waits sig (HIx 2)) (g : Buf (Elt F) (rV.view.loc (thr1 d i))) (f : S100000x16.Idx → Elt F .f32) : sProp 𝕄 :=
  iprop((rV.view.loc (thr1 d i) ↦{fullShare} g) ∗ (oV.view.loc (thr1 d i) ↦[rowsOf (num1 i)]{fullShare} f)
    ∗ semVal (thr1 d i, .dma cc1_scoped1.sem) 0 ∗ semVal (thr1 d i, .dma cc1_scoped2.sem) 0 ∗ Due d i O W)

theorem out_eq (O : CellTallies nD τ sig (HIx 2)) (W : Waits sig (HIx 2)) (g : Buf (Elt F) (rV.view.loc (thr1 d i))) (f : S100000x16.Idx → Elt F .f32) : Out d i O W g f =
  iprop((rV.view.loc (thr1 d i) ↦{fullShare} g) ∗ (oV.view.loc (thr1 d i) ↦[rowsOf (num1 i)]{fullShare} f)
    ∗ semVal (thr1 d i, .dma cc1_scoped1.sem) 0 ∗ semVal (thr1 d i, .dma cc1_scoped2.sem) 0 ∗ Due d i O W) := rfl

theorem ending_spec (O : CellTallies nD τ sig (HIx 2)) (W : Waits sig (HIx 2)) (g : Buf (Elt F) (rV.view.loc (thr1 d i))) (b : S100000x16.Idx → Elt F .f32)
    (hg : ∀ y, rV.view.read (Elt F) g y = Tb (rcell (X (xcell (3136 * num1 i + (y 0).val))).toNat (y 1).val)) :
    Out d i O W g b ⊢ WP (ending i) fun _ => Out d i O W g (picked Tb X) := by
  have hrs : (rV).view.set = Finset.univ := View.set_whole _
  simp only [out_eq]
  by_cases hlt : num1 i < 31
  · have h1 := (gcond1_iff i).mpr hlt
    rw [ending_full i h1 (fun h => by have := (gcond2_iff i).mp h; omega)]
    iintro ⟨Hr, Ho, Hv1, Hv2, HO⟩
    ihave Hr := (Entails.of_eq (show ((rV).view.loc (thr1 d i) ↦{fullShare} g : sProp 𝕄) = (rV).view.loc (thr1 d i) ↦[(rV).view.set]{fullShare} g by rw [hrs])) $$ Hr
    iapply (copied d i (src := rV) (dst := oRow i h1) (fs := g) (S := rowsOf (num1 i)) (fd := b) (G := picked Tb X) (by decide) (set_oRow i h1)
      (row_lands i X Tb (off2_zero i) (by rw [k1_off2_eq]; rfl) b _ hg)) $$ [Hr Ho Hv1 HO]
    · isplitl [Hr]; · iexact Hr
      isplitl [Ho]; · iexact Ho
      isplitl [Hv1]; · iexact Hv1
      iexact HO
    iintro ⟨Hr, Ho, Hv1, HO⟩
    rw [wp_pure]; iapply fupd_intro
    isplitl [Hr]; · iapply (Entails.of_eq (show ((rV).view.loc (thr1 d i) ↦[(rV).view.set]{fullShare} g : sProp 𝕄) = (rV).view.loc (thr1 d i) ↦{fullShare} g by rw [hrs])) $$ Hr
    isplitl [Ho]; · iexact Ho
    isplitl [Hv1]; · iexact Hv1
    isplitl [Hv2]; · iexact Hv2
    iexact HO
  · have h2 := (gcond2_iff i).mpr (by have := num1_lt i; omega)
    rw [ending_last i (fun h => hlt ((gcond1_iff i).mp h)) h2]
    iintro ⟨Hr, Ho, Hv1, Hv2, HO⟩
    ihave Hr := (pointsTo_split_subset (ℓ := rV.view.loc (thr1 d i)) (q := fullShare) (f := g) (S := Finset.univ) (I := (rEnd).view.set) (Finset.subset_univ _)).1 $$ Hr
    icases Hr with ⟨Hr, Hrr⟩
    iapply (copied d i (src := rEnd) (dst := oEnd i h2) (fs := g) (S := rowsOf (num1 i)) (fd := b) (G := picked Tb X) (by decide) (set_oEnd i h2)
      (row_lands i X Tb (off3_zero i) (by rw [k1_off3_eq]; rfl) b _ (fun y => (hg _).trans (by
        show Tb (rcell (X (xcell (3136 * num1 i + (0 + 1 * (y 0).val)))).toNat (0 + 1 * (y 1).val)) = _
        simp only [zero_add, one_mul])))) $$ [Hr Ho Hv2 HO]
    · isplitl [Hr]; · iexact Hr
      isplitl [Ho]; · iexact Ho
      isplitl [Hv2]; · iexact Hv2
      iexact HO
    iintro ⟨Hr, Ho, Hv2, HO⟩
    rw [wp_pure]; iapply fupd_intro
    isplitl [Hr Hrr]
    · iapply (pointsTo_split_subset (ℓ := rV.view.loc (thr1 d i)) (q := fullShare) (f := g) (S := Finset.univ) (I := (rEnd).view.set) (Finset.subset_univ _)).2
      isplitl [Hr] <;> iassumption
    isplitl [Ho]; · iexact Ho
    isplitl [Hv1]; · iexact Hv1
    isplitl [Hv2]; · iexact Hv2
    iexact HO

set_option maxHeartbeats 4000000 in
theorem task1_body (hX : InTable X) (q : PosShare TreeShare) (b : S100000x16.Idx → Elt F .f32) (O : CellTallies nD τ sig (HIx 2)) (W : Waits sig (HIx 2)) (hO : ∀ g, O g none = 0) :
    iprop(levAts (K (F := F)).L (K (F := F)).lev ∗ emp ∗ Task1 d i X Tb q b
        ∗ scopedBufs (thr1 d i) ∗ scopedSems0 (thr1 d i) ∗ owes (thr1 d i) O W)
      ⊢ WP (cc1_gather_kernel i xV (Memref.isWhole_whole _) tV (Memref.isWhole_whole _) oV (Memref.isWhole_whole _) sV (Memref.isWhole_whole _) rV (Memref.isWhole_whole _) cc1_scratch2 cc1_scoped0 cc1_scoped1 cc1_scoped2)
          fun _ => iprop(Task1 d i X Tb q (picked Tb X) ∗ scopedBufs (thr1 d i) ∗ scopedSems0 (thr1 d i)
            ∗ ∃ W', ⌜∀ p ∈ W', p ∈ W ∨ p.2 = none⌝ ∗ owes (thr1 d i) O W') := by
  simp only [cc1_gather_kernel_eq_skeleton]; unfold cc1_gather_kernel_skel
  rw [(K (F := F)).scopedBufs_V facts d _ _, SparseCore.Cfg.scopedSems0_V (Val := Elt F) d _ _,
    ownSems0_split d _ _ sems1 (by decide), ownBufs_split d _ _ refs1 (by intro r hr; fin_cases hr <;> rfl), sems1_eq, refs1_eq]
  simp only [task1_eq]
  have hrs : (rV).view.set = Finset.univ := View.set_whole _
  have hss : (sV).view.set = Finset.univ := View.set_whole _
  iintro ⟨#Hlv, -, ⟨Hx, Ht, Ho⟩, ⟨⟨⟨%fs, Hs⟩, Hr⟩, Hbufs⟩, ⟨⟨Hv, Hv0, Hv1, Hv2⟩, Hsems⟩, HO⟩
  ihave #Hmw := (show levAts (K (F := F)).L (K (F := F)).lev ⊢ Transfers.MayWaits (thr1 d i) (default : HIx 2) O from
    (K (F := F)).mayWaits_none (thr := thr1 d i) hO) $$ Hlv
  ihave HO := (show iprop(Transfers.MayWaits (thr1 d i) (default : HIx 2) O ∗ owes (thr1 d i) O W) ⊢ (Due d i O W : sProp 𝕄) by
    rw [due_eq]
    iintro ⟨Hm, HO⟩
    isplitl [Hm]; · iexact Hm
    iexists W
    isplitr; · ipureintro; exact fun p hp => .inl hp
    iexact HO) $$ [HO]
  · isplitr; · iexact Hmw
    iexact HO
  ihave Hx := (pointsTo_split_subset (ℓ := xV.view.loc (thr1 d i)) (q := q) (f := X) (S := Finset.univ) (I := (xRow i).view.set) (Finset.subset_univ _)).1 $$ Hx
  icases Hx with ⟨Hx, Hxr⟩
  iapply (copied d i (src := xRow i) (dst := sV) (fs := X) (S := Finset.univ) (fd := fs) (G := sV.view.write (Elt F) fs ((xRow i).view.read (Elt F) X) Finset.univ)
    (by decide) hss (fun _ => rfl)) $$ [Hx Hs Hv0 HO]
  · isplitl [Hx]; · iexact Hx
    isplitl [Hs]; · iexact Hs
    isplitl [Hv0]; · iexact Hv0
    iexact HO
  iintro ⟨Hx, Hs, Hv0, HO⟩
  ihave Hx := (pointsTo_split_subset (ℓ := xV.view.loc (thr1 d i)) (q := q) (f := X) (S := Finset.univ) (I := (xRow i).view.set) (Finset.subset_univ _)).2 $$ [Hx Hxr]
  · isplitl [Hx] <;> iassumption
  iapply (gather_rows d i X Tb (q := q) (fo := sV.view.write (Elt F) fs ((xRow i).view.read (Elt F) X) Finset.univ)
    (fun j => (congrFun (View.read_write_univ _ _) j).trans (read_xRow i X j)) hX) $$ [Ht Hr Hs Hv HO]
  · isplitl [Ht]; · iexact Ht
    isplitl [Hr]; · iexact Hr
    isplitl [Hs]; · iexact Hs
    isplitl [Hv]; · iexact Hv
    iexact HO
  iintro ⟨Ht, ⟨%g, %hg, Hr⟩, Hs, Hv, HO⟩
  ihave H := (ending_spec d i X Tb O W g b hg) $$ [Hr Ho Hv1 Hv2 HO]
  · rw [out_eq]
    isplitl [Hr]; · iexact Hr
    isplitl [Ho]; · iexact Ho
    isplitl [Hv1]; · iexact Hv1
    isplitl [Hv2]; · iexact Hv2
    iexact HO
  iapply (wp_wand_r frame _ _)
  isplitl [H]; · iexact H
  simp only [out_eq, due_eq]
  iintro %u ⟨Hr, Ho, Hv1, Hv2, ⟨-, HO⟩⟩
  isplitl [Hx Ht Ho]
  · isplitl [Hx]; · iexact Hx
    isplitl [Ht]; · iexact Ht
    iexact Ho
  isplitl [Hs Hr Hbufs]
  · isplitl [Hs Hr]
    · isplitl [Hs]; · iexists _; iexact Hs
      iexists _; iexact Hr
    iexact Hbufs
  isplitl [Hv Hv0 Hv1 Hv2 Hsems]
  · isplitl [Hv Hv0 Hv1 Hv2]
    · isplitl [Hv]; · iexact Hv
      isplitl [Hv0]; · iexact Hv0
      isplitl [Hv1]; · iexact Hv1
      iexact Hv2
    iexact Hsems
  iexact HO

end Whole

end Cert.Proof.Table
end
-- ==== Proof.Deal.lean ====
/-
  How the calls' arrays are dealt to the tiles and collected: an array read by all goes out in shares,
  an array written goes out in the parts the tiles own.
-/
module

public import proofs.«01_k».proof.Proof.Gather

@[expose] public section

noncomputable section

namespace Cert.Proof.Table

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MM F

/-! ## One conjunct per tile of the two calls' grid -/

/-- A conjunct for each of the sixteen tiles of each of the two SparseCores. -/
def each (Φ : Fin 2 → Fin 16 → sProp 𝕄) : sProp 𝕄 := bigSep Finset.univ fun c : Fin 2 => bigSep Finset.univ fun s : Fin 16 => Φ c s

theorem each_sep (Φ Ψ : Fin 2 → Fin 16 → sProp 𝕄) : each (fun c s => iprop(Φ c s ∗ Ψ c s)) = iprop(each Φ ∗ each Ψ) := by
  unfold each
  rw [← bigSep_sep']
  exact bigSep_congr fun c _ => bigSep_sep' _ _ _

theorem each_congr {Φ Ψ : Fin 2 → Fin 16 → sProp 𝕄} (h : ∀ c s, Φ c s = Ψ c s) : each Φ = each Ψ :=
  bigSep_congr fun c _ => bigSep_congr fun s _ => h c s

/-- The share of an array read by every tile that the tile at `c`, `s` reads through. -/
def part (c : Fin 2) (s : Fin 16) : PosShare TreeShare :=
  pieceOf (pieceOf fullShare 2 (by decide) c) 16 (by decide) s

theorem read_dealt {ℓ : Loc nD τ sig} (f : Buf (Elt F) ℓ) : (ℓ ↦{fullShare} f : sProp 𝕄) = each fun c s => ℓ ↦{part c s} f := by
  unfold each part
  rw [pointsTo_piecesOf Finset.univ f (by decide : 0 < 2) fullShare]
  exact bigSep_congr fun c _ => pointsTo_piecesOf Finset.univ f (by decide : 0 < 16) _

/-- An array whose places each belong to one of the thirty-two tiles. -/
theorem write_dealt {ℓ : Loc nD τ sig} (own : Idx ℓ → ℕ) (h : ∀ x, own x < 32) (f : Buf (Elt F) ℓ) :
    (ℓ ↦{fullShare} f : sProp 𝕄) = each fun c s => ℓ ↦[Finset.univ.filter fun x => own x = 2 * s.val + c.val]{fullShare} f := by
  unfold each
  rw [← bigSep_univ_prod (fun p : Fin 2 × Fin 16 => (ℓ ↦[Finset.univ.filter fun x => own x = 2 * p.2.val + p.1.val]{fullShare} f : sProp 𝕄)),
    ← pointsTo_biUnion (ℓ := ℓ) Finset.univ (fun p : Fin 2 × Fin 16 => Finset.univ.filter fun x => own x = 2 * p.2.val + p.1.val)]
  · congr 1
    refine (Finset.eq_univ_iff_forall.2 fun x => ?_).symm
    have hx := h x
    exact Finset.mem_biUnion.2 ⟨(⟨own x % 2, by omega⟩, ⟨own x / 2, by omega⟩), Finset.mem_univ _, Finset.mem_filter.2 ⟨Finset.mem_univ _, by dsimp only; omega⟩⟩
  · rintro ⟨c, s⟩ - ⟨c', s'⟩ - hne
    refine Finset.disjoint_left.2 fun x hx hx' => hne ?_
    have e := (Finset.mem_filter.1 hx).2
    have e' := (Finset.mem_filter.1 hx').2
    have := c.isLt; have := c'.isLt
    dsimp only at e e'
    exact Prod.ext (Fin.ext (by dsimp only; omega)) (Fin.ext (by dsimp only; omega))

theorem union_eq (ℓ : Loc nD τ sig) {I J : Finset (Idx ℓ)} (f : Buf (Elt F) ℓ) (h : Disjoint I J) :
    (ℓ ↦[I ∪ J]{fullShare} f : sProp 𝕄) = iprop((ℓ ↦[I]{fullShare} f) ∗ ℓ ↦[J]{fullShare} f) :=
  BI.Entails.antisymm (pointsTo_union h).1 (pointsTo_union h).2

/-! ## The parts of the relaid table -/

/-- The number of the tile that writes place `v` of the relaid table. -/
def owner (v : ℕ) : ℕ := if v < 15990784 then v / 16384 % 32 else if v < 15998976 then 31 else 30

theorem owner_lt (v : ℕ) : owner v < 32 := by unfold owner; split_ifs <;> omega

theorem mem_places {o n : ℕ} {x : S16000000.Idx} : x ∈ places o n ↔ o ≤ (x 0).val ∧ (x 0).val < o + n := by
  unfold places; exact ⟨fun h => (Finset.mem_filter.1 h).2, fun h => Finset.mem_filter.2 ⟨Finset.mem_univ _, h⟩⟩

theorem win_small (i : grid0.Coords) (k : ℕ) : k < nwin i ↔ win i k < 976 := by
  have h1 : (i 1).val < 16 := (i 1).isLt
  have h0 : (i 0).val < 2 := (i 0).isLt
  unfold nwin win
  split_ifs <;> omega

theorem block_at (d : Dev nD) (i : grid0.Coords) (p : Prop) [Decidable p] (o n : ℕ) (f : S16000000.Idx → Elt F .f32) :
    (if p then BlockAt d i o n f else iprop(emp)) = (gV.view.loc (thr0 d i) ↦[if p then places o n else ∅]{fullShare} f : sProp 𝕄) := by
  split_ifs
  · rfl
  · exact (pointsTo_empty (ℓ := gV.view.loc (thr0 d i))).symm

theorem share_owned (d : Dev nD) (i : grid0.Coords) (f : S16000000.Idx → Elt F .f32) :
    Share d i f = (gV.view.loc (thr0 d i) ↦[Finset.univ.filter fun x : S16000000.Idx => owner (x 0).val = 2 * (i 1).val + (i 0).val]{fullShare} f : sProp 𝕄) := by
  have h1 : (i 1).val < 16 := (i 1).isLt
  have h0 : (i 0).val < 2 := (i 0).isLt
  unfold Share
  rw [block_at, block_at,
    show (bigSep (Finset.range (nwin i)) (fun k => WinAt d i (win i k) f) : sProp 𝕄)
      = (gV.view.loc (thr0 d i) ↦[(Finset.range (nwin i)).biUnion fun k => places (16384 * win i k) 16384]{fullShare} f) from
      (pointsTo_biUnion (ℓ := gV.view.loc (thr0 d i)) (Finset.range (nwin i)) (fun k => places (16384 * win i k) 16384) (by
        intro t _ t' _ hne
        refine Finset.disjoint_left.2 fun x hx hx' => hne ?_
        have := mem_places.1 hx; have := mem_places.1 hx'
        unfold win at *; omega)).symm]
  have hB : ∀ x : S16000000.Idx, (x ∈ if 2 * (i 1).val + (i 0).val = 31 then places 15990784 8192 else ∅) ↔ 2 * (i 1).val + (i 0).val = 31 ∧ 15990784 ≤ (x 0).val ∧ (x 0).val < 15998976 := by
    intro x; split_ifs with h
    · rw [mem_places]; omega
    · simp [h]
  have hC : ∀ x : S16000000.Idx, (x ∈ if 2 * (i 1).val + (i 0).val = 30 then places 15998976 1024 else ∅) ↔ 2 * (i 1).val + (i 0).val = 30 ∧ 15998976 ≤ (x 0).val := by
    intro x
    have hx : (x 0).val < 16000000 := (x 0).isLt
    split_ifs with h
    · rw [mem_places]; omega
    · simp [h]
  have hA : ∀ x : S16000000.Idx, (x ∈ (Finset.range (nwin i)).biUnion fun k => places (16384 * win i k) 16384)
      ↔ (x 0).val < 15990784 ∧ (x 0).val / 16384 % 32 = 2 * (i 1).val + (i 0).val := by
    intro x
    rw [Finset.mem_biUnion]
    constructor
    · rintro ⟨k, hk, hx⟩
      have := (win_small i k).1 (Finset.mem_range.1 hk)
      have := mem_places.1 hx
      unfold win at *; omega
    · rintro ⟨hlt, hx⟩
      have hw : win i ((x 0).val / 16384 / 32) = (x 0).val / 16384 := by unfold win; omega
      refine ⟨(x 0).val / 16384 / 32, Finset.mem_range.2 ((win_small i _).2 ?_), mem_places.2 ?_⟩ <;> rw [hw] <;> omega
  have e1 := union_eq (gV.view.loc (thr0 d i)) (I := if 2 * (i 1).val + (i 0).val = 31 then places 15990784 8192 else ∅) (J := if 2 * (i 1).val + (i 0).val = 30 then places 15998976 1024 else ∅) f
    (Finset.disjoint_left.2 fun x hx hx' => by have := (hB x).1 hx; have := (hC x).1 hx'; omega)
  rw [← e1]
  have hd : Disjoint ((Finset.range (nwin i)).biUnion fun k => places (16384 * win i k) 16384)
      ((if 2 * (i 1).val + (i 0).val = 31 then places 15990784 8192 else ∅) ∪ (if 2 * (i 1).val + (i 0).val = 30 then places 15998976 1024 else ∅)) := by
    refine Finset.disjoint_left.2 fun x hx hx' => ?_
    have := (hA x).1 hx
    rcases Finset.mem_union.1 hx' with h | h
    · have := (hB x).1 h; omega
    · have := (hC x).1 h; omega
  have e2 := union_eq (gV.view.loc (thr0 d i)) f hd
  rw [← e2]
  congr 1
  ext x
  rw [Finset.mem_union, Finset.mem_union, hA, hB, hC, Finset.mem_filter]
  unfold owner
  have hx : (x 0).val < 16000000 := (x 0).isLt
  constructor
  · intro h
    refine ⟨Finset.mem_univ _, ?_⟩
    split_ifs <;> omega
  · rintro ⟨-, h⟩
    split_ifs at h <;> omega

/-! ## The two calls' operands, dealt -/

/-- The grid points, from a SparseCore's and a tile's number. -/
def at0 (c : Fin (grid0.bound 0)) (s : Fin (grid0.bound 1)) : grid0.Coords :=
  fun | 0 => c | 1 => s | ⟨_ + 2, h⟩ => absurd h (Nat.not_lt.2 (Nat.le_add_left _ _))
def at1 (c : Fin (grid1.bound 0)) (s : Fin (grid1.bound 1)) : grid1.Coords :=
  fun | 0 => c | 1 => s | ⟨_ + 2, h⟩ => absurd h (Nat.not_lt.2 (Nat.le_add_left _ _))

theorem dealt0 (d : Dev nD) (A : S16x1000000.Idx → Elt F .f32) (B : S1024.Idx → Elt F .f32) (f : S16000000.Idx → Elt F .f32) :
    (each fun c s => Task0 d (at0 c s) A B (part c s) f)
      = (iprop(((SparseCore.T d).loc main_v7 ↦{fullShare} A) ∗ ((SparseCore.T d).loc main_v6 ↦{fullShare} B) ∗ ((SparseCore.T d).loc main_v8 ↦{fullShare} f)) : sProp 𝕄) := by
  rw [read_dealt (ℓ := (SparseCore.T d).loc main_v7) A, read_dealt (ℓ := (SparseCore.T d).loc main_v6) B,
    write_dealt (ℓ := (SparseCore.T d).loc main_v8) (fun x => owner ((show S16000000.Idx from x) 0).val) (fun _ => owner_lt _) f, ← each_sep, ← each_sep]
  refine each_congr fun c s => ?_
  rw [task0_eq, share_owned]
  rfl

theorem dealt1 (d : Dev nD) (X : S100352.Idx → Elt F .i32) (Tb : S1000000x16.Idx → Elt F .f32) (f : S100000x16.Idx → Elt F .f32) :
    (each fun c s => Task1 d (at1 c s) X Tb (part c s) f)
      = (iprop(((SparseCore.T d).loc main_v4 ↦{fullShare} X) ∗ ((SparseCore.T d).loc main_v9 ↦{fullShare} Tb) ∗ ((SparseCore.T d).loc main_v10 ↦{fullShare} f)) : sProp 𝕄) := by
  rw [read_dealt (ℓ := (SparseCore.T d).loc main_v4) X, read_dealt (ℓ := (SparseCore.T d).loc main_v9) Tb,
    write_dealt (ℓ := (SparseCore.T d).loc main_v10) (fun x => ((show S100000x16.Idx from x) 0).val / 3136) (fun x => by
      have : ((show S100000x16.Idx from x) 0).val < 100000 := ((show S100000x16.Idx from x) 0).isLt
      omega) f, ← each_sep, ← each_sep]
  refine each_congr fun c s => ?_
  rw [task1_eq]
  rfl

end Cert.Proof.Table
end
-- ==== Proof.Host.lean ====
/-
  The program's own steps around the two calls, as a list, and what the arrays hold along them.
-/
module

public import proofs.«01_k».proof.Proof.Deal

@[expose] public section

noncomputable section

namespace Cert.Proof.Table

open Cert.KernelIdeal Cert.KernelIdeal.Gen

open Idealize.ShloMosaic Idealize.ShloMosaic.StableHlo
open Idealize.SL Idealize.SL.Sem

variable {F : FTy → Type} [FloatOps F]

/-! ## The steps before the first call -/

/-- From the padding's remainder down to the first call's operands. -/
abbrev ops0 : List (HloOp τ sig (Elt F)) :=
  [ nullary main_v0 (iotaInDim S352 32 0),
    nullary main_c (constantI S_ 32 997#32),
    unary main_c main_v1 (broadcastInDim S352 ![] bcast_S_S352 : (⟨S_, .i32⟩ : BufTy).Contents (Elt F) → (⟨S352, .i32⟩ : BufTy).Contents (Elt F)),
    binary main_v0 main_v1 main_v2 (muli : (⟨S352, .i32⟩ : BufTy).Contents (Elt F) → (⟨S352, .i32⟩ : BufTy).Contents (Elt F) → (⟨S352, .i32⟩ : BufTy).Contents (Elt F)),
    nullary main_c_0 (constantI S_ 32 1000000#32),
    TRef.unary (TRef.of (T := ⟨S_, .i32⟩) main_c_0) (TRef.of (T := ⟨S_, .i32⟩) main_call0_v0) id,
    TRef.nullary (TRef.of (T := ⟨S_, .i32⟩) main_call0_c) (constantI S_ 32 0#32),
    TRef.binary (TRef.of (T := ⟨S_, .i32⟩) main_call0_v0) (TRef.of (T := ⟨S_, .i32⟩) main_call0_c) (TRef.of (T := ⟨S_, .i1⟩) main_call0_v1) (cmpi .eq),
    TRef.nullary (TRef.of (T := ⟨S_, .i32⟩) main_call0_c_0) (constantI S_ 32 1#32),
    TRef.ternary (TRef.of (T := ⟨S_, .i1⟩) main_call0_v1) (TRef.of (T := ⟨S_, .i32⟩) main_call0_c_0) (TRef.of (T := ⟨S_, .i32⟩) main_call0_v0) (TRef.of (T := ⟨S_, .i32⟩) main_call0_v2) select,
    TRef.unary (TRef.of (T := ⟨S_, .i32⟩) main_call0_v2) (TRef.of (T := ⟨S352, .i32⟩) main_call0_v3) (broadcastInDim S352 ![] bcast_S_S352),
    TRef.binary (TRef.of (T := ⟨S352, .i32⟩) main_v2) (TRef.of (T := ⟨S352, .i32⟩) main_call0_v3) (TRef.of (T := ⟨S352, .i32⟩) main_call0_v4) Host.remsi,
    TRef.nullary (TRef.of (T := ⟨S_, .i32⟩) main_call0_c_1) (constantI S_ 32 0#32),
    TRef.unary (TRef.of (T := ⟨S_, .i32⟩) main_call0_c_1) (TRef.of (T := ⟨S352, .i32⟩) main_call0_v5) (broadcastInDim S352 ![] bcast_S_S352),
    TRef.binary (TRef.of (T := ⟨S352, .i32⟩) main_call0_v4) (TRef.of (T := ⟨S352, .i32⟩) main_call0_v5) (TRef.of (T := ⟨S352, .i1⟩) main_call0_v6) (cmpi .ne),
    TRef.nullary (TRef.of (T := ⟨S_, .i32⟩) main_call0_c_2) (constantI S_ 32 0#32),
    TRef.unary (TRef.of (T := ⟨S_, .i32⟩) main_call0_c_2) (TRef.of (T := ⟨S352, .i32⟩) main_call0_v7) (broadcastInDim S352 ![] bcast_S_S352),
    TRef.binary (TRef.of (T := ⟨S352, .i32⟩) main_call0_v4) (TRef.of (T := ⟨S352, .i32⟩) main_call0_v7) (TRef.of (T := ⟨S352, .i1⟩) main_call0_v8) (cmpi .slt),
    TRef.nullary (TRef.of (T := ⟨S_, .i32⟩) main_call0_c_3) (constantI S_ 32 0#32),
    TRef.binary (TRef.of (T := ⟨S_, .i32⟩) main_call0_v2) (TRef.of (T := ⟨S_, .i32⟩) main_call0_c_3) (TRef.of (T := ⟨S_, .i1⟩) main_call0_v9) (cmpi .slt),
    TRef.unary (TRef.of (T := ⟨S_, .i1⟩) main_call0_v9) (TRef.of (T := ⟨S352, .i1⟩) main_call0_v10) (broadcastInDim S352 ![] bcast_S_S352),
    TRef.binary (TRef.of (T := ⟨S352, .i1⟩) main_call0_v8) (TRef.of (T := ⟨S352, .i1⟩) main_call0_v10) (TRef.of (T := ⟨S352, .i1⟩) main_call0_v11) (cmpi .ne),
    TRef.binary (TRef.of (T := ⟨S352, .i1⟩) main_call0_v11) (TRef.of (T := ⟨S352, .i1⟩) main_call0_v6) (TRef.of (T := ⟨S352, .i1⟩) main_call0_v12) andi,
    TRef.unary (TRef.of (T := ⟨S_, .i32⟩) main_call0_v2) (TRef.of (T := ⟨S352, .i32⟩) main_call0_v13) (broadcastInDim S352 ![] bcast_S_S352),
    TRef.binary (TRef.of (T := ⟨S352, .i32⟩) main_call0_v4) (TRef.of (T := ⟨S352, .i32⟩) main_call0_v13) (TRef.of (T := ⟨S352, .i32⟩) main_call0_v14) addi,
    TRef.ternary (TRef.of (T := ⟨S352, .i1⟩) main_call0_v12) (TRef.of (T := ⟨S352, .i32⟩) main_call0_v14) (TRef.of (T := ⟨S352, .i32⟩) main_call0_v4) (TRef.of (T := ⟨S352, .i32⟩) main_v3) select,
    binary main_arg0 main_v3 main_v4 ((fun a b => concatenate S100352 0 [⟨S100000, a⟩, ⟨S352, b⟩] concatenates_S100000_S352_S100352_d0) : (⟨S100000, .i32⟩ : BufTy).Contents (Elt F) → (⟨S352, .i32⟩ : BufTy).Contents (Elt F) → (⟨S100352, .i32⟩ : BufTy).Contents (Elt F)),
    unary main_arg1 main_v5 ((extractStridedSlice S64x16 ![999936, 0] · slices_S1000000x16_S64x16_999936_0) : (⟨S1000000x16, .f32⟩ : BufTy).Contents (Elt F) → (⟨S64x16, .f32⟩ : BufTy).Contents (Elt F)),
    reshape main_v5 main_v6 (rfl : (.f32 : EltTy) = .f32) shapeCasts_S64x16_S1024,
    unary main_arg1 main_v7 ((transpose S16x1000000 [1, 0] · transposes_S1000000x16_S16x1000000_1_0) : (⟨S1000000x16, .f32⟩ : BufTy).Contents (Elt F) → (⟨S16x1000000, .f32⟩ : BufTy).Contents (Elt F)) ]

/-- The step between the calls: the relaid table read as rows. -/
abbrev ops1 : List (HloOp τ sig (Elt F)) := [reshape main_v8 main_v9 (rfl : (.f32 : EltTy) = .f32) shapeCasts_S16000000_S1000000x16]

theorem main_eq (d : Dev nD) :
    main (F := F) d = seq ops0 >>= fun _ => sc.run d 0 >>= fun _ => seq ops1 >>= fun _ => sc.run d 1 >>= fun _ => pure ⟨⟩ := rfl

theorem ops0_sub : ∀ op ∈ (ops0 : List (HloOp τ sig (Elt F))), op.bufs ⊆ tcRefs τ sig :=
  List.forall_iff_forall_mem.1 ⟨nullary_bufs_sub .., nullary_bufs_sub .., unary_bufs_sub .., binary_bufs_sub .., nullary_bufs_sub ..,
    unary_bufs_sub .., nullary_bufs_sub .., binary_bufs_sub .., nullary_bufs_sub .., ternary_bufs_sub .., unary_bufs_sub .., binary_bufs_sub ..,
    nullary_bufs_sub .., unary_bufs_sub .., binary_bufs_sub .., nullary_bufs_sub .., unary_bufs_sub .., binary_bufs_sub .., nullary_bufs_sub ..,
    binary_bufs_sub .., unary_bufs_sub .., binary_bufs_sub .., binary_bufs_sub .., unary_bufs_sub .., binary_bufs_sub .., ternary_bufs_sub ..,
    binary_bufs_sub .., unary_bufs_sub .., reshape_bufs_sub .., unary_bufs_sub ..⟩

theorem ops1_sub : ∀ op ∈ (ops1 : List (HloOp τ sig (Elt F))), op.bufs ⊆ tcRefs τ sig :=
  List.forall_mem_singleton.2 (reshape_bufs_sub ..)

theorem ops0_fresh : ∀ op ∈ (ops0 : List (HloOp τ sig (Elt F))), op.fresh = ∅ := by
  intro _ h; (repeat (cases h with | head => rfl | tail _ h => ?_)); exact nomatch h
theorem ops1_fresh : ∀ op ∈ (ops1 : List (HloOp τ sig (Elt F))), op.fresh = ∅ :=
  List.forall_mem_singleton.2 rfl

/-! ## What the arrays hold along the program -/

section Along

variable (m : (ℓ : Loc nD τ sig) → Buf (Elt F) ℓ) (d : Dev nD)

abbrev tc (b : Ref sig .tc) : DevRef τ sig := Proc.devRef .tc b

/-- Before the first call. -/
def V1 : Valuation τ sig (Elt F) := after ops0 (launchContents m d)

/-- The transposed table, its last words, and the padded list, as the calls are handed them. -/
def colsOf : S16x1000000.Idx → Elt F .f32 := V1 m d (tc main_v7)
def wordsOf : S1024.Idx → Elt F .f32 := V1 m d (tc main_v6)
def listOf : S100352.Idx → Elt F .i32 := V1 m d (tc main_v4)

/-- After the first call: the relaid table. -/
def V2 : Valuation τ sig (Elt F) := Function.update (V1 m d) (tc main_v8) (relaid (colsOf m d) (wordsOf m d))

/-- After it is read as rows. -/
def V3 : Valuation τ sig (Elt F) := after ops1 (V2 m d)

def tableOf : S1000000x16.Idx → Elt F .f32 := V3 m d (tc main_v9)

/-- After the second call: the rows picked. -/
def V4 : Valuation τ sig (Elt F) := Function.update (V3 m d) (tc main_v10) (picked (tableOf m d) (listOf m d))

end Along

end Cert.Proof.Table
end
-- ==== Proof.Launch.lean ====
/-
  The launch: what the two calls' handshakes carry, each tile's obligation, the program on the
  TensorCore, and the run of the whole program with what its arrays hold at the end.
-/
module

public import proofs.«01_k».proof.Proof.Host

@[expose] public section

noncomputable section

namespace Cert.Proof.Table

open Cert.KernelIdeal Cert.KernelIdeal.Gen

open Idealize.ShloMosaic Idealize.ShloMosaic.StableHlo
open Idealize.ShloMosaic.SparseCore (S V)
open Idealize.ShloMosaic.SparseCore.Cfg (HIx Pay tileRest)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MM F

variable (m : (ℓ : Loc nD τ sig) → Buf (Elt F) ℓ) (ρ : Dev nD → PrngReg)

/-! ## What the handshakes carry -/

/-- What tile `s` of SparseCore `c` is handed for each call, and brings back. -/
def Go0 (d : Dev nD) (c : Fin 2) (s : Fin 16) : sProp 𝕄 := Task0 d (at0 c s) (colsOf m d) (wordsOf m d) (part c s) (V1 m d (tc main_v8))
def Td0 (d : Dev nD) (c : Fin 2) (s : Fin 16) : sProp 𝕄 := Task0 d (at0 c s) (colsOf m d) (wordsOf m d) (part c s) (relaid (colsOf m d) (wordsOf m d))
def Go1 (d : Dev nD) (c : Fin 2) (s : Fin 16) : sProp 𝕄 := Task1 d (at1 c s) (listOf m d) (tableOf m d) (part c s) (V3 m d (tc main_v10))
def Td1 (d : Dev nD) (c : Fin 2) (s : Fin 16) : sProp 𝕄 := Task1 d (at1 c s) (listOf m d) (tableOf m d) (part c s) (picked (tableOf m d) (listOf m d))

instance storable_block (d : Dev nD) (i : grid0.Coords) (p : Prop) [Decidable p] (o n : ℕ) (f : S16000000.Idx → Elt F .f32) :
    BI.Storable (upEmb : UEmb _ 𝕄) (if p then BlockAt d i o n f else iprop(emp)) := by
  rw [block_at]; infer_instance

instance storable_task0 (d : Dev nD) (i : grid0.Coords) (A B q) (f : S16000000.Idx → Elt F .f32) : BI.Storable (upEmb : UEmb _ 𝕄) (Task0 d i A B q f) := by
  rw [task0_eq, share_owned]; infer_instance
instance storable_task1 (d : Dev nD) (i : grid1.Coords) (X Tb q) (f : S100000x16.Idx → Elt F .f32) : BI.Storable (upEmb : UEmb _ 𝕄) (Task1 d i X Tb q f) := by
  rw [task1_eq]; infer_instance

instance (d : Dev nD) (c s) : BI.Storable (upEmb : UEmb _ 𝕄) (Go0 m d c s) := by unfold Go0; infer_instance
instance (d : Dev nD) (c s) : BI.Storable (upEmb : UEmb _ 𝕄) (Td0 m d c s) := by unfold Td0; infer_instance
instance (d : Dev nD) (c s) : BI.Storable (upEmb : UEmb _ 𝕄) (Go1 m d c s) := by unfold Go1; infer_instance
instance (d : Dev nD) (c s) : BI.Storable (upEmb : UEmb _ 𝕄) (Td1 m d c s) := by unfold Td1; infer_instance

/-- Each SparseCore takes what its sixteen tiles are to be handed, and gives back what they bring. -/
def P : (K (F := F)).Pay (nD := nD) (Val := Elt F) (Name := ℕ) (U := UU) where
  st := fun q d => match q with
    | 0 => fun c => bigSep Finset.univ fun s : Fin 16 => Go0 m d c s
    | 1 => fun c => bigSep Finset.univ fun s : Fin 16 => Go1 m d c s
  dn := fun q d => match q with
    | 0 => fun c => bigSep Finset.univ fun s : Fin 16 => Td0 m d c s
    | 1 => fun c => bigSep Finset.univ fun s : Fin 16 => Td1 m d c s
  go := fun q d => match q with
    | 0 => fun c s => Go0 m d c s
    | 1 => fun c s => Go1 m d c s
  td := fun q d => match q with
    | 0 => fun c s => Td0 m d c s
    | 1 => fun c s => Td1 m d c s
  x := fun _ _ => iprop(emp)

instance P_storable : (P (F := F) m).IsStorable where
  st q d c := match q, c with
    | 0, c => (inferInstance : BI.Storable (upEmb : UEmb _ 𝕄) (bigSep Finset.univ fun s : Fin 16 => Go0 m d c s))
    | 1, c => (inferInstance : BI.Storable (upEmb : UEmb _ 𝕄) (bigSep Finset.univ fun s : Fin 16 => Go1 m d c s))
  dn q d c := match q, c with
    | 0, c => (inferInstance : BI.Storable (upEmb : UEmb _ 𝕄) (bigSep Finset.univ fun s : Fin 16 => Td0 m d c s))
    | 1, c => (inferInstance : BI.Storable (upEmb : UEmb _ 𝕄) (bigSep Finset.univ fun s : Fin 16 => Td1 m d c s))
  go q d c s := match q, c, s with
    | 0, c, s => (inferInstance : BI.Storable (upEmb : UEmb _ 𝕄) (Go0 m d c s))
    | 1, c, s => (inferInstance : BI.Storable (upEmb : UEmb _ 𝕄) (Go1 m d c s))
  td q d c s := match q, c, s with
    | 0, c, s => (inferInstance : BI.Storable (upEmb : UEmb _ 𝕄) (Td0 m d c s))
    | 1, c, s => (inferInstance : BI.Storable (upEmb : UEmb _ 𝕄) (Td1 m d c s))

/-- What the run asks of the launch memory: the padded list's words are row numbers. -/
def PreOK : Prop := ∀ d : Dev nD, InTable (listOf m d)

/-! ## The tiles' obligations -/

theorem defs₀_vector0 (c : Fin τ.nSC) (s : Fin τ.nSub) :
    defs₀ (F := F) (.scVector c s) 0 ()
      = SparseCore.onTile hcore0 hsub0 (fun c s => cc0_detile_kernel (at0 c s) wtV (Memref.isWhole_whole _) tailV (Memref.isWhole_whole _) gV (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) cc0_scratch4 cc0_scratch5 cc0_scratch6 cc0_scratch7 cc0_scoped0 cc0_scoped1 cc0_scoped2 cc0_scoped3) ⟨⟩ c s := rfl
theorem defs₀_vector1 (c : Fin τ.nSC) (s : Fin τ.nSub) :
    defs₀ (F := F) (.scVector c s) 1 ()
      = SparseCore.onTile hcore1 hsub1 (fun c s => cc1_gather_kernel (at1 c s) xV (Memref.isWhole_whole _) tV (Memref.isWhole_whole _) oV (Memref.isWhole_whole _)
          sV (Memref.isWhole_whole _) rV (Memref.isWhole_whole _) cc1_scratch2 cc1_scoped0 cc1_scoped1 cc1_scoped2) ⟨⟩ c s := rfl

/-- A tile's own waits are none of the handshakes'. -/
theorem waits_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
set_option maxHeartbeats 4000000 in
theorem tileObl0 : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector0]; simp only [SparseCore.onTile, hci, and_self, ↓reduceDIte]
  exact (task0_body d (at0 ⟨_, hci.1⟩ ⟨_, hci.2⟩) (colsOf m d) (wordsOf m d) (part c i) (V1 m d (tc main_v8)) O W hO).trans (wp_mono frame _ _ fun _ => waits_post)

set_option maxRecDepth 16384 in
set_option maxHeartbeats 4000000 in
theorem tileObl1 (hpre : PreOK m) : (K (F := F)).TileObl (D (F := F)) 𝒱 (P m) v₀ 1 := by
  intro d c i O W hO _ _
  simp only [show (P m).ox = fun _ _ => 0 from rfl, add_zero]
  have hci : ((K (F := F)).core 1 c).val < grid1.bound 0 ∧ ((K (F := F)).sub 1 i).val < grid1.bound 1 := ⟨c.isLt, i.isLt⟩
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  rw [defs₀_vector1]; simp only [SparseCore.onTile, hci, and_self, ↓reduceDIte]
  exact (task1_body d (at1 ⟨_, hci.1⟩ ⟨_, hci.2⟩) (listOf m d) (tableOf m d) (hpre d) (part c i) (V3 m d (tc main_v10)) O W hO).trans (wp_mono frame _ _ fun _ => waits_post)

/-! ## A SparseCore's parts are its tiles' -/

theorem vecSplit0 : (K (F := F)).VecSplit' (P m) 0 := by
  intro d c
  show (bigSep Finset.univ fun s : Fin 16 => Go0 m d c s) ⊢ |={Set.univ}=> iprop((bigSep Finset.univ fun s : Fin 16 => Go0 m d c s)
    ∗ ((bigSep Finset.univ fun s : Fin 16 => Td0 m d c s) -∗ bigSep Finset.univ fun s : Fin 16 => Td0 m d c s))
  iintro H; imodintro
  isplitl [H]; · iexact H
  iintro H; iexact H

theorem vecSplit1 : (K (F := F)).VecSplit' (P m) 1 := by
  intro d c
  show (bigSep Finset.univ fun s : Fin 16 => Go1 m d c s) ⊢ |={Set.univ}=> iprop((bigSep Finset.univ fun s : Fin 16 => Go1 m d c s)
    ∗ ((bigSep Finset.univ fun s : Fin 16 => Td1 m d c s) -∗ bigSep Finset.univ fun s : Fin 16 => Td1 m d c s))
  iintro H; imodintro
  isplitl [H]; · iexact H
  iintro H; iexact H

/-! ## The launch's ghost state -/

def u₀ : UU := (initOf (K (F := F)).hsCells (K (F := F)).hsToks, 1)

theorem each_emp {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 2 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [each_emp]; iempintro
  rw [show (bigSep Finset.univ fun thr : Thread nD τ => bigSep Finset.univ fun q : Fin 2 => (P (F := F) m).x q thr) = bigSep Finset.univ fun _ => iprop(emp) from
    bigSep_congr fun _ _ => each_emp _, each_emp]
  iempintro

/-! ## The program on the TensorCore -/

abbrev T0 : Finset (DevRef τ sig) := {tc main_v7, tc main_v6, tc main_v8}
abbrev T1 : Finset (DevRef τ sig) := {tc main_v4, tc main_v9, tc main_v10}

theorem T0_sub : T0 ⊆ tcRefs τ sig :=
  Finset.insert_subset (devRef_mem_tcRefs _) (Finset.insert_subset (devRef_mem_tcRefs _) (Finset.singleton_subset_iff.2 (devRef_mem_tcRefs _)))
theorem T1_sub : T1 ⊆ tcRefs τ sig :=
  Finset.insert_subset (devRef_mem_tcRefs _) (Finset.insert_subset (devRef_mem_tcRefs _) (Finset.singleton_subset_iff.2 (devRef_mem_tcRefs _)))

theorem held_three (d : Dev nD) (a b c : Ref sig .tc) (hab : tc a ∉ ({tc b, tc c} : Finset (DevRef τ sig))) (hbc : tc b ∉ ({tc c} : Finset (DevRef τ sig))) (W : Valuation τ sig (Elt F)) :
    (held (SparseCore.T d) {tc a, tc b, tc c} W : sProp 𝕄)
      = iprop(((SparseCore.T d).loc a ↦{fullShare} W (tc a)) ∗ ((SparseCore.T d).loc b ↦{fullShare} W (tc b)) ∗ ((SparseCore.T d).loc c ↦{fullShare} W (tc c))) := by
  unfold held
  rw [SparseCore.bigSep_insert' hab, SparseCore.bigSep_insert' hbc, bigSep_singleton]

theorem unscoped_all : (Finset.univ.filter fun b : Ref sig .tc => ¬ b.isScoped) = Finset.univ := by decide

theorem unscoped_held (d : Dev nD) : (unscopedBufs d (fun b => m ((SparseCore.T d).loc b)) : sProp 𝕄) = held (SparseCore.T d) (tcRefs τ sig) (launchContents m d) := by
  unfold unscopedBufs held tcRefs
  rw [unscoped_all, bigSep_map]; rfl

theorem st0_eq (d : Dev nD) : (bigSep Finset.univ fun c : Fin ((K (F := F)).nCore 0) => (P m).st 0 d c)
    = (iprop(((SparseCore.T d).loc main_v7 ↦{fullShare} colsOf m d) ∗ ((SparseCore.T d).loc main_v6 ↦{fullShare} wordsOf m d) ∗ ((SparseCore.T d).loc main_v8 ↦{fullShare} V1 m d (tc main_v8))) : sProp 𝕄) :=
  dealt0 d _ _ _
theorem dn0_eq (d : Dev nD) : (bigSep Finset.univ fun c : Fin ((K (F := F)).nCore 0) => (P m).dn 0 d c)
    = (iprop(((SparseCore.T d).loc main_v7 ↦{fullShare} colsOf m d) ∗ ((SparseCore.T d).loc main_v6 ↦{fullShare} wordsOf m d) ∗ ((SparseCore.T d).loc main_v8 ↦{fullShare} relaid (colsOf m d) (wordsOf m d))) : sProp 𝕄) :=
  dealt0 d _ _ _
theorem st1_eq (d : Dev nD) : (bigSep Finset.univ fun c : Fin ((K (F := F)).nCore 1) => (P m).st 1 d c)
    = (iprop(((SparseCore.T d).loc main_v4 ↦{fullShare} listOf m d) ∗ ((SparseCore.T d).loc main_v9 ↦{fullShare} tableOf m d) ∗ ((SparseCore.T d).loc main_v10 ↦{fullShare} V3 m d (tc main_v10))) : sProp 𝕄) :=
  dealt1 d _ _ _
theorem dn1_eq (d : Dev nD) : (bigSep Finset.univ fun c : Fin ((K (F := F)).nCore 1) => (P m).dn 1 d c)
    = (iprop(((SparseCore.T d).loc main_v4 ↦{fullShare} listOf m d) ∗ ((SparseCore.T d).loc main_v9 ↦{fullShare} tableOf m d) ∗ ((SparseCore.T d).loc main_v10 ↦{fullShare} picked (tableOf m d) (listOf m d))) : sProp 𝕄) :=
  dealt1 d _ _ _

end Cert.Proof.Table
end
-- ==== Proof.Main.lean ====
/-
  The program on the TensorCore, run through its two calls, and the run of the whole program.
-/
module

public import proofs.«01_k».proof.Proof.Launch

@[expose] public section

noncomputable section

namespace Cert.Proof.Table

open Cert.KernelIdeal Cert.KernelIdeal.Gen

open Idealize.ShloMosaic Idealize.ShloMosaic.StableHlo
open Idealize.ShloMosaic.SparseCore (S V)
open Idealize.ShloMosaic.SparseCore.Cfg (HIx Pay tileRest)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MM F

variable (m : (ℓ : Loc nD τ sig) → Buf (Elt F) ℓ) (ρ : Dev nD → PrngReg)

/-! ## The arrays before and after each call -/

abbrev Rest (d : Dev nD) (T : Finset (DevRef τ sig)) (W : Valuation τ sig (Elt F)) : sProp 𝕄 := held (SparseCore.T d) (tcRefs τ sig \ T) W

theorem before0 (d : Dev nD) : (held (SparseCore.T d) (tcRefs τ sig) (after ops0 (launchContents m d)) : sProp 𝕄)
    = iprop((((SparseCore.T d).loc main_v7 ↦{fullShare} colsOf m d) ∗ ((SparseCore.T d).loc main_v6 ↦{fullShare} wordsOf m d) ∗ ((SparseCore.T d).loc main_v8 ↦{fullShare} V1 m d (tc main_v8))) ∗ Rest d T0 (V1 m d)) := by
  show held (SparseCore.T d) (tcRefs τ sig) (V1 m d) = _
  rw [held_sub_split _ T0_sub, held_three d main_v7 main_v6 main_v8 (by decide) (by decide)]; rfl

theorem after0 (d : Dev nD) : (held (SparseCore.T d) (tcRefs τ sig) (V2 m d) : sProp 𝕄)
    = iprop((((SparseCore.T d).loc main_v7 ↦{fullShare} colsOf m d) ∗ ((SparseCore.T d).loc main_v6 ↦{fullShare} wordsOf m d) ∗ ((SparseCore.T d).loc main_v8 ↦{fullShare} relaid (colsOf m d) (wordsOf m d))) ∗ Rest d T0 (V1 m d)) := by
  rw [held_sub_split _ T0_sub, held_three d main_v7 main_v6 main_v8 (by decide) (by decide),
    show V2 m d (tc main_v7) = colsOf m d from Function.update_of_ne (by decide) _ _,
    show V2 m d (tc main_v6) = wordsOf m d from Function.update_of_ne (by decide) _ _,
    show V2 m d (tc main_v8) = relaid (colsOf m d) (wordsOf m d) from Function.update_self _ _ _,
    held_congr _ (V := V2 m d) (V' := V1 m d) fun b hb => Function.update_of_ne (fun e => (Finset.mem_sdiff.1 hb).2 (e ▸ (show tc main_v8 ∈ T0 by decide))) _ _]

theorem list_kept (d : Dev nD) : V3 m d (tc main_v4) = listOf m d := by
  have h : V3 m d (tc main_v4) = V2 m d (tc main_v4) := by
    unfold V3
    after_results
  rw [h]
  exact Function.update_of_ne (by decide) _ _

theorem before1 (d : Dev nD) : (held (SparseCore.T d) (tcRefs τ sig) (after ops1 (V2 m d)) : sProp 𝕄)
    = iprop((((SparseCore.T d).loc main_v4 ↦{fullShare} listOf m d) ∗ ((SparseCore.T d).loc main_v9 ↦{fullShare} tableOf m d) ∗ ((SparseCore.T d).loc main_v10 ↦{fullShare} V3 m d (tc main_v10))) ∗ Rest d T1 (V3 m d)) := by
  show held (SparseCore.T d) (tcRefs τ sig) (V3 m d) = _
  rw [held_sub_split _ T1_sub, held_three d main_v4 main_v9 main_v10 (by decide) (by decide), list_kept]; rfl

theorem after1 (d : Dev nD) : (held (SparseCore.T d) (tcRefs τ sig) (V4 m d) : sProp 𝕄)
    = iprop((((SparseCore.T d).loc main_v4 ↦{fullShare} listOf m d) ∗ ((SparseCore.T d).loc main_v9 ↦{fullShare} tableOf m d) ∗ ((SparseCore.T d).loc main_v10 ↦{fullShare} picked (tableOf m d) (listOf m d))) ∗ Rest d T1 (V3 m d)) := by
  rw [held_sub_split _ T1_sub, held_three d main_v4 main_v9 main_v10 (by decide) (by decide),
    show V4 m d (tc main_v4) = listOf m d from (Function.update_of_ne (by decide) _ _).trans (list_kept m d),
    show V4 m d (tc main_v9) = tableOf m d from Function.update_of_ne (by decide) _ _,
    show V4 m d (tc main_v10) = picked (tableOf m d) (listOf m d) from Function.update_self _ _ _,
    held_congr _ (V := V4 m d) (V' := V3 m d) fun b hb => Function.update_of_ne (fun e => (Finset.mem_sdiff.1 hb).2 (e ▸ (show tc main_v10 ∈ T1 by decide))) _ _]

/-- What the program leaves: every array of the TensorCore at what the second call leaves. -/
abbrev FIN (d : Dev nD) : sProp 𝕄 := held (SparseCore.T d) (tcRefs τ sig) (V4 m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 2 ∗ FIN m d ∗ (K (F := F)).tcEnd d) := by
  unfold SparseCore.Cfg.tcRes SparseCore.Cfg.tcEnd
  rw [unscoped_held, main_eq]
  iintro ⟨#Hctx, Hst, ⟨Hb, Hheld, Hts, -⟩, -⟩
  iapply (wp_seq 𝒱 none Set.univ d (tcRefs τ sig) _ ops0 ops0_sub ops0_fresh (launchContents m d)) $$ [Hb Hheld]
  · isplitl [Hb] <;> iassumption
  iintro ⟨Hb, Hheld⟩
  ihave Hh := (Entails.of_eq (before0 m d)) $$ Hheld
  icases Hh with ⟨Hop, Hrest⟩
  rw [wp_bind]
  iapply ((K (F := F)).wp_run (D (F := F)) 𝒱 (EH := EH) (P := P m) κ d 0) $$ [Hst Hop Hb Hrest Hts]
  isplitr; · iexact Hctx
  isplitl [Hst]; · iexact Hst
  isplitl [Hop]
  · rw [st0_eq]; iexact Hop
  iintro ⟨Hst, Hdn⟩
  ihave Hdn := (Entails.of_eq (dn0_eq m d)) $$ Hdn
  ihave Hheld := (Entails.of_eq (after0 m d).symm) $$ [Hdn Hrest]
  · isplitl [Hdn]; · iexact Hdn
    iexact Hrest
  iapply (wp_seq 𝒱 none Set.univ d (tcRefs τ sig) _ ops1 ops1_sub ops1_fresh (V2 m d)) $$ [Hb Hheld]
  · isplitl [Hb] <;> iassumption
  iintro ⟨Hb, Hheld⟩
  ihave Hh := (Entails.of_eq (before1 m d)) $$ Hheld
  icases Hh with ⟨Hop, Hrest⟩
  rw [wp_bind]
  iapply ((K (F := F)).wp_run (D (F := F)) 𝒱 (EH := EH) (P := P m) κ d 1) $$ [Hst Hop Hb Hrest Hts]
  isplitr; · iexact Hctx
  isplitl [Hst]; · iexact Hst
  isplitl [Hop]
  · rw [st1_eq]; iexact Hop
  iintro ⟨Hst, Hdn⟩
  ihave Hdn := (Entails.of_eq (dn1_eq m d)) $$ Hdn
  ihave Hheld := (Entails.of_eq (after1 m d).symm) $$ [Hdn Hrest]
  · isplitl [Hdn]; · iexact Hdn
    iexact Hrest
  rw [wp_pure]; imodintro
  isplitl [Hst]; · iexact Hst
  isplitl [Hheld]; · iexact Hheld
  isplitl [Hb] <;> iassumption

/-! ## The run -/

def fq (d : Dev nD) (s' : Phys nD τ sig (Elt F)) : Prop := ∀ b : Ref sig .tc, s'.mem.mem ((SparseCore.T d).loc b) = V4 m d (tc b)

theorem hfin (d : Dev nD) (s' : Phys nD τ sig (Elt F)) : iprop(FIN m d ∗ SI s') ⊢ (⌜fq m d s'⌝ : sProp 𝕄) := by
  unfold FIN held
  iintro ⟨H, HSI⟩
  ihave %h := (SI_pointsTo_bufs_agree (qs := fun _ => fullShare) (tcRefs τ sig)) $$ [HSI H]
  · isplitl [HSI]; · iexact HSI
    iexact H
  ipureintro
  exact fun b => h _ (devRef_mem_tcRefs b)

def QC : PUnit × MemSt nD τ sig (Elt F) → Prop := fun r => (∀ (c : Dev nD) (b : Ref sig .tc), r.2.mem ((SparseCore.T c).loc b) = V4 m c (tc b)) ∧ r.2.sem = fun _ => 0

/-- Every execution of the program ends, its counters at zero and every array of the TensorCore at what the second call leaves. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq | 1 => nomatch hq)
    (fun q _ => match q with | 0 => tileObl0 m | 1 => tileObl1 m hpre)
    (fun q _ => match q with | 0 => SparseCore.Cfg.VecSplit.of_plain (vecSplit0 m) | 1 => SparseCore.Cfg.VecSplit.of_plain (vecSplit1 m))
    m ρ main (fun _ => iprop(emp)) (FIN m) (u₀ (F := F)) (sep_elim_left.trans (hu₀ m)) (hmain m ρ) (fq m) (hfin m) (QC m) (fun _ h hz => ⟨h, hz⟩)

end Cert.Proof.Table
end
-- ==== Proof.Values.lean ====
/-
  What the arrays hold, read off the program's steps: the relaid table is the table, the padded list stays
  in the table, and the rows picked are the table's rows at the list's entries.
-/
module

public import proofs.«01_k».proof.Proof.Main
public import proofs.«01_k».proof.Proof.Gen.Pre_in_table
public import Idealize.ShloMosaic.Lib.Pipeline.Value
public import Idealize.ShloMosaic.Lib.Pointwise.Reshape
public import Idealize.ShloMosaic.Lib.ReduceAll

@[expose] public section

noncomputable section

namespace Cert.Proof.Table

open Cert.KernelIdeal Cert.KernelIdeal.Gen

open Idealize.ShloMosaic Idealize.ShloMosaic.StableHlo
open Idealize.SL Idealize.SL.Sem
open Idealize.ShloMosaic.Tactic

variable {F : FTy → Type} [FloatOps F]

variable (m : (ℓ : Loc nD τ sig) → Buf (Elt F) ℓ) (d : Dev nD)

/-- The arguments as launched. -/
def idxOf : S100000.Idx → Elt F .i32 := m ((SparseCore.T d).loc main_arg0)
def tblOf : S1000000x16.Idx → Elt F .f32 := m ((SparseCore.T d).loc main_arg1)

/-! ## The arguments are kept -/

theorem V1_arg0 : V1 m d (tc main_arg0) = m ((SparseCore.T d).loc main_arg0) := by
  unfold V1
  simp only [ops0, TRef.binary, TRef.nullary, TRef.ternary, TRef.unary, TRef.toBuf, TRef.ofBuf, cast_eq]
  after_results <;> rfl

theorem V1_arg1 : V1 m d (tc main_arg1) = m ((SparseCore.T d).loc main_arg1) := by
  unfold V1
  simp only [ops0, TRef.binary, TRef.nullary, TRef.ternary, TRef.unary, TRef.toBuf, TRef.ofBuf, cast_eq]
  after_results <;> rfl

theorem V4_arg0 : V4 m d (tc main_arg0) = m ((SparseCore.T d).loc main_arg0) := by
  have h : V3 m d (tc main_arg0) = V2 m d (tc main_arg0) := by unfold V3; after_results
  exact (Function.update_of_ne (by decide) _ _).trans (h.trans ((Function.update_of_ne (by decide) _ _).trans (V1_arg0 m d)))

theorem V4_arg1 : V4 m d (tc main_arg1) = m ((SparseCore.T d).loc main_arg1) := by
  have h : V3 m d (tc main_arg1) = V2 m d (tc main_arg1) := by unfold V3; after_results
  exact (Function.update_of_ne (by decide) _ _).trans (h.trans ((Function.update_of_ne (by decide) _ _).trans (V1_arg1 m d)))

/-! ## What the calls are handed -/

theorem colsOf_eq : colsOf m d = transpose S16x1000000 [1, 0] (tblOf m d) transposes_S1000000x16_S16x1000000_1_0 := by
  unfold colsOf V1
  simp only [ops0, TRef.binary, TRef.nullary, TRef.ternary, TRef.unary, TRef.toBuf, TRef.ofBuf, cast_eq]
  after_results <;> rfl

theorem wordsOf_eq : wordsOf m d = shapeCast S1024 (extractStridedSlice S64x16 ![999936, 0] (tblOf m d) slices_S1000000x16_S64x16_999936_0) shapeCasts_S64x16_S1024 := by
  unfold wordsOf V1
  simp only [ops0, TRef.binary, TRef.nullary, TRef.ternary, TRef.unary, TRef.toBuf, TRef.ofBuf, cast_eq]
  after_results <;> rfl

/-- The divisor the padding's remainder is taken by, as the program works it out. -/
abbrev divisor : IVec S_ 32 := select (cmpi .eq (constantI S_ 32 1000000#32) (constantI S_ 32 0#32)) (constantI S_ 32 1#32) (constantI S_ 32 1000000#32)

/-- The remainder with the sign of the dividend. -/
abbrev rawRest : IVec S352 32 :=
  Host.remsi (muli (iotaInDim S352 32 0) (broadcastInDim S352 ![] bcast_S_S352 (constantI S_ 32 997#32))) (broadcastInDim S352 ![] bcast_S_S352 divisor)

/-- The padding: the remainder with the sign of the divisor. -/
abbrev padding : IVec S352 32 :=
  select (andi (cmpi .ne (cmpi .slt rawRest (broadcastInDim S352 ![] bcast_S_S352 (constantI S_ 32 0#32)))
        (broadcastInDim S352 ![] bcast_S_S352 (cmpi .slt divisor (constantI S_ 32 0#32))))
      (cmpi .ne rawRest (broadcastInDim S352 ![] bcast_S_S352 (constantI S_ 32 0#32))))
    (addi rawRest (broadcastInDim S352 ![] bcast_S_S352 divisor)) rawRest

set_option maxHeartbeats 4000000 in
theorem listOf_eq : listOf m d = concatenate S100352 0 [⟨S100000, idxOf m d⟩, ⟨S352, padding⟩] concatenates_S100000_S352_S100352_d0 := by
  unfold listOf V1
  simp only [ops0, TRef.binary, TRef.nullary, TRef.ternary, TRef.unary, TRef.toBuf, TRef.ofBuf, cast_eq]
  after_results <;> rfl

theorem tableOf_eq : tableOf m d = shapeCast S1000000x16 (relaid (colsOf m d) (wordsOf m d)) shapeCasts_S16000000_S1000000x16 := by
  unfold tableOf V3
  after_results
  exact congrArg (fun f => shapeCast S1000000x16 f shapeCasts_S16000000_S1000000x16) (Function.update_self _ _ _)

/-! ## The relaid table is the table -/

theorem colsOf_at (r c : ℕ) (hr : r < 16) (hc : c < 1000000) : colsOf m d (wcell r c) = tblOf m d (rcell c r) := by
  rw [colsOf_eq]
  refine transpose_apply _ _ _ _ _ fun b => ?_
  fin_cases b
  · show r % 16 = r % 16; rfl
  · show c % 1000000 = c % 1000000; rfl

theorem wordsOf_at (k : ℕ) (hk : k < 1024) : wordsOf m d (tcell k) = tblOf m d (rcell (999936 + k / 16) (k % 16)) := by
  rw [wordsOf_eq]
  rw [shapeCast_apply _ _ _ (fun a => ⟨(![k / 16, k % 16] : Fin 2 → ℕ) a, by fin_cases a <;> simp <;> omega⟩ : S64x16.Idx)
    (by rw [rowMajor_val2 _ 16 rfl, rowMajor_val1]; show k / 16 * 16 + k % 16 = k % 1024; omega)]
  refine extractStridedSlice_apply _ _ _ _ _ fun a => ?_
  fin_cases a
  · show (999936 + k / 16) % 1000000 = 999936 + k / 16; omega
  · show k % 16 % 16 = 0 + k % 16; omega

theorem tableOf_at (x : S1000000x16.Idx) : tableOf m d x = tblOf m d x := by
  have h0 : (x 0).val < 1000000 := (x 0).isLt
  have h1 : (x 1).val < 16 := (x 1).isLt
  have hx : x = rcell (x 0).val (x 1).val := by
    funext a
    apply Fin.ext
    fin_cases a
    · exact (Nat.mod_eq_of_lt h0).symm
    · exact (Nat.mod_eq_of_lt h1).symm
  rw [tableOf_eq]
  rw [shapeCast_apply _ _ _ (fun a => ⟨(x 0).val * 16 + (x 1).val, by fin_cases a; show _ < 16000000; omega⟩ : S16000000.Idx)
    (by rw [rowMajor_val2 _ 16 rfl, rowMajor_val1])]
  show (if (x 0).val * 16 + (x 1).val < 15998976 then colsOf m d (wcell (((x 0).val * 16 + (x 1).val) % 16) (((x 0).val * 16 + (x 1).val) / 16))
    else wordsOf m d (tcell ((x 0).val * 16 + (x 1).val - 15998976))) = _
  split
  · rw [colsOf_at m d _ _ (by omega) (by omega), show ((x 0).val * 16 + (x 1).val) / 16 = (x 0).val by omega,
      show ((x 0).val * 16 + (x 1).val) % 16 = (x 1).val by omega, ← hx]
  · rw [wordsOf_at m d _ (by omega), show 999936 + ((x 0).val * 16 + (x 1).val - 15998976) / 16 = (x 0).val by omega,
      show ((x 0).val * 16 + (x 1).val - 15998976) % 16 = (x 1).val by omega, ← hx]

/-! ## The padded list -/

/-- The list's entry `k`. -/
def icell (k : ℕ) : S100000.Idx := fun a => ⟨k % S100000.size a, Nat.mod_lt _ (by revert a; decide)⟩

theorem listOf_front (k : ℕ) (hk : k < 100000) (j : S100352.Idx) (hj : (j 0).val = k) : listOf m d j = idxOf m d (icell k) := by
  rw [listOf_eq]
  refine concatenate_pair_apply_left (t := S100352) (s₁ := S100000) (s₂ := S352) 0 _ _ _ j rfl _ fun b => ?_
  fin_cases b
  show k % 100000 = (j 0).val
  omega

/-- The remainder as one word of the padding's place works it out. -/
theorem padding_small (j : S352.Idx) : (padding j).toNat < 1000000 := by
  have key : ∀ k : Fin 352,
      (Scalar.select (IntOp.andi (IntOp.cmpi .ne (IntOp.cmpi .slt (IntOp.remsi .host (IntOp.muli (BitVec.ofNat 32 k.val) 997#32) 1000000#32) 0#32) 0#1)
          (IntOp.cmpi .ne (IntOp.remsi .host (IntOp.muli (BitVec.ofNat 32 k.val) 997#32) 1000000#32) 0#32))
        (IntOp.addi (IntOp.remsi .host (IntOp.muli (BitVec.ofNat 32 k.val) 997#32) 1000000#32) 1000000#32)
        (IntOp.remsi .host (IntOp.muli (BitVec.ofNat 32 k.val) 997#32) 1000000#32)).toNat < 1000000 := by
    decide +kernel
  exact key (j 0)

theorem list_inTable (h : ∀ j, (idxOf m d j).toNat < 1000000) : InTable (listOf m d) := by
  intro j
  by_cases hk : (j 0).val < 100000
  · rw [listOf_front m d _ hk j rfl]; exact h _
  · have hj : (j 0).val < 100352 := (j 0).isLt
    rw [listOf_eq, concatenate_pair_apply_right (t := S100352) (s₁ := S100000) (s₂ := S352) 0 _ _ _ j rfl rfl (fun a => ⟨(j 0).val - 100000, by fin_cases a; show _ < 352; omega⟩ : S352.Idx)
      (fun b hb => by fin_cases b; exact absurd rfl hb) (by show (j 0).val - 100000 + S100000.size 0 = (j 0).val; rw [show S100000.size 0 = 100000 from rfl]; omega)]
    exact padding_small _

/-! ## The rows picked -/

/-- The table's rows at the list's entries. -/
def rows (X : S100000.Idx → Elt F .i32) (W : S1000000x16.Idx → Elt F .f32) : S100000x16.Idx → Elt F .f32 :=
  fun x => W (rcell (X (icell (x 0).val)).toNat (x 1).val)

theorem V4_out : V4 m d (tc main_v10) = rows (idxOf m d) (tblOf m d) := by
  refine (Function.update_self _ _ _).trans (funext fun x => ?_)
  have h0 : (x 0).val < 100000 := (x 0).isLt
  show tableOf m d (rcell (listOf m d (xcell (x 0).val)).toNat (x 1).val) = _
  rw [tableOf_at, listOf_front m d (x 0).val h0 _ (by show (x 0).val % 100352 = _; omega)]
  rfl

/-! ## The precondition -/

theorem word_small (v : BitVec 32) (e : IntOp.andi (IntOp.cmpi .sge v 0#32) (IntOp.cmpi .slt v 1000000#32) = 1#1) : v.toNat < 1000000 := by
  obtain ⟨e1, e2⟩ := IntOp.andi_eq_one.1 e
  have h1 : (0#32).toInt ≤ v.toInt := IntOp.cmpi_sge.1 e1
  have h2 : v.toInt < (1000000#32).toInt := IntOp.cmpi_slt.1 e2
  rw [BitVec.toInt_eq_toNat_cond] at h1 h2
  have hv := v.isLt
  rw [show (0#32).toNat = 0 from rfl] at h1
  rw [show (1000000#32).toInt = 1000000 from rfl] at h2
  rw [BitVec.toInt_eq_toNat_cond] at h1
  split at h1 <;> omega

theorem small_of_pre (X : IVec Cert.Pre_in_table.S100000 32) (W : FVec F Cert.Pre_in_table.S1000000x16 .f32)
    (h : Cert.Pre_in_table.fn (F := F) X W = fun _ => 1#1) (j : S100000.Idx) : (X j).toNat < 1000000 :=
  haveI : Subsingleton Cert.Pre_in_table.S_.Idx := ⟨fun a b => funext fun k => k.elim0⟩
  word_small _ (Host.reduce_andi_all _ _ _ _ (fun k => k.elim0) (congrFun h fun k => k.elim0) j)

end Cert.Proof.Table
end
-- ==== Proof.Rows.lean ====
/-
  The reference's take, read entry by entry: at a list that stays in the table it is the table's rows at the
  list's entries.
-/
module

public import proofs.«01_k».proof.Proof.Values
public import proofs.«01_k».proof.Proof.Gen.ReferenceIdeal.Run
public import Idealize.ShloMosaic.Lib.Routing.Ops
public import Idealize.ShloMosaic.Lib.ValueIdxCore

@[expose] public section

noncomputable section

namespace Cert.Proof.Take

open Cert.ReferenceIdeal Cert.ReferenceIdeal.Gen

open Idealize.ShloMosaic Idealize.ShloMosaic.ValueIdx

variable {F : FTy → Type} [FloatOps F]

/-- The list with its negative entries wrapped, as one column. -/
abbrev column (X : IVec S100000 32) : IVec S100000x1 32 :=
  broadcastInDim S100000x1 ![0] bcast_S100000_S100000x1_0
    (select (cmpi .slt X (broadcastInDim S100000 ![] bcast_S_S100000 (constantI S_ 32 0#32))) (addi X (broadcastInDim S100000 ![] bcast_S_S100000 (constantI S_ 32 1000000#32))) X)

/-- Which entries of the column lie in the table. -/
abbrev inside (X : IVec S100000 32) : IVec S100000x1 1 :=
  andi (cmpi .sge (column X) (broadcastInDim S100000x1 ![] bcast_S_S100000x1 (constantI S_ 32 0#32)))
    (cmpi .sle (column X) (broadcastInDim S100000x1 ![0, 1] bcast_S1x1_S100000x1_0_1 (broadcastInDim S1x1 ![1] bcast_S1_S1x1_1 (constantI S1 32 999999#32))))

/-- A word below the table's height is not wrapped. -/
theorem word_kept (v : BitVec 32) (hv : v.toNat < 1000000) : Scalar.select (IntOp.cmpi .slt v 0#32) (IntOp.addi v 1000000#32) v = v := by
  have h : ¬ IntOp.cmpi .slt v 0#32 = 1#1 := fun e => by
    have := IntOp.cmpi_slt.1 e
    rw [BitVec.toInt_eq_toNat_of_lt (by omega)] at this
    simp at this
    omega
  exact if_neg h

theorem word_inside (v : BitVec 32) (hv : v.toNat < 1000000) : IntOp.andi (IntOp.cmpi .sge v 0#32) (IntOp.cmpi .sle v 999999#32) = 1#1 := by
  refine IntOp.andi_eq_one.2 ⟨IntOp.cmpi_sge.2 ?_, IntOp.cmpi_sle.2 ?_⟩
  · rw [BitVec.toInt_eq_toNat_of_lt (x := v) (by omega)]; simp
  · rw [BitVec.toInt_eq_toNat_of_lt (by omega), show (999999#32).toInt = 999999 from rfl]; omega

theorem column_at (X : IVec S100000 32) (hX : ∀ j, (X j).toNat < 1000000) (i : S100000x1.Idx) : ∃ j : S100000.Idx, (j 0).val = (i 0).val ∧ column X i = X j := by
  have h : i = ValueIdx.ix2 (i 0) (0 : Fin 1) := (ValueIdx.eq_ix2 i).trans (congrArg (ValueIdx.ix2 (i 0)) (Subsingleton.elim (α := Fin 1) _ _))
  refine ⟨ValueIdx.ix1 (i 0), rfl, ?_⟩
  rw [h]
  exact (Routing.bcCol bcast_S100000_S100000x1_0 _ (i 0)).trans (word_kept _ (hX _))

theorem inside_one (X : IVec S100000 32) (hX : ∀ j, (X j).toNat < 1000000) (i : S100000x1.Idx) : inside X i = 1#1 := by
  obtain ⟨j, -, e⟩ := column_at X hX i
  show IntOp.andi (IntOp.cmpi .sge (column X i) 0#32) (IntOp.cmpi .sle (column X i) 999999#32) = 1#1
  rw [e]
  exact word_inside _ (hX j)

theorem take_rows (X : IVec S100000 32) (W : FVec F S1000000x16 .f32) (hX : ∀ j, (X j).toNat < 1000000) :
    select (broadcastInDim S100000x16 ![0] bcast_S100000_S100000x16_0 (Host.reduce IntOp.andi (inside X) (constantI S_ 1 1#1) reducesTo_S100000x1_S100000_d1 h_S_))
      (Host.gather gather_S1000000x16_S100000x1_S100000x16_1_0_n_n_0_1_116 W (column X))
      (broadcastInDim S100000x16 ![] bcast_S_S100000x16 (constant S_ .f32 0x7FC00000#32))
      = Table.rows (F := F) X W := by
  funext x
  have h0 : (x 0).val < 100000 := (x 0).isLt
  have h1 : (x 1).val < 16 := (x 1).isLt
  rw [select_apply]
  rw [show broadcastInDim S100000x16 ![0] bcast_S100000_S100000x16_0 (Host.reduce IntOp.andi (inside X) (constantI S_ 1 1#1) reducesTo_S100000x1_S100000_d1 h_S_) x = 1#1
    from Host.reduce_andi_one _ _ _ _ _ rfl (inside_one X hX), select_one]
  obtain ⟨j, hj, e⟩ := column_at X hX (ValueIdx.ix2 (⟨(x 0).val, h0⟩ : Fin 100000) (0 : Fin 1))
  have hj' : j = Table.icell (x 0).val := by
    funext a
    apply Fin.ext
    fin_cases a
    show (j 0).val = (x 0).val % 100000
    rw [hj]
    exact (Nat.mod_eq_of_lt h0).symm
  have hb : (X j).toNat < 1000000 := hX j
  have g := Routing.gather_row gather_S1000000x16_S100000x1_S100000x16_1_0_n_n_0_1_116 rfl rfl rfl rfl rfl W (column X)
    ⟨(x 0).val, h0⟩ ⟨(x 1).val, h1⟩ ⟨(X j).toNat, hb⟩ (e.trans (BitVec.eq_of_toNat_eq (by simp))) (by decide)
  rw [show (ValueIdx.ix2 (⟨(x 0).val, h0⟩ : Fin 100000) (⟨(x 1).val, h1⟩ : Fin 16)) = x from (ValueIdx.eq_ix2 x).symm] at g
  refine g.trans ?_
  show W _ = W (Table.rcell (X (Table.icell (x 0).val)).toNat (x 1).val)
  rw [← hj']
  refine congrArg W (funext fun a => Fin.ext ?_)
  fin_cases a
  · exact (Nat.mod_eq_of_lt hb).symm
  · exact (Nat.mod_eq_of_lt h1).symm

end Cert.Proof.Take
end
-- ==== Proof.lean ====
/-
  The claims: the kernel runs, keeps its arguments and leaves every counter at zero; so does its ideal reading, whose
  result is the reference's; and the reference runs.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal.Run
public import proofs.«01_k».proof.Proof.Gen.ReferenceIdeal
public import proofs.«01_k».proof.Proof.Gen.Pre_in_table
public import proofs.«01_k».proof.Proof.Rows
public import Idealize.ShloMosaic.Lib.Quiescent
public import Idealize.ShloMosaic.Adequacy
public import Idealize.ShloMosaic.Init

@[expose] public section

noncomputable section

namespace Cert.Proof

open Idealize.ShloMosaic Idealize.SL.Sem

theorem frame_kernel : Cert.quiescent_Kernel := fun m ρ hpre =>
  (θ_run Cert.KernelIdeal.defs _ _).mono
    (fun _ h => ⟨fun c => ⟨(h.1 c Cert.KernelIdeal.main_arg0).trans (Table.V4_arg0 m c), (h.1 c Cert.KernelIdeal.main_arg1).trans (Table.V4_arg1 m c)⟩, h.2⟩)
    (Table.run_main (F := Bits) m ρ fun d => Table.list_inTable m d (Table.small_of_pre _ _ (hpre d)))

theorem frame_ideal : Cert.quiescent_KernelIdeal := fun m ρ hpre =>
  (θ_run Cert.KernelIdeal.defs _ _).mono
    (fun _ h => ⟨fun c => ⟨(h.1 c Cert.KernelIdeal.main_arg0).trans (Table.V4_arg0 m c), (h.1 c Cert.KernelIdeal.main_arg1).trans (Table.V4_arg1 m c)⟩, h.2⟩)
    (Table.run_main (F := Ideal) m ρ fun d => Table.list_inTable m d (Table.small_of_pre _ _ (hpre d)))

theorem frame_reference : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run m ρ)

theorem same_rows : Cert.algebraic_KernelIdeal_ReferenceIdeal := fun m ρ m' ρ' hpre hagree =>
  ⟨fun c => Table.rows (F := Ideal) (Table.idxOf m c) (Table.tblOf m c),
    (θ_run Cert.KernelIdeal.defs _ _).mono
      (fun _ h c => ⟨(h.1 c Cert.KernelIdeal.main_v10).trans (Table.V4_out m c),
        (h.1 c Cert.KernelIdeal.main_arg0).trans (Table.V4_arg0 m c), (h.1 c Cert.KernelIdeal.main_arg1).trans (Table.V4_arg1 m c)⟩)
      (Table.run_main (F := Ideal) m ρ fun d => Table.list_inTable m d (Table.small_of_pre _ _ (hpre d))),
    (θ_run Cert.ReferenceIdeal.defs _ _).mono
      (fun _ h c => ⟨(h c).1.trans (by
          rw [(hagree c).1, (hagree c).2]
          exact Take.take_rows (F := Ideal) _ _ (Table.small_of_pre _ _ (hpre c))), (h c).2⟩)
      (Cert.ReferenceIdeal.Value.run m' ρ')⟩

theorem claim : Cert.Claim :=
  ⟨Cert.Kernel.Gen.facts, Cert.KernelIdeal.Gen.facts, Cert.ReferenceIdeal.Gen.facts, Cert.Pre_in_table.Gen.facts,
    frame_kernel, frame_ideal, frame_reference, fun m ρ _ => frame_reference m ρ trivial, trivial, same_rows⟩

end Cert.Proof

end
